-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "init" .f32 0xFF61B1E6#32 ⊥
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v23_0)) (v4 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v23_0) = v3 c
          ∧ r.2.mem ((c.tc : Thread Cert.KernelIdeal.nD Cert.KernelIdeal.τ).loc Cert.KernelIdeal.main_v20_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S128x1 : Shape := ⟨2, ![128, 1]⟩
abbrev S128x256 : Shape := ⟨2, ![128, 256]⟩
abbrev S128x400x256 : Shape := ⟨3, ![128, 400, 256]⟩
abbrev S128x400 : Shape := ⟨2, ![128, 400]⟩
abbrev S50000x128 : Shape := ⟨2, ![50000, 128]⟩
abbrev S768x128 : Shape := ⟨2, ![768, 128]⟩
abbrev S768x256 : Shape := ⟨2, ![768, 256]⟩
abbrev S768 : Shape := ⟨1, ![768]⟩
abbrev S256 : Shape := ⟨1, ![256]⟩
abbrev S1 : Shape := ⟨1, ![1]⟩
abbrev S1x640 : Shape := ⟨2, ![1, 640]⟩
abbrev S128x512 : Shape := ⟨2, ![128, 512]⟩
abbrev S128 : Shape := ⟨1, ![128]⟩
abbrev S50000 : Shape := ⟨1, ![50000]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel
  bcast_S_S128x400 : S_.BroadcastsInDim S128x400 (![] : Fin 0 → Fin S128x400.rank)
  reducesTo_S128x400_S_d0_1 : S128x400.ReducesTo [0, 1] S_

variable [Facts]

def fn {F : FTy → Type} [FloatOps F] (main_arg0 : IVec S128x1 32) (main_arg1 : FVec F S128x256 .f32) (main_arg2 : FVec F S128x400x256 .f32) (main_arg3 : IVec S128x400 32) (main_arg4 : FVec F S50000x128 .f32) (main_arg5 : FVec F S768x128 .f32) (main_arg6 : FVec F S768x256 .f32) (main_arg7 : FVec F S768 .f32) (main_arg8 : FVec F S768 .f32) (main_arg9 : FVec F S256 .f32) (main_arg10 : FVec F S256 .f32) (main_arg11 : FVec F S1 .f32) (main_arg12 : FVec F S256 .f32) (main_arg13 : FVec F S1x640 .f32) (main_arg14 : FVec F S1 .f32) (main_arg15 : FVec F S128x512 .f32) (main_arg16 : FVec F S128 .f32) (main_arg17 : FVec F S50000x128 .f32) (main_arg18 : FVec F S50000 .f32) : IVec S_ 1 :=
  let main_c : IVec S_ 32 := constantI S_ 32 0#32
  let main_v0 : IVec S128x1 32 := broadcastInDim S128x1 ![] bcast_S_S128x1 main_c
  let main_v1 : IVec S128x1 1 := cmpi .sge main_arg0 main_v0
  let main_c_0 : IVec S_ 32 := constantI S_ 32 50000#32
  let main_v2 : IVec S128x1 32 := broadcastInDim S128x1 ![] bcast_S_S128x1 main_c_0
  let main_v3 : IVec S128x1 1 := cmpi .slt main_arg0 main_v2
  let main_v4 : IVec S128x1 1 := andi main_v1 main_v3
  let main_c_1 : IVec S_ 1 := constantI S_ 1 1#1
  let main_v5 : IVec S_ 1 := (fun x v => Host.reduce IntOp.andi x v reducesTo_S128x1_S_d0_1 h_S_) main_v4 main_c_1
  let main_c_2 : IVec S_ 32 := constantI S_ 32 0#32
  let main_v6 : IVec S128x400 32 := broadcastInDim S128x400 ![] bcast_S_S128x400 main_c_2
  let main_v7 : IVec S128x400 1 := cmpi .sge main_arg3 main_v6
  let main_c_3 : IVec S_ 32 := constantI S_ 32 50250#32
  let main_v8 : IVec S128x400 32 := broadcastInDim S128x400 ![] bcast_S_S128x400 main_c_3
  let main_v9 : IVec S128x400 1 := cmpi .slt main_arg3 main_v8
  let main_v10 : IVec S128x400 1 := andi main_v7 main_v9
  let main_c_4 : IVec S_ 1 := constantI S_ 1 1#1
  let main_v11 : IVec S_ 1 := (fun x v => Host.reduce IntOp.andi x v reducesTo_S128x400_S_d0_1 h_S_) main_v10 main_c_4
  let main_v12 : IVec S_ 1 := andi main_v5 main_v11
  main_v12
-- ==== Kernel.lean ====
abbrev S128x1 : Shape := ⟨2, ![128, 1]⟩
abbrev S128x256 : Shape := ⟨2, ![128, 256]⟩
abbrev S128x400x256 : Shape := ⟨3, ![128, 400, 256]⟩
abbrev S128x400 : Shape := ⟨2, ![128, 400]⟩
abbrev S50000x128 : Shape := ⟨2, ![50000, 128]⟩
abbrev S768x128 : Shape := ⟨2, ![768, 128]⟩
abbrev S768x256 : Shape := ⟨2, ![768, 256]⟩
abbrev S768 : Shape := ⟨1, ![768]⟩
abbrev S256 : Shape := ⟨1, ![256]⟩
abbrev S1 : Shape := ⟨1, ![1]⟩
abbrev S1x640 : Shape := ⟨2, ![1, 640]⟩
abbrev S128x512 : Shape := ⟨2, ![128, 512]⟩
abbrev S128 : Shape := ⟨1, ![128]⟩
abbrev S50000 : Shape := ⟨1, ![50000]⟩
abbrev S50000x1x128 : Shape := ⟨3, ![50000, 1, 128]⟩
abbrev S1x768 : Shape := ⟨2, ![1, 768]⟩
abbrev S128x128 : Shape := ⟨2, ![128, 128]⟩
abbrev S64x256 : Shape := ⟨2, ![64, 256]⟩
abbrev S64x128 : Shape := ⟨2, ![64, 128]⟩
abbrev S64x1x128 : Shape := ⟨3, ![64, 1, 128]⟩
abbrev S_ : Shape := ⟨0, ![]⟩
abbrev S1x1x128 : Shape := ⟨3, ![1, 1, 128]⟩
abbrev S1x128 : Shape := ⟨2, ![1, 128]⟩
abbrev S64x768 : Shape := ⟨2, ![64, 768]⟩
abbrev S1x256 : Shape := ⟨2, ![1, 256]⟩
abbrev S256x1 : Shape := ⟨2, ![256, 1]⟩
abbrev S1x1 : Shape := ⟨2, ![1, 1]⟩
abbrev S51200x128 : Shape := ⟨2, ![51200, 128]⟩
abbrev S32x400x256 : Shape := ⟨3, ![32, 400, 256]⟩
abbrev S32x256 : Shape := ⟨2, ![32, 256]⟩
abbrev S32x128 : Shape := ⟨2, ![32, 128]⟩
abbrev S32x400 : Shape := ⟨2, ![32, 400]⟩
abbrev S12800x128 : Shape := ⟨2, ![12800, 128]⟩
abbrev S400x32 : Shape := ⟨2, ![400, 32]⟩
abbrev S1x400x256 : Shape := ⟨3, ![1, 400, 256]⟩
abbrev S400x256 : Shape := ⟨2, ![400, 256]⟩
abbrev S400x1 : Shape := ⟨2, ![400, 1]⟩
abbrev S32 : Shape := ⟨1, ![32]⟩
abbrev S32x1 : Shape := ⟨2, ![32, 1]⟩
abbrev S1x400 : Shape := ⟨2, ![1, 400]⟩
abbrev S400x400 : Shape := ⟨2, ![400, 400]⟩
abbrev S400x128 : Shape := ⟨2, ![400, 128]⟩
abbrev S128x51200 : Shape := ⟨2, ![128, 51200]⟩
abbrev S1x50000 : Shape := ⟨2, ![1, 50000]⟩
abbrev S128x50000 : Shape := ⟨2, ![128, 50000]⟩
abbrev S128x50250 : Shape := ⟨2, ![128, 50250]⟩
abbrev S4096x128 : Shape := ⟨2, ![4096, 128]⟩
abbrev S1x4096 : Shape := ⟨2, ![1, 4096]⟩
abbrev S128x4096 : Shape := ⟨2, ![128, 4096]⟩
abbrev S13x128x4096 : Shape := ⟨3, ![13, 128, 4096]⟩
abbrev S128x1024 : Shape := ⟨2, ![128, 1024]⟩
abbrev S1x128x1024 : Shape := ⟨3, ![1, 128, 1024]⟩
abbrev S1x128x4096 : Shape := ⟨3, ![1, 128, 4096]⟩

abbrev nBuf : Space → Nat
  | .hbm => 51
  | .vmem => 55
  | .smem => 3
  | _ => 0

abbrev bufTy : (tb : Table) → Fin (tcTables nBuf tb) → BufTy
  | .hbm, ⟨0, _⟩ => ⟨S128x1, .i32⟩
  | .hbm, ⟨1, _⟩ => ⟨S128x256, .f32⟩
  | .hbm, ⟨2, _⟩ => ⟨S128x400x256, .f32⟩
  | .hbm, ⟨3, _⟩ => ⟨S128x400, .i32⟩
  | .hbm, ⟨4, _⟩ => ⟨S50000x128, .f32⟩
  | .hbm, ⟨5, _⟩ => ⟨S768x128, .f32⟩
  | .hbm, ⟨6, _⟩ => ⟨S768x256, .f32⟩
  | .hbm, ⟨7, _⟩ => ⟨S768, .f32⟩
  | .hbm, ⟨8, _⟩ => ⟨S768, .f32⟩
  | .hbm, ⟨9, _⟩ => ⟨S256, .f32⟩
  | .hbm, ⟨10, _⟩ => ⟨S256, .f32⟩
  | .hbm, ⟨11, _⟩ => ⟨S1, .f32⟩
  | .hbm, ⟨12, _⟩ => ⟨S256, .f32⟩
  | .hbm, ⟨13, _⟩ => ⟨S1x640, .f32⟩
  | .hbm, ⟨14, _⟩ => ⟨S1, .f32⟩
  | .hbm, ⟨15, _⟩ => ⟨S128x512, .f32⟩
  | .hbm, ⟨16, _⟩ => ⟨S128, .f32⟩
  | .hbm, ⟨17, _⟩ => ⟨S50000x128, .f32⟩
  | .hbm, ⟨18, _⟩ => ⟨S50000, .f32⟩
  | .hbm, ⟨19, _⟩ => ⟨S128, .i32⟩
  | .hbm, ⟨20, _⟩ => ⟨S50000x1x128, .f32⟩
  | .hbm, ⟨21, _⟩ => ⟨S1x768, .f32⟩
  | .hbm, ⟨22, _⟩ => ⟨S1x768, .f32⟩
  | .hbm, ⟨23, _⟩ => ⟨S128x256, .f32⟩
  | .hbm, ⟨24, _⟩ => ⟨S128x128, .f32⟩
  | .hbm, ⟨25, _⟩ => ⟨S_, .i32⟩
  | .hbm, ⟨26, _⟩ => ⟨S128x400, .i32⟩
  | .hbm, ⟨27, _⟩ => ⟨S128x400, .i32⟩
  | .hbm, ⟨28, _⟩ => ⟨S_, .i32⟩
  | .hbm, ⟨29, _⟩ => ⟨S128x400, .i32⟩
  | .hbm, ⟨30, _⟩ => ⟨S128x400, .i32⟩
  | .hbm, ⟨31, _⟩ => ⟨S1x256, .f32⟩
  | .hbm, ⟨32, _⟩ => ⟨S1x256, .f32⟩
  | .hbm, ⟨33, _⟩ => ⟨S256x1, .f32⟩
  | .hbm, ⟨34, _⟩ => ⟨S1x1, .f32⟩
  | .hbm, ⟨35, _⟩ => ⟨S1x256, .f32⟩
  | .hbm, ⟨36, _⟩ => ⟨S1x256, .f32⟩
  | .hbm, ⟨37, _⟩ => ⟨S1x128, .f32⟩
  | .hbm, ⟨38, _⟩ => ⟨S1x1, .f32⟩
  | .hbm, ⟨39, _⟩ => ⟨S128x256, .f32⟩
  | .hbm, ⟨40, _⟩ => ⟨S128x256, .f32⟩
  | .hbm, ⟨41, _⟩ => ⟨S1x128, .f32⟩
  | .hbm, ⟨42, _⟩ => ⟨S128x128, .f32⟩
  | .hbm, ⟨43, _⟩ => ⟨S128x128, .f32⟩
  | .hbm, ⟨44, _⟩ => ⟨S128x400, .f32⟩
  | .hbm, ⟨45, _⟩ => ⟨S51200x128, .f32⟩
  | .hbm, ⟨46, _⟩ => ⟨S128x51200, .f32⟩
  | .hbm, ⟨47, _⟩ => ⟨S1x50000, .f32⟩
  | .hbm, ⟨48, _⟩ => ⟨S128x50000, .f32⟩
  | .hbm, ⟨49, _⟩ => ⟨S128x50250, .f32⟩
  | .hbm, ⟨50, _⟩ => ⟨S128x1, .f32⟩
  | .local _ .vmem, ⟨0, _⟩ => ⟨S64x256, .f32⟩
  | .local _ .vmem, ⟨1, _⟩ => ⟨S64x256, .f32⟩
  | .local _ .vmem, ⟨2, _⟩ => ⟨S768x128, .f32⟩
  | .local _ .vmem, ⟨3, _⟩ => ⟨S768x256, .f32⟩
  | .local _ .vmem, ⟨4, _⟩ => ⟨S1x768, .f32⟩
  | .local _ .vmem, ⟨5, _⟩ => ⟨S1x768, .f32⟩
  | .local _ .vmem, ⟨6, _⟩ => ⟨S64x256, .f32⟩
  | .local _ .vmem, ⟨7, _⟩ => ⟨S64x256, .f32⟩
  | .local _ .vmem, ⟨8, _⟩ => ⟨S64x128, .f32⟩
  | .local _ .vmem, ⟨9, _⟩ => ⟨S64x128, .f32⟩
  | .local _ .vmem, ⟨10, _⟩ => ⟨S64x1x128, .f32⟩
  | .local _ .vmem, ⟨11, _⟩ => ⟨S32x400x256, .f32⟩
  | .local _ .vmem, ⟨12, _⟩ => ⟨S32x400x256, .f32⟩
  | .local _ .vmem, ⟨13, _⟩ => ⟨S32x256, .f32⟩
  | .local _ .vmem, ⟨14, _⟩ => ⟨S32x256, .f32⟩
  | .local _ .vmem, ⟨15, _⟩ => ⟨S32x128, .f32⟩
  | .local _ .vmem, ⟨16, _⟩ => ⟨S32x128, .f32⟩
  | .local _ .vmem, ⟨17, _⟩ => ⟨S32x400, .i32⟩
  | .local _ .vmem, ⟨18, _⟩ => ⟨S32x400, .i32⟩
  | .local _ .vmem, ⟨19, _⟩ => ⟨S32x400, .i32⟩
  | .local _ .vmem, ⟨20, _⟩ => ⟨S32x400, .i32⟩
  | .local _ .vmem, ⟨21, _⟩ => ⟨S1x256, .f32⟩
  | .local _ .vmem, ⟨22, _⟩ => ⟨S1x256, .f32⟩
  | .local _ .vmem, ⟨23, _⟩ => ⟨S256x1, .f32⟩
  | .local _ .vmem, ⟨24, _⟩ => ⟨S1x256, .f32⟩
  | .local _ .vmem, ⟨25, _⟩ => ⟨S1x256, .f32⟩
  | .local _ .vmem, ⟨26, _⟩ => ⟨S1x128, .f32⟩
  | .local _ .vmem, ⟨27, _⟩ => ⟨S128x256, .f32⟩
  | .local _ .vmem, ⟨28, _⟩ => ⟨S128x256, .f32⟩
  | .local _ .vmem, ⟨29, _⟩ => ⟨S1x128, .f32⟩
  | .local _ .vmem, ⟨30, _⟩ => ⟨S32x128, .f32⟩
  | .local _ .vmem, ⟨31, _⟩ => ⟨S32x128, .f32⟩
  | .local _ .vmem, ⟨32, _⟩ => ⟨S32x128, .f32⟩
  | .local _ .vmem, ⟨33, _⟩ => ⟨S32x128, .f32⟩
  | .local _ .vmem, ⟨34, _⟩ => ⟨S32x400, .f32⟩
  | .local _ .vmem, ⟨35, _⟩ => ⟨S32x400, .f32⟩
  | .local _ .vmem, ⟨36, _⟩ => ⟨S12800x128, .f32⟩
  | .local _ .vmem, ⟨37, _⟩ => ⟨S12800x128, .f32⟩
  | .local _ .vmem, ⟨38, _⟩ => ⟨S400x32, .f32⟩
  | .local _ .vmem, ⟨39, _⟩ => ⟨S32x256, .f32⟩
  | .local _ .vmem, ⟨40, _⟩ => ⟨S128x128, .f32⟩
  | .local _ .vmem, ⟨41, _⟩ => ⟨S4096x128, .f32⟩
  | .local _ .vmem, ⟨42, _⟩ => ⟨S4096x128, .f32⟩
  | .local _ .vmem, ⟨43, _⟩ => ⟨S1x4096, .f32⟩
  | .local _ .vmem, ⟨44, _⟩ => ⟨S1x4096, .f32⟩
  | .local _ .vmem, ⟨45, _⟩ => ⟨S128x128, .f32⟩
  | .local _ .vmem, ⟨46, _⟩ => ⟨S128x4096, .f32⟩
  | .local _ .vmem, ⟨47, _⟩ => ⟨S128x4096, .f32⟩
  | .local _ .vmem, ⟨48, _⟩ => ⟨S128x4096, .f32⟩
  | .local _ .vmem, ⟨49, _⟩ => ⟨S128x4096, .f32⟩
  | .local _ .vmem, ⟨50, _⟩ => ⟨S128x4096, .f32⟩
  | .local _ .vmem, ⟨51, _⟩ => ⟨S128x4096, .f32⟩
  | .local _ .vmem, ⟨52, _⟩ => ⟨S128x1, .f32⟩
  | .local _ .vmem, ⟨53, _⟩ => ⟨S128x1, .f32⟩
  | .local _ .vmem, ⟨54, _⟩ => ⟨S13x128x4096, .f32⟩
  | .local _ .smem, ⟨0, _⟩ => ⟨S128, .i32⟩
  | .local _ .smem, ⟨1, _⟩ => ⟨S1x1, .f32⟩
  | .local _ .smem, ⟨2, _⟩ => ⟨S1x1, .f32⟩
  | _, _ => ⟨S128x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4_0 : Ref sig .tc := ⟨.hbm, 23, rfl⟩
abbrev main_v4_1 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev main_v20_2 : Ref sig .tc := ⟨.hbm, 44, rfl⟩
abbrev main_v20_3 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v24 : Ref sig .tc := ⟨.hbm, 50, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg15_0 : Ref sig .tc := ⟨.vmem, 29, rfl⟩
abbrev cc1_stg16_0 : Ref sig .tc := ⟨.vmem, 30, rfl⟩
abbrev cc1_stg16_1 : Ref sig .tc := ⟨.vmem, 31, rfl⟩
abbrev cc1_stg17_0 : Ref sig .tc := ⟨.vmem, 32, rfl⟩
abbrev cc1_stg17_1 : Ref sig .tc := ⟨.vmem, 33, rfl⟩
abbrev cc1_stg18_0 : Ref sig .tc := ⟨.vmem, 34, rfl⟩
abbrev cc1_stg18_1 : Ref sig .tc := ⟨.vmem, 35, rfl⟩
abbrev cc1_stg19_0 : Ref sig .tc := ⟨.vmem, 36, rfl⟩
abbrev cc1_stg19_1 : Ref sig .tc := ⟨.vmem, 37, rfl⟩
abbrev cc1_scratch0 : Ref sig .tc := ⟨.vmem, 38, rfl⟩
abbrev cc1_scratch1 : Ref sig .tc := ⟨.vmem, 39, rfl⟩
abbrev cc2_stg0_0 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg2_1 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg4_1 : Ref sig .tc := ⟨.vmem, 47, rfl⟩
abbrev cc2_stg5_0 : Ref sig .tc := ⟨.vmem, 48, rfl⟩
abbrev cc2_stg5_1 : Ref sig .tc := ⟨.vmem, 49, rfl⟩
abbrev cc2_stg6_0 : Ref sig .tc := ⟨.vmem, 50, rfl⟩
abbrev cc2_stg6_1 : Ref sig .tc := ⟨.vmem, 51, rfl⟩
abbrev cc2_scratch0 : Ref sig .tc := ⟨.vmem, 52, rfl⟩
abbrev cc2_scratch1 : Ref sig .tc := ⟨.vmem, 53, rfl⟩
abbrev cc2_scratch2 : Ref sig .tc := ⟨.vmem, 54, rfl⟩
abbrev cc0_stg0_0 : Ref sig .tc := ⟨.smem, 0, rfl⟩
abbrev cc1_stg8_0 : Ref sig .tc := ⟨.smem, 1, rfl⟩
abbrev cc1_stg12_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem15_0 : DmaSem sig := 32
abbrev cc1_sem16_0 : DmaSem sig := 33
abbrev cc1_sem16_1 : DmaSem sig := 34
abbrev cc1_sem17_0 : DmaSem sig := 35
abbrev cc1_sem17_1 : DmaSem sig := 36
abbrev cc1_sem18_0 : DmaSem sig := 37
abbrev cc1_sem18_1 : DmaSem sig := 38
abbrev cc1_sem19_0 : DmaSem sig := 39
abbrev cc1_sem19_1 : DmaSem sig := 40
abbrev cc2_sem0_0 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem4_0 : DmaSem sig := 47
abbrev cc2_sem4_1 : DmaSem sig := 48
abbrev cc2_sem5_0 : DmaSem sig := 49
abbrev cc2_sem5_1 : DmaSem sig := 50
abbrev cc2_sem6_0 : DmaSem sig := 51
abbrev cc2_sem6_1 : DmaSem sig := 52

abbrev nD : Nat := 1
abbrev τ : Topo := Topo.v7x

variable {F : FTy → Type} [FloatOps F]

abbrev grid0 : Pipeline.Grid := ⟨2, ![2, 1], ![false, false]⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_3 : BitVec 32 := 0#32
  let c0_i32_4 : BitVec 32 := 0#32
  ![v3.toNat, 0, 0]

def k0_chk1 (v3 : BitVec 32) : Prop :=
  (∀ a, (k0_off2 v3) a + S1x1x128.size a ≤ S50000x1x128.size a)
theorem k0_off2_inb : ∀ (v3 : BitVec 32) (k0_hw1 : k0_chk1 v3), ∀ a, (k0_off2 v3) a + S1x1x128.size a ≤ S50000x1x128.size a := fun v3 k0_hw1 => k0_hw1

def k0_off3 (i : grid0.Coords) : Fin 1 → Nat :=
  let arg0 : BitVec 32 := BitVec.ofNat 32 (i 0).val
  let c64_i32 : BitVec 32 := 64#32
  let v0 : BitVec 32 := Scalar.muli arg0 c64_i32
  let c1_i32 : BitVec 32 := 1#32
  let v8 : BitVec 32 := Scalar.addi v0 c1_i32
  let v9 : Index := Scalar.indexCast v8
  ![v9.toNat]
def k0_off4 (v10 : BitVec 32) : Fin 3 → Nat :=
  let c0_i32_8 : BitVec 32 := 0#32
  let c0_i32_9 : BitVec 32 := 0#32
  ![v10.toNat, 0, 0]

def k0_chk2 (v10 : BitVec 32) : Prop :=
  (∀ a, (k0_off4 v10) a + S1x1x128.size a ≤ S50000x1x128.size a)
theorem k0_off4_inb : ∀ (v10 : BitVec 32) (k0_hw2 : k0_chk2 v10), ∀ a, (k0_off4 v10) a + S1x1x128.size a ≤ S50000x1x128.size a := fun v10 k0_hw2 => k0_hw2

def k0_off5 (i : grid0.Coords) : Fin 1 → Nat :=
  let arg0 : BitVec 32 := BitVec.ofNat 32 (i 0).val
  let c64_i32 : BitVec 32 := 64#32
  let v0 : BitVec 32 := Scalar.muli arg0 c64_i32
  let c2_i32 : BitVec 32 := 2#32
  let v15 : BitVec 32 := Scalar.addi v0 c2_i32
  let v16 : Index := Scalar.indexCast v15
  ![v16.toNat]
def k0_off6 (v17 : BitVec 32) : Fin 3 → Nat :=
  let c0_i32_13 : BitVec 32 := 0#32
  let c0_i32_14 : BitVec 32 := 0#32
  ![v17.toNat, 0, 0]

def k0_chk3 (v17 : BitVec 32) : Prop :=
  (∀ a, (k0_off6 v17) a + S1x1x128.size a ≤ S50000x1x128.size a)
theorem k0_off6_inb : ∀ (v17 : BitVec 32) (k0_hw3 : k0_chk3 v17), ∀ a, (k0_off6 v17) a + S1x1x128.size a ≤ S50000x1x128.size a := fun v17 k0_hw3 => k0_hw3

def k0_off7 (i : grid0.Coords) : Fin 1 → Nat :=
  let arg0 : BitVec 32 := BitVec.ofNat 32 (i 0).val
  let c64_i32 : BitVec 32 := 64#32
  let v0 : BitVec 32 := Scalar.muli arg0 c64_i32
  let c3_i32 : BitVec 32 := 3#32
  let v22 : BitVec 32 := Scalar.addi v0 c3_i32
  let v23 : Index := Scalar.indexCast v22
  ![v23.toNat]
def k0_off8 (v24 : BitVec 32) : Fin 3 → Nat :=
  let c0_i32_18 : BitVec 32 := 0#32
  let c0_i32_19 : BitVec 32 := 0#32
  ![v24.toNat, 0, 0]

def k0_chk4 (v24 : BitVec 32) : Prop :=
  (∀ a, (k0_off8 v24) a + S1x1x128.size a ≤ S50000x1x128.size a)
theorem k0_off8_inb : ∀ (v24 : BitVec 32) (k0_hw4 : k0_chk4 v24), ∀ a, (k0_off8 v24) a + S1x1x128.size a ≤ S50000x1x128.size a := fun v24 k0_hw4 => k0_hw4

def k0_off9 (i : grid0.Coords) : Fin 1 → Nat :=
  let arg0 : BitVec 32 := BitVec.ofNat 32 (i 0).val
  let c64_i32 : BitVec 32 := 64#32
  let v0 : BitVec 32 := Scalar.muli arg0 c64_i32
  let c4_i32 : BitVec 32 := 4#32
  let v29 : BitVec 32 := Scalar.addi v0 c4_i32
  let v30 : Index := Scalar.indexCast v29
  ![v30.toNat]
def k0_off10 (v31 : BitVec 32) : Fin 3 → Nat :=
  let c0_i32_23 : BitVec 32 := 0#32
  let c0_i32_24 : BitVec 32 := 0#32
  ![v31.toNat, 0, 0]

def k0_chk5 (v31 : BitVec 32) : Prop :=
  (∀ a, (k0_off10 v31) a + S1x1x128.size a ≤ S50000x1x128.size a)
theorem k0_off10_inb : ∀ (v31 : BitVec 32) (k0_hw5 : k0_chk5 v31), ∀ a, (k0_off10 v31) a + S1x1x128.size a ≤ S50000x1x128.size a := fun v31 k0_hw5 => k0_hw5

def k0_off11 (i : grid0.Coords) : Fin 1 → Nat :=
  let arg0 : BitVec 32 := BitVec.ofNat 32 (i 0).val
  let c64_i32 : BitVec 32 := 64#32
  let v0 : BitVec 32 := Scalar.muli arg0 c64_i32
  let c5_i32 : BitVec 32 := 5#32
  let v36 : BitVec 32 := Scalar.addi v0 c5_i32
  let v37 : Index := Scalar.indexCast v36
  ![v37.toNat]
def k0_off12 (v38 : BitVec 32) : Fin 3 → Nat :=
  let c0_i32_28 : BitVec 32 := 0#32
  let c0_i32_29 : BitVec 32 := 0#32
  ![v38.toNat, 0, 0]

def k0_chk6 (v38 : BitVec 32) : Prop :=
  (∀ a, (k0_off12 v38) a + S1x1x128.size a ≤ S50000x1x128.size a)
theorem k0_off12_inb : ∀ (v38 : BitVec 32) (k0_hw6 : k0_chk6 v38), ∀ a, (k0_off12 v38) a + S1x1x128.size a ≤ S50000x1x128.size a := fun v38 k0_hw6 => k0_hw6

def k0_off13 (i : grid0.Coords) : Fin 1 → Nat :=
  let arg0 : BitVec 32 := BitVec.ofNat 32 (i 0).val
  let c64_i32 : BitVec 32 := 64#32
  let v0 : BitVec 32 := Scalar.muli arg0 c64_i32
  let c6_i32 : BitVec 32 := 6#32
  let v43 : BitVec 32 := Scalar.addi v0 c6_i32
  let v44 : Index := Scalar.indexCast v43
  ![v44.toNat]
def k0_off14 (v45 : BitVec 32) : Fin 3 → Nat :=
  let c0_i32_33 : BitVec 32 := 0#32
  let c0_i32_34 : BitVec 32 := 0#32
  ![v45.toNat, 0, 0]

def k0_chk7 (v45 : BitVec 32) : Prop :=
  (∀ a, (k0_off14 v45) a + S1x1x128.size a ≤ S50000x1x128.size a)
theorem k0_off14_inb : ∀ (v45 : BitVec 32) (k0_hw7 : k0_chk7 v45), ∀ a, (k0_off14 v45) a + S1x1x128.size a ≤ S50000x1x128.size a := fun v45 k0_hw7 => k0_hw7

def k0_off15 (i : grid0.Coords) : Fin 1 → Nat :=
  let arg0 : BitVec 32 := BitVec.ofNat 32 (i 0).val
  let c64_i32 : BitVec 32 := 64#32
  let v0 : BitVec 32 := Scalar.muli arg0 c64_i32
  let c7_i32 : BitVec 32 := 7#32
  let v50 : BitVec 32 := Scalar.addi v0 c7_i32
  let v51 : Index := Scalar.indexCast v50
  ![v51.toNat]
def k0_off16 (v52 : BitVec 32) : Fin 3 → Nat :=
  let c0_i32_38 : BitVec 32 := 0#32
  let c0_i32_39 : BitVec 32 := 0#32
  ![v52.toNat, 0, 0]

def k0_chk8 (v52 : BitVec 32) : Prop :=
  (∀ a, (k0_off16 v52) a + S1x1x128.size a ≤ S50000x1x128.size a)
theorem k0_off16_inb : ∀ (v52 : BitVec 32) (k0_hw8 : k0_chk8 v52), ∀ a, (k0_off16 v52) a + S1x1x128.size a ≤ S50000x1x128.size a := fun v52 k0_hw8 => k0_hw8

def k0_off17 (i : grid0.Coords) : Fin 1 → Nat :=
  let arg0 : BitVec 32 := BitVec.ofNat 32 (i 0).val
  let c64_i32 : BitVec 32 := 64#32
  let v0 : BitVec 32 := Scalar.muli arg0 c64_i32
  let c8_i32 : BitVec 32 := 8#32
  let v57 : BitVec 32 := Scalar.addi v0 c8_i32
  let v58 : Index := Scalar.indexCast v57
  ![v58.toNat]
def k0_off18 (v59 : BitVec 32) : Fin 3 → Nat :=
  let c0_i32_43 : BitVec 32 := 0#32
  let c0_i32_44 : BitVec 32 := 0#32
  ![v59.toNat, 0, 0]

def k0_chk9 (v59 : BitVec 32) : Prop :=
  (∀ a, (k0_off18 v59) a + S1x1x128.size a ≤ S50000x1x128.size a)
theorem k0_off18_inb : ∀ (v59 : BitVec 32) (k0_hw9 : k0_chk9 v59), ∀ a, (k0_off18 v59) a + S1x1x128.size a ≤ S50000x1x128.size a := fun v59 k0_hw9 => k0_hw9

def k0_off19 (i : grid0.Coords) : Fin 1 → Nat :=
  let arg0 : BitVec 32 := BitVec.ofNat 32 (i 0).val
  let c64_i32 : BitVec 32 := 64#32
  let v0 : BitVec 32 := Scalar.muli arg0 c64_i32
  let c9_i32 : BitVec 32 := 9#32
  let v64 : BitVec 32 := Scalar.addi v0 c9_i32
  let v65 : Index := Scalar.indexCast v64
  ![v65.toNat]
def k0_off20 (v66 : BitVec 32) : Fin 3 → Nat :=
  let c0_i32_48 : BitVec 32 := 0#32
  let c0_i32_49 : BitVec 32 := 0#32
  ![v66.toNat, 0, 0]

def k0_chk10 (v66 : BitVec 32) : Prop :=
  (∀ a, (k0_off20 v66) a + S1x1x128.size a ≤ S50000x1x128.size a)
theorem k0_off20_inb : ∀ (v66 : BitVec 32) (k0_hw10 : k0_chk10 v66), ∀ a, (k0_off20 v66) a + S1x1x128.size a ≤ S50000x1x128.size a := fun v66 k0_hw10 => k0_hw10

def k0_off21 (i : grid0.Coords) : Fin 1 → Nat :=
  let arg0 : BitVec 32 := BitVec.ofNat 32 (i 0).val
  let c64_i32 : BitVec 32 := 64#32
  let v0 : BitVec 32 := Scalar.muli arg0 c64_i32
  let c10_i32 : BitVec 32 := 10#32
  let v71 : BitVec 32 := Scalar.addi v0 c10_i32
  let v72 : Index := Scalar.indexCast v71
  ![v72.toNat]
def k0_off22 (v73 : BitVec 32) : Fin 3 → Nat :=
  let c0_i32_53 : BitVec 32 := 0#32
  let c0_i32_54 : BitVec 32 := 0#32
  ![v73.toNat, 0, 0]

def k0_chk11 (v73 : BitVec 32) : Prop :=
  (∀ a, (k0_off22 v73) a + S1x1x128.size a ≤ S50000x1x128.size a)
theorem k0_off22_inb : ∀ (v73 : BitVec 32) (k0_hw11 : k0_chk11 v73), ∀ a, (k0_off22 v73) a + S1x1x128.size a ≤ S50000x1x128.size a := fun v73 k0_hw11 => k0_hw11

def k0_off23 (i : grid0.Coords) : Fin 1 → Nat :=
  let arg0 : BitVec 32 := BitVec.ofNat 32 (i 0).val
  let c64_i32 : BitVec 32 := 64#32
  let v0 : BitVec 32 := Scalar.muli arg0 c64_i32
  let c11_i32 : BitVec 32 := 11#32
  let v78 : BitVec 32 := Scalar.addi v0 c11_i32
  let v79 : Index := Scalar.indexCast v78
  ![v79.toNat]
def k0_off24 (v80 : BitVec 32) : Fin 3 → Nat :=
  let c0_i32_58 : BitVec 32 := 0#32
  let c0_i32_59 : BitVec 32 := 0#32
  ![v80.toNat, 0, 0]

def k0_chk12 (v80 : BitVec 32) : Prop :=
  (∀ a, (k0_off24 v80) a + S1x1x128.size a ≤ S50000x1x128.size a)
theorem k0_off24_inb : ∀ (v80 : BitVec 32) (k0_hw12 : k0_chk12 v80), ∀ a, (k0_off24 v80) a + S1x1x128.size a ≤ S50000x1x128.size a := fun v80 k0_hw12 => k0_hw12

def k0_off25 (i : grid0.Coords) : Fin 1 → Nat :=
  let arg0 : BitVec 32 := BitVec.ofNat 32 (i 0).val
  let c64_i32 : BitVec 32 := 64#32
  let v0 : BitVec 32 := Scalar.muli arg0 c64_i32
  let c12_i32 : BitVec 32 := 12#32
  let v85 : BitVec 32 := Scalar.addi v0 c12_i32
  let v86 : Index := Scalar.indexCast v85
  ![v86.toNat]
def k0_off26 (v87 : BitVec 32) : Fin 3 → Nat :=
  let c0_i32_63 : BitVec 32 := 0#32
  let c0_i32_64 : BitVec 32 := 0#32
  ![v87.toNat, 0, 0]

def k0_chk13 (v87 : BitVec 32) : Prop :=
  (∀ a, (k0_off26 v87) a + S1x1x128.size a ≤ S50000x1x128.size a)
theorem k0_off26_inb : ∀ (v87 : BitVec 32) (k0_hw13 : k0_chk13 v87), ∀ a, (k0_off26 v87) a + S1x1x128.size a ≤ S50000x1x128.size a := fun v87 k0_hw13 => k0_hw13

def k0_off27 (i : grid0.Coords) : Fin 1 → Nat :=
  let arg0 : BitVec 32 := BitVec.ofNat 32 (i 0).val
  let c64_i32 : BitVec 32 := 64#32
  let v0 : BitVec 32 := Scalar.muli arg0 c64_i32
  let c13_i32 : BitVec 32 := 13#32
  let v92 : BitVec 32 := Scalar.addi v0 c13_i32
  let v93 : Index := Scalar.indexCast v92
  ![v93.toNat]
def k0_off28 (v94 : BitVec 32) : Fin 3 → Nat :=
  let c0_i32_68 : BitVec 32 := 0#32
  let c0_i32_69 : BitVec 32 := 0#32
  ![v94.toNat, 0, 0]

def k0_chk14 (v94 : BitVec 32) : Prop :=
  (∀ a, (k0_off28 v94) a + S1x1x128.size a ≤ S50000x1x128.size a)
theorem k0_off28_inb : ∀ (v94 : BitVec 32) (k0_hw14 : k0_chk14 v94), ∀ a, (k0_off28 v94) a + S1x1x128.size a ≤ S50000x1x128.size a := fun v94 k0_hw14 => k0_hw14

def k0_off29 (i : grid0.Coords) : Fin 1 → Nat :=
  let arg0 : BitVec 32 := BitVec.ofNat 32 (i 0).val
  let c64_i32 : BitVec 32 := 64#32
  let v0 : BitVec 32 := Scalar.muli arg0 c64_i32
  let c14_i32 : BitVec 32 := 14#32
  let v99 : BitVec 32 := Scalar.addi v0 c14_i32
  let v100 : Index := Scalar.indexCast v99
  ![v100.toNat]
def k0_off30 (v101 : BitVec 32) : Fin 3 → Nat :=
  let c0_i32_73 : BitVec 32 := 0#32
  let c0_i32_74 : BitVec 32 := 0#32
  ![v101.toNat, 0, 0]

def k0_chk15 (v101 : BitVec 32) : Prop :=
  (∀ a, (k0_off30 v101) a + S1x1x128.size a ≤ S50000x1x128.size a)
theorem k0_off30_inb : ∀ (v101 : BitVec 32) (k0_hw15 : k0_chk15 v101), ∀ a, (k0_off30 v101) a + S1x1x128.size a ≤ S50000x1x128.size a := fun v101 k0_hw15 => k0_hw15

def k0_off31 (i : grid0.Coords) : Fin 1 → Nat :=
  let arg0 : BitVec 32 := BitVec.ofNat 32 (i 0).val
  let c64_i32 : BitVec 32 := 64#32
  let v0 : BitVec 32 := Scalar.muli arg0 c64_i32
  let c15_i32 : BitVec 32 := 15#32
  let v106 : BitVec 32 := Scalar.addi v0 c15_i32
  let v107 : Index := Scalar.indexCast v106
  ![v107.toNat]
def k0_off32 (v108 : BitVec 32) : Fin 3 → Nat :=
  let c0_i32_78 : BitVec 32 := 0#32
  let c0_i32_79 : BitVec 32 := 0#32
  ![v108.toNat, 0, 0]

def k0_chk16 (v108 : BitVec 32) : Prop :=
  (∀ a, (k0_off32 v108) a + S1x1x128.size a ≤ S50000x1x128.size a)
theorem k0_off32_inb : ∀ (v108 : BitVec 32) (k0_hw16 : k0_chk16 v108), ∀ a, (k0_off32 v108) a + S1x1x128.size a ≤ S50000x1x128.size a := fun v108 k0_hw16 => k0_hw16

def k0_off33 (i : grid0.Coords) : Fin 1 → Nat :=
  let arg0 : BitVec 32 := BitVec.ofNat 32 (i 0).val
  let c64_i32 : BitVec 32 := 64#32
  let v0 : BitVec 32 := Scalar.muli arg0 c64_i32
  let c16_i32 : BitVec 32 := 16#32
  let v113 : BitVec 32 := Scalar.addi v0 c16_i32
  let v114 : Index := Scalar.indexCast v113
  ![v114.toNat]
def k0_off34 (v115 : BitVec 32) : Fin 3 → Nat :=
  let c0_i32_83 : BitVec 32 := 0#32
  let c0_i32_84 : BitVec 32 := 0#32
  ![v115.toNat, 0, 0]

def k0_chk17 (v115 : BitVec 32) : Prop :=
  (∀ a, (k0_off34 v115) a + S1x1x128.size a ≤ S50000x1x128.size a)
theorem k0_off34_inb : ∀ (v115 : BitVec 32) (k0_hw17 : k0_chk17 v115), ∀ a, (k0_off34 v115) a + S1x1x128.size a ≤ S50000x1x128.size a := fun v115 k0_hw17 => k0_hw17

def k0_off35 (i : grid0.Coords) : Fin 1 → Nat :=
  let arg0 : BitVec 32 := BitVec.ofNat 32 (i 0).val
  let c64_i32 : BitVec 32 := 64#32
  let v0 : BitVec 32 := Scalar.muli arg0 c64_i32
  let c17_i32 : BitVec 32 := 17#32
  let v120 : BitVec 32 := Scalar.addi v0 c17_i32
  let v121 : Index := Scalar.indexCast v120
  ![v121.toNat]
def k0_off36 (v122 : BitVec 32) : Fin 3 → Nat :=
  let c0_i32_88 : BitVec 32 := 0#32
  let c0_i32_89 : BitVec 32 := 0#32
  ![v122.toNat, 0, 0]

def k0_chk18 (v122 : BitVec 32) : Prop :=
  (∀ a, (k0_off36 v122) a + S1x1x128.size a ≤ S50000x1x128.size a)
theorem k0_off36_inb : ∀ (v122 : BitVec 32) (k0_hw18 : k0_chk18 v122), ∀ a, (k0_off36 v122) a + S1x1x128.size a ≤ S50000x1x128.size a := fun v122 k0_hw18 => k0_hw18

def k0_off37 (i : grid0.Coords) : Fin 1 → Nat :=
  let arg0 : BitVec 32 := BitVec.ofNat 32 (i 0).val
  let c64_i32 : BitVec 32 := 64#32
  let v0 : BitVec 32 := Scalar.muli arg0 c64_i32
  let c18_i32 : BitVec 32 := 18#32
  let v127 : BitVec 32 := Scalar.addi v0 c18_i32
  let v128 : Index := Scalar.indexCast v127
  ![v128.toNat]
def k0_off38 (v129 : BitVec 32) : Fin 3 → Nat :=
  let c0_i32_93 : BitVec 32 := 0#32
  let c0_i32_94 : BitVec 32 := 0#32
  ![v129.toNat, 0, 0]

def k0_chk19 (v129 : BitVec 32) : Prop :=
  (∀ a, (k0_off38 v129) a + S1x1x128.size a ≤ S50000x1x128.size a)
theorem k0_off38_inb : ∀ (v129 : BitVec 32) (k0_hw19 : k0_chk19 v129), ∀ a, (k0_off38 v129) a + S1x1x128.size a ≤ S50000x1x128.size a := fun v129 k0_hw19 => k0_hw19

def k0_off39 (i : grid0.Coords) : Fin 1 → Nat :=
  let arg0 : BitVec 32 := BitVec.ofNat 32 (i 0).val
  let c64_i32 : BitVec 32 := 64#32
  let v0 : BitVec 32 := Scalar.muli arg0 c64_i32
  let c19_i32 : BitVec 32 := 19#32
  let v134 : BitVec 32 := Scalar.addi v0 c19_i32
  let v135 : Index := Scalar.indexCast v134
  ![v135.toNat]
def k0_off40 (v136 : BitVec 32) : Fin 3 → Nat :=
  let c0_i32_98 : BitVec 32 := 0#32
  let c0_i32_99 : BitVec 32 := 0#32
  ![v136.toNat, 0, 0]

def k0_chk20 (v136 : BitVec 32) : Prop :=
  (∀ a, (k0_off40 v136) a + S1x1x128.size a ≤ S50000x1x128.size a)
theorem k0_off40_inb : ∀ (v136 : BitVec 32) (k0_hw20 : k0_chk20 v136), ∀ a, (k0_off40 v136) a + S1x1x128.size a ≤ S50000x1x128.size a := fun v136 k0_hw20 => k0_hw20

def k0_off41 (i : grid0.Coords) : Fin 1 → Nat :=
  let arg0 : BitVec 32 := BitVec.ofNat 32 (i 0).val
  let c64_i32 : BitVec 32 := 64#32
  let v0 : BitVec 32 := Scalar.muli arg0 c64_i32
  let c20_i32 : BitVec 32 := 20#32
  let v141 : BitVec 32 := Scalar.addi v0 c20_i32
  let v142 : Index := Scalar.indexCast v141
  ![v142.toNat]
def k0_off42 (v143 : BitVec 32) : Fin 3 → Nat :=
  let c0_i32_103 : BitVec 32 := 0#32
  let c0_i32_104 : BitVec 32 := 0#32
  ![v143.toNat, 0, 0]

def k0_chk21 (v143 : BitVec 32) : Prop :=
  (∀ a, (k0_off42 v143) a + S1x1x128.size a ≤ S50000x1x128.size a)
theorem k0_off42_inb : ∀ (v143 : BitVec 32) (k0_hw21 : k0_chk21 v143), ∀ a, (k0_off42 v143) a + S1x1x128.size a ≤ S50000x1x128.size a := fun v143 k0_hw21 => k0_hw21

def k0_off43 (i : grid0.Coords) : Fin 1 → Nat :=
  let arg0 : BitVec 32 := BitVec.ofNat 32 (i 0).val
  let c64_i32 : BitVec 32 := 64#32
  let v0 : BitVec 32 := Scalar.muli arg0 c64_i32
  let c21_i32 : BitVec 32 := 21#32
  let v148 : BitVec 32 := Scalar.addi v0 c21_i32
  let v149 : Index := Scalar.indexCast v148
  ![v149.toNat]
def k0_off44 (v150 : BitVec 32) : Fin 3 → Nat :=
  let c0_i32_108 : BitVec 32 := 0#32
  let c0_i32_109 : BitVec 32 := 0#32
  ![v150.toNat, 0, 0]

def k0_chk22 (v150 : BitVec 32) : Prop :=
  (∀ a, (k0_off44 v150) a + S1x1x128.size a ≤ S50000x1x128.size a)
theorem k0_off44_inb : ∀ (v150 : BitVec 32) (k0_hw22 : k0_chk22 v150), ∀ a, (k0_off44 v150) a + S1x1x128.size a ≤ S50000x1x128.size a := fun v150 k0_hw22 => k0_hw22

def k0_off45 (i : grid0.Coords) : Fin 1 → Nat :=
  let arg0 : BitVec 32 := BitVec.ofNat 32 (i 0).val
  let c64_i32 : BitVec 32 := 64#32
  let v0 : BitVec 32 := Scalar.muli arg0 c64_i32
  let c22_i32 : BitVec 32 := 22#32
  let v155 : BitVec 32 := Scalar.addi v0 c22_i32
  let v156 : Index := Scalar.indexCast v155
  ![v156.toNat]
def k0_off46 (v157 : BitVec 32) : Fin 3 → Nat :=
  let c0_i32_113 : BitVec 32 := 0#32
  let c0_i32_114 : BitVec 32 := 0#32
  ![v157.toNat, 0, 0]

def k0_chk23 (v157 : BitVec 32) : Prop :=
  (∀ a, (k0_off46 v157) a + S1x1x128.size a ≤ S50000x1x128.size a)
theorem k0_off46_inb : ∀ (v157 : BitVec 32) (k0_hw23 : k0_chk23 v157), ∀ a, (k0_off46 v157) a + S1x1x128.size a ≤ S50000x1x128.size a := fun v157 k0_hw23 => k0_hw23

def k0_off47 (i : grid0.Coords) : Fin 1 → Nat :=
  let arg0 : BitVec 32 := BitVec.ofNat 32 (i 0).val
  let c64_i32 : BitVec 32 := 64#32
  let v0 : BitVec 32 := Scalar.muli arg0 c64_i32
  let c23_i32 : BitVec 32 := 23#32
  let v162 : BitVec 32 := Scalar.addi v0 c23_i32
  let v163 : Index := Scalar.indexCast v162
  ![v163.toNat]
def k0_off48 (v164 : BitVec 32) : Fin 3 → Nat :=
  let c0_i32_118 : BitVec 32 := 0#32
  let c0_i32_119 : BitVec 32 := 0#32
  ![v164.toNat, 0, 0]

def k0_chk24 (v164 : BitVec 32) : Prop :=
  (∀ a, (k0_off48 v164) a + S1x1x128.size a ≤ S50000x1x128.size a)
theorem k0_off48_inb : ∀ (v164 : BitVec 32) (k0_hw24 : k0_chk24 v164), ∀ a, (k0_off48 v164) a + S1x1x128.size a ≤ S50000x1x128.size a := fun v164 k0_hw24 => k0_hw24

def k0_off49 (i : grid0.Coords) : Fin 1 → Nat :=
  let arg0 : BitVec 32 := BitVec.ofNat 32 (i 0).val
  let c64_i32 : BitVec 32 := 64#32
  let v0 : BitVec 32 := Scalar.muli arg0 c64_i32
  let c24_i32 : BitVec 32 := 24#32
  let v169 : BitVec 32 := Scalar.addi v0 c24_i32
  let v170 : Index := Scalar.indexCast v169
  ![v170.toNat]
def k0_off50 (v171 : BitVec 32) : Fin 3 → Nat :=
  let c0_i32_123 : BitVec 32 := 0#32
  let c0_i32_124 : BitVec 32 := 0#32
  ![v171.toNat, 0, 0]

def k0_chk25 (v171 : BitVec 32) : Prop :=
  (∀ a, (k0_off50 v171) a + S1x1x128.size a ≤ S50000x1x128.size a)
theorem k0_off50_inb : ∀ (v171 : BitVec 32) (k0_hw25 : k0_chk25 v171), ∀ a, (k0_off50 v171) a + S1x1x128.size a ≤ S50000x1x128.size a := fun v171 k0_hw25 => k0_hw25

def k0_off51 (i : grid0.Coords) : Fin 1 → Nat :=
  let arg0 : BitVec 32 := BitVec.ofNat 32 (i 0).val
  let c64_i32 : BitVec 32 := 64#32
  let v0 : BitVec 32 := Scalar.muli arg0 c64_i32
  let c25_i32 : BitVec 32 := 25#32
  let v176 : BitVec 32 := Scalar.addi v0 c25_i32
  let v177 : Index := Scalar.indexCast v176
  ![v177.toNat]
def k0_off52 (v178 : BitVec 32) : Fin 3 → Nat :=
  let c0_i32_128 : BitVec 32 := 0#32
  let c0_i32_129 : BitVec 32 := 0#32
  ![v178.toNat, 0, 0]

def k0_chk26 (v178 : BitVec 32) : Prop :=
  (∀ a, (k0_off52 v178) a + S1x1x128.size a ≤ S50000x1x128.size a)
theorem k0_off52_inb : ∀ (v178 : BitVec 32) (k0_hw26 : k0_chk26 v178), ∀ a, (k0_off52 v178) a + S1x1x128.size a ≤ S50000x1x128.size a := fun v178 k0_hw26 => k0_hw26

def k0_off53 (i : grid0.Coords) : Fin 1 → Nat :=
  let arg0 : BitVec 32 := BitVec.ofNat 32 (i 0).val
  let c64_i32 : BitVec 32 := 64#32
  let v0 : BitVec 32 := Scalar.muli arg0 c64_i32
  let c26_i32 : BitVec 32 := 26#32
  let v183 : BitVec 32 := Scalar.addi v0 c26_i32
  let v184 : Index := Scalar.indexCast v183
  ![v184.toNat]
def k0_off54 (v185 : BitVec 32) : Fin 3 → Nat :=
  let c0_i32_133 : BitVec 32 := 0#32
  let c0_i32_134 : BitVec 32 := 0#32
  ![v185.toNat, 0, 0]

def k0_chk27 (v185 : BitVec 32) : Prop :=
  (∀ a, (k0_off54 v185) a + S1x1x128.size a ≤ S50000x1x128.size a)
theorem k0_off54_inb : ∀ (v185 : BitVec 32) (k0_hw27 : k0_chk27 v185), ∀ a, (k0_off54 v185) a + S1x1x128.size a ≤ S50000x1x128.size a := fun v185 k0_hw27 => k0_hw27

def k0_off55 (i : grid0.Coords) : Fin 1 → Nat :=
  let arg0 : BitVec 32 := BitVec.ofNat 32 (i 0).val
  let c64_i32 : BitVec 32 := 64#32
  let v0 : BitVec 32 := Scalar.muli arg0 c64_i32
  let c27_i32 : BitVec 32 := 27#32
  let v190 : BitVec 32 := Scalar.addi v0 c27_i32
  let v191 : Index := Scalar.indexCast v190
  ![v191.toNat]
def k0_off56 (v192 : BitVec 32) : Fin 3 → Nat :=
  let c0_i32_138 : BitVec 32 := 0#32
  let c0_i32_139 : BitVec 32 := 0#32
  ![v192.toNat, 0, 0]

def k0_chk28 (v192 : BitVec 32) : Prop :=
  (∀ a, (k0_off56 v192) a + S1x1x128.size a ≤ S50000x1x128.size a)
theorem k0_off56_inb : ∀ (v192 : BitVec 32) (k0_hw28 : k0_chk28 v192), ∀ a, (k0_off56 v192) a + S1x1x128.size a ≤ S50000x1x128.size a := fun v192 k0_hw28 => k0_hw28

def k0_off57 (i : grid0.Coords) : Fin 1 → Nat :=
  let arg0 : BitVec 32 := BitVec.ofNat 32 (i 0).val
  let c64_i32 : BitVec 32 := 64#32
  let v0 : BitVec 32 := Scalar.muli arg0 c64_i32
  let c28_i32 : BitVec 32 := 28#32
  let v197 : BitVec 32 := Scalar.addi v0 c28_i32
  let v198 : Index := Scalar.indexCast v197
  ![v198.toNat]
def k0_off58 (v199 : BitVec 32) : Fin 3 → Nat :=
  let c0_i32_143 : BitVec 32 := 0#32
  let c0_i32_144 : BitVec 32 := 0#32
  ![v199.toNat, 0, 0]

def k0_chk29 (v199 : BitVec 32) : Prop :=
  (∀ a, (k0_off58 v199) a + S1x1x128.size a ≤ S50000x1x128.size a)
theorem k0_off58_inb : ∀ (v199 : BitVec 32) (k0_hw29 : k0_chk29 v199), ∀ a, (k0_off58 v199) a + S1x1x128.size a ≤ S50000x1x128.size a := fun v199 k0_hw29 => k0_hw29

def k0_off59 (i : grid0.Coords) : Fin 1 → Nat :=
  let arg0 : BitVec 32 := BitVec.ofNat 32 (i 0).val
  let c64_i32 : BitVec 32 := 64#32
  let v0 : BitVec 32 := Scalar.muli arg0 c64_i32
  let c29_i32 : BitVec 32 := 29#32
  let v204 : BitVec 32 := Scalar.addi v0 c29_i32
  let v205 : Index := Scalar.indexCast v204
  ![v205.toNat]
def k0_off60 (v206 : BitVec 32) : Fin 3 → Nat :=
  let c0_i32_148 : BitVec 32 := 0#32
  let c0_i32_149 : BitVec 32 := 0#32
  ![v206.toNat, 0, 0]

def k0_chk30 (v206 : BitVec 32) : Prop :=
  (∀ a, (k0_off60 v206) a + S1x1x128.size a ≤ S50000x1x128.size a)
theorem k0_off60_inb : ∀ (v206 : BitVec 32) (k0_hw30 : k0_chk30 v206), ∀ a, (k0_off60 v206) a + S1x1x128.size a ≤ S50000x1x128.size a := fun v206 k0_hw30 => k0_hw30

def k0_off61 (i : grid0.Coords) : Fin 1 → Nat :=
  let arg0 : BitVec 32 := BitVec.ofNat 32 (i 0).val
  let c64_i32 : BitVec 32 := 64#32
  let v0 : BitVec 32 := Scalar.muli arg0 c64_i32
  let c30_i32 : BitVec 32 := 30#32
  let v211 : BitVec 32 := Scalar.addi v0 c30_i32
  let v212 : Index := Scalar.indexCast v211
  ![v212.toNat]
def k0_off62 (v213 : BitVec 32) : Fin 3 → Nat :=
  let c0_i32_153 : BitVec 32 := 0#32
  let c0_i32_154 : BitVec 32 := 0#32
  ![v213.toNat, 0, 0]

def k0_chk31 (v213 : BitVec 32) : Prop :=
  (∀ a, (k0_off62 v213) a + S1x1x128.size a ≤ S50000x1x128.size a)
theorem k0_off62_inb : ∀ (v213 : BitVec 32) (k0_hw31 : k0_chk31 v213), ∀ a, (k0_off62 v213) a + S1x1x128.size a ≤ S50000x1x128.size a := fun v213 k0_hw31 => k0_hw31

def k0_off63 (i : grid0.Coords) : Fin 1 → Nat :=
  let arg0 : BitVec 32 := BitVec.ofNat 32 (i 0).val
  let c64_i32 : BitVec 32 := 64#32
  let v0 : BitVec 32 := Scalar.muli arg0 c64_i32
  let c31_i32 : BitVec 32 := 31#32
  let v218 : BitVec 32 := Scalar.addi v0 c31_i32
  let v219 : Index := Scalar.indexCast v218
  ![v219.toNat]
def k0_off64 (v220 : BitVec 32) : Fin 3 → Nat :=
  let c0_i32_158 : BitVec 32 := 0#32
  let c0_i32_159 : BitVec 32 := 0#32
  ![v220.toNat, 0, 0]

def k0_chk32 (v220 : BitVec 32) : Prop :=
  (∀ a, (k0_off64 v220) a + S1x1x128.size a ≤ S50000x1x128.size a)
theorem k0_off64_inb : ∀ (v220 : BitVec 32) (k0_hw32 : k0_chk32 v220), ∀ a, (k0_off64 v220) a + S1x1x128.size a ≤ S50000x1x128.size a := fun v220 k0_hw32 => k0_hw32

def k0_off65 (i : grid0.Coords) : Fin 1 → Nat :=
  let arg0 : BitVec 32 := BitVec.ofNat 32 (i 0).val
  let c64_i32 : BitVec 32 := 64#32
  let v0 : BitVec 32 := Scalar.muli arg0 c64_i32
  let c32_i32 : BitVec 32 := 32#32
  let v225 : BitVec 32 := Scalar.addi v0 c32_i32
  let v226 : Index := Scalar.indexCast v225
  ![v226.toNat]
def k0_off66 (v227 : BitVec 32) : Fin 3 → Nat :=
  let c0_i32_163 : BitVec 32 := 0#32
  let c0_i32_164 : BitVec 32 := 0#32
  ![v227.toNat, 0, 0]

def k0_chk33 (v227 : BitVec 32) : Prop :=
  (∀ a, (k0_off66 v227) a + S1x1x128.size a ≤ S50000x1x128.size a)
theorem k0_off66_inb : ∀ (v227 : BitVec 32) (k0_hw33 : k0_chk33 v227), ∀ a, (k0_off66 v227) a + S1x1x128.size a ≤ S50000x1x128.size a := fun v227 k0_hw33 => k0_hw33

def k0_off67 (i : grid0.Coords) : Fin 1 → Nat :=
  let arg0 : BitVec 32 := BitVec.ofNat 32 (i 0).val
  let c64_i32 : BitVec 32 := 64#32
  let v0 : BitVec 32 := Scalar.muli arg0 c64_i32
  let c33_i32 : BitVec 32 := 33#32
  let v232 : BitVec 32 := Scalar.addi v0 c33_i32
  let v233 : Index := Scalar.indexCast v232
  ![v233.toNat]
def k0_off68 (v234 : BitVec 32) : Fin 3 → Nat :=
  let c0_i32_168 : BitVec 32 := 0#32
  let c0_i32_169 : BitVec 32 := 0#32
  ![v234.toNat, 0, 0]

def k0_chk34 (v234 : BitVec 32) : Prop :=
  (∀ a, (k0_off68 v234) a + S1x1x128.size a ≤ S50000x1x128.size a)
theorem k0_off68_inb : ∀ (v234 : BitVec 32) (k0_hw34 : k0_chk34 v234), ∀ a, (k0_off68 v234) a + S1x1x128.size a ≤ S50000x1x128.size a := fun v234 k0_hw34 => k0_hw34

def k0_off69 (i : grid0.Coords) : Fin 1 → Nat :=
  let arg0 : BitVec 32 := BitVec.ofNat 32 (i 0).val
  let c64_i32 : BitVec 32 := 64#32
  let v0 : BitVec 32 := Scalar.muli arg0 c64_i32
  let c34_i32 : BitVec 32 := 34#32
  let v239 : BitVec 32 := Scalar.addi v0 c34_i32
  let v240 : Index := Scalar.indexCast v239
  ![v240.toNat]
def k0_off70 (v241 : BitVec 32) : Fin 3 → Nat :=
  let c0_i32_173 : BitVec 32 := 0#32
  let c0_i32_174 : BitVec 32 := 0#32
  ![v241.toNat, 0, 0]

def k0_chk35 (v241 : BitVec 32) : Prop :=
  (∀ a, (k0_off70 v241) a + S1x1x128.size a ≤ S50000x1x128.size a)
theorem k0_off70_inb : ∀ (v241 : BitVec 32) (k0_hw35 : k0_chk35 v241), ∀ a, (k0_off70 v241) a + S1x1x128.size a ≤ S50000x1x128.size a := fun v241 k0_hw35 => k0_hw35

def k0_off71 (i : grid0.Coords) : Fin 1 → Nat :=
  let arg0 : BitVec 32 := BitVec.ofNat 32 (i 0).val
  let c64_i32 : BitVec 32 := 64#32
  let v0 : BitVec 32 := Scalar.muli arg0 c64_i32
  let c35_i32 : BitVec 32 := 35#32
  let v246 : BitVec 32 := Scalar.addi v0 c35_i32
  let v247 : Index := Scalar.indexCast v246
  ![v247.toNat]
def k0_off72 (v248 : BitVec 32) : Fin 3 → Nat :=
  let c0_i32_178 : BitVec 32 := 0#32
  let c0_i32_179 : BitVec 32 := 0#32
  ![v248.toNat, 0, 0]

def k0_chk36 (v248 : BitVec 32) : Prop :=
  (∀ a, (k0_off72 v248) a + S1x1x128.size a ≤ S50000x1x128.size a)
theorem k0_off72_inb : ∀ (v248 : BitVec 32) (k0_hw36 : k0_chk36 v248), ∀ a, (k0_off72 v248) a + S1x1x128.size a ≤ S50000x1x128.size a := fun v248 k0_hw36 => k0_hw36

def k0_off73 (i : grid0.Coords) : Fin 1 → Nat :=
  let arg0 : BitVec 32 := BitVec.ofNat 32 (i 0).val
  let c64_i32 : BitVec 32 := 64#32
  let v0 : BitVec 32 := Scalar.muli arg0 c64_i32
  let c36_i32 : BitVec 32 := 36#32
  let v253 : BitVec 32 := Scalar.addi v0 c36_i32
  let v254 : Index := Scalar.indexCast v253
  ![v254.toNat]
def k0_off74 (v255 : BitVec 32) : Fin 3 → Nat :=
  let c0_i32_183 : BitVec 32 := 0#32
  let c0_i32_184 : BitVec 32 := 0#32
  ![v255.toNat, 0, 0]

def k0_chk37 (v255 : BitVec 32) : Prop :=
  (∀ a, (k0_off74 v255) a + S1x1x128.size a ≤ S50000x1x128.size a)
theorem k0_off74_inb : ∀ (v255 : BitVec 32) (k0_hw37 : k0_chk37 v255), ∀ a, (k0_off74 v255) a + S1x1x128.size a ≤ S50000x1x128.size a := fun v255 k0_hw37 => k0_hw37

def k0_off75 (i : grid0.Coords) : Fin 1 → Nat :=
  let arg0 : BitVec 32 := BitVec.ofNat 32 (i 0).val
  let c64_i32 : BitVec 32 := 64#32
  let v0 : BitVec 32 := Scalar.muli arg0 c64_i32
  let c37_i32 : BitVec 32 := 37#32
  let v260 : BitVec 32 := Scalar.addi v0 c37_i32
  let v261 : Index := Scalar.indexCast v260
  ![v261.toNat]
def k0_off76 (v262 : BitVec 32) : Fin 3 → Nat :=
  let c0_i32_188 : BitVec 32 := 0#32
  let c0_i32_189 : BitVec 32 := 0#32
  ![v262.toNat, 0, 0]

def k0_chk38 (v262 : BitVec 32) : Prop :=
  (∀ a, (k0_off76 v262) a + S1x1x128.size a ≤ S50000x1x128.size a)
theorem k0_off76_inb : ∀ (v262 : BitVec 32) (k0_hw38 : k0_chk38 v262), ∀ a, (k0_off76 v262) a + S1x1x128.size a ≤ S50000x1x128.size a := fun v262 k0_hw38 => k0_hw38

def k0_off77 (i : grid0.Coords) : Fin 1 → Nat :=
  let arg0 : BitVec 32 := BitVec.ofNat 32 (i 0).val
  let c64_i32 : BitVec 32 := 64#32
  let v0 : BitVec 32 := Scalar.muli arg0 c64_i32
  let c38_i32 : BitVec 32 := 38#32
  let v267 : BitVec 32 := Scalar.addi v0 c38_i32
  let v268 : Index := Scalar.indexCast v267
  ![v268.toNat]
def k0_off78 (v269 : BitVec 32) : Fin 3 → Nat :=
  let c0_i32_193 : BitVec 32 := 0#32
  let c0_i32_194 : BitVec 32 := 0#32
  ![v269.toNat, 0, 0]

def k0_chk39 (v269 : BitVec 32) : Prop :=
  (∀ a, (k0_off78 v269) a + S1x1x128.size a ≤ S50000x1x128.size a)
theorem k0_off78_inb : ∀ (v269 : BitVec 32) (k0_hw39 : k0_chk39 v269), ∀ a, (k0_off78 v269) a + S1x1x128.size a ≤ S50000x1x128.size a := fun v269 k0_hw39 => k0_hw39

def k0_off79 (i : grid0.Coords) : Fin 1 → Nat :=
  let arg0 : BitVec 32 := BitVec.ofNat 32 (i 0).val
  let c64_i32 : BitVec 32 := 64#32
  let v0 : BitVec 32 := Scalar.muli arg0 c64_i32
  let c39_i32 : BitVec 32 := 39#32
  let v274 : BitVec 32 := Scalar.addi v0 c39_i32
  let v275 : Index := Scalar.indexCast v274
  ![v275.toNat]
def k0_off80 (v276 : BitVec 32) : Fin 3 → Nat :=
  let c0_i32_198 : BitVec 32 := 0#32
  let c0_i32_199 : BitVec 32 := 0#32
  ![v276.toNat, 0, 0]

def k0_chk40 (v276 : BitVec 32) : Prop :=
  (∀ a, (k0_off80 v276) a + S1x1x128.size a ≤ S50000x1x128.size a)
theorem k0_off80_inb : ∀ (v276 : BitVec 32) (k0_hw40 : k0_chk40 v276), ∀ a, (k0_off80 v276) a + S1x1x128.size a ≤ S50000x1x128.size a := fun v276 k0_hw40 => k0_hw40

def k0_off81 (i : grid0.Coords) : Fin 1 → Nat :=
  let arg0 : BitVec 32 := BitVec.ofNat 32 (i 0).val
  let c64_i32 : BitVec 32 := 64#32
  let v0 : BitVec 32 := Scalar.muli arg0 c64_i32
  let c40_i32 : BitVec 32 := 40#32
  let v281 : BitVec 32 := Scalar.addi v0 c40_i32
  let v282 : Index := Scalar.indexCast v281
  ![v282.toNat]
def k0_off82 (v283 : BitVec 32) : Fin 3 → Nat :=
  let c0_i32_203 : BitVec 32 := 0#32
  let c0_i32_204 : BitVec 32 := 0#32
  ![v283.toNat, 0, 0]

def k0_chk41 (v283 : BitVec 32) : Prop :=
  (∀ a, (k0_off82 v283) a + S1x1x128.size a ≤ S50000x1x128.size a)
theorem k0_off82_inb : ∀ (v283 : BitVec 32) (k0_hw41 : k0_chk41 v283), ∀ a, (k0_off82 v283) a + S1x1x128.size a ≤ S50000x1x128.size a := fun v283 k0_hw41 => k0_hw41

def k0_off83 (i : grid0.Coords) : Fin 1 → Nat :=
  let arg0 : BitVec 32 := BitVec.ofNat 32 (i 0).val
  let c64_i32 : BitVec 32 := 64#32
  let v0 : BitVec 32 := Scalar.muli arg0 c64_i32
  let c41_i32 : BitVec 32 := 41#32
  let v288 : BitVec 32 := Scalar.addi v0 c41_i32
  let v289 : Index := Scalar.indexCast v288
  ![v289.toNat]
def k0_off84 (v290 : BitVec 32) : Fin 3 → Nat :=
  let c0_i32_208 : BitVec 32 := 0#32
  let c0_i32_209 : BitVec 32 := 0#32
  ![v290.toNat, 0, 0]

def k0_chk42 (v290 : BitVec 32) : Prop :=
  (∀ a, (k0_off84 v290) a + S1x1x128.size a ≤ S50000x1x128.size a)
theorem k0_off84_inb : ∀ (v290 : BitVec 32) (k0_hw42 : k0_chk42 v290), ∀ a, (k0_off84 v290) a + S1x1x128.size a ≤ S50000x1x128.size a := fun v290 k0_hw42 => k0_hw42

def k0_off85 (i : grid0.Coords) : Fin 1 → Nat :=
  let arg0 : BitVec 32 := BitVec.ofNat 32 (i 0).val
  let c64_i32 : BitVec 32 := 64#32
  let v0 : BitVec 32 := Scalar.muli arg0 c64_i32
  let c42_i32 : BitVec 32 := 42#32
  let v295 : BitVec 32 := Scalar.addi v0 c42_i32
  let v296 : Index := Scalar.indexCast v295
  ![v296.toNat]
def k0_off86 (v297 : BitVec 32) : Fin 3 → Nat :=
  let c0_i32_213 : BitVec 32 := 0#32
  let c0_i32_214 : BitVec 32 := 0#32
  ![v297.toNat, 0, 0]

def k0_chk43 (v297 : BitVec 32) : Prop :=
  (∀ a, (k0_off86 v297) a + S1x1x128.size a ≤ S50000x1x128.size a)
theorem k0_off86_inb : ∀ (v297 : BitVec 32) (k0_hw43 : k0_chk43 v297), ∀ a, (k0_off86 v297) a + S1x1x128.size a ≤ S50000x1x128.size a := fun v297 k0_hw43 => k0_hw43

def k0_off87 (i : grid0.Coords) : Fin 1 → Nat :=
  let arg0 : BitVec 32 := BitVec.ofNat 32 (i 0).val
  let c64_i32 : BitVec 32 := 64#32
  let v0 : BitVec 32 := Scalar.muli arg0 c64_i32
  let c43_i32 : BitVec 32 := 43#32
  let v302 : BitVec 32 := Scalar.addi v0 c43_i32
  let v303 : Index := Scalar.indexCast v302
  ![v303.toNat]
def k0_off88 (v304 : BitVec 32) : Fin 3 → Nat :=
  let c0_i32_218 : BitVec 32 := 0#32
  let c0_i32_219 : BitVec 32 := 0#32
  ![v304.toNat, 0, 0]

def k0_chk44 (v304 : BitVec 32) : Prop :=
  (∀ a, (k0_off88 v304) a + S1x1x128.size a ≤ S50000x1x128.size a)
theorem k0_off88_inb : ∀ (v304 : BitVec 32) (k0_hw44 : k0_chk44 v304), ∀ a, (k0_off88 v304) a + S1x1x128.size a ≤ S50000x1x128.size a := fun v304 k0_hw44 => k0_hw44

def k0_off89 (i : grid0.Coords) : Fin 1 → Nat :=
  let arg0 : BitVec 32 := BitVec.ofNat 32 (i 0).val
  let c64_i32 : BitVec 32 := 64#32
  let v0 : BitVec 32 := Scalar.muli arg0 c64_i32
  let c44_i32 : BitVec 32 := 44#32
  let v309 : BitVec 32 := Scalar.addi v0 c44_i32
  let v310 : Index := Scalar.indexCast v309
  ![v310.toNat]
def k0_off90 (v311 : BitVec 32) : Fin 3 → Nat :=
  let c0_i32_223 : BitVec 32 := 0#32
  let c0_i32_224 : BitVec 32 := 0#32
  ![v311.toNat, 0, 0]

def k0_chk45 (v311 : BitVec 32) : Prop :=
  (∀ a, (k0_off90 v311) a + S1x1x128.size a ≤ S50000x1x128.size a)
theorem k0_off90_inb : ∀ (v311 : BitVec 32) (k0_hw45 : k0_chk45 v311), ∀ a, (k0_off90 v311) a + S1x1x128.size a ≤ S50000x1x128.size a := fun v311 k0_hw45 => k0_hw45

def k0_off91 (i : grid0.Coords) : Fin 1 → Nat :=
  let arg0 : BitVec 32 := BitVec.ofNat 32 (i 0).val
  let c64_i32 : BitVec 32 := 64#32
  let v0 : BitVec 32 := Scalar.muli arg0 c64_i32
  let c45_i32 : BitVec 32 := 45#32
  let v316 : BitVec 32 := Scalar.addi v0 c45_i32
  let v317 : Index := Scalar.indexCast v316
  ![v317.toNat]
def k0_off92 (v318 : BitVec 32) : Fin 3 → Nat :=
  let c0_i32_228 : BitVec 32 := 0#32
  let c0_i32_229 : BitVec 32 := 0#32
  ![v318.toNat, 0, 0]

def k0_chk46 (v318 : BitVec 32) : Prop :=
  (∀ a, (k0_off92 v318) a + S1x1x128.size a ≤ S50000x1x128.size a)
theorem k0_off92_inb : ∀ (v318 : BitVec 32) (k0_hw46 : k0_chk46 v318), ∀ a, (k0_off92 v318) a + S1x1x128.size a ≤ S50000x1x128.size a := fun v318 k0_hw46 => k0_hw46

def k0_off93 (i : grid0.Coords) : Fin 1 → Nat :=
  let arg0 : BitVec 32 := BitVec.ofNat 32 (i 0).val
  let c64_i32 : BitVec 32 := 64#32
  let v0 : BitVec 32 := Scalar.muli arg0 c64_i32
  let c46_i32 : BitVec 32 := 46#32
  let v323 : BitVec 32 := Scalar.addi v0 c46_i32
  let v324 : Index := Scalar.indexCast v323
  ![v324.toNat]
def k0_off94 (v325 : BitVec 32) : Fin 3 → Nat :=
  let c0_i32_233 : BitVec 32 := 0#32
  let c0_i32_234 : BitVec 32 := 0#32
  ![v325.toNat, 0, 0]

def k0_chk47 (v325 : BitVec 32) : Prop :=
  (∀ a, (k0_off94 v325) a + S1x1x128.size a ≤ S50000x1x128.size a)
theorem k0_off94_inb : ∀ (v325 : BitVec 32) (k0_hw47 : k0_chk47 v325), ∀ a, (k0_off94 v325) a + S1x1x128.size a ≤ S50000x1x128.size a := fun v325 k0_hw47 => k0_hw47

def k0_off95 (i : grid0.Coords) : Fin 1 → Nat :=
  let arg0 : BitVec 32 := BitVec.ofNat 32 (i 0).val
  let c64_i32 : BitVec 32 := 64#32
  let v0 : BitVec 32 := Scalar.muli arg0 c64_i32
  let c47_i32 : BitVec 32 := 47#32
  let v330 : BitVec 32 := Scalar.addi v0 c47_i32
  let v331 : Index := Scalar.indexCast v330
  ![v331.toNat]
def k0_off96 (v332 : BitVec 32) : Fin 3 → Nat :=
  let c0_i32_238 : BitVec 32 := 0#32
  let c0_i32_239 : BitVec 32 := 0#32
  ![v332.toNat, 0, 0]

def k0_chk48 (v332 : BitVec 32) : Prop :=
  (∀ a, (k0_off96 v332) a + S1x1x128.size a ≤ S50000x1x128.size a)
theorem k0_off96_inb : ∀ (v332 : BitVec 32) (k0_hw48 : k0_chk48 v332), ∀ a, (k0_off96 v332) a + S1x1x128.size a ≤ S50000x1x128.size a := fun v332 k0_hw48 => k0_hw48

def k0_off97 (i : grid0.Coords) : Fin 1 → Nat :=
  let arg0 : BitVec 32 := BitVec.ofNat 32 (i 0).val
  let c64_i32 : BitVec 32 := 64#32
  let v0 : BitVec 32 := Scalar.muli arg0 c64_i32
  let c48_i32 : BitVec 32 := 48#32
  let v337 : BitVec 32 := Scalar.addi v0 c48_i32
  let v338 : Index := Scalar.indexCast v337
  ![v338.toNat]
def k0_off98 (v339 : BitVec 32) : Fin 3 → Nat :=
  let c0_i32_243 : BitVec 32 := 0#32
  let c0_i32_244 : BitVec 32 := 0#32
  ![v339.toNat, 0, 0]

def k0_chk49 (v339 : BitVec 32) : Prop :=
  (∀ a, (k0_off98 v339) a + S1x1x128.size a ≤ S50000x1x128.size a)
theorem k0_off98_inb : ∀ (v339 : BitVec 32) (k0_hw49 : k0_chk49 v339), ∀ a, (k0_off98 v339) a + S1x1x128.size a ≤ S50000x1x128.size a := fun v339 k0_hw49 => k0_hw49

def k0_off99 (i : grid0.Coords) : Fin 1 → Nat :=
  let arg0 : BitVec 32 := BitVec.ofNat 32 (i 0).val
  let c64_i32 : BitVec 32 := 64#32
  let v0 : BitVec 32 := Scalar.muli arg0 c64_i32
  let c49_i32 : BitVec 32 := 49#32
  let v344 : BitVec 32 := Scalar.addi v0 c49_i32
  let v345 : Index := Scalar.indexCast v344
  ![v345.toNat]
def k0_off100 (v346 : BitVec 32) : Fin 3 → Nat :=
  let c0_i32_248 : BitVec 32 := 0#32
  let c0_i32_249 : BitVec 32 := 0#32
  ![v346.toNat, 0, 0]

def k0_chk50 (v346 : BitVec 32) : Prop :=
  (∀ a, (k0_off100 v346) a + S1x1x128.size a ≤ S50000x1x128.size a)
theorem k0_off100_inb : ∀ (v346 : BitVec 32) (k0_hw50 : k0_chk50 v346), ∀ a, (k0_off100 v346) a + S1x1x128.size a ≤ S50000x1x128.size a := fun v346 k0_hw50 => k0_hw50

def k0_off101 (i : grid0.Coords) : Fin 1 → Nat :=
  let arg0 : BitVec 32 := BitVec.ofNat 32 (i 0).val
  let c64_i32 : BitVec 32 := 64#32
  let v0 : BitVec 32 := Scalar.muli arg0 c64_i32
  let c50_i32 : BitVec 32 := 50#32
  let v351 : BitVec 32 := Scalar.addi v0 c50_i32
  let v352 : Index := Scalar.indexCast v351
  ![v352.toNat]
def k0_off102 (v353 : BitVec 32) : Fin 3 → Nat :=
  let c0_i32_253 : BitVec 32 := 0#32
  let c0_i32_254 : BitVec 32 := 0#32
  ![v353.toNat, 0, 0]

def k0_chk51 (v353 : BitVec 32) : Prop :=
  (∀ a, (k0_off102 v353) a + S1x1x128.size a ≤ S50000x1x128.size a)
theorem k0_off102_inb : ∀ (v353 : BitVec 32) (k0_hw51 : k0_chk51 v353), ∀ a, (k0_off102 v353) a + S1x1x128.size a ≤ S50000x1x128.size a := fun v353 k0_hw51 => k0_hw51

def k0_off103 (i : grid0.Coords) : Fin 1 → Nat :=
  let arg0 : BitVec 32 := BitVec.ofNat 32 (i 0).val
  let c64_i32 : BitVec 32 := 64#32
  let v0 : BitVec 32 := Scalar.muli arg0 c64_i32
  let c51_i32 : BitVec 32 := 51#32
  let v358 : BitVec 32 := Scalar.addi v0 c51_i32
  let v359 : Index := Scalar.indexCast v358
  ![v359.toNat]
def k0_off104 (v360 : BitVec 32) : Fin 3 → Nat :=
  let c0_i32_258 : BitVec 32 := 0#32
  let c0_i32_259 : BitVec 32 := 0#32
  ![v360.toNat, 0, 0]

def k0_chk52 (v360 : BitVec 32) : Prop :=
  (∀ a, (k0_off104 v360) a + S1x1x128.size a ≤ S50000x1x128.size a)
theorem k0_off104_inb : ∀ (v360 : BitVec 32) (k0_hw52 : k0_chk52 v360), ∀ a, (k0_off104 v360) a + S1x1x128.size a ≤ S50000x1x128.size a := fun v360 k0_hw52 => k0_hw52

def k0_off105 (i : grid0.Coords) : Fin 1 → Nat :=
  let arg0 : BitVec 32 := BitVec.ofNat 32 (i 0).val
  let c64_i32 : BitVec 32 := 64#32
  let v0 : BitVec 32 := Scalar.muli arg0 c64_i32
  let c52_i32 : BitVec 32 := 52#32
  let v365 : BitVec 32 := Scalar.addi v0 c52_i32
  let v366 : Index := Scalar.indexCast v365
  ![v366.toNat]
def k0_off106 (v367 : BitVec 32) : Fin 3 → Nat :=
  let c0_i32_263 : BitVec 32 := 0#32
  let c0_i32_264 : BitVec 32 := 0#32
  ![v367.toNat, 0, 0]

def k0_chk53 (v367 : BitVec 32) : Prop :=
  (∀ a, (k0_off106 v367) a + S1x1x128.size a ≤ S50000x1x128.size a)
theorem k0_off106_inb : ∀ (v367 : BitVec 32) (k0_hw53 : k0_chk53 v367), ∀ a, (k0_off106 v367) a + S1x1x128.size a ≤ S50000x1x128.size a := fun v367 k0_hw53 => k0_hw53

def k0_off107 (i : grid0.Coords) : Fin 1 → Nat :=
  let arg0 : BitVec 32 := BitVec.ofNat 32 (i 0).val
  let c64_i32 : BitVec 32 := 64#32
  let v0 : BitVec 32 := Scalar.muli arg0 c64_i32
  let c53_i32 : BitVec 32 := 53#32
  let v372 : BitVec 32 := Scalar.addi v0 c53_i32
  let v373 : Index := Scalar.indexCast v372
  ![v373.toNat]
def k0_off108 (v374 : BitVec 32) : Fin 3 → Nat :=
  let c0_i32_268 : BitVec 32 := 0#32
  let c0_i32_269 : BitVec 32 := 0#32
  ![v374.toNat, 0, 0]

def k0_chk54 (v374 : BitVec 32) : Prop :=
  (∀ a, (k0_off108 v374) a + S1x1x128.size a ≤ S50000x1x128.size a)
theorem k0_off108_inb : ∀ (v374 : BitVec 32) (k0_hw54 : k0_chk54 v374), ∀ a, (k0_off108 v374) a + S1x1x128.size a ≤ S50000x1x128.size a := fun v374 k0_hw54 => k0_hw54

def k0_off109 (i : grid0.Coords) : Fin 1 → Nat :=
  let arg0 : BitVec 32 := BitVec.ofNat 32 (i 0).val
  let c64_i32 : BitVec 32 := 64#32
  let v0 : BitVec 32 := Scalar.muli arg0 c64_i32
  let c54_i32 : BitVec 32 := 54#32
  let v379 : BitVec 32 := Scalar.addi v0 c54_i32
  let v380 : Index := Scalar.indexCast v379
  ![v380.toNat]
def k0_off110 (v381 : BitVec 32) : Fin 3 → Nat :=
  let c0_i32_273 : BitVec 32 := 0#32
  let c0_i32_274 : BitVec 32 := 0#32
  ![v381.toNat, 0, 0]

def k0_chk55 (v381 : BitVec 32) : Prop :=
  (∀ a, (k0_off110 v381) a + S1x1x128.size a ≤ S50000x1x128.size a)
theorem k0_off110_inb : ∀ (v381 : BitVec 32) (k0_hw55 : k0_chk55 v381), ∀ a, (k0_off110 v381) a + S1x1x128.size a ≤ S50000x1x128.size a := fun v381 k0_hw55 => k0_hw55

def k0_off111 (i : grid0.Coords) : Fin 1 → Nat :=
  let arg0 : BitVec 32 := BitVec.ofNat 32 (i 0).val
  let c64_i32 : BitVec 32 := 64#32
  let v0 : BitVec 32 := Scalar.muli arg0 c64_i32
  let c55_i32 : BitVec 32 := 55#32
  let v386 : BitVec 32 := Scalar.addi v0 c55_i32
  let v387 : Index := Scalar.indexCast v386
  ![v387.toNat]
def k0_off112 (v388 : BitVec 32) : Fin 3 → Nat :=
  let c0_i32_278 : BitVec 32 := 0#32
  let c0_i32_279 : BitVec 32 := 0#32
  ![v388.toNat, 0, 0]

def k0_chk56 (v388 : BitVec 32) : Prop :=
  (∀ a, (k0_off112 v388) a + S1x1x128.size a ≤ S50000x1x128.size a)
theorem k0_off112_inb : ∀ (v388 : BitVec 32) (k0_hw56 : k0_chk56 v388), ∀ a, (k0_off112 v388) a + S1x1x128.size a ≤ S50000x1x128.size a := fun v388 k0_hw56 => k0_hw56

def k0_off113 (i : grid0.Coords) : Fin 1 → Nat :=
  let arg0 : BitVec 32 := BitVec.ofNat 32 (i 0).val
  let c64_i32 : BitVec 32 := 64#32
  let v0 : BitVec 32 := Scalar.muli arg0 c64_i32
  let c56_i32 : BitVec 32 := 56#32
  let v393 : BitVec 32 := Scalar.addi v0 c56_i32
  let v394 : Index := Scalar.indexCast v393
  ![v394.toNat]
def k0_off114 (v395 : BitVec 32) : Fin 3 → Nat :=
  let c0_i32_283 : BitVec 32 := 0#32
  let c0_i32_284 : BitVec 32 := 0#32
  ![v395.toNat, 0, 0]

def k0_chk57 (v395 : BitVec 32) : Prop :=
  (∀ a, (k0_off114 v395) a + S1x1x128.size a ≤ S50000x1x128.size a)
theorem k0_off114_inb : ∀ (v395 : BitVec 32) (k0_hw57 : k0_chk57 v395), ∀ a, (k0_off114 v395) a + S1x1x128.size a ≤ S50000x1x128.size a := fun v395 k0_hw57 => k0_hw57

def k0_off115 (i : grid0.Coords) : Fin 1 → Nat :=
  let arg0 : BitVec 32 := BitVec.ofNat 32 (i 0).val
  let c64_i32 : BitVec 32 := 64#32
  let v0 : BitVec 32 := Scalar.muli arg0 c64_i32
  let c57_i32 : BitVec 32 := 57#32
  let v400 : BitVec 32 := Scalar.addi v0 c57_i32
  let v401 : Index := Scalar.indexCast v400
  ![v401.toNat]
def k0_off116 (v402 : BitVec 32) : Fin 3 → Nat :=
  let c0_i32_288 : BitVec 32 := 0#32
  let c0_i32_289 : BitVec 32 := 0#32
  ![v402.toNat, 0, 0]

def k0_chk58 (v402 : BitVec 32) : Prop :=
  (∀ a, (k0_off116 v402) a + S1x1x128.size a ≤ S50000x1x128.size a)
theorem k0_off116_inb : ∀ (v402 : BitVec 32) (k0_hw58 : k0_chk58 v402), ∀ a, (k0_off116 v402) a + S1x1x128.size a ≤ S50000x1x128.size a := fun v402 k0_hw58 => k0_hw58

def k0_off117 (i : grid0.Coords) : Fin 1 → Nat :=
  let arg0 : BitVec 32 := BitVec.ofNat 32 (i 0).val
  let c64_i32 : BitVec 32 := 64#32
  let v0 : BitVec 32 := Scalar.muli arg0 c64_i32
  let c58_i32 : BitVec 32 := 58#32
  let v407 : BitVec 32 := Scalar.addi v0 c58_i32
  let v408 : Index := Scalar.indexCast v407
  ![v408.toNat]
def k0_off118 (v409 : BitVec 32) : Fin 3 → Nat :=
  let c0_i32_293 : BitVec 32 := 0#32
  let c0_i32_294 : BitVec 32 := 0#32
  ![v409.toNat, 0, 0]

def k0_chk59 (v409 : BitVec 32) : Prop :=
  (∀ a, (k0_off118 v409) a + S1x1x128.size a ≤ S50000x1x128.size a)
theorem k0_off118_inb : ∀ (v409 : BitVec 32) (k0_hw59 : k0_chk59 v409), ∀ a, (k0_off118 v409) a + S1x1x128.size a ≤ S50000x1x128.size a := fun v409 k0_hw59 => k0_hw59

def k0_off119 (i : grid0.Coords) : Fin 1 → Nat :=
  let arg0 : BitVec 32 := BitVec.ofNat 32 (i 0).val
  let c64_i32 : BitVec 32 := 64#32
  let v0 : BitVec 32 := Scalar.muli arg0 c64_i32
  let c59_i32 : BitVec 32 := 59#32
  let v414 : BitVec 32 := Scalar.addi v0 c59_i32
  let v415 : Index := Scalar.indexCast v414
  ![v415.toNat]
def k0_off120 (v416 : BitVec 32) : Fin 3 → Nat :=
  let c0_i32_298 : BitVec 32 := 0#32
  let c0_i32_299 : BitVec 32 := 0#32
  ![v416.toNat, 0, 0]

def k0_chk60 (v416 : BitVec 32) : Prop :=
  (∀ a, (k0_off120 v416) a + S1x1x128.size a ≤ S50000x1x128.size a)
theorem k0_off120_inb : ∀ (v416 : BitVec 32) (k0_hw60 : k0_chk60 v416), ∀ a, (k0_off120 v416) a + S1x1x128.size a ≤ S50000x1x128.size a := fun v416 k0_hw60 => k0_hw60

def k0_off121 (i : grid0.Coords) : Fin 1 → Nat :=
  let arg0 : BitVec 32 := BitVec.ofNat 32 (i 0).val
  let c64_i32 : BitVec 32 := 64#32
  let v0 : BitVec 32 := Scalar.muli arg0 c64_i32
  let c60_i32 : BitVec 32 := 60#32
  let v421 : BitVec 32 := Scalar.addi v0 c60_i32
  let v422 : Index := Scalar.indexCast v421
  ![v422.toNat]
def k0_off122 (v423 : BitVec 32) : Fin 3 → Nat :=
  let c0_i32_303 : BitVec 32 := 0#32
  let c0_i32_304 : BitVec 32 := 0#32
  ![v423.toNat, 0, 0]

def k0_chk61 (v423 : BitVec 32) : Prop :=
  (∀ a, (k0_off122 v423) a + S1x1x128.size a ≤ S50000x1x128.size a)
theorem k0_off122_inb : ∀ (v423 : BitVec 32) (k0_hw61 : k0_chk61 v423), ∀ a, (k0_off122 v423) a + S1x1x128.size a ≤ S50000x1x128.size a := fun v423 k0_hw61 => k0_hw61

def k0_off123 (i : grid0.Coords) : Fin 1 → Nat :=
  let arg0 : BitVec 32 := BitVec.ofNat 32 (i 0).val
  let c64_i32 : BitVec 32 := 64#32
  let v0 : BitVec 32 := Scalar.muli arg0 c64_i32
  let c61_i32 : BitVec 32 := 61#32
  let v428 : BitVec 32 := Scalar.addi v0 c61_i32
  let v429 : Index := Scalar.indexCast v428
  ![v429.toNat]
def k0_off124 (v430 : BitVec 32) : Fin 3 → Nat :=
  let c0_i32_308 : BitVec 32 := 0#32
  let c0_i32_309 : BitVec 32 := 0#32
  ![v430.toNat, 0, 0]

def k0_chk62 (v430 : BitVec 32) : Prop :=
  (∀ a, (k0_off124 v430) a + S1x1x128.size a ≤ S50000x1x128.size a)
theorem k0_off124_inb : ∀ (v430 : BitVec 32) (k0_hw62 : k0_chk62 v430), ∀ a, (k0_off124 v430) a + S1x1x128.size a ≤ S50000x1x128.size a := fun v430 k0_hw62 => k0_hw62

def k0_off125 (i : grid0.Coords) : Fin 1 → Nat :=
  let arg0 : BitVec 32 := BitVec.ofNat 32 (i 0).val
  let c64_i32 : BitVec 32 := 64#32
  let v0 : BitVec 32 := Scalar.muli arg0 c64_i32
  let c62_i32 : BitVec 32 := 62#32
  let v435 : BitVec 32 := Scalar.addi v0 c62_i32
  let v436 : Index := Scalar.indexCast v435
  ![v436.toNat]
def k0_off126 (v437 : BitVec 32) : Fin 3 → Nat :=
  let c0_i32_313 : BitVec 32 := 0#32
  let c0_i32_314 : BitVec 32 := 0#32
  ![v437.toNat, 0, 0]

def k0_chk63 (v437 : BitVec 32) : Prop :=
  (∀ a, (k0_off126 v437) a + S1x1x128.size a ≤ S50000x1x128.size a)
theorem k0_off126_inb : ∀ (v437 : BitVec 32) (k0_hw63 : k0_chk63 v437), ∀ a, (k0_off126 v437) a + S1x1x128.size a ≤ S50000x1x128.size a := fun v437 k0_hw63 => k0_hw63

def k0_off127 (i : grid0.Coords) : Fin 1 → Nat :=
  let arg0 : BitVec 32 := BitVec.ofNat 32 (i 0).val
  let c64_i32 : BitVec 32 := 64#32
  let v0 : BitVec 32 := Scalar.muli arg0 c64_i32
  let c63_i32 : BitVec 32 := 63#32
  let v442 : BitVec 32 := Scalar.addi v0 c63_i32
  let v443 : Index := Scalar.indexCast v442
  ![v443.toNat]
def k0_off128 (v444 : BitVec 32) : Fin 3 → Nat :=
  let c0_i32_318 : BitVec 32 := 0#32
  let c0_i32_319 : BitVec 32 := 0#32
  ![v444.toNat, 0, 0]

def k0_chk64 (v444 : BitVec 32) : Prop :=
  (∀ a, (k0_off128 v444) a + S1x1x128.size a ≤ S50000x1x128.size a)
theorem k0_off128_inb : ∀ (v444 : BitVec 32) (k0_hw64 : k0_chk64 v444), ∀ a, (k0_off128 v444) a + S1x1x128.size a ≤ S50000x1x128.size a := fun v444 k0_hw64 => k0_hw64

def k0_off129 (i : grid0.Coords) : Fin 1 → Nat :=
  let arg0 : BitVec 32 := BitVec.ofNat 32 (i 0).val
  let c64_i32 : BitVec 32 := 64#32
  let v0 : BitVec 32 := Scalar.muli arg0 c64_i32
  let c0_i32_320 : BitVec 32 := 0#32
  let v449 : BitVec 32 := Scalar.addi v0 c0_i32_320
  let v450 : Index := Scalar.indexCast v449
  ![v450.toNat]
def k0_off130 (v451 : BitVec 32) : Fin 3 → Nat :=
  let c0_i32_324 : BitVec 32 := 0#32
  let c0_i32_325 : BitVec 32 := 0#32
  ![v451.toNat, 0, 0]

def k0_chk65 (v451 : BitVec 32) : Prop :=
  (∀ a, (k0_off130 v451) a + S1x1x128.size a ≤ S50000x1x128.size a)
theorem k0_off130_inb : ∀ (v451 : BitVec 32) (k0_hw65 : k0_chk65 v451), ∀ a, (k0_off130 v451) a + S1x1x128.size a ≤ S50000x1x128.size a := fun v451 k0_hw65 => k0_hw65

def k0_off131 (i : grid0.Coords) : Fin 1 → Nat :=
  let arg0 : BitVec 32 := BitVec.ofNat 32 (i 0).val
  let c64_i32 : BitVec 32 := 64#32
  let v0 : BitVec 32 := Scalar.muli arg0 c64_i32
  let c1_i32_326 : BitVec 32 := 1#32
  let v456 : BitVec 32 := Scalar.addi v0 c1_i32_326
  let v457 : Index := Scalar.indexCast v456
  ![v457.toNat]
def k0_off132 (v458 : BitVec 32) : Fin 3 → Nat :=
  let c0_i32_330 : BitVec 32 := 0#32
  let c0_i32_331 : BitVec 32 := 0#32
  ![v458.toNat, 0, 0]

def k0_chk66 (v458 : BitVec 32) : Prop :=
  (∀ a, (k0_off132 v458) a + S1x1x128.size a ≤ S50000x1x128.size a)
theorem k0_off132_inb : ∀ (v458 : BitVec 32) (k0_hw66 : k0_chk66 v458), ∀ a, (k0_off132 v458) a + S1x1x128.size a ≤ S50000x1x128.size a := fun v458 k0_hw66 => k0_hw66

def k0_off133 (i : grid0.Coords) : Fin 1 → Nat :=
  let arg0 : BitVec 32 := BitVec.ofNat 32 (i 0).val
  let c64_i32 : BitVec 32 := 64#32
  let v0 : BitVec 32 := Scalar.muli arg0 c64_i32
  let c2_i32_332 : BitVec 32 := 2#32
  let v463 : BitVec 32 := Scalar.addi v0 c2_i32_332
  let v464 : Index := Scalar.indexCast v463
  ![v464.toNat]
def k0_off134 (v465 : BitVec 32) : Fin 3 → Nat :=
  let c0_i32_336 : BitVec 32 := 0#32
  let c0_i32_337 : BitVec 32 := 0#32
  ![v465.toNat, 0, 0]

def k0_chk67 (v465 : BitVec 32) : Prop :=
  (∀ a, (k0_off134 v465) a + S1x1x128.size a ≤ S50000x1x128.size a)
theorem k0_off134_inb : ∀ (v465 : BitVec 32) (k0_hw67 : k0_chk67 v465), ∀ a, (k0_off134 v465) a + S1x1x128.size a ≤ S50000x1x128.size a := fun v465 k0_hw67 => k0_hw67

def k0_off135 (i : grid0.Coords) : Fin 1 → Nat :=
  let arg0 : BitVec 32 := BitVec.ofNat 32 (i 0).val
  let c64_i32 : BitVec 32 := 64#32
  let v0 : BitVec 32 := Scalar.muli arg0 c64_i32
  let c3_i32_338 : BitVec 32 := 3#32
  let v470 : BitVec 32 := Scalar.addi v0 c3_i32_338
  let v471 : Index := Scalar.indexCast v470
  ![v471.toNat]
def k0_off136 (v472 : BitVec 32) : Fin 3 → Nat :=
  let c0_i32_342 : BitVec 32 := 0#32
  let c0_i32_343 : BitVec 32 := 0#32
  ![v472.toNat, 0, 0]

def k0_chk68 (v472 : BitVec 32) : Prop :=
  (∀ a, (k0_off136 v472) a + S1x1x128.size a ≤ S50000x1x128.size a)
theorem k0_off136_inb : ∀ (v472 : BitVec 32) (k0_hw68 : k0_chk68 v472), ∀ a, (k0_off136 v472) a + S1x1x128.size a ≤ S50000x1x128.size a := fun v472 k0_hw68 => k0_hw68

def k0_off137 (i : grid0.Coords) : Fin 1 → Nat :=
  let arg0 : BitVec 32 := BitVec.ofNat 32 (i 0).val
  let c64_i32 : BitVec 32 := 64#32
  let v0 : BitVec 32 := Scalar.muli arg0 c64_i32
  let c4_i32_344 : BitVec 32 := 4#32
  let v477 : BitVec 32 := Scalar.addi v0 c4_i32_344
  let v478 : Index := Scalar.indexCast v477
  ![v478.toNat]
def k0_off138 (v479 : BitVec 32) : Fin 3 → Nat :=
  let c0_i32_348 : BitVec 32 := 0#32
  let c0_i32_349 : BitVec 32 := 0#32
  ![v479.toNat, 0, 0]

def k0_chk69 (v479 : BitVec 32) : Prop :=
  (∀ a, (k0_off138 v479) a + S1x1x128.size a ≤ S50000x1x128.size a)
theorem k0_off138_inb : ∀ (v479 : BitVec 32) (k0_hw69 : k0_chk69 v479), ∀ a, (k0_off138 v479) a + S1x1x128.size a ≤ S50000x1x128.size a := fun v479 k0_hw69 => k0_hw69

def k0_off139 (i : grid0.Coords) : Fin 1 → Nat :=
  let arg0 : BitVec 32 := BitVec.ofNat 32 (i 0).val
  let c64_i32 : BitVec 32 := 64#32
  let v0 : BitVec 32 := Scalar.muli arg0 c64_i32
  let c5_i32_350 : BitVec 32 := 5#32
  let v484 : BitVec 32 := Scalar.addi v0 c5_i32_350
  let v485 : Index := Scalar.indexCast v484
  ![v485.toNat]
def k0_off140 (v486 : BitVec 32) : Fin 3 → Nat :=
  let c0_i32_354 : BitVec 32 := 0#32
  let c0_i32_355 : BitVec 32 := 0#32
  ![v486.toNat, 0, 0]

def k0_chk70 (v486 : BitVec 32) : Prop :=
  (∀ a, (k0_off140 v486) a + S1x1x128.size a ≤ S50000x1x128.size a)
theorem k0_off140_inb : ∀ (v486 : BitVec 32) (k0_hw70 : k0_chk70 v486), ∀ a, (k0_off140 v486) a + S1x1x128.size a ≤ S50000x1x128.size a := fun v486 k0_hw70 => k0_hw70

def k0_off141 (i : grid0.Coords) : Fin 1 → Nat :=
  let arg0 : BitVec 32 := BitVec.ofNat 32 (i 0).val
  let c64_i32 : BitVec 32 := 64#32
  let v0 : BitVec 32 := Scalar.muli arg0 c64_i32
  let c6_i32_356 : BitVec 32 := 6#32
  let v491 : BitVec 32 := Scalar.addi v0 c6_i32_356
  let v492 : Index := Scalar.indexCast v491
  ![v492.toNat]
def k0_off142 (v493 : BitVec 32) : Fin 3 → Nat :=
  let c0_i32_360 : BitVec 32 := 0#32
  let c0_i32_361 : BitVec 32 := 0#32
  ![v493.toNat, 0, 0]

def k0_chk71 (v493 : BitVec 32) : Prop :=
  (∀ a, (k0_off142 v493) a + S1x1x128.size a ≤ S50000x1x128.size a)
theorem k0_off142_inb : ∀ (v493 : BitVec 32) (k0_hw71 : k0_chk71 v493), ∀ a, (k0_off142 v493) a + S1x1x128.size a ≤ S50000x1x128.size a := fun v493 k0_hw71 => k0_hw71

def k0_off143 (i : grid0.Coords) : Fin 1 → Nat :=
  let arg0 : BitVec 32 := BitVec.ofNat 32 (i 0).val
  let c64_i32 : BitVec 32 := 64#32
  let v0 : BitVec 32 := Scalar.muli arg0 c64_i32
  let c7_i32_362 : BitVec 32 := 7#32
  let v498 : BitVec 32 := Scalar.addi v0 c7_i32_362
  let v499 : Index := Scalar.indexCast v498
  ![v499.toNat]
def k0_off144 (v500 : BitVec 32) : Fin 3 → Nat :=
  let c0_i32_366 : BitVec 32 := 0#32
  let c0_i32_367 : BitVec 32 := 0#32
  ![v500.toNat, 0, 0]

def k0_chk72 (v500 : BitVec 32) : Prop :=
  (∀ a, (k0_off144 v500) a + S1x1x128.size a ≤ S50000x1x128.size a)
theorem k0_off144_inb : ∀ (v500 : BitVec 32) (k0_hw72 : k0_chk72 v500), ∀ a, (k0_off144 v500) a + S1x1x128.size a ≤ S50000x1x128.size a := fun v500 k0_hw72 => k0_hw72

def k0_off145 (i : grid0.Coords) : Fin 1 → Nat :=
  let arg0 : BitVec 32 := BitVec.ofNat 32 (i 0).val
  let c64_i32 : BitVec 32 := 64#32
  let v0 : BitVec 32 := Scalar.muli arg0 c64_i32
  let c8_i32_368 : BitVec 32 := 8#32
  let v505 : BitVec 32 := Scalar.addi v0 c8_i32_368
  let v506 : Index := Scalar.indexCast v505
  ![v506.toNat]
def k0_off146 (v507 : BitVec 32) : Fin 3 → Nat :=
  let c0_i32_372 : BitVec 32 := 0#32
  let c0_i32_373 : BitVec 32 := 0#32
  ![v507.toNat, 0, 0]

def k0_chk73 (v507 : BitVec 32) : Prop :=
  (∀ a, (k0_off146 v507) a + S1x1x128.size a ≤ S50000x1x128.size a)
theorem k0_off146_inb : ∀ (v507 : BitVec 32) (k0_hw73 : k0_chk73 v507), ∀ a, (k0_off146 v507) a + S1x1x128.size a ≤ S50000x1x128.size a := fun v507 k0_hw73 => k0_hw73

def k0_off147 (i : grid0.Coords) : Fin 1 → Nat :=
  let arg0 : BitVec 32 := BitVec.ofNat 32 (i 0).val
  let c64_i32 : BitVec 32 := 64#32
  let v0 : BitVec 32 := Scalar.muli arg0 c64_i32
  let c9_i32_374 : BitVec 32 := 9#32
  let v512 : BitVec 32 := Scalar.addi v0 c9_i32_374
  let v513 : Index := Scalar.indexCast v512
  ![v513.toNat]
def k0_off148 (v514 : BitVec 32) : Fin 3 → Nat :=
  let c0_i32_378 : BitVec 32 := 0#32
  let c0_i32_379 : BitVec 32 := 0#32
  ![v514.toNat, 0, 0]

def k0_chk74 (v514 : BitVec 32) : Prop :=
  (∀ a, (k0_off148 v514) a + S1x1x128.size a ≤ S50000x1x128.size a)
theorem k0_off148_inb : ∀ (v514 : BitVec 32) (k0_hw74 : k0_chk74 v514), ∀ a, (k0_off148 v514) a + S1x1x128.size a ≤ S50000x1x128.size a := fun v514 k0_hw74 => k0_hw74

def k0_off149 (i : grid0.Coords) : Fin 1 → Nat :=
  let arg0 : BitVec 32 := BitVec.ofNat 32 (i 0).val
  let c64_i32 : BitVec 32 := 64#32
  let v0 : BitVec 32 := Scalar.muli arg0 c64_i32
  let c10_i32_380 : BitVec 32 := 10#32
  let v519 : BitVec 32 := Scalar.addi v0 c10_i32_380
  let v520 : Index := Scalar.indexCast v519
  ![v520.toNat]
def k0_off150 (v521 : BitVec 32) : Fin 3 → Nat :=
  let c0_i32_384 : BitVec 32 := 0#32
  let c0_i32_385 : BitVec 32 := 0#32
  ![v521.toNat, 0, 0]

def k0_chk75 (v521 : BitVec 32) : Prop :=
  (∀ a, (k0_off150 v521) a + S1x1x128.size a ≤ S50000x1x128.size a)
theorem k0_off150_inb : ∀ (v521 : BitVec 32) (k0_hw75 : k0_chk75 v521), ∀ a, (k0_off150 v521) a + S1x1x128.size a ≤ S50000x1x128.size a := fun v521 k0_hw75 => k0_hw75

def k0_off151 (i : grid0.Coords) : Fin 1 → Nat :=
  let arg0 : BitVec 32 := BitVec.ofNat 32 (i 0).val
  let c64_i32 : BitVec 32 := 64#32
  let v0 : BitVec 32 := Scalar.muli arg0 c64_i32
  let c11_i32_386 : BitVec 32 := 11#32
  let v526 : BitVec 32 := Scalar.addi v0 c11_i32_386
  let v527 : Index := Scalar.indexCast v526
  ![v527.toNat]
def k0_off152 (v528 : BitVec 32) : Fin 3 → Nat :=
  let c0_i32_390 : BitVec 32 := 0#32
  let c0_i32_391 : BitVec 32 := 0#32
  ![v528.toNat, 0, 0]

def k0_chk76 (v528 : BitVec 32) : Prop :=
  (∀ a, (k0_off152 v528) a + S1x1x128.size a ≤ S50000x1x128.size a)
theorem k0_off152_inb : ∀ (v528 : BitVec 32) (k0_hw76 : k0_chk76 v528), ∀ a, (k0_off152 v528) a + S1x1x128.size a ≤ S50000x1x128.size a := fun v528 k0_hw76 => k0_hw76

def k0_off153 (i : grid0.Coords) : Fin 1 → Nat :=
  let arg0 : BitVec 32 := BitVec.ofNat 32 (i 0).val
  let c64_i32 : BitVec 32 := 64#32
  let v0 : BitVec 32 := Scalar.muli arg0 c64_i32
  let c12_i32_392 : BitVec 32 := 12#32
  let v533 : BitVec 32 := Scalar.addi v0 c12_i32_392
  let v534 : Index := Scalar.indexCast v533
  ![v534.toNat]
def k0_off154 (v535 : BitVec 32) : Fin 3 → Nat :=
  let c0_i32_396 : BitVec 32 := 0#32
  let c0_i32_397 : BitVec 32 := 0#32
  ![v535.toNat, 0, 0]

def k0_chk77 (v535 : BitVec 32) : Prop :=
  (∀ a, (k0_off154 v535) a + S1x1x128.size a ≤ S50000x1x128.size a)
theorem k0_off154_inb : ∀ (v535 : BitVec 32) (k0_hw77 : k0_chk77 v535), ∀ a, (k0_off154 v535) a + S1x1x128.size a ≤ S50000x1x128.size a := fun v535 k0_hw77 => k0_hw77

def k0_off155 (i : grid0.Coords) : Fin 1 → Nat :=
  let arg0 : BitVec 32 := BitVec.ofNat 32 (i 0).val
  let c64_i32 : BitVec 32 := 64#32
  let v0 : BitVec 32 := Scalar.muli arg0 c64_i32
  let c13_i32_398 : BitVec 32 := 13#32
  let v540 : BitVec 32 := Scalar.addi v0 c13_i32_398
  let v541 : Index := Scalar.indexCast v540
  ![v541.toNat]
def k0_off156 (v542 : BitVec 32) : Fin 3 → Nat :=
  let c0_i32_402 : BitVec 32 := 0#32
  let c0_i32_403 : BitVec 32 := 0#32
  ![v542.toNat, 0, 0]

def k0_chk78 (v542 : BitVec 32) : Prop :=
  (∀ a, (k0_off156 v542) a + S1x1x128.size a ≤ S50000x1x128.size a)
theorem k0_off156_inb : ∀ (v542 : BitVec 32) (k0_hw78 : k0_chk78 v542), ∀ a, (k0_off156 v542) a + S1x1x128.size a ≤ S50000x1x128.size a := fun v542 k0_hw78 => k0_hw78

def k0_off157 (i : grid0.Coords) : Fin 1 → Nat :=
  let arg0 : BitVec 32 := BitVec.ofNat 32 (i 0).val
  let c64_i32 : BitVec 32 := 64#32
  let v0 : BitVec 32 := Scalar.muli arg0 c64_i32
  let c14_i32_404 : BitVec 32 := 14#32
  let v547 : BitVec 32 := Scalar.addi v0 c14_i32_404
  let v548 : Index := Scalar.indexCast v547
  ![v548.toNat]
def k0_off158 (v549 : BitVec 32) : Fin 3 → Nat :=
  let c0_i32_408 : BitVec 32 := 0#32
  let c0_i32_409 : BitVec 32 := 0#32
  ![v549.toNat, 0, 0]

def k0_chk79 (v549 : BitVec 32) : Prop :=
  (∀ a, (k0_off158 v549) a + S1x1x128.size a ≤ S50000x1x128.size a)
theorem k0_off158_inb : ∀ (v549 : BitVec 32) (k0_hw79 : k0_chk79 v549), ∀ a, (k0_off158 v549) a + S1x1x128.size a ≤ S50000x1x128.size a := fun v549 k0_hw79 => k0_hw79

def k0_off159 (i : grid0.Coords) : Fin 1 → Nat :=
  let arg0 : BitVec 32 := BitVec.ofNat 32 (i 0).val
  let c64_i32 : BitVec 32 := 64#32
  let v0 : BitVec 32 := Scalar.muli arg0 c64_i32
  let c15_i32_410 : BitVec 32 := 15#32
  let v554 : BitVec 32 := Scalar.addi v0 c15_i32_410
  let v555 : Index := Scalar.indexCast v554
  ![v555.toNat]
def k0_off160 (v556 : BitVec 32) : Fin 3 → Nat :=
  let c0_i32_414 : BitVec 32 := 0#32
  let c0_i32_415 : BitVec 32 := 0#32
  ![v556.toNat, 0, 0]

def k0_chk80 (v556 : BitVec 32) : Prop :=
  (∀ a, (k0_off160 v556) a + S1x1x128.size a ≤ S50000x1x128.size a)
theorem k0_off160_inb : ∀ (v556 : BitVec 32) (k0_hw80 : k0_chk80 v556), ∀ a, (k0_off160 v556) a + S1x1x128.size a ≤ S50000x1x128.size a := fun v556 k0_hw80 => k0_hw80

def k0_off161 (i : grid0.Coords) : Fin 1 → Nat :=
  let arg0 : BitVec 32 := BitVec.ofNat 32 (i 0).val
  let c64_i32 : BitVec 32 := 64#32
  let v0 : BitVec 32 := Scalar.muli arg0 c64_i32
  let c16_i32_416 : BitVec 32 := 16#32
  let v561 : BitVec 32 := Scalar.addi v0 c16_i32_416
  let v562 : Index := Scalar.indexCast v561
  ![v562.toNat]
def k0_off162 (v563 : BitVec 32) : Fin 3 → Nat :=
  let c0_i32_420 : BitVec 32 := 0#32
  let c0_i32_421 : BitVec 32 := 0#32
  ![v563.toNat, 0, 0]

def k0_chk81 (v563 : BitVec 32) : Prop :=
  (∀ a, (k0_off162 v563) a + S1x1x128.size a ≤ S50000x1x128.size a)
theorem k0_off162_inb : ∀ (v563 : BitVec 32) (k0_hw81 : k0_chk81 v563), ∀ a, (k0_off162 v563) a + S1x1x128.size a ≤ S50000x1x128.size a := fun v563 k0_hw81 => k0_hw81

def k0_off163 (i : grid0.Coords) : Fin 1 → Nat :=
  let arg0 : BitVec 32 := BitVec.ofNat 32 (i 0).val
  let c64_i32 : BitVec 32 := 64#32
  let v0 : BitVec 32 := Scalar.muli arg0 c64_i32
  let c17_i32_422 : BitVec 32 := 17#32
  let v568 : BitVec 32 := Scalar.addi v0 c17_i32_422
  let v569 : Index := Scalar.indexCast v568
  ![v569.toNat]
def k0_off164 (v570 : BitVec 32) : Fin 3 → Nat :=
  let c0_i32_426 : BitVec 32 := 0#32
  let c0_i32_427 : BitVec 32 := 0#32
  ![v570.toNat, 0, 0]

def k0_chk82 (v570 : BitVec 32) : Prop :=
  (∀ a, (k0_off164 v570) a + S1x1x128.size a ≤ S50000x1x128.size a)
theorem k0_off164_inb : ∀ (v570 : BitVec 32) (k0_hw82 : k0_chk82 v570), ∀ a, (k0_off164 v570) a + S1x1x128.size a ≤ S50000x1x128.size a := fun v570 k0_hw82 => k0_hw82

def k0_off165 (i : grid0.Coords) : Fin 1 → Nat :=
  let arg0 : BitVec 32 := BitVec.ofNat 32 (i 0).val
  let c64_i32 : BitVec 32 := 64#32
  let v0 : BitVec 32 := Scalar.muli arg0 c64_i32
  let c18_i32_428 : BitVec 32 := 18#32
  let v575 : BitVec 32 := Scalar.addi v0 c18_i32_428
  let v576 : Index := Scalar.indexCast v575
  ![v576.toNat]
def k0_off166 (v577 : BitVec 32) : Fin 3 → Nat :=
  let c0_i32_432 : BitVec 32 := 0#32
  let c0_i32_433 : BitVec 32 := 0#32
  ![v577.toNat, 0, 0]

def k0_chk83 (v577 : BitVec 32) : Prop :=
  (∀ a, (k0_off166 v577) a + S1x1x128.size a ≤ S50000x1x128.size a)
theorem k0_off166_inb : ∀ (v577 : BitVec 32) (k0_hw83 : k0_chk83 v577), ∀ a, (k0_off166 v577) a + S1x1x128.size a ≤ S50000x1x128.size a := fun v577 k0_hw83 => k0_hw83

def k0_off167 (i : grid0.Coords) : Fin 1 → Nat :=
  let arg0 : BitVec 32 := BitVec.ofNat 32 (i 0).val
  let c64_i32 : BitVec 32 := 64#32
  let v0 : BitVec 32 := Scalar.muli arg0 c64_i32
  let c19_i32_434 : BitVec 32 := 19#32
  let v582 : BitVec 32 := Scalar.addi v0 c19_i32_434
  let v583 : Index := Scalar.indexCast v582
  ![v583.toNat]
def k0_off168 (v584 : BitVec 32) : Fin 3 → Nat :=
  let c0_i32_438 : BitVec 32 := 0#32
  let c0_i32_439 : BitVec 32 := 0#32
  ![v584.toNat, 0, 0]

def k0_chk84 (v584 : BitVec 32) : Prop :=
  (∀ a, (k0_off168 v584) a + S1x1x128.size a ≤ S50000x1x128.size a)
theorem k0_off168_inb : ∀ (v584 : BitVec 32) (k0_hw84 : k0_chk84 v584), ∀ a, (k0_off168 v584) a + S1x1x128.size a ≤ S50000x1x128.size a := fun v584 k0_hw84 => k0_hw84

def k0_off169 (i : grid0.Coords) : Fin 1 → Nat :=
  let arg0 : BitVec 32 := BitVec.ofNat 32 (i 0).val
  let c64_i32 : BitVec 32 := 64#32
  let v0 : BitVec 32 := Scalar.muli arg0 c64_i32
  let c20_i32_440 : BitVec 32 := 20#32
  let v589 : BitVec 32 := Scalar.addi v0 c20_i32_440
  let v590 : Index := Scalar.indexCast v589
  ![v590.toNat]
def k0_off170 (v591 : BitVec 32) : Fin 3 → Nat :=
  let c0_i32_444 : BitVec 32 := 0#32
  let c0_i32_445 : BitVec 32 := 0#32
  ![v591.toNat, 0, 0]

def k0_chk85 (v591 : BitVec 32) : Prop :=
  (∀ a, (k0_off170 v591) a + S1x1x128.size a ≤ S50000x1x128.size a)
theorem k0_off170_inb : ∀ (v591 : BitVec 32) (k0_hw85 : k0_chk85 v591), ∀ a, (k0_off170 v591) a + S1x1x128.size a ≤ S50000x1x128.size a := fun v591 k0_hw85 => k0_hw85

def k0_off171 (i : grid0.Coords) : Fin 1 → Nat :=
  let arg0 : BitVec 32 := BitVec.ofNat 32 (i 0).val
  let c64_i32 : BitVec 32 := 64#32
  let v0 : BitVec 32 := Scalar.muli arg0 c64_i32
  let c21_i32_446 : BitVec 32 := 21#32
  let v596 : BitVec 32 := Scalar.addi v0 c21_i32_446
  let v597 : Index := Scalar.indexCast v596
  ![v597.toNat]
def k0_off172 (v598 : BitVec 32) : Fin 3 → Nat :=
  let c0_i32_450 : BitVec 32 := 0#32
  let c0_i32_451 : BitVec 32 := 0#32
  ![v598.toNat, 0, 0]

def k0_chk86 (v598 : BitVec 32) : Prop :=
  (∀ a, (k0_off172 v598) a + S1x1x128.size a ≤ S50000x1x128.size a)
theorem k0_off172_inb : ∀ (v598 : BitVec 32) (k0_hw86 : k0_chk86 v598), ∀ a, (k0_off172 v598) a + S1x1x128.size a ≤ S50000x1x128.size a := fun v598 k0_hw86 => k0_hw86

def k0_off173 (i : grid0.Coords) : Fin 1 → Nat :=
  let arg0 : BitVec 32 := BitVec.ofNat 32 (i 0).val
  let c64_i32 : BitVec 32 := 64#32
  let v0 : BitVec 32 := Scalar.muli arg0 c64_i32
  let c22_i32_452 : BitVec 32 := 22#32
  let v603 : BitVec 32 := Scalar.addi v0 c22_i32_452
  let v604 : Index := Scalar.indexCast v603
  ![v604.toNat]
def k0_off174 (v605 : BitVec 32) : Fin 3 → Nat :=
  let c0_i32_456 : BitVec 32 := 0#32
  let c0_i32_457 : BitVec 32 := 0#32
  ![v605.toNat, 0, 0]

def k0_chk87 (v605 : BitVec 32) : Prop :=
  (∀ a, (k0_off174 v605) a + S1x1x128.size a ≤ S50000x1x128.size a)
theorem k0_off174_inb : ∀ (v605 : BitVec 32) (k0_hw87 : k0_chk87 v605), ∀ a, (k0_off174 v605) a + S1x1x128.size a ≤ S50000x1x128.size a := fun v605 k0_hw87 => k0_hw87

def k0_off175 (i : grid0.Coords) : Fin 1 → Nat :=
  let arg0 : BitVec 32 := BitVec.ofNat 32 (i 0).val
  let c64_i32 : BitVec 32 := 64#32
  let v0 : BitVec 32 := Scalar.muli arg0 c64_i32
  let c23_i32_458 : BitVec 32 := 23#32
  let v610 : BitVec 32 := Scalar.addi v0 c23_i32_458
  let v611 : Index := Scalar.indexCast v610
  ![v611.toNat]
def k0_off176 (v612 : BitVec 32) : Fin 3 → Nat :=
  let c0_i32_462 : BitVec 32 := 0#32
  let c0_i32_463 : BitVec 32 := 0#32
  ![v612.toNat, 0, 0]

def k0_chk88 (v612 : BitVec 32) : Prop :=
  (∀ a, (k0_off176 v612) a + S1x1x128.size a ≤ S50000x1x128.size a)
theorem k0_off176_inb : ∀ (v612 : BitVec 32) (k0_hw88 : k0_chk88 v612), ∀ a, (k0_off176 v612) a + S1x1x128.size a ≤ S50000x1x128.size a := fun v612 k0_hw88 => k0_hw88

def k0_off177 (i : grid0.Coords) : Fin 1 → Nat :=
  let arg0 : BitVec 32 := BitVec.ofNat 32 (i 0).val
  let c64_i32 : BitVec 32 := 64#32
  let v0 : BitVec 32 := Scalar.muli arg0 c64_i32
  let c24_i32_464 : BitVec 32 := 24#32
  let v617 : BitVec 32 := Scalar.addi v0 c24_i32_464
  let v618 : Index := Scalar.indexCast v617
  ![v618.toNat]
def k0_off178 (v619 : BitVec 32) : Fin 3 → Nat :=
  let c0_i32_468 : BitVec 32 := 0#32
  let c0_i32_469 : BitVec 32 := 0#32
  ![v619.toNat, 0, 0]

def k0_chk89 (v619 : BitVec 32) : Prop :=
  (∀ a, (k0_off178 v619) a + S1x1x128.size a ≤ S50000x1x128.size a)
theorem k0_off178_inb : ∀ (v619 : BitVec 32) (k0_hw89 : k0_chk89 v619), ∀ a, (k0_off178 v619) a + S1x1x128.size a ≤ S50000x1x128.size a := fun v619 k0_hw89 => k0_hw89

def k0_off179 (i : grid0.Coords) : Fin 1 → Nat :=
  let arg0 : BitVec 32 := BitVec.ofNat 32 (i 0).val
  let c64_i32 : BitVec 32 := 64#32
  let v0 : BitVec 32 := Scalar.muli arg0 c64_i32
  let c25_i32_470 : BitVec 32 := 25#32
  let v624 : BitVec 32 := Scalar.addi v0 c25_i32_470
  let v625 : Index := Scalar.indexCast v624
  ![v625.toNat]
def k0_off180 (v626 : BitVec 32) : Fin 3 → Nat :=
  let c0_i32_474 : BitVec 32 := 0#32
  let c0_i32_475 : BitVec 32 := 0#32
  ![v626.toNat, 0, 0]

def k0_chk90 (v626 : BitVec 32) : Prop :=
  (∀ a, (k0_off180 v626) a + S1x1x128.size a ≤ S50000x1x128.size a)
theorem k0_off180_inb : ∀ (v626 : BitVec 32) (k0_hw90 : k0_chk90 v626), ∀ a, (k0_off180 v626) a + S1x1x128.size a ≤ S50000x1x128.size a := fun v626 k0_hw90 => k0_hw90

def k0_off181 (i : grid0.Coords) : Fin 1 → Nat :=
  let arg0 : BitVec 32 := BitVec.ofNat 32 (i 0).val
  let c64_i32 : BitVec 32 := 64#32
  let v0 : BitVec 32 := Scalar.muli arg0 c64_i32
  let c26_i32_476 : BitVec 32 := 26#32
  let v631 : BitVec 32 := Scalar.addi v0 c26_i32_476
  let v632 : Index := Scalar.indexCast v631
  ![v632.toNat]
def k0_off182 (v633 : BitVec 32) : Fin 3 → Nat :=
  let c0_i32_480 : BitVec 32 := 0#32
  let c0_i32_481 : BitVec 32 := 0#32
  ![v633.toNat, 0, 0]

def k0_chk91 (v633 : BitVec 32) : Prop :=
  (∀ a, (k0_off182 v633) a + S1x1x128.size a ≤ S50000x1x128.size a)
theorem k0_off182_inb : ∀ (v633 : BitVec 32) (k0_hw91 : k0_chk91 v633), ∀ a, (k0_off182 v633) a + S1x1x128.size a ≤ S50000x1x128.size a := fun v633 k0_hw91 => k0_hw91

def k0_off183 (i : grid0.Coords) : Fin 1 → Nat :=
  let arg0 : BitVec 32 := BitVec.ofNat 32 (i 0).val
  let c64_i32 : BitVec 32 := 64#32
  let v0 : BitVec 32 := Scalar.muli arg0 c64_i32
  let c27_i32_482 : BitVec 32 := 27#32
  let v638 : BitVec 32 := Scalar.addi v0 c27_i32_482
  let v639 : Index := Scalar.indexCast v638
  ![v639.toNat]
def k0_off184 (v640 : BitVec 32) : Fin 3 → Nat :=
  let c0_i32_486 : BitVec 32 := 0#32
  let c0_i32_487 : BitVec 32 := 0#32
  ![v640.toNat, 0, 0]

def k0_chk92 (v640 : BitVec 32) : Prop :=
  (∀ a, (k0_off184 v640) a + S1x1x128.size a ≤ S50000x1x128.size a)
theorem k0_off184_inb : ∀ (v640 : BitVec 32) (k0_hw92 : k0_chk92 v640), ∀ a, (k0_off184 v640) a + S1x1x128.size a ≤ S50000x1x128.size a := fun v640 k0_hw92 => k0_hw92

def k0_off185 (i : grid0.Coords) : Fin 1 → Nat :=
  let arg0 : BitVec 32 := BitVec.ofNat 32 (i 0).val
  let c64_i32 : BitVec 32 := 64#32
  let v0 : BitVec 32 := Scalar.muli arg0 c64_i32
  let c28_i32_488 : BitVec 32 := 28#32
  let v645 : BitVec 32 := Scalar.addi v0 c28_i32_488
  let v646 : Index := Scalar.indexCast v645
  ![v646.toNat]
def k0_off186 (v647 : BitVec 32) : Fin 3 → Nat :=
  let c0_i32_492 : BitVec 32 := 0#32
  let c0_i32_493 : BitVec 32 := 0#32
  ![v647.toNat, 0, 0]

def k0_chk93 (v647 : BitVec 32) : Prop :=
  (∀ a, (k0_off186 v647) a + S1x1x128.size a ≤ S50000x1x128.size a)
theorem k0_off186_inb : ∀ (v647 : BitVec 32) (k0_hw93 : k0_chk93 v647), ∀ a, (k0_off186 v647) a + S1x1x128.size a ≤ S50000x1x128.size a := fun v647 k0_hw93 => k0_hw93

def k0_off187 (i : grid0.Coords) : Fin 1 → Nat :=
  let arg0 : BitVec 32 := BitVec.ofNat 32 (i 0).val
  let c64_i32 : BitVec 32 := 64#32
  let v0 : BitVec 32 := Scalar.muli arg0 c64_i32
  let c29_i32_494 : BitVec 32 := 29#32
  let v652 : BitVec 32 := Scalar.addi v0 c29_i32_494
  let v653 : Index := Scalar.indexCast v652
  ![v653.toNat]
def k0_off188 (v654 : BitVec 32) : Fin 3 → Nat :=
  let c0_i32_498 : BitVec 32 := 0#32
  let c0_i32_499 : BitVec 32 := 0#32
  ![v654.toNat, 0, 0]

def k0_chk94 (v654 : BitVec 32) : Prop :=
  (∀ a, (k0_off188 v654) a + S1x1x128.size a ≤ S50000x1x128.size a)
theorem k0_off188_inb : ∀ (v654 : BitVec 32) (k0_hw94 : k0_chk94 v654), ∀ a, (k0_off188 v654) a + S1x1x128.size a ≤ S50000x1x128.size a := fun v654 k0_hw94 => k0_hw94

def k0_off189 (i : grid0.Coords) : Fin 1 → Nat :=
  let arg0 : BitVec 32 := BitVec.ofNat 32 (i 0).val
  let c64_i32 : BitVec 32 := 64#32
  let v0 : BitVec 32 := Scalar.muli arg0 c64_i32
  let c30_i32_500 : BitVec 32 := 30#32
  let v659 : BitVec 32 := Scalar.addi v0 c30_i32_500
  let v660 : Index := Scalar.indexCast v659
  ![v660.toNat]
def k0_off190 (v661 : BitVec 32) : Fin 3 → Nat :=
  let c0_i32_504 : BitVec 32 := 0#32
  let c0_i32_505 : BitVec 32 := 0#32
  ![v661.toNat, 0, 0]

def k0_chk95 (v661 : BitVec 32) : Prop :=
  (∀ a, (k0_off190 v661) a + S1x1x128.size a ≤ S50000x1x128.size a)
theorem k0_off190_inb : ∀ (v661 : BitVec 32) (k0_hw95 : k0_chk95 v661), ∀ a, (k0_off190 v661) a + S1x1x128.size a ≤ S50000x1x128.size a := fun v661 k0_hw95 => k0_hw95

def k0_off191 (i : grid0.Coords) : Fin 1 → Nat :=
  let arg0 : BitVec 32 := BitVec.ofNat 32 (i 0).val
  let c64_i32 : BitVec 32 := 64#32
  let v0 : BitVec 32 := Scalar.muli arg0 c64_i32
  let c31_i32_506 : BitVec 32 := 31#32
  let v666 : BitVec 32 := Scalar.addi v0 c31_i32_506
  let v667 : Index := Scalar.indexCast v666
  ![v667.toNat]
def k0_off192 (v668 : BitVec 32) : Fin 3 → Nat :=
  let c0_i32_510 : BitVec 32 := 0#32
  let c0_i32_511 : BitVec 32 := 0#32
  ![v668.toNat, 0, 0]

def k0_chk96 (v668 : BitVec 32) : Prop :=
  (∀ a, (k0_off192 v668) a + S1x1x128.size a ≤ S50000x1x128.size a)
theorem k0_off192_inb : ∀ (v668 : BitVec 32) (k0_hw96 : k0_chk96 v668), ∀ a, (k0_off192 v668) a + S1x1x128.size a ≤ S50000x1x128.size a := fun v668 k0_hw96 => k0_hw96

def k0_off193 (i : grid0.Coords) : Fin 1 → Nat :=
  let arg0 : BitVec 32 := BitVec.ofNat 32 (i 0).val
  let c64_i32 : BitVec 32 := 64#32
  let v0 : BitVec 32 := Scalar.muli arg0 c64_i32
  let c32_i32_512 : BitVec 32 := 32#32
  let v673 : BitVec 32 := Scalar.addi v0 c32_i32_512
  let v674 : Index := Scalar.indexCast v673
  ![v674.toNat]
def k0_off194 (v675 : BitVec 32) : Fin 3 → Nat :=
  let c0_i32_516 : BitVec 32 := 0#32
  let c0_i32_517 : BitVec 32 := 0#32
  ![v675.toNat, 0, 0]

def k0_chk97 (v675 : BitVec 32) : Prop :=
  (∀ a, (k0_off194 v675) a + S1x1x128.size a ≤ S50000x1x128.size a)
theorem k0_off194_inb : ∀ (v675 : BitVec 32) (k0_hw97 : k0_chk97 v675), ∀ a, (k0_off194 v675) a + S1x1x128.size a ≤ S50000x1x128.size a := fun v675 k0_hw97 => k0_hw97

def k0_off195 (i : grid0.Coords) : Fin 1 → Nat :=
  let arg0 : BitVec 32 := BitVec.ofNat 32 (i 0).val
  let c64_i32 : BitVec 32 := 64#32
  let v0 : BitVec 32 := Scalar.muli arg0 c64_i32
  let c33_i32_518 : BitVec 32 := 33#32
  let v680 : BitVec 32 := Scalar.addi v0 c33_i32_518
  let v681 : Index := Scalar.indexCast v680
  ![v681.toNat]
def k0_off196 (v682 : BitVec 32) : Fin 3 → Nat :=
  let c0_i32_522 : BitVec 32 := 0#32
  let c0_i32_523 : BitVec 32 := 0#32
  ![v682.toNat, 0, 0]

def k0_chk98 (v682 : BitVec 32) : Prop :=
  (∀ a, (k0_off196 v682) a + S1x1x128.size a ≤ S50000x1x128.size a)
theorem k0_off196_inb : ∀ (v682 : BitVec 32) (k0_hw98 : k0_chk98 v682), ∀ a, (k0_off196 v682) a + S1x1x128.size a ≤ S50000x1x128.size a := fun v682 k0_hw98 => k0_hw98

def k0_off197 (i : grid0.Coords) : Fin 1 → Nat :=
  let arg0 : BitVec 32 := BitVec.ofNat 32 (i 0).val
  let c64_i32 : BitVec 32 := 64#32
  let v0 : BitVec 32 := Scalar.muli arg0 c64_i32
  let c34_i32_524 : BitVec 32 := 34#32
  let v687 : BitVec 32 := Scalar.addi v0 c34_i32_524
  let v688 : Index := Scalar.indexCast v687
  ![v688.toNat]
def k0_off198 (v689 : BitVec 32) : Fin 3 → Nat :=
  let c0_i32_528 : BitVec 32 := 0#32
  let c0_i32_529 : BitVec 32 := 0#32
  ![v689.toNat, 0, 0]

def k0_chk99 (v689 : BitVec 32) : Prop :=
  (∀ a, (k0_off198 v689) a + S1x1x128.size a ≤ S50000x1x128.size a)
theorem k0_off198_inb : ∀ (v689 : BitVec 32) (k0_hw99 : k0_chk99 v689), ∀ a, (k0_off198 v689) a + S1x1x128.size a ≤ S50000x1x128.size a := fun v689 k0_hw99 => k0_hw99

def k0_off199 (i : grid0.Coords) : Fin 1 → Nat :=
  let arg0 : BitVec 32 := BitVec.ofNat 32 (i 0).val
  let c64_i32 : BitVec 32 := 64#32
  let v0 : BitVec 32 := Scalar.muli arg0 c64_i32
  let c35_i32_530 : BitVec 32 := 35#32
  let v694 : BitVec 32 := Scalar.addi v0 c35_i32_530
  let v695 : Index := Scalar.indexCast v694
  ![v695.toNat]
def k0_off200 (v696 : BitVec 32) : Fin 3 → Nat :=
  let c0_i32_534 : BitVec 32 := 0#32
  let c0_i32_535 : BitVec 32 := 0#32
  ![v696.toNat, 0, 0]

def k0_chk100 (v696 : BitVec 32) : Prop :=
  (∀ a, (k0_off200 v696) a + S1x1x128.size a ≤ S50000x1x128.size a)
theorem k0_off200_inb : ∀ (v696 : BitVec 32) (k0_hw100 : k0_chk100 v696), ∀ a, (k0_off200 v696) a + S1x1x128.size a ≤ S50000x1x128.size a := fun v696 k0_hw100 => k0_hw100

def k0_off201 (i : grid0.Coords) : Fin 1 → Nat :=
  let arg0 : BitVec 32 := BitVec.ofNat 32 (i 0).val
  let c64_i32 : BitVec 32 := 64#32
  let v0 : BitVec 32 := Scalar.muli arg0 c64_i32
  let c36_i32_536 : BitVec 32 := 36#32
  let v701 : BitVec 32 := Scalar.addi v0 c36_i32_536
  let v702 : Index := Scalar.indexCast v701
  ![v702.toNat]
def k0_off202 (v703 : BitVec 32) : Fin 3 → Nat :=
  let c0_i32_540 : BitVec 32 := 0#32
  let c0_i32_541 : BitVec 32 := 0#32
  ![v703.toNat, 0, 0]

def k0_chk101 (v703 : BitVec 32) : Prop :=
  (∀ a, (k0_off202 v703) a + S1x1x128.size a ≤ S50000x1x128.size a)
theorem k0_off202_inb : ∀ (v703 : BitVec 32) (k0_hw101 : k0_chk101 v703), ∀ a, (k0_off202 v703) a + S1x1x128.size a ≤ S50000x1x128.size a := fun v703 k0_hw101 => k0_hw101

def k0_off203 (i : grid0.Coords) : Fin 1 → Nat :=
  let arg0 : BitVec 32 := BitVec.ofNat 32 (i 0).val
  let c64_i32 : BitVec 32 := 64#32
  let v0 : BitVec 32 := Scalar.muli arg0 c64_i32
  let c37_i32_542 : BitVec 32 := 37#32
  let v708 : BitVec 32 := Scalar.addi v0 c37_i32_542
  let v709 : Index := Scalar.indexCast v708
  ![v709.toNat]
def k0_off204 (v710 : BitVec 32) : Fin 3 → Nat :=
  let c0_i32_546 : BitVec 32 := 0#32
  let c0_i32_547 : BitVec 32 := 0#32
  ![v710.toNat, 0, 0]

def k0_chk102 (v710 : BitVec 32) : Prop :=
  (∀ a, (k0_off204 v710) a + S1x1x128.size a ≤ S50000x1x128.size a)
theorem k0_off204_inb : ∀ (v710 : BitVec 32) (k0_hw102 : k0_chk102 v710), ∀ a, (k0_off204 v710) a + S1x1x128.size a ≤ S50000x1x128.size a := fun v710 k0_hw102 => k0_hw102

def k0_off205 (i : grid0.Coords) : Fin 1 → Nat :=
  let arg0 : BitVec 32 := BitVec.ofNat 32 (i 0).val
  let c64_i32 : BitVec 32 := 64#32
  let v0 : BitVec 32 := Scalar.muli arg0 c64_i32
  let c38_i32_548 : BitVec 32 := 38#32
  let v715 : BitVec 32 := Scalar.addi v0 c38_i32_548
  let v716 : Index := Scalar.indexCast v715
  ![v716.toNat]
def k0_off206 (v717 : BitVec 32) : Fin 3 → Nat :=
  let c0_i32_552 : BitVec 32 := 0#32
  let c0_i32_553 : BitVec 32 := 0#32
  ![v717.toNat, 0, 0]

def k0_chk103 (v717 : BitVec 32) : Prop :=
  (∀ a, (k0_off206 v717) a + S1x1x128.size a ≤ S50000x1x128.size a)
theorem k0_off206_inb : ∀ (v717 : BitVec 32) (k0_hw103 : k0_chk103 v717), ∀ a, (k0_off206 v717) a + S1x1x128.size a ≤ S50000x1x128.size a := fun v717 k0_hw103 => k0_hw103

def k0_off207 (i : grid0.Coords) : Fin 1 → Nat :=
  let arg0 : BitVec 32 := BitVec.ofNat 32 (i 0).val
  let c64_i32 : BitVec 32 := 64#32
  let v0 : BitVec 32 := Scalar.muli arg0 c64_i32
  let c39_i32_554 : BitVec 32 := 39#32
  let v722 : BitVec 32 := Scalar.addi v0 c39_i32_554
  let v723 : Index := Scalar.indexCast v722
  ![v723.toNat]
def k0_off208 (v724 : BitVec 32) : Fin 3 → Nat :=
  let c0_i32_558 : BitVec 32 := 0#32
  let c0_i32_559 : BitVec 32 := 0#32
  ![v724.toNat, 0, 0]

def k0_chk104 (v724 : BitVec 32) : Prop :=
  (∀ a, (k0_off208 v724) a + S1x1x128.size a ≤ S50000x1x128.size a)
theorem k0_off208_inb : ∀ (v724 : BitVec 32) (k0_hw104 : k0_chk104 v724), ∀ a, (k0_off208 v724) a + S1x1x128.size a ≤ S50000x1x128.size a := fun v724 k0_hw104 => k0_hw104

def k0_off209 (i : grid0.Coords) : Fin 1 → Nat :=
  let arg0 : BitVec 32 := BitVec.ofNat 32 (i 0).val
  let c64_i32 : BitVec 32 := 64#32
  let v0 : BitVec 32 := Scalar.muli arg0 c64_i32
  let c40_i32_560 : BitVec 32 := 40#32
  let v729 : BitVec 32 := Scalar.addi v0 c40_i32_560
  let v730 : Index := Scalar.indexCast v729
  ![v730.toNat]
def k0_off210 (v731 : BitVec 32) : Fin 3 → Nat :=
  let c0_i32_564 : BitVec 32 := 0#32
  let c0_i32_565 : BitVec 32 := 0#32
  ![v731.toNat, 0, 0]

def k0_chk105 (v731 : BitVec 32) : Prop :=
  (∀ a, (k0_off210 v731) a + S1x1x128.size a ≤ S50000x1x128.size a)
theorem k0_off210_inb : ∀ (v731 : BitVec 32) (k0_hw105 : k0_chk105 v731), ∀ a, (k0_off210 v731) a + S1x1x128.size a ≤ S50000x1x128.size a := fun v731 k0_hw105 => k0_hw105

def k0_off211 (i : grid0.Coords) : Fin 1 → Nat :=
  let arg0 : BitVec 32 := BitVec.ofNat 32 (i 0).val
  let c64_i32 : BitVec 32 := 64#32
  let v0 : BitVec 32 := Scalar.muli arg0 c64_i32
  let c41_i32_566 : BitVec 32 := 41#32
  let v736 : BitVec 32 := Scalar.addi v0 c41_i32_566
  let v737 : Index := Scalar.indexCast v736
  ![v737.toNat]
def k0_off212 (v738 : BitVec 32) : Fin 3 → Nat :=
  let c0_i32_570 : BitVec 32 := 0#32
  let c0_i32_571 : BitVec 32 := 0#32
  ![v738.toNat, 0, 0]

def k0_chk106 (v738 : BitVec 32) : Prop :=
  (∀ a, (k0_off212 v738) a + S1x1x128.size a ≤ S50000x1x128.size a)
theorem k0_off212_inb : ∀ (v738 : BitVec 32) (k0_hw106 : k0_chk106 v738), ∀ a, (k0_off212 v738) a + S1x1x128.size a ≤ S50000x1x128.size a := fun v738 k0_hw106 => k0_hw106

def k0_off213 (i : grid0.Coords) : Fin 1 → Nat :=
  let arg0 : BitVec 32 := BitVec.ofNat 32 (i 0).val
  let c64_i32 : BitVec 32 := 64#32
  let v0 : BitVec 32 := Scalar.muli arg0 c64_i32
  let c42_i32_572 : BitVec 32 := 42#32
  let v743 : BitVec 32 := Scalar.addi v0 c42_i32_572
  let v744 : Index := Scalar.indexCast v743
  ![v744.toNat]
def k0_off214 (v745 : BitVec 32) : Fin 3 → Nat :=
  let c0_i32_576 : BitVec 32 := 0#32
  let c0_i32_577 : BitVec 32 := 0#32
  ![v745.toNat, 0, 0]

def k0_chk107 (v745 : BitVec 32) : Prop :=
  (∀ a, (k0_off214 v745) a + S1x1x128.size a ≤ S50000x1x128.size a)
theorem k0_off214_inb : ∀ (v745 : BitVec 32) (k0_hw107 : k0_chk107 v745), ∀ a, (k0_off214 v745) a + S1x1x128.size a ≤ S50000x1x128.size a := fun v745 k0_hw107 => k0_hw107

def k0_off215 (i : grid0.Coords) : Fin 1 → Nat :=
  let arg0 : BitVec 32 := BitVec.ofNat 32 (i 0).val
  let c64_i32 : BitVec 32 := 64#32
  let v0 : BitVec 32 := Scalar.muli arg0 c64_i32
  let c43_i32_578 : BitVec 32 := 43#32
  let v750 : BitVec 32 := Scalar.addi v0 c43_i32_578
  let v751 : Index := Scalar.indexCast v750
  ![v751.toNat]
def k0_off216 (v752 : BitVec 32) : Fin 3 → Nat :=
  let c0_i32_582 : BitVec 32 := 0#32
  let c0_i32_583 : BitVec 32 := 0#32
  ![v752.toNat, 0, 0]

def k0_chk108 (v752 : BitVec 32) : Prop :=
  (∀ a, (k0_off216 v752) a + S1x1x128.size a ≤ S50000x1x128.size a)
theorem k0_off216_inb : ∀ (v752 : BitVec 32) (k0_hw108 : k0_chk108 v752), ∀ a, (k0_off216 v752) a + S1x1x128.size a ≤ S50000x1x128.size a := fun v752 k0_hw108 => k0_hw108

def k0_off217 (i : grid0.Coords) : Fin 1 → Nat :=
  let arg0 : BitVec 32 := BitVec.ofNat 32 (i 0).val
  let c64_i32 : BitVec 32 := 64#32
  let v0 : BitVec 32 := Scalar.muli arg0 c64_i32
  let c44_i32_584 : BitVec 32 := 44#32
  let v757 : BitVec 32 := Scalar.addi v0 c44_i32_584
  let v758 : Index := Scalar.indexCast v757
  ![v758.toNat]
def k0_off218 (v759 : BitVec 32) : Fin 3 → Nat :=
  let c0_i32_588 : BitVec 32 := 0#32
  let c0_i32_589 : BitVec 32 := 0#32
  ![v759.toNat, 0, 0]

def k0_chk109 (v759 : BitVec 32) : Prop :=
  (∀ a, (k0_off218 v759) a + S1x1x128.size a ≤ S50000x1x128.size a)
theorem k0_off218_inb : ∀ (v759 : BitVec 32) (k0_hw109 : k0_chk109 v759), ∀ a, (k0_off218 v759) a + S1x1x128.size a ≤ S50000x1x128.size a := fun v759 k0_hw109 => k0_hw109

def k0_off219 (i : grid0.Coords) : Fin 1 → Nat :=
  let arg0 : BitVec 32 := BitVec.ofNat 32 (i 0).val
  let c64_i32 : BitVec 32 := 64#32
  let v0 : BitVec 32 := Scalar.muli arg0 c64_i32
  let c45_i32_590 : BitVec 32 := 45#32
  let v764 : BitVec 32 := Scalar.addi v0 c45_i32_590
  let v765 : Index := Scalar.indexCast v764
  ![v765.toNat]
def k0_off220 (v766 : BitVec 32) : Fin 3 → Nat :=
  let c0_i32_594 : BitVec 32 := 0#32
  let c0_i32_595 : BitVec 32 := 0#32
  ![v766.toNat, 0, 0]

def k0_chk110 (v766 : BitVec 32) : Prop :=
  (∀ a, (k0_off220 v766) a + S1x1x128.size a ≤ S50000x1x128.size a)
theorem k0_off220_inb : ∀ (v766 : BitVec 32) (k0_hw110 : k0_chk110 v766), ∀ a, (k0_off220 v766) a + S1x1x128.size a ≤ S50000x1x128.size a := fun v766 k0_hw110 => k0_hw110

def k0_off221 (i : grid0.Coords) : Fin 1 → Nat :=
  let arg0 : BitVec 32 := BitVec.ofNat 32 (i 0).val
  let c64_i32 : BitVec 32 := 64#32
  let v0 : BitVec 32 := Scalar.muli arg0 c64_i32
  let c46_i32_596 : BitVec 32 := 46#32
  let v771 : BitVec 32 := Scalar.addi v0 c46_i32_596
  let v772 : Index := Scalar.indexCast v771
  ![v772.toNat]
def k0_off222 (v773 : BitVec 32) : Fin 3 → Nat :=
  let c0_i32_600 : BitVec 32 := 0#32
  let c0_i32_601 : BitVec 32 := 0#32
  ![v773.toNat, 0, 0]

def k0_chk111 (v773 : BitVec 32) : Prop :=
  (∀ a, (k0_off222 v773) a + S1x1x128.size a ≤ S50000x1x128.size a)
theorem k0_off222_inb : ∀ (v773 : BitVec 32) (k0_hw111 : k0_chk111 v773), ∀ a, (k0_off222 v773) a + S1x1x128.size a ≤ S50000x1x128.size a := fun v773 k0_hw111 => k0_hw111

def k0_off223 (i : grid0.Coords) : Fin 1 → Nat :=
  let arg0 : BitVec 32 := BitVec.ofNat 32 (i 0).val
  let c64_i32 : BitVec 32 := 64#32
  let v0 : BitVec 32 := Scalar.muli arg0 c64_i32
  let c47_i32_602 : BitVec 32 := 47#32
  let v778 : BitVec 32 := Scalar.addi v0 c47_i32_602
  let v779 : Index := Scalar.indexCast v778
  ![v779.toNat]
def k0_off224 (v780 : BitVec 32) : Fin 3 → Nat :=
  let c0_i32_606 : BitVec 32 := 0#32
  let c0_i32_607 : BitVec 32 := 0#32
  ![v780.toNat, 0, 0]

def k0_chk112 (v780 : BitVec 32) : Prop :=
  (∀ a, (k0_off224 v780) a + S1x1x128.size a ≤ S50000x1x128.size a)
theorem k0_off224_inb : ∀ (v780 : BitVec 32) (k0_hw112 : k0_chk112 v780), ∀ a, (k0_off224 v780) a + S1x1x128.size a ≤ S50000x1x128.size a := fun v780 k0_hw112 => k0_hw112

def k0_off225 (i : grid0.Coords) : Fin 1 → Nat :=
  let arg0 : BitVec 32 := BitVec.ofNat 32 (i 0).val
  let c64_i32 : BitVec 32 := 64#32
  let v0 : BitVec 32 := Scalar.muli arg0 c64_i32
  let c48_i32_608 : BitVec 32 := 48#32
  let v785 : BitVec 32 := Scalar.addi v0 c48_i32_608
  let v786 : Index := Scalar.indexCast v785
  ![v786.toNat]
def k0_off226 (v787 : BitVec 32) : Fin 3 → Nat :=
  let c0_i32_612 : BitVec 32 := 0#32
  let c0_i32_613 : BitVec 32 := 0#32
  ![v787.toNat, 0, 0]

def k0_chk113 (v787 : BitVec 32) : Prop :=
  (∀ a, (k0_off226 v787) a + S1x1x128.size a ≤ S50000x1x128.size a)
theorem k0_off226_inb : ∀ (v787 : BitVec 32) (k0_hw113 : k0_chk113 v787), ∀ a, (k0_off226 v787) a + S1x1x128.size a ≤ S50000x1x128.size a := fun v787 k0_hw113 => k0_hw113

def k0_off227 (i : grid0.Coords) : Fin 1 → Nat :=
  let arg0 : BitVec 32 := BitVec.ofNat 32 (i 0).val
  let c64_i32 : BitVec 32 := 64#32
  let v0 : BitVec 32 := Scalar.muli arg0 c64_i32
  let c49_i32_614 : BitVec 32 := 49#32
  let v792 : BitVec 32 := Scalar.addi v0 c49_i32_614
  let v793 : Index := Scalar.indexCast v792
  ![v793.toNat]
def k0_off228 (v794 : BitVec 32) : Fin 3 → Nat :=
  let c0_i32_618 : BitVec 32 := 0#32
  let c0_i32_619 : BitVec 32 := 0#32
  ![v794.toNat, 0, 0]

def k0_chk114 (v794 : BitVec 32) : Prop :=
  (∀ a, (k0_off228 v794) a + S1x1x128.size a ≤ S50000x1x128.size a)
theorem k0_off228_inb : ∀ (v794 : BitVec 32) (k0_hw114 : k0_chk114 v794), ∀ a, (k0_off228 v794) a + S1x1x128.size a ≤ S50000x1x128.size a := fun v794 k0_hw114 => k0_hw114

def k0_off229 (i : grid0.Coords) : Fin 1 → Nat :=
  let arg0 : BitVec 32 := BitVec.ofNat 32 (i 0).val
  let c64_i32 : BitVec 32 := 64#32
  let v0 : BitVec 32 := Scalar.muli arg0 c64_i32
  let c50_i32_620 : BitVec 32 := 50#32
  let v799 : BitVec 32 := Scalar.addi v0 c50_i32_620
  let v800 : Index := Scalar.indexCast v799
  ![v800.toNat]
def k0_off230 (v801 : BitVec 32) : Fin 3 → Nat :=
  let c0_i32_624 : BitVec 32 := 0#32
  let c0_i32_625 : BitVec 32 := 0#32
  ![v801.toNat, 0, 0]

def k0_chk115 (v801 : BitVec 32) : Prop :=
  (∀ a, (k0_off230 v801) a + S1x1x128.size a ≤ S50000x1x128.size a)
theorem k0_off230_inb : ∀ (v801 : BitVec 32) (k0_hw115 : k0_chk115 v801), ∀ a, (k0_off230 v801) a + S1x1x128.size a ≤ S50000x1x128.size a := fun v801 k0_hw115 => k0_hw115

def k0_off231 (i : grid0.Coords) : Fin 1 → Nat :=
  let arg0 : BitVec 32 := BitVec.ofNat 32 (i 0).val
  let c64_i32 : BitVec 32 := 64#32
  let v0 : BitVec 32 := Scalar.muli arg0 c64_i32
  let c51_i32_626 : BitVec 32 := 51#32
  let v806 : BitVec 32 := Scalar.addi v0 c51_i32_626
  let v807 : Index := Scalar.indexCast v806
  ![v807.toNat]
def k0_off232 (v808 : BitVec 32) : Fin 3 → Nat :=
  let c0_i32_630 : BitVec 32 := 0#32
  let c0_i32_631 : BitVec 32 := 0#32
  ![v808.toNat, 0, 0]

def k0_chk116 (v808 : BitVec 32) : Prop :=
  (∀ a, (k0_off232 v808) a + S1x1x128.size a ≤ S50000x1x128.size a)
theorem k0_off232_inb : ∀ (v808 : BitVec 32) (k0_hw116 : k0_chk116 v808), ∀ a, (k0_off232 v808) a + S1x1x128.size a ≤ S50000x1x128.size a := fun v808 k0_hw116 => k0_hw116

def k0_off233 (i : grid0.Coords) : Fin 1 → Nat :=
  let arg0 : BitVec 32 := BitVec.ofNat 32 (i 0).val
  let c64_i32 : BitVec 32 := 64#32
  let v0 : BitVec 32 := Scalar.muli arg0 c64_i32
  let c52_i32_632 : BitVec 32 := 52#32
  let v813 : BitVec 32 := Scalar.addi v0 c52_i32_632
  let v814 : Index := Scalar.indexCast v813
  ![v814.toNat]
def k0_off234 (v815 : BitVec 32) : Fin 3 → Nat :=
  let c0_i32_636 : BitVec 32 := 0#32
  let c0_i32_637 : BitVec 32 := 0#32
  ![v815.toNat, 0, 0]

def k0_chk117 (v815 : BitVec 32) : Prop :=
  (∀ a, (k0_off234 v815) a + S1x1x128.size a ≤ S50000x1x128.size a)
theorem k0_off234_inb : ∀ (v815 : BitVec 32) (k0_hw117 : k0_chk117 v815), ∀ a, (k0_off234 v815) a + S1x1x128.size a ≤ S50000x1x128.size a := fun v815 k0_hw117 => k0_hw117

def k0_off235 (i : grid0.Coords) : Fin 1 → Nat :=
  let arg0 : BitVec 32 := BitVec.ofNat 32 (i 0).val
  let c64_i32 : BitVec 32 := 64#32
  let v0 : BitVec 32 := Scalar.muli arg0 c64_i32
  let c53_i32_638 : BitVec 32 := 53#32
  let v820 : BitVec 32 := Scalar.addi v0 c53_i32_638
  let v821 : Index := Scalar.indexCast v820
  ![v821.toNat]
def k0_off236 (v822 : BitVec 32) : Fin 3 → Nat :=
  let c0_i32_642 : BitVec 32 := 0#32
  let c0_i32_643 : BitVec 32 := 0#32
  ![v822.toNat, 0, 0]

def k0_chk118 (v822 : BitVec 32) : Prop :=
  (∀ a, (k0_off236 v822) a + S1x1x128.size a ≤ S50000x1x128.size a)
theorem k0_off236_inb : ∀ (v822 : BitVec 32) (k0_hw118 : k0_chk118 v822), ∀ a, (k0_off236 v822) a + S1x1x128.size a ≤ S50000x1x128.size a := fun v822 k0_hw118 => k0_hw118

def k0_off237 (i : grid0.Coords) : Fin 1 → Nat :=
  let arg0 : BitVec 32 := BitVec.ofNat 32 (i 0).val
  let c64_i32 : BitVec 32 := 64#32
  let v0 : BitVec 32 := Scalar.muli arg0 c64_i32
  let c54_i32_644 : BitVec 32 := 54#32
  let v827 : BitVec 32 := Scalar.addi v0 c54_i32_644
  let v828 : Index := Scalar.indexCast v827
  ![v828.toNat]
def k0_off238 (v829 : BitVec 32) : Fin 3 → Nat :=
  let c0_i32_648 : BitVec 32 := 0#32
  let c0_i32_649 : BitVec 32 := 0#32
  ![v829.toNat, 0, 0]

def k0_chk119 (v829 : BitVec 32) : Prop :=
  (∀ a, (k0_off238 v829) a + S1x1x128.size a ≤ S50000x1x128.size a)
theorem k0_off238_inb : ∀ (v829 : BitVec 32) (k0_hw119 : k0_chk119 v829), ∀ a, (k0_off238 v829) a + S1x1x128.size a ≤ S50000x1x128.size a := fun v829 k0_hw119 => k0_hw119

def k0_off239 (i : grid0.Coords) : Fin 1 → Nat :=
  let arg0 : BitVec 32 := BitVec.ofNat 32 (i 0).val
  let c64_i32 : BitVec 32 := 64#32
  let v0 : BitVec 32 := Scalar.muli arg0 c64_i32
  let c55_i32_650 : BitVec 32 := 55#32
  let v834 : BitVec 32 := Scalar.addi v0 c55_i32_650
  let v835 : Index := Scalar.indexCast v834
  ![v835.toNat]
def k0_off240 (v836 : BitVec 32) : Fin 3 → Nat :=
  let c0_i32_654 : BitVec 32 := 0#32
  let c0_i32_655 : BitVec 32 := 0#32
  ![v836.toNat, 0, 0]

def k0_chk120 (v836 : BitVec 32) : Prop :=
  (∀ a, (k0_off240 v836) a + S1x1x128.size a ≤ S50000x1x128.size a)
theorem k0_off240_inb : ∀ (v836 : BitVec 32) (k0_hw120 : k0_chk120 v836), ∀ a, (k0_off240 v836) a + S1x1x128.size a ≤ S50000x1x128.size a := fun v836 k0_hw120 => k0_hw120

def k0_off241 (i : grid0.Coords) : Fin 1 → Nat :=
  let arg0 : BitVec 32 := BitVec.ofNat 32 (i 0).val
  let c64_i32 : BitVec 32 := 64#32
  let v0 : BitVec 32 := Scalar.muli arg0 c64_i32
  let c56_i32_656 : BitVec 32 := 56#32
  let v841 : BitVec 32 := Scalar.addi v0 c56_i32_656
  let v842 : Index := Scalar.indexCast v841
  ![v842.toNat]
def k0_off242 (v843 : BitVec 32) : Fin 3 → Nat :=
  let c0_i32_660 : BitVec 32 := 0#32
  let c0_i32_661 : BitVec 32 := 0#32
  ![v843.toNat, 0, 0]

def k0_chk121 (v843 : BitVec 32) : Prop :=
  (∀ a, (k0_off242 v843) a + S1x1x128.size a ≤ S50000x1x128.size a)
theorem k0_off242_inb : ∀ (v843 : BitVec 32) (k0_hw121 : k0_chk121 v843), ∀ a, (k0_off242 v843) a + S1x1x128.size a ≤ S50000x1x128.size a := fun v843 k0_hw121 => k0_hw121

def k0_off243 (i : grid0.Coords) : Fin 1 → Nat :=
  let arg0 : BitVec 32 := BitVec.ofNat 32 (i 0).val
  let c64_i32 : BitVec 32 := 64#32
  let v0 : BitVec 32 := Scalar.muli arg0 c64_i32
  let c57_i32_662 : BitVec 32 := 57#32
  let v848 : BitVec 32 := Scalar.addi v0 c57_i32_662
  let v849 : Index := Scalar.indexCast v848
  ![v849.toNat]
def k0_off244 (v850 : BitVec 32) : Fin 3 → Nat :=
  let c0_i32_666 : BitVec 32 := 0#32
  let c0_i32_667 : BitVec 32 := 0#32
  ![v850.toNat, 0, 0]

def k0_chk122 (v850 : BitVec 32) : Prop :=
  (∀ a, (k0_off244 v850) a + S1x1x128.size a ≤ S50000x1x128.size a)
theorem k0_off244_inb : ∀ (v850 : BitVec 32) (k0_hw122 : k0_chk122 v850), ∀ a, (k0_off244 v850) a + S1x1x128.size a ≤ S50000x1x128.size a := fun v850 k0_hw122 => k0_hw122

def k0_off245 (i : grid0.Coords) : Fin 1 → Nat :=
  let arg0 : BitVec 32 := BitVec.ofNat 32 (i 0).val
  let c64_i32 : BitVec 32 := 64#32
  let v0 : BitVec 32 := Scalar.muli arg0 c64_i32
  let c58_i32_668 : BitVec 32 := 58#32
  let v855 : BitVec 32 := Scalar.addi v0 c58_i32_668
  let v856 : Index := Scalar.indexCast v855
  ![v856.toNat]
def k0_off246 (v857 : BitVec 32) : Fin 3 → Nat :=
  let c0_i32_672 : BitVec 32 := 0#32
  let c0_i32_673 : BitVec 32 := 0#32
  ![v857.toNat, 0, 0]

def k0_chk123 (v857 : BitVec 32) : Prop :=
  (∀ a, (k0_off246 v857) a + S1x1x128.size a ≤ S50000x1x128.size a)
theorem k0_off246_inb : ∀ (v857 : BitVec 32) (k0_hw123 : k0_chk123 v857), ∀ a, (k0_off246 v857) a + S1x1x128.size a ≤ S50000x1x128.size a := fun v857 k0_hw123 => k0_hw123

def k0_off247 (i : grid0.Coords) : Fin 1 → Nat :=
  let arg0 : BitVec 32 := BitVec.ofNat 32 (i 0).val
  let c64_i32 : BitVec 32 := 64#32
  let v0 : BitVec 32 := Scalar.muli arg0 c64_i32
  let c59_i32_674 : BitVec 32 := 59#32
  let v862 : BitVec 32 := Scalar.addi v0 c59_i32_674
  let v863 : Index := Scalar.indexCast v862
  ![v863.toNat]
def k0_off248 (v864 : BitVec 32) : Fin 3 → Nat :=
  let c0_i32_678 : BitVec 32 := 0#32
  let c0_i32_679 : BitVec 32 := 0#32
  ![v864.toNat, 0, 0]

def k0_chk124 (v864 : BitVec 32) : Prop :=
  (∀ a, (k0_off248 v864) a + S1x1x128.size a ≤ S50000x1x128.size a)
theorem k0_off248_inb : ∀ (v864 : BitVec 32) (k0_hw124 : k0_chk124 v864), ∀ a, (k0_off248 v864) a + S1x1x128.size a ≤ S50000x1x128.size a := fun v864 k0_hw124 => k0_hw124

def k0_off249 (i : grid0.Coords) : Fin 1 → Nat :=
  let arg0 : BitVec 32 := BitVec.ofNat 32 (i 0).val
  let c64_i32 : BitVec 32 := 64#32
  let v0 : BitVec 32 := Scalar.muli arg0 c64_i32
  let c60_i32_680 : BitVec 32 := 60#32
  let v869 : BitVec 32 := Scalar.addi v0 c60_i32_680
  let v870 : Index := Scalar.indexCast v869
  ![v870.toNat]
def k0_off250 (v871 : BitVec 32) : Fin 3 → Nat :=
  let c0_i32_684 : BitVec 32 := 0#32
  let c0_i32_685 : BitVec 32 := 0#32
  ![v871.toNat, 0, 0]

def k0_chk125 (v871 : BitVec 32) : Prop :=
  (∀ a, (k0_off250 v871) a + S1x1x128.size a ≤ S50000x1x128.size a)
theorem k0_off250_inb : ∀ (v871 : BitVec 32) (k0_hw125 : k0_chk125 v871), ∀ a, (k0_off250 v871) a + S1x1x128.size a ≤ S50000x1x128.size a := fun v871 k0_hw125 => k0_hw125

def k0_off251 (i : grid0.Coords) : Fin 1 → Nat :=
  let arg0 : BitVec 32 := BitVec.ofNat 32 (i 0).val
  let c64_i32 : BitVec 32 := 64#32
  let v0 : BitVec 32 := Scalar.muli arg0 c64_i32
  let c61_i32_686 : BitVec 32 := 61#32
  let v876 : BitVec 32 := Scalar.addi v0 c61_i32_686
  let v877 : Index := Scalar.indexCast v876
  ![v877.toNat]
def k0_off252 (v878 : BitVec 32) : Fin 3 → Nat :=
  let c0_i32_690 : BitVec 32 := 0#32
  let c0_i32_691 : BitVec 32 := 0#32
  ![v878.toNat, 0, 0]

def k0_chk126 (v878 : BitVec 32) : Prop :=
  (∀ a, (k0_off252 v878) a + S1x1x128.size a ≤ S50000x1x128.size a)
theorem k0_off252_inb : ∀ (v878 : BitVec 32) (k0_hw126 : k0_chk126 v878), ∀ a, (k0_off252 v878) a + S1x1x128.size a ≤ S50000x1x128.size a := fun v878 k0_hw126 => k0_hw126

def k0_off253 (i : grid0.Coords) : Fin 1 → Nat :=
  let arg0 : BitVec 32 := BitVec.ofNat 32 (i 0).val
  let c64_i32 : BitVec 32 := 64#32
  let v0 : BitVec 32 := Scalar.muli arg0 c64_i32
  let c62_i32_692 : BitVec 32 := 62#32
  let v883 : BitVec 32 := Scalar.addi v0 c62_i32_692
  let v884 : Index := Scalar.indexCast v883
  ![v884.toNat]
def k0_off254 (v885 : BitVec 32) : Fin 3 → Nat :=
  let c0_i32_696 : BitVec 32 := 0#32
  let c0_i32_697 : BitVec 32 := 0#32
  ![v885.toNat, 0, 0]

def k0_chk127 (v885 : BitVec 32) : Prop :=
  (∀ a, (k0_off254 v885) a + S1x1x128.size a ≤ S50000x1x128.size a)
theorem k0_off254_inb : ∀ (v885 : BitVec 32) (k0_hw127 : k0_chk127 v885), ∀ a, (k0_off254 v885) a + S1x1x128.size a ≤ S50000x1x128.size a := fun v885 k0_hw127 => k0_hw127

def k0_off255 (i : grid0.Coords) : Fin 1 → Nat :=
  let arg0 : BitVec 32 := BitVec.ofNat 32 (i 0).val
  let c64_i32 : BitVec 32 := 64#32
  let v0 : BitVec 32 := Scalar.muli arg0 c64_i32
  let c63_i32_698 : BitVec 32 := 63#32
  let v890 : BitVec 32 := Scalar.addi v0 c63_i32_698
  let v891 : Index := Scalar.indexCast v890
  ![v891.toNat]
def k0_off256 (v892 : BitVec 32) : Fin 3 → Nat :=
  let c0_i32_702 : BitVec 32 := 0#32
  let c0_i32_703 : BitVec 32 := 0#32
  ![v892.toNat, 0, 0]

def k0_chk128 (v892 : BitVec 32) : Prop :=
  (∀ a, (k0_off256 v892) a + S1x1x128.size a ≤ S50000x1x128.size a)
theorem k0_off256_inb : ∀ (v892 : BitVec 32) (k0_hw128 : k0_chk128 v892), ∀ a, (k0_off256 v892) a + S1x1x128.size a ≤ S50000x1x128.size a := fun v892 k0_hw128 => k0_hw128

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_17 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_18 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_19 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S32x400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x400 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S32x400 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .smem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .smem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S128x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S128x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 2 → Memref sig .tc .vmem S32x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S32x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S32x400 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S12800x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

abbrev grid2 : Pipeline.Grid := ⟨1, ![26], ![false]⟩

def k2_cond2 (i : grid2.Coords) : BitVec 1 :=
  let arg0 : BitVec 32 := BitVec.ofNat 32 (i 0).val
  let c13_i32 : BitVec 32 := 13#32
  let v3 : BitVec 1 := Scalar.cmpi .slt arg0 c13_i32
  let v4 : BitVec 32 := Scalar.extui v3
  let c0_i32_1 : BitVec 32 := 0#32
  let v5 : BitVec 1 := Scalar.cmpi .ne v4 c0_i32_1
  v5

def k2_off1 (i : grid2.Coords) : Fin 3 → Nat :=
  let arg0 : BitVec 32 := BitVec.ofNat 32 (i 0).val
  let v25 : Index := Scalar.indexCast arg0
  let c0_10 : Index := 0#32
  let c0_11 : Index := 0#32
  ![v25.toNat, 0, 0]
def k2_off2 (i : grid2.Coords) : Fin 3 → Nat :=
  let arg0 : BitVec 32 := BitVec.ofNat 32 (i 0).val
  let v30 : Index := Scalar.indexCast arg0
  let c0_12 : Index := 0#32
  let c1024 : Index := 1024#32
  ![v30.toNat, 0, 1024]
def k2_off3 (i : grid2.Coords) : Fin 3 → Nat :=
  let arg0 : BitVec 32 := BitVec.ofNat 32 (i 0).val
  let v35 : Index := Scalar.indexCast arg0
  let c0_13 : Index := 0#32
  let c2048 : Index := 2048#32
  ![v35.toNat, 0, 2048]
def k2_off4 (i : grid2.Coords) : Fin 3 → Nat :=
  let arg0 : BitVec 32 := BitVec.ofNat 32 (i 0).val
  let v40 : Index := Scalar.indexCast arg0
  let c0_14 : Index := 0#32
  let c3072 : Index := 3072#32
  ![v40.toNat, 0, 3072]
def k2_cond3 (i : grid2.Coords) : BitVec 1 :=
  let arg0 : BitVec 32 := BitVec.ofNat 32 (i 0).val
  let c13_i32_2 : BitVec 32 := 13#32
  let v6 : BitVec 1 := Scalar.cmpi .sge arg0 c13_i32_2
  let v7 : BitVec 32 := Scalar.extui v6
  let c0_i32_3 : BitVec 32 := 0#32
  let v8 : BitVec 1 := Scalar.cmpi .ne v7 c0_i32_3
  v8

def k2_off5 (i : grid2.Coords) : Fin 3 → Nat :=
  let arg0 : BitVec 32 := BitVec.ofNat 32 (i 0).val
  let c13_i32_4 : BitVec 32 := 13#32
  let v9 : BitVec 32 := Scalar.subi arg0 c13_i32_4
  let v10 : Index := Scalar.indexCast v9
  let c0 : Index := 0#32
  let c0_5 : Index := 0#32
  ![v10.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c13_i32 : BitVec 32 := 13#32
  let v0 : BitVec 1 := Scalar.cmpi .slt arg0 c13_i32
  let c13_i32_0 : BitVec 32 := 13#32
  let v1 : BitVec 32 := Scalar.subi arg0 c13_i32_0
  let v2 : BitVec 32 := Scalar.select v0 arg0 v1
  let c0_i32 : BitVec 32 := 0#32
  let c0_i32_1 : BitVec 32 := 0#32
  ![v2.toNat, c0_i32.toNat]

def cc2_transform_2 (i : grid2.Coords) : Fin 2 → Nat :=
  let arg0 : BitVec 32 := BitVec.ofNat 32 (i 0).val
  let c13_i32 : BitVec 32 := 13#32
  let v0 : BitVec 1 := Scalar.cmpi .slt arg0 c13_i32
  let c13_i32_0 : BitVec 32 := 13#32
  let v1 : BitVec 32 := Scalar.subi arg0 c13_i32_0
  let v2 : BitVec 32 := Scalar.select v0 arg0 v1
  let c0_i32 : BitVec 32 := 0#32
  let c0_i32_1 : BitVec 32 := 0#32
  ![c0_i32.toNat, v2.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c13_i32 : BitVec 32 := 13#32
  let v0 : BitVec 1 := Scalar.cmpi .slt arg0 c13_i32
  let c13_i32_0 : BitVec 32 := 13#32
  let v1 : BitVec 32 := Scalar.subi arg0 c13_i32_0
  let c0_i32 : BitVec 32 := 0#32
  let v2 : BitVec 32 := Scalar.select v0 c0_i32 v1
  let c0_i32_1 : BitVec 32 := 0#32
  let c0_i32_2 : BitVec 32 := 0#32
  ![c0_i32_1.toNat, v2.toNat]

def cc2_transform_5 (i : grid2.Coords) : Fin 2 → Nat :=
  let arg0 : BitVec 32 := BitVec.ofNat 32 (i 0).val
  let c13_i32 : BitVec 32 := 13#32
  let v0 : BitVec 1 := Scalar.cmpi .slt arg0 c13_i32
  let c13_i32_0 : BitVec 32 := 13#32
  let v1 : BitVec 32 := Scalar.subi arg0 c13_i32_0
  let c0_i32 : BitVec 32 := 0#32
  let v2 : BitVec 32 := Scalar.select v0 c0_i32 v1
  let c0_i32_1 : BitVec 32 := 0#32
  let c0_i32_2 : BitVec 32 := 0#32
  ![c0_i32_1.toNat, v2.toNat]

def cc2_transform_6 (i : grid2.Coords) : Fin 2 → Nat :=
  let arg0 : BitVec 32 := BitVec.ofNat 32 (i 0).val
  let c13_i32 : BitVec 32 := 13#32
  let v0 : BitVec 1 := Scalar.cmpi .slt arg0 c13_i32
  let c13_i32_0 : BitVec 32 := 13#32
  let v1 : BitVec 32 := Scalar.subi arg0 c13_i32_0
  let c0_i32 : BitVec 32 := 0#32
  let v2 : BitVec 32 := Scalar.select v0 c0_i32 v1
  let c0_i32_1 : BitVec 32 := 0#32
  let c0_i32_2 : BitVec 32 := 0#32
  ![c0_i32_1.toNat, v2.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "init" => some ⊥
  | "mask" => some ⊥
  | _ => none
-- ==== ReferenceIdeal.lean ====
abbrev S128x1 : Shape := ⟨2, ![128, 1]⟩
abbrev S128x256 : Shape := ⟨2, ![128, 256]⟩
abbrev S128x400x256 : Shape := ⟨3, ![128, 400, 256]⟩
abbrev S128x400 : Shape := ⟨2, ![128, 400]⟩
abbrev S50000x128 : Shape := ⟨2, ![50000, 128]⟩
abbrev S768x128 : Shape := ⟨2, ![768, 128]⟩
abbrev S768x256 : Shape := ⟨2, ![768, 256]⟩
abbrev S768 : Shape := ⟨1, ![768]⟩
abbrev S256 : Shape := ⟨1, ![256]⟩
abbrev S1 : Shape := ⟨1, ![1]⟩
abbrev S1x640 : Shape := ⟨2, ![1, 640]⟩
abbrev S128x512 : Shape := ⟨2, ![128, 512]⟩
abbrev S128 : Shape := ⟨1, ![128]⟩
abbrev S50000 : Shape := ⟨1, ![50000]⟩
abbrev S_ : Shape := ⟨0, ![]⟩
abbrev S128x128 : Shape := ⟨2, ![128, 128]⟩
abbrev S128x768 : Shape := ⟨2, ![128, 768]⟩
abbrev S1x768 : Shape := ⟨2, ![1, 768]⟩
abbrev S256x768 : Shape := ⟨2, ![256, 768]⟩
abbrev S1x1x256 : Shape := ⟨3, ![1, 1, 256]⟩
abbrev S128x1x256 : Shape := ⟨3, ![128, 1, 256]⟩
abbrev S1x1x1 : Shape := ⟨3, ![1, 1, 1]⟩
abbrev S512x128 : Shape := ⟨2, ![512, 128]⟩
abbrev S1x128 : Shape := ⟨2, ![1, 128]⟩
abbrev S128x50000 : Shape := ⟨2, ![128, 50000]⟩
abbrev S1x50000 : Shape := ⟨2, ![1, 50000]⟩
abbrev S128x640 : Shape := ⟨2, ![128, 640]⟩
abbrev S640x1 : Shape := ⟨2, ![640, 1]⟩
abbrev S1x1 : Shape := ⟨2, ![1, 1]⟩
abbrev S128x50250 : Shape := ⟨2, ![128, 50250]⟩
abbrev S128x400x1 : Shape := ⟨3, ![128, 400, 1]⟩
abbrev S128x400x2 : Shape := ⟨3, ![128, 400, 2]⟩
abbrev S128x250 : Shape := ⟨2, ![128, 250]⟩

abbrev nBuf : Space → Nat
  | .hbm => 174
  | .vmem => 0
  | .smem => 0
  | _ => 0

abbrev hbmTy0_0 (i : Nat) : BufTy := match i % 128 with
  | 0 => ⟨S128x1, .i32⟩
  | 1 => ⟨S128x256, .f32⟩
  | 2 => ⟨S128x400x256, .f32⟩
  | 3 => ⟨S128x400, .i32⟩
  | 4 => ⟨S50000x128, .f32⟩
  | 5 => ⟨S768x128, .f32⟩
  | 6 => ⟨S768x256, .f32⟩
  | 7 => ⟨S768, .f32⟩
  | 8 => ⟨S768, .f32⟩
  | 9 => ⟨S256, .f32⟩
  | 10 => ⟨S256, .f32⟩
  | 11 => ⟨S1, .f32⟩
  | 12 => ⟨S256, .f32⟩
  | 13 => ⟨S1x640, .f32⟩
  | 14 => ⟨S1, .f32⟩
  | 15 => ⟨S128x512, .f32⟩
  | 16 => ⟨S128, .f32⟩
  | 17 => ⟨S50000x128, .f32⟩
  | 18 => ⟨S50000, .f32⟩
  | 19 => ⟨S128, .i32⟩
  | 20 => ⟨S_, .i32⟩
  | 21 => ⟨S128, .i32⟩
  | 22 => ⟨S128, .i1⟩
  | 23 => ⟨S_, .i32⟩
  | 24 => ⟨S128, .i32⟩
  | 25 => ⟨S128, .i32⟩
  | 26 => ⟨S128, .i32⟩
  | 27 => ⟨S128x1, .i32⟩
  | 28 => ⟨S128x128, .f32⟩
  | 29 => ⟨S128x768, .f32⟩
  | 30 => ⟨S128x768, .f32⟩
  | 31 => ⟨S1x768, .f32⟩
  | 32 => ⟨S128x768, .f32⟩
  | 33 => ⟨S128x768, .f32⟩
  | 34 => ⟨S256x768, .f32⟩
  | 35 => ⟨S128x768, .f32⟩
  | 36 => ⟨S1x768, .f32⟩
  | 37 => ⟨S128x768, .f32⟩
  | 38 => ⟨S128x768, .f32⟩
  | 39 => ⟨S128x256, .f32⟩
  | 40 => ⟨S128x256, .f32⟩
  | 41 => ⟨S128x256, .f32⟩
  | 42 => ⟨S128x256, .f32⟩
  | 43 => ⟨S128x256, .f32⟩
  | 44 => ⟨S128x256, .f32⟩
  | 45 => ⟨S128x256, .f32⟩
  | 46 => ⟨S128x256, .f32⟩
  | 47 => ⟨S128x256, .f32⟩
  | 48 => ⟨S_, .f32⟩
  | 49 => ⟨S128x256, .f32⟩
  | 50 => ⟨S128x256, .f32⟩
  | 51 => ⟨S_, .f32⟩
  | 52 => ⟨S128x256, .f32⟩
  | 53 => ⟨S128x256, .f32⟩
  | 54 => ⟨S128x256, .f32⟩
  | 55 => ⟨S128x256, .f32⟩
  | 56 => ⟨S128x256, .f32⟩
  | 57 => ⟨S_, .f32⟩
  | 58 => ⟨S128x256, .f32⟩
  | 59 => ⟨S128x256, .f32⟩
  | 60 => ⟨S_, .f32⟩
  | 61 => ⟨S128x256, .f32⟩
  | 62 => ⟨S128x256, .f32⟩
  | 63 => ⟨S128x256, .f32⟩
  | 64 => ⟨S128x256, .f32⟩
  | 65 => ⟨S128x256, .f32⟩
  | 66 => ⟨S_, .f32⟩
  | 67 => ⟨S128x256, .f32⟩
  | 68 => ⟨S128x256, .f32⟩
  | 69 => ⟨S128x256, .f32⟩
  | 70 => ⟨S128x256, .f32⟩
  | 71 => ⟨S128x256, .f32⟩
  | 72 => ⟨S1x1x256, .f32⟩
  | 73 => ⟨S128x400x256, .f32⟩
  | 74 => ⟨S128x400x256, .f32⟩
  | 75 => ⟨S128x1x256, .f32⟩
  | 76 => ⟨S1x1x256, .f32⟩
  | 77 => ⟨S128x1x256, .f32⟩
  | 78 => ⟨S128x1x256, .f32⟩
  | 79 => ⟨S128x400x256, .f32⟩
  | 80 => ⟨S128x400x256, .f32⟩
  | 81 => ⟨S1x1x1, .f32⟩
  | 82 => ⟨S128x400x256, .f32⟩
  | 83 => ⟨S128x400x256, .f32⟩
  | 84 => ⟨S128x400x256, .f32⟩
  | 85 => ⟨S128x400, .f32⟩
  | 86 => ⟨S_, .f32⟩
  | 87 => ⟨S128, .f32⟩
  | 88 => ⟨S128x1, .f32⟩
  | 89 => ⟨S128x400, .f32⟩
  | 90 => ⟨S128x400, .f32⟩
  | 91 => ⟨S128x400, .f32⟩
  | 92 => ⟨S_, .f32⟩
  | 93 => ⟨S128, .f32⟩
  | 94 => ⟨S128x1, .f32⟩
  | 95 => ⟨S_, .f32⟩
  | 96 => ⟨S128x1, .f32⟩
  | 97 => ⟨S128x1, .f32⟩
  | 98 => ⟨S128x400, .f32⟩
  | 99 => ⟨S128x400, .f32⟩
  | 100 => ⟨S128x256, .f32⟩
  | 101 => ⟨S128x512, .f32⟩
  | 102 => ⟨S512x128, .f32⟩
  | 103 => ⟨S128x128, .f32⟩
  | 104 => ⟨S1x128, .f32⟩
  | 105 => ⟨S128x128, .f32⟩
  | 106 => ⟨S128x128, .f32⟩
  | 107 => ⟨S128x50000, .f32⟩
  | 108 => ⟨S128x50000, .f32⟩
  | 109 => ⟨S1x50000, .f32⟩
  | 110 => ⟨S128x50000, .f32⟩
  | 111 => ⟨S128x50000, .f32⟩
  | 112 => ⟨S_, .f32⟩
  | 113 => ⟨S128, .f32⟩
  | 114 => ⟨S128x1, .f32⟩
  | 115 => ⟨S128x50000, .f32⟩
  | 116 => ⟨S128x50000, .f32⟩
  | 117 => ⟨S128x50000, .f32⟩
  | 118 => ⟨S_, .f32⟩
  | 119 => ⟨S128, .f32⟩
  | 120 => ⟨S128x1, .f32⟩
  | 121 => ⟨S_, .f32⟩
  | 122 => ⟨S128x1, .f32⟩
  | 123 => ⟨S128x1, .f32⟩
  | 124 => ⟨S128x50000, .f32⟩
  | 125 => ⟨S128x50000, .f32⟩
  | 126 => ⟨S128x640, .f32⟩
  | 127 => ⟨S640x1, .f32⟩
  | _ => ⟨S128x1, .i32⟩

abbrev hbmTy0_1 (i : Nat) : BufTy := match i % 128 with
  | 0 => ⟨S128x1, .f32⟩
  | 1 => ⟨S1x1, .f32⟩
  | 2 => ⟨S128x1, .f32⟩
  | 3 => ⟨S128x1, .f32⟩
  | 4 => ⟨S128x1, .f32⟩
  | 5 => ⟨S128x1, .f32⟩
  | 6 => ⟨S_, .f32⟩
  | 7 => ⟨S128x1, .f32⟩
  | 8 => ⟨S128x1, .f32⟩
  | 9 => ⟨S_, .f32⟩
  | 10 => ⟨S128x1, .f32⟩
  | 11 => ⟨S128x1, .f32⟩
  | 12 => ⟨S128, .i32⟩
  | 13 => ⟨S128x1, .i32⟩
  | 14 => ⟨S_, .f32⟩
  | 15 => ⟨S128x50250, .f32⟩
  | 16 => ⟨S_, .i32⟩
  | 17 => ⟨S128x1, .i32⟩
  | 18 => ⟨S128x1, .i1⟩
  | 19 => ⟨S_, .i32⟩
  | 20 => ⟨S128x1, .i32⟩
  | 21 => ⟨S128x1, .i32⟩
  | 22 => ⟨S128x1, .i32⟩
  | 23 => ⟨S_, .i32⟩
  | 24 => ⟨S128x400, .i32⟩
  | 25 => ⟨S128x400, .i1⟩
  | 26 => ⟨S_, .i32⟩
  | 27 => ⟨S128x400, .i32⟩
  | 28 => ⟨S128x400, .i32⟩
  | 29 => ⟨S128x400, .i32⟩
  | 30 => ⟨S128x400, .i32⟩
  | 31 => ⟨S128x400x1, .i32⟩
  | 32 => ⟨S128x400x1, .i32⟩
  | 33 => ⟨S128x400x2, .i32⟩
  | 34 => ⟨S128x50250, .f32⟩
  | 35 => ⟨S128x50000, .f32⟩
  | 36 => ⟨S128x50000, .f32⟩
  | 37 => ⟨S_, .f32⟩
  | 38 => ⟨S128x250, .f32⟩
  | 39 => ⟨S128x50250, .f32⟩
  | 40 => ⟨S_, .f32⟩
  | 41 => ⟨S128x1, .f32⟩
  | 42 => ⟨S128x1, .f32⟩
  | 43 => ⟨S128x50250, .f32⟩
  | 44 => ⟨S128x50250, .f32⟩
  | 45 => ⟨S128x50250, .f32⟩
  | _ => ⟨S128x1, .i32⟩

abbrev hbmTy (i : Nat) : BufTy := match i / 128 with
  | 0 => hbmTy0_0 i
  | 1 => hbmTy0_1 i
  | _ => ⟨S128x1, .i32⟩

abbrev bufTy : (tb : Table) → Fin (tcTables nBuf tb) → BufTy
  | .hbm, ⟨i, _⟩ => hbmTy i
  | _, _ => ⟨S128x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_6 : Ref sig .tc := ⟨.hbm, 92, rfl⟩
abbrev main_v65 : Ref sig .tc := ⟨.hbm, 93, rfl⟩
abbrev main_v66 : Ref sig .tc := ⟨.hbm, 94, rfl⟩
abbrev main_cst_7 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_8 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_9 : Ref sig .tc := ⟨.hbm, 118, rfl⟩
abbrev main_v88 : Ref sig .tc := ⟨.hbm, 119, rfl⟩
abbrev main_v89 : Ref sig .tc := ⟨.hbm, 120, rfl⟩
abbrev main_cst_10 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_11 : Ref sig .tc := ⟨.hbm, 134, rfl⟩
abbrev main_v102 : Ref sig .tc := ⟨.hbm, 135, rfl⟩
abbrev main_v103 : Ref sig .tc := ⟨.hbm, 136, rfl⟩
abbrev main_cst_12 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_13 : Ref sig .tc := ⟨.hbm, 142, rfl⟩
abbrev main_v108 : Ref sig .tc := ⟨.hbm, 143, rfl⟩
abbrev main_c_14 : Ref sig .tc := ⟨.hbm, 144, rfl⟩
abbrev main_v109 : Ref sig .tc := ⟨.hbm, 145, rfl⟩
abbrev main_v110 : Ref sig .tc := ⟨.hbm, 146, rfl⟩
abbrev main_c_15 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_16 : Ref sig .tc := ⟨.hbm, 151, rfl⟩
abbrev main_v114 : Ref sig .tc := ⟨.hbm, 152, rfl⟩
abbrev main_v115 : Ref sig .tc := ⟨.hbm, 153, rfl⟩
abbrev main_c_17 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_18 : Ref sig .tc := ⟨.hbm, 165, rfl⟩
abbrev main_v126 : Ref sig .tc := ⟨.hbm, 166, rfl⟩
abbrev main_v127 : Ref sig .tc := ⟨.hbm, 167, rfl⟩
abbrev main_cst_19 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩

abbrev nD : Nat := 1
abbrev τ : Topo := Topo.v7x

variable {F : FTy → Type} [FloatOps F]
-- ==== Proof.AttnStep.lean ====
module

public import proofs.«01_k».proof.Proof.AttnRow
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp
public import Idealize.ShloMosaic.Lib.VecWindow
public import Idealize.ShloMosaic.Lib.ViewIndex
public import Idealize.ShloMosaic.Lib.ValueIdxCore
public import Idealize.ShloMosaic.Lib.SparseCore.Stream

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

open Idealize.ShloMosaic.ValueIdx

variable {F : FTy → Type} [FloatOps F]

local notation "𝕄" => MT nD τ sig Unit (Elt F) ℕ (UR sig nD τ × Counters) ℕ

set_option maxHeartbeats 0 in
theorem run_A (c : Dev nD) (i : grid1.Coords) (arg2 : Memref sig .tc .vmem S32x400x256 .f32) (harg2 : arg2.IsWhole) (arg3 : Memref sig .tc .vmem S32x256 .f32) (harg3 : arg3.IsWhole) (arg4 : Memref sig .tc .vmem S32x128 .f32) (harg4 : arg4.IsWhole) (arg5 : Memref sig .tc .vmem S32x400 .i32) (harg5 : arg5.IsWhole) (arg6 : Memref sig .tc .vmem S32x400 .i32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1 .f32) (harg9 : arg9.IsWhole) (arg10 : Memref sig .tc .smem S1x1 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128 .f32) (harg13 : arg13.IsWhole) (arg14 : Memref sig .tc .smem S1x1 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S1x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x400 .f32) (harg20 : arg20.IsWhole) (arg21 : Memref sig .tc .vmem S12800x128 .f32) (harg21 : arg21.IsWhole) (arg22 : Memref sig .tc .vmem S400x32 .f32) (harg22 : arg22.IsWhole) (arg23 : Memref sig .tc .vmem S32x256 .f32) (harg23 : arg23.IsWhole)
    (x2 : S32x400x256.Idx → F .f32) (x3 : S32x256.Idx → F .f32) (x4 : S32x128.Idx → F .f32) (x5 : S32x400.Idx → BitVec 32) (x6 : S32x400.Idx → BitVec 32) (x7 : S1x256.Idx → F .f32) (x8 : S1x256.Idx → F .f32) (x9 : S256x1.Idx → F .f32) (x10 : S1x1.Idx → F .f32) (x11 : S1x256.Idx → F .f32) (x12 : S1x256.Idx → F .f32) (x13 : S1x128.Idx → F .f32) (x14 : S1x1.Idx → F .f32) (x15 : S128x256.Idx → F .f32) (x16 : S128x256.Idx → F .f32) (x17 : S1x128.Idx → F .f32) :
    ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (k1_pay89 (k1_pay2 x3) (ctxA x2 (scTA x2 x3 x7 x8 x9 x10)) x15 x16 x17) ∗ owns (c : Thread nD τ) arg19 fullShare (k1_pay90 (k1_pay2 x3) (ctxA x2 (scTA x2 x3 x7 x8 x9 x10)) x11 x12 x4 x13 (at0 x14)) ∗ owns (c : Thread nD τ) arg20 fullShare (k1_pay46 (scTA x2 x3 x7 x8 x9 x10)) ∗ owns (c : Thread nD τ) arg21 fullShare (tidA x5 x6 (scTA x2 x3 x7 x8 x9 x10)) ∗ (∃ d, owns (c : Thread nD τ) arg22 fullShare d) ∗ (∃ d, owns (c : Thread nD τ) arg23 fullShare d)) -∗ K ⟨⟩))
      ⊢ wp frame (wpE (defs₀ (F := F)) Variants.none c none) E (cc1_attn_pgen i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  simp only [cc1_attn_pgen_eq_skeleton]
  unfold cc1_attn_pgen_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  sl_exec
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _; isplitr; swap; · iexact H13
    ipureintro; exact hf13
  isplitl [H14]
  · iexists _; isplitr; swap; · iexact H14
    ipureintro; exact hf14
  isplitl [H15]
  · iexists _; isplitr; swap; · iexact H15
    ipureintro; exact hf15
  isplitl [H16]
  · iexists _; isplitr; swap; · iexact H16
    ipureintro; exact hf16
  isplitl [H17]
  · iexists _; isplitr; swap; · iexact H17
    ipureintro; exact hf17
  have R3 : View.readAt (Elt F) arg3.view (Rect.unit (s := S32x256) ![0, 0] S32x256.size inb_S32x256_S32x256_0_0).toLoadRect f3 = x3 := (View.readAt_full _ _ _).trans hf3
  have R8 : View.readAt (Elt F) arg8.view (Rect.unit (s := S1x256) ![0, 0] S1x256.size inb_S1x256_S1x256_0_0).toLoadRect f8 = x8 := (View.readAt_full _ _ _).trans hf8
  have r1 : run_A.sl.r_1 c arg3 f3 = k1_pay2 x3 := by unfold run_A.sl.r_1; rw [R3]
  have r10 : run_A.sl.r c arg10 f10 = at0 x10 := by
    unfold run_A.sl.r at0
    rw [View.readAt_full, hf10]
    exact congrArg x10 (first0 _)
  have r14 : run_A.sl.r_26 c arg14 f14 = at0 x14 := by
    unfold run_A.sl.r_26 at0
    rw [View.readAt_full, hf14]
    exact congrArg x14 (first0 _)
  have r2 : run_A.sl.r_2 c arg3 arg8 arg10 f3 f8 f10 = k1_pay3 x3 x8 (at0 x10) := by unfold run_A.sl.r_2; rw [R3, R8, r10]
  have r3 : run_A.sl.r_3 c arg7 f7 = k1_pay4 x7 := by unfold run_A.sl.r_3; rw [View.readAt_full, hf7]
  have r4 : run_A.sl.r_4 c arg9 f9 = k1_pay5 x9 := by unfold run_A.sl.r_4; rw [View.readAt_full, hf9]
  have hE := fun n => enc_read arg2.view f2 x2 hf2 n
  have hv : run_A.sl.v397 c arg2 arg3 arg7 arg8 arg9 arg10 arg22 f2 f3 f7 f8 f9 f10 = scTA x2 x3 x7 x8 x9 x10 := by
    unfold run_A.sl.v397 run_A.sl.H22_32 View.readCov
    rw [View.readAt_full]
    refine (read_cols arg22.view _ (fun n => scCol (run_A.sl.r_2 c arg3 arg8 arg10 f3 f8 f10) (run_A.sl.r_3 c arg7 f7) (run_A.sl.r_4 c arg9 f9) (View.readAt (Elt F) arg2.view (Rect.unit (s := S32x400x256) ![n.val, 0, 0] S1x400x256.size (inbE n)).toLoadRect f2) n)).trans ?_
    unfold scTA
    rw [r2, r3, r4]
    funext y
    exact congrArg (fun e => scCol _ _ _ e (y 1) (ix2 (y 0) 0)) (hE (y 1))
  have hw : run_A.sl.v732 c arg2 arg3 arg7 arg8 arg9 arg10 arg22 arg23 f2 f3 f7 f8 f9 f10 = ctxA x2 (scTA x2 x3 x7 x8 x9 x10) := by
    unfold run_A.sl.v732 run_A.sl.H23_32 View.readCov
    rw [View.readAt_full]
    refine (read_rows arg23.view _ (fun n => ctxRow (run_A.sl.r_14 c arg2 arg3 arg7 arg8 arg9 arg10 arg22 f2 f3 f7 f8 f9 f10) (View.readAt (Elt F) arg2.view (Rect.unit (s := S32x400x256) ![n.val, 0, 0] S1x400x256.size (inbE n)).toLoadRect f2) n)).trans ?_
    unfold ctxA
    unfold run_A.sl.r_14
    rw [hv]
    funext y
    exact congrArg (fun e => ctxRow _ e (y 0) (ix2 0 (y 1))) (hE (y 0))
  isplitl [H18]
  · iexists _; isplitr; swap; · iexact H18
    ipureintro
    rw [View.read_writes_full, r1, hw, View.readAt_full, View.readAt_full, View.readAt_full, hf15, hf16, hf17]
  isplitl [H19]
  · iexists _; isplitr; swap; · iexact H19
    ipureintro
    rw [View.read_writes_full]
    unfold run_A.sl.r_27
    rw [r1, hw, r14, View.readAt_full, View.readAt_full, View.readAt_full, View.readAt_full, hf11, hf12, hf4, hf13]
  isplitl [H20]
  · iexists _; isplitr; swap; · iexact H20
    ipureintro
    rw [View.read_writes_full, hv]
  isplitl [H21]
  · iexists _; isplitr; swap; · iexact H21
    ipureintro
    refine (read_blocks arg21.view _ (fun n => tidBlk (run_A.sl.r_14 c arg2 arg3 arg7 arg8 arg9 arg10 arg22 f2 f3 f7 f8 f9 f10) (run_A.sl.r_28 c arg5 f5) (run_A.sl.r_29 c arg6 f6) n)).trans ?_
    unfold tidA run_A.sl.r_14 run_A.sl.r_28 run_A.sl.r_29
    rw [hv, View.readAt_full, View.readAt_full, hf5, hf6]
  isplitl [H22]
  · iexists _; iexists _; isplitr; swap; · iexact H22
    ipureintro; rfl
  iexists _; iexists _; isplitr; swap; · iexact H23
  ipureintro; rfl

end Cert.Kernel
-- ==== Proof.Compose.lean ====
module

public import Idealize.ShloMosaic.Lib.Pipeline.RegionArraysF
public import Idealize.ShloMosaic.Lib.Pipeline.ArrRel

@[expose] public section

noncomputable section

namespace Cert.Compose

open Idealize.ShloMosaic Idealize.ShloMosaic.Pipeline
open Idealize.SL
open Idealize.SL.BI (sProp bigSep bigSep_congr bigSep_map)
open scoped Idealize.SL.BI
open Idealize.SL.BI.BIBase Idealize.SL.BI.Laws Idealize.SL.Sem Idealize.SL.ProofMode
open Idealize.SL.RA
open TcCoe
open PCS
open Idealize.ShloMosaic.Rounds

/-! A kernel call inside a larger program, stated relationally: entered with every unscoped buffer at a known valuation, left with some
contents of its windows' arrays that the relational data allows and every other unscoped buffer as before. -/

variable {nD : Nat} {τ : Topo} {sig : RefSig} {Val : EltTy → Type} {U : Type} [URA U]
local notation "𝕄" => MT nD τ sig Unit Val ℕ U ℕ

variable {Λ₀ : Idealize.SL.Sem.Labels} {P : Type} [Fintype P]
variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ) (p : P)

/-- Contents for every window's array of call `p`. -/
abbrev Arrs (c : Dev nD) : Type := (w : Fin (pin pcs a p).W) → Buf Val (((pin pcs a p).win w).arr.view.loc (c.tc : Thread nD τ))

/-- The call's arrays at contents `G` are those buffers held at any valuation that has them at `G`. -/
theorem arrays_held [∀ e, Nonempty (Val e)] (kit : PLaunchFacts (nD := nD) (τ := τ) pcs p) (c : Dev nD) (hshare : ∀ w, (rdats p c).share w = fullShare)
    (G : Arrs (nD := nD) (τ := τ) pcs a p c) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc :=
  Pipeline.arrays_held pcs a (fun q c => { A := (rdats q c).A, after := Dat.unnamed (cfg := pin pcs a q) , Φ := (rdats q c).Φ, q := (rdats q c).q, owed := (rdats q c).owed }) p kit c
    hshare G Wc hG

/-- The arrays after the call, at some contents the data allows. -/
theorem arraysAt_out [∀ e, Nonempty (Val e)] (c : Dev nD) (n : ℕ) : ((rdats p c).arraysAt n : sProp 𝕄) ⊢ iprop(∃ A : Arrs (nD := nD) (τ := τ) pcs a p c, ⌜∀ w, (rdats p c).ArrAt w n (A w)⌝ ∗ (rdats p c).arrays A) := by
  unfold RDat.arraysAt RDat.arrays
  refine (BI.bigSep_exists_pi Finset.univ _).trans ?_
  iintro ⟨%A, H⟩
  ihave H' := (BI.bigSep_pure_sep Finset.univ (fun w => (rdats p c).ArrAt w n (A w)) _) $$ H
  icases H' with ⟨%hA, H⟩
  iexists A
  isplitr
  · ipureintro; exact fun w => hA w (Finset.mem_univ w)
  iexact H

/-- What rides along beside the buffers: the generator register and the core owing nothing. -/
def side (c : Dev nD) : sProp 𝕄 := iprop((∃ r, prngReg c r) ∗ ∃ Wd, owes (c : Thread nD τ) (0 : CellTallies nD τ sig Unit) Wd)

/-- Every unscoped buffer but the call's arrays. -/
abbrev others : Finset (DevRef τ sig) := ucRefs τ sig \ arrRefs (pcs p).spec

/-- The call as a segment: `H` are the buffers outside its windows that the body reads. -/
def region [∀ e, Nonempty (Val e)] {K : Type} [Fintype K] (osem : K → SemLoc sig) (ho : OwnSemFacts (pcs p).spec osem)
    (H : Finset (Ref sig .tc)) (hA : arrRefs (τ := τ) (pcs p).spec ⊆ ucRefs τ sig) (hH : hbmRefs (τ := τ) H ⊆ others (τ := τ) pcs p)
    (kit : PLaunchFacts (nD := nD) (τ := τ) pcs p) (hK : (pcs p).pre.K = 0)
    (hbody : ∀ c, (rdats p c).BodyObligation defs₀ 𝒱₀ () Set.univ)
    (howed : ∀ c t, (rdats p c).owed t = 0) (hrec : ∀ c, (rdats p c).recorded 0 = Set.univ)
    (hshare : ∀ c w, (rdats p c).share w = fullShare)
    (W : Dev nD → Valuation τ sig Val) (W' : (c : Dev nD) → Arrs (nD := nD) (τ := τ) pcs a p c → Valuation τ sig Val)
    (hW : ∀ c w, (rdats p c).A w = W c (Proc.devRef .tc (arrRef (pin pcs a p).spec w)))
    (hW' : ∀ c A, (∀ w, (rdats p c).ArrAt w (pin pcs a p).N (A w)) → ∀ w, A w = W' c A (Proc.devRef .tc (arrRef (pin pcs a p).spec w)))
    (hoff : ∀ c A, ∀ b ∈ others (τ := τ) pcs p, W' c A b = W c b)
    (hin : ∀ c : Dev nD, iprop(scopedRest (pin pcs a p).spec c ∗ (∃ r, prngReg c r) ∗ ownSems0 osem c
        ∗ (bigSep H fun b => ((c.tc : Thread nD τ).loc b) ↦{fullShare} W c (Proc.devRef .tc b))) ⊢ (rdats p c).Φ 0)
    (hout : ∀ c : Dev nD, (rdats p c).Φ (Fin.last (pin pcs a p).N) ⊢ iprop(scopedRest (pin pcs a p).spec c ∗ (∃ r, prngReg c r) ∗ ownSems0 osem c
        ∗ (bigSep H fun b => ((c.tc : Thread nD τ).loc b) ↦{fullShare} W c (Proc.devRef .tc b)))) :
    RDat.RegionSeg pcs a rdats () defs₀ 𝒱₀ L lv p where
  win := kit.to₀.win
  block_pos := kit.to₀.block_pos
  stage_whole := kit.to₀.stage_whole
  K := K
  osem := osem
  ho := ho
  hbody := hbody
  hwaits c := RDat.hwaits_of_owed_zero pcs a rdats () L lv p howed c
  pre c := iprop(StableHlo.held (c.tc : Thread nD τ) (ucRefs τ sig) (W c) ∗ side c)
  post c := iprop(∃ A : Arrs (nD := nD) (τ := τ) pcs a p c, ⌜∀ w, (rdats p c).ArrAt w (pin pcs a p).N (A w)⌝
    ∗ StableHlo.held (c.tc : Thread nD τ) (ucRefs τ sig) (W' c A) ∗ side c)
  X c := iprop((∃ r, prngReg c r) ∗ ownSems0 osem c ∗ (bigSep H fun b => ((c.tc : Thread nD τ).loc b) ↦{fullShare} W c (Proc.devRef .tc b)))
  Y c := iprop((∃ r, prngReg c r) ∗ (bigSep H fun b => ((c.tc : Thread nD τ).loc b) ↦{fullShare} W c (Proc.devRef .tc b)))
  Z c := StableHlo.held (c.tc : Thread nD τ) (others (τ := τ) pcs p \ hbmRefs H) (W c)
  hentry c := by
    show _ ⊢ |={Set.univ}=> iprop((rdats p c).arrays (rdats p c).A ∗ prefHeld (pcs p).pre c (fun _ => fullShare) (a p).1
        ∗ (rdats p c).owesAt () 0 ∗ _ ∗ _)
    rw [prefHeld_of_none _ hK, arrays_held pcs a rdats p kit c (hshare c) ((rdats p c).A) (W c) (hW c),
      StableHlo.held_sub_split (c.tc : Thread nD τ) hA (W c), StableHlo.held_sub_split (c.tc : Thread nD τ) hH (W c), held_hbm]
    unfold side
    iintro ⟨⟨⟨Ha, HH, Hr⟩, Hp, HO⟩, Hos, -⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitl [Hp Hos HH]
    · isplitl [Hp]; · iexact Hp
      isplitl [Hos]; · iexact Hos
      iexact HH
    iexact Hr
  hin c := (show _ ⊢ iprop(scopedRest (pin pcs a p).spec c ∗ (∃ r, prngReg c r) ∗ ownSems0 osem c
        ∗ (bigSep H fun b => ((c.tc : Thread nD τ).loc b) ↦{fullShare} W c (Proc.devRef .tc b))) from by
    iintro ⟨⟨Hp, Hos, HH⟩, -, Hr⟩
    isplitl [Hr]; · iexact Hr
    isplitl [Hp]; · iexact Hp
    isplitl [Hos]; · iexact Hos
    iexact HH).trans (hin c)
  hout c := (hout c).trans (by
    iintro ⟨Hr, Hp, Hos, HH⟩
    isplitl [Hp HH]
    · isplitl [Hp]; · iexact Hp
      iexact HH
    isplitl [Hos]; · iexact Hos
    iexact Hr)
  hexit c := by
    iintro ⟨Ha, HO, ⟨Hp, HH⟩, Hr⟩
    ihave Ha := (arraysAt_out pcs a rdats p c (pin pcs a p).N) $$ Ha
    icases Ha with ⟨%A, %hA', Ha⟩
    imodintro
    iexists A
    isplitr; · ipureintro; exact hA'
    have e1 : ((rdats p c).arrays A : sProp 𝕄) = StableHlo.held (c.tc : Thread nD τ) (arrRefs (pcs p).spec) (W' c A) :=
      arrays_held pcs a rdats p kit c (hshare c) A (W' c A) (hW' c A hA')
    have e2 : (StableHlo.held (c.tc : Thread nD τ) (ucRefs τ sig) (W' c A) : sProp 𝕄)
        = iprop((rdats p c).arrays A ∗ (bigSep H fun b => ((c.tc : Thread nD τ).loc b) ↦{fullShare} W c (Proc.devRef .tc b))
          ∗ StableHlo.held (c.tc : Thread nD τ) (others (τ := τ) pcs p \ hbmRefs H) (W c)) := by
      rw [StableHlo.held_sub_split (c.tc : Thread nD τ) hA (W' c A), StableHlo.held_congr (c.tc : Thread nD τ) (S := ucRefs τ sig \ arrRefs (pcs p).spec) (hoff c A), e1,
        StableHlo.held_sub_split (c.tc : Thread nD τ) hH (W c), held_hbm]
    unfold side
    isplitl [Ha HH Hr]
    · have e3 := Entails.of_eq e2.symm
      iapply e3
      isplitl [Ha]; · iexact Ha
      isplitl [HH]; · iexact HH
      iexact Hr
    isplitl [Hp]; · iexact Hp
    unfold RDat.owesAt owesWithin
    rw [howed c (Fin.last _)]
    icases HO with ⟨%Wd, -, HO⟩; iexists Wd; iexact HO

/-- A host stretch run from some valuation of a family. -/
def hostEx {X : Type} (S : Finset (DevRef τ sig)) (ops : List (HloOp τ sig Val)) (hS : ∀ op ∈ ops, op.bufs ⊆ S) (hf : ∀ op ∈ ops, op.fresh = ∅)
    (V : Dev nD → X → Valuation τ sig Val) (φ : Dev nD → X → Prop) (R : Dev nD → sProp 𝕄) : HostSeg (Name := ℕ) (U := U) (Ix := Unit) pcs defs₀ 𝒱₀ L lv where
  prog := StableHlo.seq ops
  pre c := iprop(∃ x, ⌜φ c x⌝ ∗ StableHlo.held (c.tc : Thread nD τ) S (V c x) ∗ R c)
  post c := iprop(∃ x, ⌜φ c x⌝ ∗ StableHlo.held (c.tc : Thread nD τ) S (StableHlo.after ops (V c x)) ∗ R c)
  run c {β} k K := by
    iintro ⟨Hk, Hbd, ⟨%x, %hx, Hh, HR⟩, -⟩
    have hseq := StableHlo.wp_seq (defs := Pipeline.defs pcs defs₀) (Variants.lift 𝒱₀) none Set.univ c S k (K := K) ops hS hf (V c x)
    iapply hseq $$ [Hbd Hh]
    · isplitl [Hbd] <;> iassumption
    iintro ⟨Hbd, Hh⟩
    iapply Hk
    isplitl [Hbd]; · iexact Hbd
    iexists x
    isplitr; · ipureintro; exact hx
    isplitl [Hh] <;> iassumption

end Cert.Compose
-- ==== Proof.Ids.lean ====
module

public import proofs.«01_k».proof.Defs
public import proofs.«01_k».proof.Proof.Gen.Pre_ids_in_range
public import Idealize.ShloMosaic.Lib.Pointwise
public import Idealize.ShloMosaic.Lib.StableHlo.Predicate
public import Idealize.ShloMosaic.Lib.WordCmp

@[expose] public section

set_option maxRecDepth 16384

noncomputable section

namespace Cert.Pre_ids_in_range

open Idealize.ShloMosaic
open Cert.Pre_ids_in_range.Gen

attribute [local instance] Cert.Pre_ids_in_range.Gen.facts

/-! The two ranges of the ids, read from the precondition. -/

variable {F : FTy → Type} [FloatOps F]

theorem andi_one (a b : BitVec 1) : IntOp.andi a b = 1#1 → a = 1#1 ∧ b = 1#1 := by revert a b; decide

theorem fold_one {ι : Type} [DecidableEq ι] (f : ι → BitVec 1) (S : Finset ι) : S.fold IntOp.andi 1#1 f = 1#1 → ∀ k ∈ S, f k = 1#1 := by
  induction S using Finset.induction_on with
  | empty => intro _ k hk; exact absurd hk (Finset.notMem_empty k)
  | insert a S ha ih =>
    intro h k hk
    rw [Finset.fold_insert ha] at h
    obtain ⟨h1, h2⟩ := andi_one _ _ h
    rcases Finset.mem_insert.1 hk with rfl | hk
    · exact h1
    · exact ih h2 k hk

theorem below {k : ℕ} (hk : k < 2 ^ (32 - 1)) (x : BitVec 32)
    (h : IntOp.andi (IntOp.cmpi CmpIPredicate.sge x 0#32) (IntOp.cmpi CmpIPredicate.slt x (BitVec.ofNat 32 k)) = 1#1) : x.toNat < k := by
  rw [WordCmp.andi_sge_zero_slt_ofNat hk] at h
  by_contra hn
  rw [decide_eq_false hn] at h
  exact absurd h (by decide)

theorem fn_ranges (x0 : IVec S128x1 32) (x1 : FVec F S128x256 .f32) (x2 : FVec F S128x400x256 .f32) (x3 : IVec S128x400 32) (x4 : FVec F S50000x128 .f32) (x5 : FVec F S768x128 .f32)
    (x6 : FVec F S768x256 .f32) (x7 x8 : FVec F S768 .f32) (x9 x10 : FVec F S256 .f32) (x11 : FVec F S1 .f32) (x12 : FVec F S256 .f32) (x13 : FVec F S1x640 .f32) (x14 : FVec F S1 .f32)
    (x15 : FVec F S128x512 .f32) (x16 : FVec F S128 .f32) (x17 : FVec F S50000x128 .f32) (x18 : FVec F S50000 .f32)
    (h : fn (F := F) x0 x1 x2 x3 x4 x5 x6 x7 x8 x9 x10 x11 x12 x13 x14 x15 x16 x17 x18 = fun _ => 1#1) :
    (∀ b : Fin 128, (x0 (ix2 b 0)).toNat < 50000) ∧ (∀ (b : Fin 128) (s : Fin 400), (x3 (ix2 b s)).toNat < 50250) := by
  have h0 := congrFun h (fun a => a.elim0)
  unfold fn at h0
  pointwise [] at h0
  obtain ⟨hl, hr⟩ := andi_one _ _ h0
  refine ⟨fun b => ?_, fun b s => ?_⟩
  · exact below (by decide) _ (fold_one _ _ hl (b, 0) (Finset.mem_univ _))
  · exact below (by decide) _ (fold_one _ _ hr (b, s) (Finset.mem_univ _))

end Cert.Pre_ids_in_range
-- ==== Proof.Frames.lean ====
module

public import proofs.«01_k».proof.Proof.Run
public import proofs.«01_k».proof.Proof.Ids
public import Idealize.ShloMosaic.Lib.StableHlo.ReadAt

@[expose] public section

set_option maxRecDepth 16384

noncomputable section

namespace Cert.Kernel

open Idealize.ShloMosaic Idealize.ShloMosaic.TcCoe Idealize.SL.Sem
open Cert.Kernel.Gen

/-! The table rows that the first call copies are in range, and with them the kernel runs. -/

theorem tok_read {F : FTy → Type} [FloatOps F] (m : (ℓ : Loc nD τ sig) → Buf (Elt F) ℓ) (c : Dev nD) (k : Fin 128) :
    (V1 m c (Proc.devRef .tc main_v0) : S128.Idx → BitVec 32) (ix1 k) = (m ((c.tc : Thread nD τ).loc main_arg0) : S128x1.Idx → BitVec 32) (ix2 k 0) := by
  unfold V1
  after_reads_at

theorem tok_range {F : FTy → Type} [FloatOps F] (m : (ℓ : Loc nD τ sig) → Buf (Elt F) ℓ) (c : Dev nD)
    (h : ∀ b : Fin 128, ((m ((c.tc : Thread nD τ).loc main_arg0) : S128x1.Idx → BitVec 32) (ix2 b 0)).toNat < 50000) (k : S128.Idx) : ((inE0 (aE m c)) k).toNat < 50000 := by
  have e : (inE0 (aE m c)) k = (m ((c.tc : Thread nD τ).loc main_arg0) : S128x1.Idx → BitVec 32) (ix2 (k 0) 0) := by
    rw [← tok_read m c (k 0)]
    exact congrArg (V1 m c (Proc.devRef .tc main_v0) : S128.Idx → BitVec 32) (ix1_eta k).symm
  rw [e]
  exact h _

/-- The precondition puts them in range. -/
theorem htok_of_pre [hPre_ids_in_range : Cert.Pre_ids_in_range.Facts] (m : (ℓ : Loc nD τ sig) → Buf (Elt Bits) ℓ) (h : Pre_Kernel m) (c : Dev nD) (k : S128.Idx) : ((inE0 (aE m c)) k).toNat < 50000 :=
  tok_range m c (Cert.Pre_ids_in_range.fn_ranges _ _ _ _ _ _ _ _ _ _ _ _ _ _ _ _ _ _ _ (h c)).1 k

/-- The kernel ends, with its arguments unchanged and every counter at zero. -/
theorem frame [hKernel : Cert.Kernel.Facts] [hPre_ids_in_range : Cert.Pre_ids_in_range.Facts] : quiescent_Kernel := fun m g h => run_args m (htok_of_pre m h) g

end Cert.Kernel
-- ==== Proof.EmbedRowI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp
public import Idealize.ShloMosaic.Lib.ViewIndex
public import Idealize.ShloMosaic.Lib.ValueIdxCore
public import Idealize.ShloMosaic.Lib.SparseCore.Stream

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

open Idealize.ShloMosaic.ValueIdx

variable {F : FTy → Type} [FloatOps F] [Named F]

local notation "𝕄" => MT nD τ sig Unit (Elt F) ℕ (UR sig nD τ × Counters) ℕ

theorem row_ok (v : BitVec 32) (h : v.toNat < 50000) : ∀ a, (![v.toNat, 0, 0] : Fin 3 → ℕ) a + S1x1x128.size a ≤ S50000x1x128.size a := by
  intro a; fin_cases a <;> simp [S1x1x128, S50000x1x128] <;> omega

theorem src_inb (n : ℕ) (h : n < 50000) : ∀ a, (![n, 0, 0] : Fin 3 → ℕ) a + S1x1x128.size a ≤ S50000x1x128.size a := by
  intro a; fin_cases a <;> simp [S1x1x128, S50000x1x128] <;> omega

theorem dst_inb (n : ℕ) (h : n < 64) : ∀ a, (![n, 0, 0] : Fin 3 → ℕ) a + S1x1x128.size a ≤ S64x1x128.size a := by
  intro a; fin_cases a <;> simp [S1x1x128, S64x1x128] <;> omega

/-- The table's row at `off`, read as one row. -/
abbrev srcRow (arg3 : Memref sig .tc .hbm S50000x1x128 .f32) (off : Fin 3 → ℕ)
    (h : ∀ a, off a + S1x1x128.size a ≤ S50000x1x128.size a) : Memref sig .tc .hbm S1x128 .f32 :=
  (arg3.slice (Rect.unit (s := S50000x1x128) off S1x1x128.size h) (fun _ => rfl)).squeeze S1x128 squeezes_S1x1x128_S1x128

/-- The gathered rows' row at `off`. -/
abbrev dstRow (arg11 : Memref sig .tc .vmem S64x1x128 .f32) (off : Fin 3 → ℕ)
    (h : ∀ a, off a + S1x1x128.size a ≤ S64x1x128.size a) : Memref sig .tc .vmem S1x128 .f32 :=
  (arg11.slice (Rect.unit (s := S64x1x128) off S1x1x128.size h) (fun _ => rfl)).squeeze S1x128 squeezes_S1x1x128_S1x128

variable (c : Dev nD) (arg3 : Memref sig .tc .hbm S50000x1x128 .f32) (arg11 : Memref sig .tc .vmem S64x1x128 .f32)
  (arg12 : DmaSems sig S_)
  (f3 : Buf (Elt F) (arg3.view.loc (c : Thread nD τ))) (f11 g11 : Buf (Elt F) (arg11.view.loc (c : Thread nD τ)))
  (tk : Fin 64 → ℕ) (htk : ∀ t, tk t < 50000)

/-- What transfer `t` starts from: its table row at its own share, and its destination row. -/
def pend (t : Fin 64) : sProp 𝕄 :=
  iprop((arg3.view.loc (c : Thread nD τ) ↦[(srcRow arg3 ![tk t, 0, 0] (src_inb _ (htk t))).view.set]{Transfers.shareTok fullShare 64 t} f3)
    ∗ (arg11.view.loc (c : Thread nD τ) ↦[(dstRow arg11 ![t.val, 0, 0] (dst_inb _ t.isLt)).view.set]{fullShare} f11))

/-- What the transfers' start or end hold is the same but for the destination's contents. -/
abbrev dlv (t : Fin 64) : sProp 𝕄 := pend c arg3 arg11 f3 g11 tk htk t

instance (t : Fin 64) : Storable (upEmb : UEmb _ 𝕄) (pend c arg3 arg11 f3 g11 tk htk t) := by
  unfold pend; infer_instance

/-- The state after `j` transfers have been started. -/
def stE (j : ℕ) : sProp 𝕄 :=
  iprop(bigSep (Transfers.pending (n := 64) j) (pend c arg3 arg11 f3 f11 tk htk)
    ∗ Transfers.Batch (countersEmb (sig := sig)) (c : Thread nD τ) (SemLoc.dma (sig := sig) arg12.sem) default 16 (pend c arg3 arg11 f3 g11 tk htk) j 0)

theorem issue {α : Type} {Q : α → sProp 𝕄}
    (hg : ∀ t : Fin 64, ∀ x : S1x128.Idx, (dstRow arg11 ![t.val, 0, 0] (dst_inb _ t.isLt)).view.read (Elt F) g11 x
        = (srcRow arg3 ![tk t, 0, 0] (src_inb _ (htk t))).view.read (Elt F) f3 x)
    (j : ℕ) (hj : j < 64) (off : Fin 3 → ℕ) (h : ∀ a, off a + S1x1x128.size a ≤ S50000x1x128.size a) (hoff : off = ![tk ⟨j, hj⟩, 0, 0])
    (h' : ∀ a, (![j, 0, 0] : Fin 3 → ℕ) a + S1x1x128.size a ≤ S64x1x128.size a)
    (h1) (h2) (h3) (k : PUnit → Prog (TpuEff nD τ sig (Elt F) Λ₀ .tc) α) :
    stE c arg3 arg11 arg12 f3 f11 g11 tk htk j
      ⊢ iprop((stE c arg3 arg11 arg12 f3 f11 g11 tk htk (j + 1) -∗ wp frame (wpE (defs₀ (F := F)) Variants.none (c : Thread nD τ) none) Set.univ (k ⟨⟩) Q)
          -∗ wp frame (wpE (defs₀ (F := F)) Variants.none (c : Thread nD τ) none) Set.univ
            (Prog.op (.enqueueDma (srcRow arg3 off h) (.here (dstRow arg11 ![j, 0, 0] h')) (.dma arg12.sem) h1 h2 h3) k) Q) := by
  subst hoff
  unfold stE
  have e : (bigSep (Transfers.pending (n := 64) j) (pend c arg3 arg11 f3 f11 tk htk) : sProp 𝕄)
      ⊢ iprop(pend c arg3 arg11 f3 f11 tk htk ⟨j, hj⟩ ∗ bigSep (Transfers.pending (n := 64) (j + 1)) (pend c arg3 arg11 f3 f11 tk htk)) :=
    Entails.of_eq (by rw [Transfers.pending_succ hj, bigSep_insert (Transfers.not_mem_pending_succ hj)]; rfl)
  iintro ⟨HP, HB⟩ Hk
  ihave HP' := e $$ HP
  icases HP' with ⟨Ht, HP⟩
  unfold pend
  icases Ht with ⟨Hs, Hd⟩
  have hD : iprop(((dstRow arg11 ![j, 0, 0] h').view.loc (c : Thread nD τ) ↦[(dstRow arg11 ![j, 0, 0] h').view.set]{fullShare}
        ((dstRow arg11 ![j, 0, 0] h').view.write (Elt F) f11 (ReadAs.same.apply ((srcRow arg3 ![tk ⟨j, hj⟩, 0, 0] h).view.read (Elt F) f3)) Finset.univ))
        ∗ ((srcRow arg3 ![tk ⟨j, hj⟩, 0, 0] h).view.loc (c : Thread nD τ) ↦[(srcRow arg3 ![tk ⟨j, hj⟩, 0, 0] h).view.set]{Transfers.shareTok fullShare 64 ⟨j, hj⟩} f3))
      ⊢ (pend c arg3 arg11 f3 g11 tk htk ⟨j, hj⟩ : sProp 𝕄) := by
    unfold pend
    iintro ⟨Hd, Hs⟩
    isplitl [Hs]; · iexact Hs
    have e2 : ((dstRow arg11 ![j, 0, 0] h').view.loc (c : Thread nD τ) ↦[(dstRow arg11 ![j, 0, 0] h').view.set]{fullShare}
        ((dstRow arg11 ![j, 0, 0] h').view.write (Elt F) f11 (ReadAs.same.apply ((srcRow arg3 ![tk ⟨j, hj⟩, 0, 0] h).view.read (Elt F) f3)) Finset.univ) : sProp 𝕄)
        = ((dstRow arg11 ![j, 0, 0] h').view.loc (c : Thread nD τ) ↦[(dstRow arg11 ![j, 0, 0] h').view.set]{fullShare} g11) := by
      refine pointsTo_congr fun i hi => ?_
      obtain ⟨x, -, rfl⟩ := Finset.mem_map.mp hi
      refine View.eq_of_read_eq ?_
      rw [View.read_write_of_mem _ _ (Finset.mem_univ x)]
      exact (hg ⟨j, hj⟩ x).symm
    have e3 := Entails.of_eq e2
    iapply e3
    iexact Hd
  iapply (Transfers.wp_dmaBatch (countersEmb (sig := sig)) Variants.none (c : Thread nD τ) none default 16
    (src := srcRow arg3 ![tk ⟨j, hj⟩, 0, 0] h) (dst := dstRow arg11 ![j, 0, 0] h') (via := .same) (fs := f3) (fd := f11) (q := Transfers.shareTok fullShare 64 ⟨j, hj⟩)
    (D := pend c arg3 arg11 f3 g11 tk htk) (by rfl) (Finset.Subset.refl _) hj (Nat.zero_le _) hD) $$ [Hs Hd HB]
  · isplitl [Hs]; · iexact Hs
    isplitl [Hd]; · iexact Hd
    iexact HB
  iintro HB
  iapply Hk
  isplitl [HP]; · iexact HP
  iexact HB
/-- The token of row `t` of the step's block. -/
def tokE (i : grid0.Coords) (x2 : S128.Idx → BitVec 32) (t : Fin 64) : ℕ :=
  (x2 (ix1 (n := 128) ⟨64 * (i 0).val + t.val, by have := (i 0).isLt; have e : grid0.bound 0 = 2 := rfl; omega⟩)).toNat

/-- The block of gathered rows: row `t` is the table's row at the token of row `t`. -/
def rowsE (i : grid0.Coords) (x2 : S128.Idx → BitVec 32) (h : ∀ k, (x2 k).toNat < 50000) (T : S50000x1x128.Idx → F .f32) : S64x1x128.Idx → F .f32 :=
  fun y => T (ix3 (n0 := 50000) (n1 := 1) (n2 := 128) ⟨tokE i x2 (y 0), h _⟩ 0 (y 2))

theorem offv (b : Fin 2) (j : ℕ) (hj : j < 64) : (BitVec.ofNat 32 b.val * 64#32 + BitVec.ofNat 32 j).toNat = 64 * b.val + j := by
  have hb := b.isLt
  simp only [BitVec.toNat_add, BitVec.toNat_mul, BitVec.toNat_ofNat]
  omega

theorem tok_eq (i : grid0.Coords) (arg2 : Memref sig .tc .smem S128 .i32) (f2 : Buf (Elt F) (arg2.view.loc (c : Thread nD τ))) (x2 : S128.Idx → BitVec 32)
    (hf2 : arg2.view.read (Elt F) f2 = x2) (t : Fin 64) (off : Fin 1 → ℕ) (hin : ∀ a, off a + S1.size a ≤ S128.size a) (hoff : off 0 = 64 * (i 0).val + t.val)
    (x : S1.Idx) : (View.readAt (Elt F) arg2.view (Rect.unit (s := S128) off S1.size hin).toLoadRect f2 x : BitVec 32).toNat = tokE i x2 t := by
  rw [View.readAt_eq_ld, hf2]
  unfold tokE
  refine congrArg (fun k => (x2 k).toNat) ?_
  funext a
  match a with
  | ⟨0, _⟩ =>
    apply Fin.ext
    have hx : (x 0).val = 0 := by have := (x 0).isLt; have e : S1.size 0 = 1 := rfl; omega
    show off 0 + 1 * (x 0).val = 64 * (i 0).val + t.val
    omega

theorem tok_lt (arg2 : Memref sig .tc .smem S128 .i32) (f2 : Buf (Elt F) (arg2.view.loc (c : Thread nD τ))) (x2 : S128.Idx → BitVec 32)
    (hf2 : arg2.view.read (Elt F) f2 = x2) (h : ∀ k, (x2 k).toNat < 50000) (R : LoadRect S128) (x : R.shape.Idx) :
    (View.readAt (Elt F) arg2.view R f2 x : BitVec 32).toNat < 50000 := by
  subst hf2; exact h (R.idx x)

theorem rows_read (harg3 : arg3.IsWhole) (harg11 : arg11.IsWhole) (i : grid0.Coords) (x2 : S128.Idx → BitVec 32) (h : ∀ k, (x2 k).toNat < 50000)
    (T : S50000x1x128.Idx → F .f32) (t : Fin 64) (x : S1x128.Idx) :
    (dstRow arg11 ![t.val, 0, 0] (dst_inb _ t.isLt)).view.read (Elt F) (harg11.unread (rowsE i x2 h T)) x
        = (srcRow arg3 ![tokE i x2 t, 0, 0] (src_inb _ (by unfold tokE; exact h _))).view.read (Elt F) (harg3.unread T) x := by
  have key : ∀ y : S1x1x128.Idx, rowsE i x2 h T ((Rect.unit (s := S64x1x128) ![t.val, 0, 0] S1x1x128.size (dst_inb _ t.isLt)).emb y)
      = T ((Rect.unit (s := S50000x1x128) ![tokE i x2 t, 0, 0] S1x1x128.size (src_inb _ (by unfold tokE; exact h _))).emb y) := by
    intro y
    have h0 : (y 0).val = 0 := by have := (y 0).isLt; have e : S1x1x128.size 0 = 1 := rfl; omega
    have h1 : (y 1).val = 0 := by have := (y 1).isLt; have e : S1x1x128.size 1 = 1 := rfl; omega
    have hy : ((Rect.unit (s := S64x1x128) ![t.val, 0, 0] S1x1x128.size (dst_inb _ t.isLt)).emb y 0) = t :=
      Fin.ext (by show t.val + 1 * (y 0).val = t.val; omega)
    unfold rowsE
    refine congrArg T ?_
    funext a
    refine Fin.ext ?_
    match a with
    | ⟨0, _⟩ =>
      refine (congrArg (tokE i x2) hy).trans (Eq.symm ?_)
      show tokE i x2 t + 1 * (y 0).val = tokE i x2 t
      rw [h0]; rfl
    | ⟨1, _⟩ =>
      show 0 = 0 + 1 * (y 1).val
      rw [h1]
    | ⟨2, _⟩ => rfl
  have e1 := congrFun (harg11.read_unread (Val := Elt F) (rowsE i x2 h T))
  have e2 := congrFun (harg3.read_unread (Val := Elt F) T)
  exact (e1 _).trans ((key _).trans (e2 _).symm)

theorem set_dst (t : Fin 64) (h) : (dstRow arg11 ![t.val, 0, 0] h).view.set
    = (Rect.unit (s := S64x1x128) ![t.val, 0, 0] S1x1x128.size h).set.map arg11.view.emb := by
  show (View.reshape (arg11.view.slice _) _ _).set = _
  rw [View.set_reshape, View.set_slice]

theorem mem_dst (t : Fin 64) (h) (y : S64x1x128.Idx) : y ∈ (Rect.unit (s := S64x1x128) ![t.val, 0, 0] S1x1x128.size h).set ↔ (y 0).val = t.val := by
  rw [Rect.mem_set_unit]
  constructor
  · intro hy
    have h0 := hy 0
    change t.val ≤ (y 0).val ∧ (y 0).val < t.val + 1 at h0
    omega
  · intro h0 a
    match a with
    | ⟨0, _⟩ => change t.val ≤ (y 0).val ∧ (y 0).val < t.val + 1; omega
    | ⟨1, _⟩ => change 0 ≤ (y 1).val ∧ (y 1).val < 0 + 1; have := (y 1).isLt; have e : S64x1x128.size 1 = 1 := rfl; omega
    | ⟨2, _⟩ => change 0 ≤ (y 2).val ∧ (y 2).val < 0 + 128; have := (y 2).isLt; have e : S64x1x128.size 2 = 128 := rfl; omega

theorem dst_union : (Finset.univ : Finset (Fin 64)).biUnion (fun t => (dstRow arg11 ![t.val, 0, 0] (dst_inb _ t.isLt)).view.set) = arg11.view.set := by
  ext i
  simp only [Finset.mem_biUnion, Finset.mem_univ, true_and]
  constructor
  · rintro ⟨t, ht⟩
    rw [set_dst] at ht
    obtain ⟨x, -, rfl⟩ := Finset.mem_map.mp ht
    exact View.emb_mem_set _ x
  · intro hi
    obtain ⟨x, -, rfl⟩ := Finset.mem_map.mp hi
    refine ⟨⟨(x 0).val, (x 0).isLt⟩, ?_⟩
    rw [set_dst]
    exact Finset.mem_map_of_mem _ ((mem_dst _ _ _).2 rfl)

theorem dst_disjoint (t t' : Fin 64) (h : t ≠ t') : Disjoint (dstRow arg11 ![t.val, 0, 0] (dst_inb _ t.isLt)).view.set (dstRow arg11 ![t'.val, 0, 0] (dst_inb _ t'.isLt)).view.set := by
  rw [set_dst, set_dst, Finset.disjoint_map]
  exact Finset.disjoint_left.mpr fun y h1 h2 => h (Fin.ext (((mem_dst _ _ _).1 h1).symm.trans ((mem_dst _ _ _).1 h2)))

theorem dst_split (f : Buf (Elt F) (arg11.view.loc (c : Thread nD τ))) :
    (arg11.view.loc (c : Thread nD τ) ↦[arg11.view.set]{fullShare} f : sProp 𝕄)
      = bigSep (Finset.univ : Finset (Fin 64)) (fun t => arg11.view.loc (c : Thread nD τ) ↦[(dstRow arg11 ![t.val, 0, 0] (dst_inb _ t.isLt)).view.set]{fullShare} f) := by
  rw [← dst_union arg11]
  exact pointsTo_biUnion _ _ fun t _ t' _ h => dst_disjoint arg11 t t' h

/-- What the core keeps of the table while the transfers run: the rows not being read, at each transfer's share, and the share not lent. -/
def keptE : sProp 𝕄 :=
  iprop((arg3.view.loc (c : Thread nD τ) ↦[arg3.view.set]{Transfers.shareDrop fullShare 64} f3)
    ∗ bigSep (Finset.univ : Finset (Fin 64)) (fun t => arg3.view.loc (c : Thread nD τ) ↦[arg3.view.set \ (srcRow arg3 ![tk t, 0, 0] (src_inb _ (htk t))).view.set]{Transfers.shareTok fullShare 64 t} f3))

theorem src_sub (off : Fin 3 → ℕ) (h) : (srcRow arg3 off h).view.set ⊆ arg3.view.set := by
  show (View.reshape (arg3.view.slice _) _ _).set ⊆ _
  rw [View.set_reshape]
  exact View.set_slice_subset _ _

theorem src_split : (arg3.view.loc (c : Thread nD τ) ↦[arg3.view.set]{fullShare} f3 : sProp 𝕄)
      ⊣⊢ iprop(keptE c arg3 f3 tk htk ∗ bigSep (Finset.univ : Finset (Fin 64)) (fun t => arg3.view.loc (c : Thread nD τ) ↦[(srcRow arg3 ![tk t, 0, 0] (src_inb _ (htk t))).view.set]{Transfers.shareTok fullShare 64 t} f3)) := by
  have e : ∀ t : Fin 64, (arg3.view.loc (c : Thread nD τ) ↦[arg3.view.set]{Transfers.shareTok fullShare 64 t} f3 : sProp 𝕄)
      ⊣⊢ iprop((arg3.view.loc (c : Thread nD τ) ↦[(srcRow arg3 ![tk t, 0, 0] (src_inb _ (htk t))).view.set]{Transfers.shareTok fullShare 64 t} f3)
        ∗ arg3.view.loc (c : Thread nD τ) ↦[arg3.view.set \ (srcRow arg3 ![tk t, 0, 0] (src_inb _ (htk t))).view.set]{Transfers.shareTok fullShare 64 t} f3) :=
    fun t => pointsTo_split_subset (src_sub arg3 _ _)
  have hs := Transfers.pointsTo_toks (nD := nD) (τ := τ) (sig := sig) (Ix := Unit) (Val := Elt F) (Name := ℕ) (U := UR sig nD τ × Counters) (Lvl := ℕ) (ℓ := arg3.view.loc (c : Thread nD τ)) (S := arg3.view.set) (f := f3) fullShare 64
  unfold keptE
  constructor
  · refine hs.1.trans ?_
    refine (sep_mono_right ((bigSep_mono fun t _ => (e t).1).trans (Transfers.bigSep_sep_out _ _ _))).trans ?_
    iintro ⟨Hd, Ha, Hb⟩
    isplitr [Ha]
    · isplitl [Hd] <;> iassumption
    iexact Ha
  · refine BIBase.Entails.trans ?_ hs.2
    refine BIBase.Entails.trans ?_ (sep_mono_right ((Transfers.bigSep_sep_in _ _ _).trans (bigSep_mono fun t _ => (e t).2)))
    iintro ⟨⟨Hd, Hb⟩, Ha⟩
    isplitl [Hd]; · iexact Hd
    isplitl [Ha] <;> iassumption

theorem pend_all (f : Buf (Elt F) (arg11.view.loc (c : Thread nD τ))) : (bigSep (Finset.univ : Finset (Fin 64)) (pend c arg3 arg11 f3 f tk htk) : sProp 𝕄)
    = iprop(bigSep (Finset.univ : Finset (Fin 64)) (fun t => arg3.view.loc (c : Thread nD τ) ↦[(srcRow arg3 ![tk t, 0, 0] (src_inb _ (htk t))).view.set]{Transfers.shareTok fullShare 64 t} f3)
        ∗ (arg11.view.loc (c : Thread nD τ) ↦[arg11.view.set]{fullShare} f)) := by
  rw [dst_split]
  unfold pend
  exact bigSep_sep _ _ _

/-- Entering the gather. -/
theorem stE_in : iprop((arg3.view.loc (c : Thread nD τ) ↦[arg3.view.set]{fullShare} f3) ∗ (arg11.view.loc (c : Thread nD τ) ↦[arg11.view.set]{fullShare} f11)
      ∗ semVal ((c : Thread nD τ), SemLoc.dma (sig := sig) arg12.sem) 0)
    ⊢ (|={Set.univ}=> iprop(keptE c arg3 f3 tk htk ∗ stE c arg3 arg11 arg12 f3 f11 g11 tk htk 0) : sProp 𝕄) := by
  iintro ⟨H3, H11, Hs⟩
  imod (Transfers.batch_alloc' (countersEmb (sig := sig)) (c : Thread nD τ) (sm := SemLoc.dma (sig := sig) arg12.sem) default 16 (pend c arg3 arg11 f3 g11 tk htk) (E := Set.univ)) $$ Hs with HB
  imodintro
  ihave H3' := (src_split c arg3 f3 tk htk).1 $$ H3
  icases H3' with ⟨Hk, Hs⟩
  isplitl [Hk]; · iexact Hk
  unfold stE
  isplitr [HB]
  · rw [Transfers.pending_zero, pend_all]
    isplitl [Hs] <;> iassumption
  iexact HB

/-- The sixty-four rows' states as one. -/
theorem collect (Φ : Fin 64 → sProp 𝕄) : iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩ ∗ Φ ⟨15, by decide⟩ ∗ Φ ⟨16, by decide⟩ ∗ Φ ⟨17, by decide⟩ ∗ Φ ⟨18, by decide⟩ ∗ Φ ⟨19, by decide⟩ ∗ Φ ⟨20, by decide⟩ ∗ Φ ⟨21, by decide⟩ ∗ Φ ⟨22, by decide⟩ ∗ Φ ⟨23, by decide⟩ ∗ Φ ⟨24, by decide⟩ ∗ Φ ⟨25, by decide⟩ ∗ Φ ⟨26, by decide⟩ ∗ Φ ⟨27, by decide⟩ ∗ Φ ⟨28, by decide⟩ ∗ Φ ⟨29, by decide⟩ ∗ Φ ⟨30, by decide⟩ ∗ Φ ⟨31, by decide⟩ ∗ Φ ⟨32, by decide⟩ ∗ Φ ⟨33, by decide⟩ ∗ Φ ⟨34, by decide⟩ ∗ Φ ⟨35, by decide⟩ ∗ Φ ⟨36, by decide⟩ ∗ Φ ⟨37, by decide⟩ ∗ Φ ⟨38, by decide⟩ ∗ Φ ⟨39, by decide⟩ ∗ Φ ⟨40, by decide⟩ ∗ Φ ⟨41, by decide⟩ ∗ Φ ⟨42, by decide⟩ ∗ Φ ⟨43, by decide⟩ ∗ Φ ⟨44, by decide⟩ ∗ Φ ⟨45, by decide⟩ ∗ Φ ⟨46, by decide⟩ ∗ Φ ⟨47, by decide⟩ ∗ Φ ⟨48, by decide⟩ ∗ Φ ⟨49, by decide⟩ ∗ Φ ⟨50, by decide⟩ ∗ Φ ⟨51, by decide⟩ ∗ Φ ⟨52, by decide⟩ ∗ Φ ⟨53, by decide⟩ ∗ Φ ⟨54, by decide⟩ ∗ Φ ⟨55, by decide⟩ ∗ Φ ⟨56, by decide⟩ ∗ Φ ⟨57, by decide⟩ ∗ Φ ⟨58, by decide⟩ ∗ Φ ⟨59, by decide⟩ ∗ Φ ⟨60, by decide⟩ ∗ Φ ⟨61, by decide⟩ ∗ Φ ⟨62, by decide⟩ ∗ Φ ⟨63, by decide⟩) ⊢ bigSep (Finset.univ : Finset (Fin 64)) Φ :=
  Entails.of_eq (by rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)]; rfl)

attribute [irreducible] pend

end Cert.KernelIdeal
-- ==== Proof.EmbedStepI.lean ====
module

public import proofs.«01_k».proof.Proof.EmbedRowI
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp
public import Idealize.ShloMosaic.Lib.VecWindow
public import Idealize.ShloMosaic.Lib.ViewIndex
public import Idealize.ShloMosaic.Lib.ValueIdxCore
public import Idealize.ShloMosaic.Lib.SparseCore.Stream

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

open Idealize.ShloMosaic.ValueIdx

variable {F : FTy → Type} [FloatOps F] [Named F]

local notation "𝕄" => MT nD τ sig Unit (Elt F) ℕ (UR sig nD τ × Counters) ℕ

set_option maxHeartbeats 0 in
theorem run_E (c : Dev nD) (i : grid0.Coords) (arg2 : Memref sig .tc .smem S128 .i32) (harg2 : arg2.IsWhole) (arg3 : Memref sig .tc .hbm S50000x1x128 .f32) (harg3 : arg3.IsWhole) (arg4 : Memref sig .tc .vmem S64x256 .f32) (harg4 : arg4.IsWhole) (arg5 : Memref sig .tc .vmem S768x128 .f32) (harg5 : arg5.IsWhole) (arg6 : Memref sig .tc .vmem S768x256 .f32) (harg6 : arg6.IsWhole) (arg7 : Memref sig .tc .vmem S1x768 .f32) (harg7 : arg7.IsWhole) (arg8 : Memref sig .tc .vmem S1x768 .f32) (harg8 : arg8.IsWhole) (arg9 : Memref sig .tc .vmem S64x256 .f32) (harg9 : arg9.IsWhole) (arg10 : Memref sig .tc .vmem S64x128 .f32) (harg10 : arg10.IsWhole) (arg11 : Memref sig .tc .vmem S64x1x128 .f32) (harg11 : arg11.IsWhole) (arg12 : DmaSems sig S_)
        (x2 : S128.Idx → BitVec 32) (htok : ∀ k, (x2 k).toNat < 50000) (T : S50000x1x128.Idx → F .f32)
    (x4 : S64x256.Idx → F .f32) (x5 : S768x128.Idx → F .f32) (x6 : S768x256.Idx → F .f32) (x7 x8 : S1x768.Idx → F .f32) :
    ∀ (W : Waits sig Unit) (K : PUnit → sProp 𝕄),
    iprop(owns (c : Thread nD τ) arg2 fullShare x2 ∗ owns (c : Thread nD τ) arg3 fullShare T
        ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d)
        ∗ semVal ((c : Thread nD τ), SemLoc.dma (sig := sig) arg12.sem) 0 ∗ owes (c : Thread nD τ) 0 W
        ∗ (iprop(owns (c : Thread nD τ) arg2 fullShare x2 ∗ owns (c : Thread nD τ) arg3 fullShare T
        ∗ owns (c : Thread nD τ) arg4 fullShare x4 ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare (k0_pay2 (rowsE i x2 htok T) x4 x5 x7 x6 x8) ∗ owns (c : Thread nD τ) arg10 fullShare (k0_pay1 (rowsE i x2 htok T)) ∗ (∃ d, owns (c : Thread nD τ) arg11 fullShare d)
        ∗ semVal ((c : Thread nD τ), SemLoc.dma (sig := sig) arg12.sem) 0 ∗ ∃ W', owes (c : Thread nD τ) 0 W') -∗ K ⟨⟩))
      ⊢ wp frame (wpE (defs₀ (F := F)) Variants.none c none) Set.univ (cc0_embed_gru i arg2 harg2 arg3 harg3 arg4 harg4 arg5 harg5 arg6 harg6 arg7 harg7 arg8 harg8 arg9 harg9 arg10 harg10 arg11 harg11 arg12) K := by
  intro W K
  simp only [cc0_embed_gru_eq_skeleton]
  unfold cc0_embed_gru_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, HV, HO, Hk⟩
  have hg := rows_read arg3 arg11 harg3 harg11 i x2 htok T
  obtain rfl := harg3.eq_unread hf3
  imod (stE_in c arg3 arg11 arg12 (harg3.unread T) f11 (harg11.unread (rowsE i x2 htok T)) (tokE i x2) (fun _ => htok _)) $$ [H3 H11 HV] with ⟨HT, HS⟩
  · isplitl [H3]; · iexact H3
    isplitl [H11] <;> iassumption
  sl_exec (disch := exact row_ok _ (tok_lt c _ _ x2 hf2 htok _ _))
  iapply (issue c arg3 arg11 arg12 _ f11 _ (tokE i x2) (fun _ => htok _) hg 0 (by decide) _ _ (congrArg (fun n : ℕ => (![n, 0, 0] : Fin 3 → ℕ)) (tok_eq c i arg2 f2 x2 hf2 0 (k0_off1 i) _ (offv (i 0) 0 (by decide)) _)) _ _ _ _ _) $$ HS
  iintro HS
  sl_exec (disch := exact row_ok _ (tok_lt c _ _ x2 hf2 htok _ _))
  iapply (issue c arg3 arg11 arg12 _ f11 _ (tokE i x2) (fun _ => htok _) hg 1 (by decide) _ _ (congrArg (fun n : ℕ => (![n, 0, 0] : Fin 3 → ℕ)) (tok_eq c i arg2 f2 x2 hf2 1 (k0_off3 i) _ (offv (i 0) 1 (by decide)) _)) _ _ _ _ _) $$ HS
  iintro HS
  sl_exec (disch := exact row_ok _ (tok_lt c _ _ x2 hf2 htok _ _))
  iapply (issue c arg3 arg11 arg12 _ f11 _ (tokE i x2) (fun _ => htok _) hg 2 (by decide) _ _ (congrArg (fun n : ℕ => (![n, 0, 0] : Fin 3 → ℕ)) (tok_eq c i arg2 f2 x2 hf2 2 (k0_off5 i) _ (offv (i 0) 2 (by decide)) _)) _ _ _ _ _) $$ HS
  iintro HS
  sl_exec (disch := exact row_ok _ (tok_lt c _ _ x2 hf2 htok _ _))
  iapply (issue c arg3 arg11 arg12 _ f11 _ (tokE i x2) (fun _ => htok _) hg 3 (by decide) _ _ (congrArg (fun n : ℕ => (![n, 0, 0] : Fin 3 → ℕ)) (tok_eq c i arg2 f2 x2 hf2 3 (k0_off7 i) _ (offv (i 0) 3 (by decide)) _)) _ _ _ _ _) $$ HS
  iintro HS
  sl_exec (disch := exact row_ok _ (tok_lt c _ _ x2 hf2 htok _ _))
  iapply (issue c arg3 arg11 arg12 _ f11 _ (tokE i x2) (fun _ => htok _) hg 4 (by decide) _ _ (congrArg (fun n : ℕ => (![n, 0, 0] : Fin 3 → ℕ)) (tok_eq c i arg2 f2 x2 hf2 4 (k0_off9 i) _ (offv (i 0) 4 (by decide)) _)) _ _ _ _ _) $$ HS
  iintro HS
  sl_exec (disch := exact row_ok _ (tok_lt c _ _ x2 hf2 htok _ _))
  iapply (issue c arg3 arg11 arg12 _ f11 _ (tokE i x2) (fun _ => htok _) hg 5 (by decide) _ _ (congrArg (fun n : ℕ => (![n, 0, 0] : Fin 3 → ℕ)) (tok_eq c i arg2 f2 x2 hf2 5 (k0_off11 i) _ (offv (i 0) 5 (by decide)) _)) _ _ _ _ _) $$ HS
  iintro HS
  sl_exec (disch := exact row_ok _ (tok_lt c _ _ x2 hf2 htok _ _))
  iapply (issue c arg3 arg11 arg12 _ f11 _ (tokE i x2) (fun _ => htok _) hg 6 (by decide) _ _ (congrArg (fun n : ℕ => (![n, 0, 0] : Fin 3 → ℕ)) (tok_eq c i arg2 f2 x2 hf2 6 (k0_off13 i) _ (offv (i 0) 6 (by decide)) _)) _ _ _ _ _) $$ HS
  iintro HS
  sl_exec (disch := exact row_ok _ (tok_lt c _ _ x2 hf2 htok _ _))
  iapply (issue c arg3 arg11 arg12 _ f11 _ (tokE i x2) (fun _ => htok _) hg 7 (by decide) _ _ (congrArg (fun n : ℕ => (![n, 0, 0] : Fin 3 → ℕ)) (tok_eq c i arg2 f2 x2 hf2 7 (k0_off15 i) _ (offv (i 0) 7 (by decide)) _)) _ _ _ _ _) $$ HS
  iintro HS
  sl_exec (disch := exact row_ok _ (tok_lt c _ _ x2 hf2 htok _ _))
  iapply (issue c arg3 arg11 arg12 _ f11 _ (tokE i x2) (fun _ => htok _) hg 8 (by decide) _ _ (congrArg (fun n : ℕ => (![n, 0, 0] : Fin 3 → ℕ)) (tok_eq c i arg2 f2 x2 hf2 8 (k0_off17 i) _ (offv (i 0) 8 (by decide)) _)) _ _ _ _ _) $$ HS
  iintro HS
  sl_exec (disch := exact row_ok _ (tok_lt c _ _ x2 hf2 htok _ _))
  iapply (issue c arg3 arg11 arg12 _ f11 _ (tokE i x2) (fun _ => htok _) hg 9 (by decide) _ _ (congrArg (fun n : ℕ => (![n, 0, 0] : Fin 3 → ℕ)) (tok_eq c i arg2 f2 x2 hf2 9 (k0_off19 i) _ (offv (i 0) 9 (by decide)) _)) _ _ _ _ _) $$ HS
  iintro HS
  sl_exec (disch := exact row_ok _ (tok_lt c _ _ x2 hf2 htok _ _))
  iapply (issue c arg3 arg11 arg12 _ f11 _ (tokE i x2) (fun _ => htok _) hg 10 (by decide) _ _ (congrArg (fun n : ℕ => (![n, 0, 0] : Fin 3 → ℕ)) (tok_eq c i arg2 f2 x2 hf2 10 (k0_off21 i) _ (offv (i 0) 10 (by decide)) _)) _ _ _ _ _) $$ HS
  iintro HS
  sl_exec (disch := exact row_ok _ (tok_lt c _ _ x2 hf2 htok _ _))
  iapply (issue c arg3 arg11 arg12 _ f11 _ (tokE i x2) (fun _ => htok _) hg 11 (by decide) _ _ (congrArg (fun n : ℕ => (![n, 0, 0] : Fin 3 → ℕ)) (tok_eq c i arg2 f2 x2 hf2 11 (k0_off23 i) _ (offv (i 0) 11 (by decide)) _)) _ _ _ _ _) $$ HS
  iintro HS
  sl_exec (disch := exact row_ok _ (tok_lt c _ _ x2 hf2 htok _ _))
  iapply (issue c arg3 arg11 arg12 _ f11 _ (tokE i x2) (fun _ => htok _) hg 12 (by decide) _ _ (congrArg (fun n : ℕ => (![n, 0, 0] : Fin 3 → ℕ)) (tok_eq c i arg2 f2 x2 hf2 12 (k0_off25 i) _ (offv (i 0) 12 (by decide)) _)) _ _ _ _ _) $$ HS
  iintro HS
  sl_exec (disch := exact row_ok _ (tok_lt c _ _ x2 hf2 htok _ _))
  iapply (issue c arg3 arg11 arg12 _ f11 _ (tokE i x2) (fun _ => htok _) hg 13 (by decide) _ _ (congrArg (fun n : ℕ => (![n, 0, 0] : Fin 3 → ℕ)) (tok_eq c i arg2 f2 x2 hf2 13 (k0_off27 i) _ (offv (i 0) 13 (by decide)) _)) _ _ _ _ _) $$ HS
  iintro HS
  sl_exec (disch := exact row_ok _ (tok_lt c _ _ x2 hf2 htok _ _))
  iapply (issue c arg3 arg11 arg12 _ f11 _ (tokE i x2) (fun _ => htok _) hg 14 (by decide) _ _ (congrArg (fun n : ℕ => (![n, 0, 0] : Fin 3 → ℕ)) (tok_eq c i arg2 f2 x2 hf2 14 (k0_off29 i) _ (offv (i 0) 14 (by decide)) _)) _ _ _ _ _) $$ HS
  iintro HS
  sl_exec (disch := exact row_ok _ (tok_lt c _ _ x2 hf2 htok _ _))
  iapply (issue c arg3 arg11 arg12 _ f11 _ (tokE i x2) (fun _ => htok _) hg 15 (by decide) _ _ (congrArg (fun n : ℕ => (![n, 0, 0] : Fin 3 → ℕ)) (tok_eq c i arg2 f2 x2 hf2 15 (k0_off31 i) _ (offv (i 0) 15 (by decide)) _)) _ _ _ _ _) $$ HS
  iintro HS
  sl_exec (disch := exact row_ok _ (tok_lt c _ _ x2 hf2 htok _ _))
  iapply (issue c arg3 arg11 arg12 _ f11 _ (tokE i x2) (fun _ => htok _) hg 16 (by decide) _ _ (congrArg (fun n : ℕ => (![n, 0, 0] : Fin 3 → ℕ)) (tok_eq c i arg2 f2 x2 hf2 16 (k0_off33 i) _ (offv (i 0) 16 (by decide)) _)) _ _ _ _ _) $$ HS
  iintro HS
  sl_exec (disch := exact row_ok _ (tok_lt c _ _ x2 hf2 htok _ _))
  iapply (issue c arg3 arg11 arg12 _ f11 _ (tokE i x2) (fun _ => htok _) hg 17 (by decide) _ _ (congrArg (fun n : ℕ => (![n, 0, 0] : Fin 3 → ℕ)) (tok_eq c i arg2 f2 x2 hf2 17 (k0_off35 i) _ (offv (i 0) 17 (by decide)) _)) _ _ _ _ _) $$ HS
  iintro HS
  sl_exec (disch := exact row_ok _ (tok_lt c _ _ x2 hf2 htok _ _))
  iapply (issue c arg3 arg11 arg12 _ f11 _ (tokE i x2) (fun _ => htok _) hg 18 (by decide) _ _ (congrArg (fun n : ℕ => (![n, 0, 0] : Fin 3 → ℕ)) (tok_eq c i arg2 f2 x2 hf2 18 (k0_off37 i) _ (offv (i 0) 18 (by decide)) _)) _ _ _ _ _) $$ HS
  iintro HS
  sl_exec (disch := exact row_ok _ (tok_lt c _ _ x2 hf2 htok _ _))
  iapply (issue c arg3 arg11 arg12 _ f11 _ (tokE i x2) (fun _ => htok _) hg 19 (by decide) _ _ (congrArg (fun n : ℕ => (![n, 0, 0] : Fin 3 → ℕ)) (tok_eq c i arg2 f2 x2 hf2 19 (k0_off39 i) _ (offv (i 0) 19 (by decide)) _)) _ _ _ _ _) $$ HS
  iintro HS
  sl_exec (disch := exact row_ok _ (tok_lt c _ _ x2 hf2 htok _ _))
  iapply (issue c arg3 arg11 arg12 _ f11 _ (tokE i x2) (fun _ => htok _) hg 20 (by decide) _ _ (congrArg (fun n : ℕ => (![n, 0, 0] : Fin 3 → ℕ)) (tok_eq c i arg2 f2 x2 hf2 20 (k0_off41 i) _ (offv (i 0) 20 (by decide)) _)) _ _ _ _ _) $$ HS
  iintro HS
  sl_exec (disch := exact row_ok _ (tok_lt c _ _ x2 hf2 htok _ _))
  iapply (issue c arg3 arg11 arg12 _ f11 _ (tokE i x2) (fun _ => htok _) hg 21 (by decide) _ _ (congrArg (fun n : ℕ => (![n, 0, 0] : Fin 3 → ℕ)) (tok_eq c i arg2 f2 x2 hf2 21 (k0_off43 i) _ (offv (i 0) 21 (by decide)) _)) _ _ _ _ _) $$ HS
  iintro HS
  sl_exec (disch := exact row_ok _ (tok_lt c _ _ x2 hf2 htok _ _))
  iapply (issue c arg3 arg11 arg12 _ f11 _ (tokE i x2) (fun _ => htok _) hg 22 (by decide) _ _ (congrArg (fun n : ℕ => (![n, 0, 0] : Fin 3 → ℕ)) (tok_eq c i arg2 f2 x2 hf2 22 (k0_off45 i) _ (offv (i 0) 22 (by decide)) _)) _ _ _ _ _) $$ HS
  iintro HS
  sl_exec (disch := exact row_ok _ (tok_lt c _ _ x2 hf2 htok _ _))
  iapply (issue c arg3 arg11 arg12 _ f11 _ (tokE i x2) (fun _ => htok _) hg 23 (by decide) _ _ (congrArg (fun n : ℕ => (![n, 0, 0] : Fin 3 → ℕ)) (tok_eq c i arg2 f2 x2 hf2 23 (k0_off47 i) _ (offv (i 0) 23 (by decide)) _)) _ _ _ _ _) $$ HS
  iintro HS
  sl_exec (disch := exact row_ok _ (tok_lt c _ _ x2 hf2 htok _ _))
  iapply (issue c arg3 arg11 arg12 _ f11 _ (tokE i x2) (fun _ => htok _) hg 24 (by decide) _ _ (congrArg (fun n : ℕ => (![n, 0, 0] : Fin 3 → ℕ)) (tok_eq c i arg2 f2 x2 hf2 24 (k0_off49 i) _ (offv (i 0) 24 (by decide)) _)) _ _ _ _ _) $$ HS
  iintro HS
  sl_exec (disch := exact row_ok _ (tok_lt c _ _ x2 hf2 htok _ _))
  iapply (issue c arg3 arg11 arg12 _ f11 _ (tokE i x2) (fun _ => htok _) hg 25 (by decide) _ _ (congrArg (fun n : ℕ => (![n, 0, 0] : Fin 3 → ℕ)) (tok_eq c i arg2 f2 x2 hf2 25 (k0_off51 i) _ (offv (i 0) 25 (by decide)) _)) _ _ _ _ _) $$ HS
  iintro HS
  sl_exec (disch := exact row_ok _ (tok_lt c _ _ x2 hf2 htok _ _))
  iapply (issue c arg3 arg11 arg12 _ f11 _ (tokE i x2) (fun _ => htok _) hg 26 (by decide) _ _ (congrArg (fun n : ℕ => (![n, 0, 0] : Fin 3 → ℕ)) (tok_eq c i arg2 f2 x2 hf2 26 (k0_off53 i) _ (offv (i 0) 26 (by decide)) _)) _ _ _ _ _) $$ HS
  iintro HS
  sl_exec (disch := exact row_ok _ (tok_lt c _ _ x2 hf2 htok _ _))
  iapply (issue c arg3 arg11 arg12 _ f11 _ (tokE i x2) (fun _ => htok _) hg 27 (by decide) _ _ (congrArg (fun n : ℕ => (![n, 0, 0] : Fin 3 → ℕ)) (tok_eq c i arg2 f2 x2 hf2 27 (k0_off55 i) _ (offv (i 0) 27 (by decide)) _)) _ _ _ _ _) $$ HS
  iintro HS
  sl_exec (disch := exact row_ok _ (tok_lt c _ _ x2 hf2 htok _ _))
  iapply (issue c arg3 arg11 arg12 _ f11 _ (tokE i x2) (fun _ => htok _) hg 28 (by decide) _ _ (congrArg (fun n : ℕ => (![n, 0, 0] : Fin 3 → ℕ)) (tok_eq c i arg2 f2 x2 hf2 28 (k0_off57 i) _ (offv (i 0) 28 (by decide)) _)) _ _ _ _ _) $$ HS
  iintro HS
  sl_exec (disch := exact row_ok _ (tok_lt c _ _ x2 hf2 htok _ _))
  iapply (issue c arg3 arg11 arg12 _ f11 _ (tokE i x2) (fun _ => htok _) hg 29 (by decide) _ _ (congrArg (fun n : ℕ => (![n, 0, 0] : Fin 3 → ℕ)) (tok_eq c i arg2 f2 x2 hf2 29 (k0_off59 i) _ (offv (i 0) 29 (by decide)) _)) _ _ _ _ _) $$ HS
  iintro HS
  sl_exec (disch := exact row_ok _ (tok_lt c _ _ x2 hf2 htok _ _))
  iapply (issue c arg3 arg11 arg12 _ f11 _ (tokE i x2) (fun _ => htok _) hg 30 (by decide) _ _ (congrArg (fun n : ℕ => (![n, 0, 0] : Fin 3 → ℕ)) (tok_eq c i arg2 f2 x2 hf2 30 (k0_off61 i) _ (offv (i 0) 30 (by decide)) _)) _ _ _ _ _) $$ HS
  iintro HS
  sl_exec (disch := exact row_ok _ (tok_lt c _ _ x2 hf2 htok _ _))
  iapply (issue c arg3 arg11 arg12 _ f11 _ (tokE i x2) (fun _ => htok _) hg 31 (by decide) _ _ (congrArg (fun n : ℕ => (![n, 0, 0] : Fin 3 → ℕ)) (tok_eq c i arg2 f2 x2 hf2 31 (k0_off63 i) _ (offv (i 0) 31 (by decide)) _)) _ _ _ _ _) $$ HS
  iintro HS
  sl_exec (disch := exact row_ok _ (tok_lt c _ _ x2 hf2 htok _ _))
  iapply (issue c arg3 arg11 arg12 _ f11 _ (tokE i x2) (fun _ => htok _) hg 32 (by decide) _ _ (congrArg (fun n : ℕ => (![n, 0, 0] : Fin 3 → ℕ)) (tok_eq c i arg2 f2 x2 hf2 32 (k0_off65 i) _ (offv (i 0) 32 (by decide)) _)) _ _ _ _ _) $$ HS
  iintro HS
  sl_exec (disch := exact row_ok _ (tok_lt c _ _ x2 hf2 htok _ _))
  iapply (issue c arg3 arg11 arg12 _ f11 _ (tokE i x2) (fun _ => htok _) hg 33 (by decide) _ _ (congrArg (fun n : ℕ => (![n, 0, 0] : Fin 3 → ℕ)) (tok_eq c i arg2 f2 x2 hf2 33 (k0_off67 i) _ (offv (i 0) 33 (by decide)) _)) _ _ _ _ _) $$ HS
  iintro HS
  sl_exec (disch := exact row_ok _ (tok_lt c _ _ x2 hf2 htok _ _))
  iapply (issue c arg3 arg11 arg12 _ f11 _ (tokE i x2) (fun _ => htok _) hg 34 (by decide) _ _ (congrArg (fun n : ℕ => (![n, 0, 0] : Fin 3 → ℕ)) (tok_eq c i arg2 f2 x2 hf2 34 (k0_off69 i) _ (offv (i 0) 34 (by decide)) _)) _ _ _ _ _) $$ HS
  iintro HS
  sl_exec (disch := exact row_ok _ (tok_lt c _ _ x2 hf2 htok _ _))
  iapply (issue c arg3 arg11 arg12 _ f11 _ (tokE i x2) (fun _ => htok _) hg 35 (by decide) _ _ (congrArg (fun n : ℕ => (![n, 0, 0] : Fin 3 → ℕ)) (tok_eq c i arg2 f2 x2 hf2 35 (k0_off71 i) _ (offv (i 0) 35 (by decide)) _)) _ _ _ _ _) $$ HS
  iintro HS
  sl_exec (disch := exact row_ok _ (tok_lt c _ _ x2 hf2 htok _ _))
  iapply (issue c arg3 arg11 arg12 _ f11 _ (tokE i x2) (fun _ => htok _) hg 36 (by decide) _ _ (congrArg (fun n : ℕ => (![n, 0, 0] : Fin 3 → ℕ)) (tok_eq c i arg2 f2 x2 hf2 36 (k0_off73 i) _ (offv (i 0) 36 (by decide)) _)) _ _ _ _ _) $$ HS
  iintro HS
  sl_exec (disch := exact row_ok _ (tok_lt c _ _ x2 hf2 htok _ _))
  iapply (issue c arg3 arg11 arg12 _ f11 _ (tokE i x2) (fun _ => htok _) hg 37 (by decide) _ _ (congrArg (fun n : ℕ => (![n, 0, 0] : Fin 3 → ℕ)) (tok_eq c i arg2 f2 x2 hf2 37 (k0_off75 i) _ (offv (i 0) 37 (by decide)) _)) _ _ _ _ _) $$ HS
  iintro HS
  sl_exec (disch := exact row_ok _ (tok_lt c _ _ x2 hf2 htok _ _))
  iapply (issue c arg3 arg11 arg12 _ f11 _ (tokE i x2) (fun _ => htok _) hg 38 (by decide) _ _ (congrArg (fun n : ℕ => (![n, 0, 0] : Fin 3 → ℕ)) (tok_eq c i arg2 f2 x2 hf2 38 (k0_off77 i) _ (offv (i 0) 38 (by decide)) _)) _ _ _ _ _) $$ HS
  iintro HS
  sl_exec (disch := exact row_ok _ (tok_lt c _ _ x2 hf2 htok _ _))
  iapply (issue c arg3 arg11 arg12 _ f11 _ (tokE i x2) (fun _ => htok _) hg 39 (by decide) _ _ (congrArg (fun n : ℕ => (![n, 0, 0] : Fin 3 → ℕ)) (tok_eq c i arg2 f2 x2 hf2 39 (k0_off79 i) _ (offv (i 0) 39 (by decide)) _)) _ _ _ _ _) $$ HS
  iintro HS
  sl_exec (disch := exact row_ok _ (tok_lt c _ _ x2 hf2 htok _ _))
  iapply (issue c arg3 arg11 arg12 _ f11 _ (tokE i x2) (fun _ => htok _) hg 40 (by decide) _ _ (congrArg (fun n : ℕ => (![n, 0, 0] : Fin 3 → ℕ)) (tok_eq c i arg2 f2 x2 hf2 40 (k0_off81 i) _ (offv (i 0) 40 (by decide)) _)) _ _ _ _ _) $$ HS
  iintro HS
  sl_exec (disch := exact row_ok _ (tok_lt c _ _ x2 hf2 htok _ _))
  iapply (issue c arg3 arg11 arg12 _ f11 _ (tokE i x2) (fun _ => htok _) hg 41 (by decide) _ _ (congrArg (fun n : ℕ => (![n, 0, 0] : Fin 3 → ℕ)) (tok_eq c i arg2 f2 x2 hf2 41 (k0_off83 i) _ (offv (i 0) 41 (by decide)) _)) _ _ _ _ _) $$ HS
  iintro HS
  sl_exec (disch := exact row_ok _ (tok_lt c _ _ x2 hf2 htok _ _))
  iapply (issue c arg3 arg11 arg12 _ f11 _ (tokE i x2) (fun _ => htok _) hg 42 (by decide) _ _ (congrArg (fun n : ℕ => (![n, 0, 0] : Fin 3 → ℕ)) (tok_eq c i arg2 f2 x2 hf2 42 (k0_off85 i) _ (offv (i 0) 42 (by decide)) _)) _ _ _ _ _) $$ HS
  iintro HS
  sl_exec (disch := exact row_ok _ (tok_lt c _ _ x2 hf2 htok _ _))
  iapply (issue c arg3 arg11 arg12 _ f11 _ (tokE i x2) (fun _ => htok _) hg 43 (by decide) _ _ (congrArg (fun n : ℕ => (![n, 0, 0] : Fin 3 → ℕ)) (tok_eq c i arg2 f2 x2 hf2 43 (k0_off87 i) _ (offv (i 0) 43 (by decide)) _)) _ _ _ _ _) $$ HS
  iintro HS
  sl_exec (disch := exact row_ok _ (tok_lt c _ _ x2 hf2 htok _ _))
  iapply (issue c arg3 arg11 arg12 _ f11 _ (tokE i x2) (fun _ => htok _) hg 44 (by decide) _ _ (congrArg (fun n : ℕ => (![n, 0, 0] : Fin 3 → ℕ)) (tok_eq c i arg2 f2 x2 hf2 44 (k0_off89 i) _ (offv (i 0) 44 (by decide)) _)) _ _ _ _ _) $$ HS
  iintro HS
  sl_exec (disch := exact row_ok _ (tok_lt c _ _ x2 hf2 htok _ _))
  iapply (issue c arg3 arg11 arg12 _ f11 _ (tokE i x2) (fun _ => htok _) hg 45 (by decide) _ _ (congrArg (fun n : ℕ => (![n, 0, 0] : Fin 3 → ℕ)) (tok_eq c i arg2 f2 x2 hf2 45 (k0_off91 i) _ (offv (i 0) 45 (by decide)) _)) _ _ _ _ _) $$ HS
  iintro HS
  sl_exec (disch := exact row_ok _ (tok_lt c _ _ x2 hf2 htok _ _))
  iapply (issue c arg3 arg11 arg12 _ f11 _ (tokE i x2) (fun _ => htok _) hg 46 (by decide) _ _ (congrArg (fun n : ℕ => (![n, 0, 0] : Fin 3 → ℕ)) (tok_eq c i arg2 f2 x2 hf2 46 (k0_off93 i) _ (offv (i 0) 46 (by decide)) _)) _ _ _ _ _) $$ HS
  iintro HS
  sl_exec (disch := exact row_ok _ (tok_lt c _ _ x2 hf2 htok _ _))
  iapply (issue c arg3 arg11 arg12 _ f11 _ (tokE i x2) (fun _ => htok _) hg 47 (by decide) _ _ (congrArg (fun n : ℕ => (![n, 0, 0] : Fin 3 → ℕ)) (tok_eq c i arg2 f2 x2 hf2 47 (k0_off95 i) _ (offv (i 0) 47 (by decide)) _)) _ _ _ _ _) $$ HS
  iintro HS
  sl_exec (disch := exact row_ok _ (tok_lt c _ _ x2 hf2 htok _ _))
  iapply (issue c arg3 arg11 arg12 _ f11 _ (tokE i x2) (fun _ => htok _) hg 48 (by decide) _ _ (congrArg (fun n : ℕ => (![n, 0, 0] : Fin 3 → ℕ)) (tok_eq c i arg2 f2 x2 hf2 48 (k0_off97 i) _ (offv (i 0) 48 (by decide)) _)) _ _ _ _ _) $$ HS
  iintro HS
  sl_exec (disch := exact row_ok _ (tok_lt c _ _ x2 hf2 htok _ _))
  iapply (issue c arg3 arg11 arg12 _ f11 _ (tokE i x2) (fun _ => htok _) hg 49 (by decide) _ _ (congrArg (fun n : ℕ => (![n, 0, 0] : Fin 3 → ℕ)) (tok_eq c i arg2 f2 x2 hf2 49 (k0_off99 i) _ (offv (i 0) 49 (by decide)) _)) _ _ _ _ _) $$ HS
  iintro HS
  sl_exec (disch := exact row_ok _ (tok_lt c _ _ x2 hf2 htok _ _))
  iapply (issue c arg3 arg11 arg12 _ f11 _ (tokE i x2) (fun _ => htok _) hg 50 (by decide) _ _ (congrArg (fun n : ℕ => (![n, 0, 0] : Fin 3 → ℕ)) (tok_eq c i arg2 f2 x2 hf2 50 (k0_off101 i) _ (offv (i 0) 50 (by decide)) _)) _ _ _ _ _) $$ HS
  iintro HS
  sl_exec (disch := exact row_ok _ (tok_lt c _ _ x2 hf2 htok _ _))
  iapply (issue c arg3 arg11 arg12 _ f11 _ (tokE i x2) (fun _ => htok _) hg 51 (by decide) _ _ (congrArg (fun n : ℕ => (![n, 0, 0] : Fin 3 → ℕ)) (tok_eq c i arg2 f2 x2 hf2 51 (k0_off103 i) _ (offv (i 0) 51 (by decide)) _)) _ _ _ _ _) $$ HS
  iintro HS
  sl_exec (disch := exact row_ok _ (tok_lt c _ _ x2 hf2 htok _ _))
  iapply (issue c arg3 arg11 arg12 _ f11 _ (tokE i x2) (fun _ => htok _) hg 52 (by decide) _ _ (congrArg (fun n : ℕ => (![n, 0, 0] : Fin 3 → ℕ)) (tok_eq c i arg2 f2 x2 hf2 52 (k0_off105 i) _ (offv (i 0) 52 (by decide)) _)) _ _ _ _ _) $$ HS
  iintro HS
  sl_exec (disch := exact row_ok _ (tok_lt c _ _ x2 hf2 htok _ _))
  iapply (issue c arg3 arg11 arg12 _ f11 _ (tokE i x2) (fun _ => htok _) hg 53 (by decide) _ _ (congrArg (fun n : ℕ => (![n, 0, 0] : Fin 3 → ℕ)) (tok_eq c i arg2 f2 x2 hf2 53 (k0_off107 i) _ (offv (i 0) 53 (by decide)) _)) _ _ _ _ _) $$ HS
  iintro HS
  sl_exec (disch := exact row_ok _ (tok_lt c _ _ x2 hf2 htok _ _))
  iapply (issue c arg3 arg11 arg12 _ f11 _ (tokE i x2) (fun _ => htok _) hg 54 (by decide) _ _ (congrArg (fun n : ℕ => (![n, 0, 0] : Fin 3 → ℕ)) (tok_eq c i arg2 f2 x2 hf2 54 (k0_off109 i) _ (offv (i 0) 54 (by decide)) _)) _ _ _ _ _) $$ HS
  iintro HS
  sl_exec (disch := exact row_ok _ (tok_lt c _ _ x2 hf2 htok _ _))
  iapply (issue c arg3 arg11 arg12 _ f11 _ (tokE i x2) (fun _ => htok _) hg 55 (by decide) _ _ (congrArg (fun n : ℕ => (![n, 0, 0] : Fin 3 → ℕ)) (tok_eq c i arg2 f2 x2 hf2 55 (k0_off111 i) _ (offv (i 0) 55 (by decide)) _)) _ _ _ _ _) $$ HS
  iintro HS
  sl_exec (disch := exact row_ok _ (tok_lt c _ _ x2 hf2 htok _ _))
  iapply (issue c arg3 arg11 arg12 _ f11 _ (tokE i x2) (fun _ => htok _) hg 56 (by decide) _ _ (congrArg (fun n : ℕ => (![n, 0, 0] : Fin 3 → ℕ)) (tok_eq c i arg2 f2 x2 hf2 56 (k0_off113 i) _ (offv (i 0) 56 (by decide)) _)) _ _ _ _ _) $$ HS
  iintro HS
  sl_exec (disch := exact row_ok _ (tok_lt c _ _ x2 hf2 htok _ _))
  iapply (issue c arg3 arg11 arg12 _ f11 _ (tokE i x2) (fun _ => htok _) hg 57 (by decide) _ _ (congrArg (fun n : ℕ => (![n, 0, 0] : Fin 3 → ℕ)) (tok_eq c i arg2 f2 x2 hf2 57 (k0_off115 i) _ (offv (i 0) 57 (by decide)) _)) _ _ _ _ _) $$ HS
  iintro HS
  sl_exec (disch := exact row_ok _ (tok_lt c _ _ x2 hf2 htok _ _))
  iapply (issue c arg3 arg11 arg12 _ f11 _ (tokE i x2) (fun _ => htok _) hg 58 (by decide) _ _ (congrArg (fun n : ℕ => (![n, 0, 0] : Fin 3 → ℕ)) (tok_eq c i arg2 f2 x2 hf2 58 (k0_off117 i) _ (offv (i 0) 58 (by decide)) _)) _ _ _ _ _) $$ HS
  iintro HS
  sl_exec (disch := exact row_ok _ (tok_lt c _ _ x2 hf2 htok _ _))
  iapply (issue c arg3 arg11 arg12 _ f11 _ (tokE i x2) (fun _ => htok _) hg 59 (by decide) _ _ (congrArg (fun n : ℕ => (![n, 0, 0] : Fin 3 → ℕ)) (tok_eq c i arg2 f2 x2 hf2 59 (k0_off119 i) _ (offv (i 0) 59 (by decide)) _)) _ _ _ _ _) $$ HS
  iintro HS
  sl_exec (disch := exact row_ok _ (tok_lt c _ _ x2 hf2 htok _ _))
  iapply (issue c arg3 arg11 arg12 _ f11 _ (tokE i x2) (fun _ => htok _) hg 60 (by decide) _ _ (congrArg (fun n : ℕ => (![n, 0, 0] : Fin 3 → ℕ)) (tok_eq c i arg2 f2 x2 hf2 60 (k0_off121 i) _ (offv (i 0) 60 (by decide)) _)) _ _ _ _ _) $$ HS
  iintro HS
  sl_exec (disch := exact row_ok _ (tok_lt c _ _ x2 hf2 htok _ _))
  iapply (issue c arg3 arg11 arg12 _ f11 _ (tokE i x2) (fun _ => htok _) hg 61 (by decide) _ _ (congrArg (fun n : ℕ => (![n, 0, 0] : Fin 3 → ℕ)) (tok_eq c i arg2 f2 x2 hf2 61 (k0_off123 i) _ (offv (i 0) 61 (by decide)) _)) _ _ _ _ _) $$ HS
  iintro HS
  sl_exec (disch := exact row_ok _ (tok_lt c _ _ x2 hf2 htok _ _))
  iapply (issue c arg3 arg11 arg12 _ f11 _ (tokE i x2) (fun _ => htok _) hg 62 (by decide) _ _ (congrArg (fun n : ℕ => (![n, 0, 0] : Fin 3 → ℕ)) (tok_eq c i arg2 f2 x2 hf2 62 (k0_off125 i) _ (offv (i 0) 62 (by decide)) _)) _ _ _ _ _) $$ HS
  iintro HS
  sl_exec (disch := exact row_ok _ (tok_lt c _ _ x2 hf2 htok _ _))
  iapply (issue c arg3 arg11 arg12 _ f11 _ (tokE i x2) (fun _ => htok _) hg 63 (by decide) _ _ (congrArg (fun n : ℕ => (![n, 0, 0] : Fin 3 → ℕ)) (tok_eq c i arg2 f2 x2 hf2 63 (k0_off127 i) _ (offv (i 0) 63 (by decide)) _)) _ _ _ _ _) $$ HS
  iintro HS
  unfold stE
  icases HS with ⟨-, HB⟩
  sl_exec (disch := exact row_ok _ (tok_lt c _ _ x2 hf2 htok _ _))
  ihave HP := collect (pend c arg3 arg11 (harg3.unread T) (harg11.unread (rowsE i x2 htok T)) (tokE i x2) (fun _ => htok _)) $$ [HB_0 HB_1 HB_2 HB_3 HB_4 HB_5 HB_6 HB_7 HB_8 HB_9 HB_10 HB_11 HB_12 HB_13 HB_14 HB_15 HB_16 HB_17 HB_18 HB_19 HB_20 HB_21 HB_22 HB_23 HB_24 HB_25 HB_26 HB_27 HB_28 HB_29 HB_30 HB_31 HB_32 HB_33 HB_34 HB_35 HB_36 HB_37 HB_38 HB_39 HB_40 HB_41 HB_42 HB_43 HB_44 HB_45 HB_46 HB_47 HB_48 HB_49 HB_50 HB_51 HB_52 HB_53 HB_54 HB_55 HB_56 HB_57 HB_58 HB_59 HB_60 HB_61 HB_62 HB_63]
  · isplitl [HB_0]; · iexact HB_0
    isplitl [HB_1]; · iexact HB_1
    isplitl [HB_2]; · iexact HB_2
    isplitl [HB_3]; · iexact HB_3
    isplitl [HB_4]; · iexact HB_4
    isplitl [HB_5]; · iexact HB_5
    isplitl [HB_6]; · iexact HB_6
    isplitl [HB_7]; · iexact HB_7
    isplitl [HB_8]; · iexact HB_8
    isplitl [HB_9]; · iexact HB_9
    isplitl [HB_10]; · iexact HB_10
    isplitl [HB_11]; · iexact HB_11
    isplitl [HB_12]; · iexact HB_12
    isplitl [HB_13]; · iexact HB_13
    isplitl [HB_14]; · iexact HB_14
    isplitl [HB_15]; · iexact HB_15
    isplitl [HB_16]; · iexact HB_16
    isplitl [HB_17]; · iexact HB_17
    isplitl [HB_18]; · iexact HB_18
    isplitl [HB_19]; · iexact HB_19
    isplitl [HB_20]; · iexact HB_20
    isplitl [HB_21]; · iexact HB_21
    isplitl [HB_22]; · iexact HB_22
    isplitl [HB_23]; · iexact HB_23
    isplitl [HB_24]; · iexact HB_24
    isplitl [HB_25]; · iexact HB_25
    isplitl [HB_26]; · iexact HB_26
    isplitl [HB_27]; · iexact HB_27
    isplitl [HB_28]; · iexact HB_28
    isplitl [HB_29]; · iexact HB_29
    isplitl [HB_30]; · iexact HB_30
    isplitl [HB_31]; · iexact HB_31
    isplitl [HB_32]; · iexact HB_32
    isplitl [HB_33]; · iexact HB_33
    isplitl [HB_34]; · iexact HB_34
    isplitl [HB_35]; · iexact HB_35
    isplitl [HB_36]; · iexact HB_36
    isplitl [HB_37]; · iexact HB_37
    isplitl [HB_38]; · iexact HB_38
    isplitl [HB_39]; · iexact HB_39
    isplitl [HB_40]; · iexact HB_40
    isplitl [HB_41]; · iexact HB_41
    isplitl [HB_42]; · iexact HB_42
    isplitl [HB_43]; · iexact HB_43
    isplitl [HB_44]; · iexact HB_44
    isplitl [HB_45]; · iexact HB_45
    isplitl [HB_46]; · iexact HB_46
    isplitl [HB_47]; · iexact HB_47
    isplitl [HB_48]; · iexact HB_48
    isplitl [HB_49]; · iexact HB_49
    isplitl [HB_50]; · iexact HB_50
    isplitl [HB_51]; · iexact HB_51
    isplitl [HB_52]; · iexact HB_52
    isplitl [HB_53]; · iexact HB_53
    isplitl [HB_54]; · iexact HB_54
    isplitl [HB_55]; · iexact HB_55
    isplitl [HB_56]; · iexact HB_56
    isplitl [HB_57]; · iexact HB_57
    isplitl [HB_58]; · iexact HB_58
    isplitl [HB_59]; · iexact HB_59
    isplitl [HB_60]; · iexact HB_60
    isplitl [HB_61]; · iexact HB_61
    isplitl [HB_62]; · iexact HB_62
    iexact HB_63
  ihave HP' := (Entails.of_eq (pend_all c arg3 arg11 (harg3.unread T) (tokE i x2) (fun _ => htok _) (harg11.unread (rowsE i x2 htok T)))) $$ HP
  icases HP' with ⟨HS3, H11⟩
  ihave H3 := (src_split c arg3 (harg3.unread T) (tokE i x2) (fun _ => htok _)).2 $$ [HT HS3]
  · isplitl [HT] <;> iassumption
  sl_exec
  sl_step
  iapply Hk
  isplitl [H2]
  · iexists _; isplitr; swap; · iexact H2
    ipureintro; exact hf2
  isplitl [H3]
  · iexists _; isplitr; swap; · iexact H3
    ipureintro; exact harg3.read_unread (Val := Elt F) T
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; rw [View.read_writes_full]; unfold run_E.sl.r_128; rw [View.readAt_full, View.readAt_full, View.readAt_full, View.readAt_full, View.readAt_full, View.readAt_full, hf4, hf5, hf6, hf7, hf8, harg11.read_unread]
  isplitl [H10]
  · iexists _; isplitr; swap; · iexact H10
    ipureintro; rw [View.read_writes_full, View.readAt_full, harg11.read_unread]
  isplitl [H11]
  · iexists _; iexists _; isplitr; swap; · iexact H11
    ipureintro; rfl
  isplitl [HB]; · iexact HB
  iexists _; iexact HO

end Cert.KernelIdeal
-- ==== Proof.EmbedDatI.lean ====
module

public import proofs.«01_k».proof.Proof.EmbedStepI
public import proofs.«01_k».proof.Proof.Gen.KernelIdeal.Launch
public import Idealize.ShloMosaic.Lib.Pipeline.ArrRel
public import Idealize.ShloMosaic.Lib.Pipeline.ValueKit
public import Idealize.ShloMosaic.Lib.Pipeline.FrameBody

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ × Counters) ℕ

/-- Contents for every array of the call. -/
abbrev ArrE (F : FTy → Type) (c : Dev nD) : Type := (w : Fin cfg0.W) → Buf (Elt F) ((cfg0.win w).arr.view.loc (c : Thread nD τ))

/-- What a fetch at step `t` leaves in window `w`'s buffer. -/
abbrev flE {c : Dev nD} (A : ArrE F c) (w : Fin cfg0.W) (t : Fin cfg0.N)
    (d : (cfg0.win w).block.Idx → Elt F (cfg0.win w).elt) : (cfg0.win w).block.Idx → Elt F (cfg0.win w).elt :=
  (cfg0.win w).fill (cfg0.grid.coords t) d (((cfg0.win w).blk t).view.read (Elt F) (A w))

theorem rowE64_lt (t : Fin cfg0.N) (r : Fin 64) : 64 * t.val + r.val < 128 := by
  have := t.isLt.trans_eq N_0; omega
theorem stepE64_lt (r : Fin 128) : r.val / 64 < cfg0.N := by
  have h : cfg0.N = 2 := N_0
  omega
theorem modE64_lt (r : Fin 128) : r.val % 64 < 64 := by omega

section BlocksE

variable {c : Dev nD} (A : ArrE F c)

/-- Input 0, whole at every step. -/
def inE0 : S128.Idx → BitVec 32 := A 0
/-- Input 1: the rows that step `t` works on. -/
def inE1 (t : Fin cfg0.N) : S64x256.Idx → F .f32 := fun i => (A 1 : S128x256.Idx → F .f32) (ix2 ⟨64 * t.val + (i 0).val, rowE64_lt t (i 0)⟩ (i 1))
/-- Input 2, whole at every step. -/
def inE2 : S768x128.Idx → F .f32 := A 2
/-- Input 3, whole at every step. -/
def inE3 : S768x256.Idx → F .f32 := A 3
/-- Input 4, whole at every step. -/
def inE4 : S1x768.Idx → F .f32 := A 4
/-- Input 5, whole at every step. -/
def inE5 : S1x768.Idx → F .f32 := A 5

theorem atE0 : ∀ t : Fin grid0.N, cc0_transform_0 (grid0.coords t) 0 = 0 := by decide +kernel
theorem flE0_eq (t : Fin cfg0.N) (d) : flE A 0 t d = inE0 A := by
  have h0 := atE0 t
  refine funext fun i => congrArg (A 0 : S128.Idx → BitVec 32) (funext fun a => Fin.ext ?_)
  match a with
  | ⟨0, _⟩ =>
    refine (ValueKit.view_emb_slice_whole_unit_val main_v0 _ _ _ _ _).trans ?_
    show cc0_transform_0 (grid0.coords t) 0 * 128 + (i 0).val = (i 0).val
    rw [h0]; omega
theorem atE1 : ∀ t : Fin grid0.N, cc0_transform_2 (grid0.coords t) 0 = t.val ∧ cc0_transform_2 (grid0.coords t) 1 = 0 := by decide +kernel
theorem flE1_eq (t : Fin cfg0.N) (d) : flE A 1 t d = inE1 A t := by
  obtain ⟨h0, h1⟩ := atE1 t
  refine funext fun i => congrArg (A 1 : S128x256.Idx → F .f32) (funext fun a => Fin.ext ?_)
  match a with
  | ⟨0, _⟩ =>
    refine (ValueKit.view_emb_slice_whole_unit_val main_arg1 _ _ _ _ _).trans ?_
    show cc0_transform_2 (grid0.coords t) 0 * 64 + (i 0).val = 64 * t.val + (i 0).val
    rw [h0]; omega
  | ⟨1, _⟩ =>
    refine (ValueKit.view_emb_slice_whole_unit_val main_arg1 _ _ _ _ _).trans ?_
    show cc0_transform_2 (grid0.coords t) 1 * 256 + (i 1).val = (i 1).val
    rw [h1]; omega
theorem atE2 : ∀ t : Fin grid0.N, cc0_transform_3 (grid0.coords t) 0 = 0 ∧ cc0_transform_3 (grid0.coords t) 1 = 0 := by decide +kernel
theorem flE2_eq (t : Fin cfg0.N) (d) : flE A 2 t d = inE2 A := by
  obtain ⟨h0, h1⟩ := atE2 t
  refine funext fun i => congrArg (A 2 : S768x128.Idx → F .f32) (funext fun a => Fin.ext ?_)
  match a with
  | ⟨0, _⟩ =>
    refine (ValueKit.view_emb_slice_whole_unit_val main_arg5 _ _ _ _ _).trans ?_
    show cc0_transform_3 (grid0.coords t) 0 * 768 + (i 0).val = (i 0).val
    rw [h0]; omega
  | ⟨1, _⟩ =>
    refine (ValueKit.view_emb_slice_whole_unit_val main_arg5 _ _ _ _ _).trans ?_
    show cc0_transform_3 (grid0.coords t) 1 * 128 + (i 1).val = (i 1).val
    rw [h1]; omega
theorem atE3 : ∀ t : Fin grid0.N, cc0_transform_4 (grid0.coords t) 0 = 0 ∧ cc0_transform_4 (grid0.coords t) 1 = 0 := by decide +kernel
theorem flE3_eq (t : Fin cfg0.N) (d) : flE A 3 t d = inE3 A := by
  obtain ⟨h0, h1⟩ := atE3 t
  refine funext fun i => congrArg (A 3 : S768x256.Idx → F .f32) (funext fun a => Fin.ext ?_)
  match a with
  | ⟨0, _⟩ =>
    refine (ValueKit.view_emb_slice_whole_unit_val main_arg6 _ _ _ _ _).trans ?_
    show cc0_transform_4 (grid0.coords t) 0 * 768 + (i 0).val = (i 0).val
    rw [h0]; omega
  | ⟨1, _⟩ =>
    refine (ValueKit.view_emb_slice_whole_unit_val main_arg6 _ _ _ _ _).trans ?_
    show cc0_transform_4 (grid0.coords t) 1 * 256 + (i 1).val = (i 1).val
    rw [h1]; omega
theorem atE4 : ∀ t : Fin grid0.N, cc0_transform_5 (grid0.coords t) 0 = 0 ∧ cc0_transform_5 (grid0.coords t) 1 = 0 := by decide +kernel
theorem flE4_eq (t : Fin cfg0.N) (d) : flE A 4 t d = inE4 A := by
  obtain ⟨h0, h1⟩ := atE4 t
  refine funext fun i => congrArg (A 4 : S1x768.Idx → F .f32) (funext fun a => Fin.ext ?_)
  match a with
  | ⟨0, _⟩ =>
    refine (ValueKit.view_emb_slice_whole_unit_val main_v2 _ _ _ _ _).trans ?_
    show cc0_transform_5 (grid0.coords t) 0 * 1 + (i 0).val = (i 0).val
    rw [h0]; omega
  | ⟨1, _⟩ =>
    refine (ValueKit.view_emb_slice_whole_unit_val main_v2 _ _ _ _ _).trans ?_
    show cc0_transform_5 (grid0.coords t) 1 * 768 + (i 1).val = (i 1).val
    rw [h1]; omega
theorem atE5 : ∀ t : Fin grid0.N, cc0_transform_6 (grid0.coords t) 0 = 0 ∧ cc0_transform_6 (grid0.coords t) 1 = 0 := by decide +kernel
theorem flE5_eq (t : Fin cfg0.N) (d) : flE A 5 t d = inE5 A := by
  obtain ⟨h0, h1⟩ := atE5 t
  refine funext fun i => congrArg (A 5 : S1x768.Idx → F .f32) (funext fun a => Fin.ext ?_)
  match a with
  | ⟨0, _⟩ =>
    refine (ValueKit.view_emb_slice_whole_unit_val main_v3 _ _ _ _ _).trans ?_
    show cc0_transform_6 (grid0.coords t) 0 * 1 + (i 0).val = (i 0).val
    rw [h0]; omega
  | ⟨1, _⟩ =>
    refine (ValueKit.view_emb_slice_whole_unit_val main_v3 _ _ _ _ _).trans ?_
    show cc0_transform_6 (grid0.coords t) 1 * 768 + (i 1).val = (i 1).val
    rw [h1]; omega
theorem atE6 : ∀ t : Fin grid0.N, cc0_transform_7 (grid0.coords t) 0 = t.val ∧ cc0_transform_7 (grid0.coords t) 1 = 0 := by decide +kernel
theorem atE7 : ∀ t : Fin grid0.N, cc0_transform_8 (grid0.coords t) 0 = t.val ∧ cc0_transform_8 (grid0.coords t) 1 = 0 := by decide +kernel

variable (T : S50000x1x128.Idx → F .f32) (htok : ∀ k, ((inE0 A) k).toNat < 50000)

/-- What step `t` leaves in the buffer of output 0. -/
def valE6 (t : Fin cfg0.N) : S64x256.Idx → F .f32 := k0_pay2 (rowsE (grid0.coords t) (inE0 A) htok T) (inE1 A t) (inE2 A) (inE4 A) (inE3 A) (inE5 A)
/-- Output 0 after the call. -/
def outE6 : S128x256.Idx → F .f32 := fun i => valE6 A T htok ⟨(i 0).val / 64, stepE64_lt (i 0)⟩ (ix2 ⟨(i 0).val % 64, modE64_lt (i 0)⟩ (i 1))
theorem outE6_at (t : Fin cfg0.N) (r : Fin 64) (j : Fin 256) (i : S128x256.Idx) (h0 : (i 0).val = 64 * t.val + r.val) (h1 : (i 1).val = j.val) :
    outE6 A T htok i = valE6 A T htok t (ix2 r j) := by
  have e0 : (⟨(i 0).val / 64, stepE64_lt (i 0)⟩ : Fin cfg0.N) = t := Fin.ext (by show (i 0).val / 64 = t.val; omega)
  have e1 : (⟨(i 0).val % 64, modE64_lt (i 0)⟩ : Fin 64) = r := Fin.ext (by show (i 0).val % 64 = r.val; omega)
  have e2 : (i 1 : Fin 256) = j := Fin.ext h1
  unfold outE6
  rw [e0, e1]
  exact congrArg (fun z : Fin 256 => valE6 A T htok t (ix2 r z)) e2

/-- What step `t` leaves in the buffer of output 1. -/
def valE7 (t : Fin cfg0.N) : S64x128.Idx → F .f32 := k0_pay1 (rowsE (grid0.coords t) (inE0 A) htok T)
/-- Output 1 after the call. -/
def outE7 : S128x128.Idx → F .f32 := fun i => valE7 A T htok ⟨(i 0).val / 64, stepE64_lt (i 0)⟩ (ix2 ⟨(i 0).val % 64, modE64_lt (i 0)⟩ (i 1))
theorem outE7_at (t : Fin cfg0.N) (r : Fin 64) (j : Fin 128) (i : S128x128.Idx) (h0 : (i 0).val = 64 * t.val + r.val) (h1 : (i 1).val = j.val) :
    outE7 A T htok i = valE7 A T htok t (ix2 r j) := by
  have e0 : (⟨(i 0).val / 64, stepE64_lt (i 0)⟩ : Fin cfg0.N) = t := Fin.ext (by show (i 0).val / 64 = t.val; omega)
  have e1 : (⟨(i 0).val % 64, modE64_lt (i 0)⟩ : Fin 64) = r := Fin.ext (by show (i 0).val % 64 = r.val; omega)
  have e2 : (i 1 : Fin 128) = j := Fin.ext h1
  unfold outE7
  rw [e0, e1]
  exact congrArg (fun z : Fin 128 => valE7 A T htok t (ix2 r z)) e2

/-- The scratch between steps, with what the call keeps beside it. -/
def phiE (c : Dev nD) (T : S50000x1x128.Idx → F .f32) : sProp 𝕄 :=
  iprop((∃ d, owns (c : Thread nD τ) (Memref.whole cc0_scratch0) fullShare d) ∗ semVal ((c : Thread nD τ), SemLoc.dma (sig := sig) cc0_scratch1.sem) 0
    ∗ owns (c : Thread nD τ) (Memref.whole main_v1) fullShare T ∗ Pipeline.scopedRestBut spec0 c [cc0_scratch0] ∗ (∃ r, prngReg c r))

/-- The call's relational data. -/
def datE : Pipeline.RDat τ (Elt F) Unit ℕ (UR sig nD τ × Counters) ℕ cfg0 c where
  A := A
  after w t Y X := match w, X, Y with
    | ⟨0, _⟩, X, Y => X = Y
    | ⟨1, _⟩, X, Y => X = Y
    | ⟨2, _⟩, X, Y => X = Y
    | ⟨3, _⟩, X, Y => X = Y
    | ⟨4, _⟩, X, Y => X = Y
    | ⟨5, _⟩, X, Y => X = Y
    | ⟨6, _⟩, X, _ => X = valE6 A T htok t
    | ⟨7, _⟩, X, _ => X = valE7 A T htok t
    | ⟨_ + 8, h⟩, _, _ => absurd h (Nat.not_lt.2 (Nat.le_add_left _ _))
  Φ _ := phiE c T
  q _ := fullShare
  owed _ := 0

theorem findsE0 (t : Fin cfg0.N) (Y) (h : (datE A T htok).Finds 0 t Y) : Y = inE0 A := by
  obtain ⟨d, hd⟩ := (datE A T htok).finds_in_eq_fetched 0 rfl (fun _ _ _ => rfl) (fun _ _ _ h => h) t Y h
  exact hd.trans (flE0_eq A t d)
theorem findsE1 (t : Fin cfg0.N) (Y) (h : (datE A T htok).Finds 1 t Y) : Y = inE1 A t := by
  obtain ⟨d, hd⟩ := ((datE A T htok).finds_of_fetch (fetch0_1 t) Y).mp h
  exact hd.trans (flE1_eq A t d)
theorem findsE2 (t : Fin cfg0.N) (Y) (h : (datE A T htok).Finds 2 t Y) : Y = inE2 A := by
  obtain ⟨d, hd⟩ := (datE A T htok).finds_in_eq_fetched 2 rfl (fun _ _ _ => rfl) (fun _ _ _ h => h) t Y h
  exact hd.trans (flE2_eq A t d)
theorem findsE3 (t : Fin cfg0.N) (Y) (h : (datE A T htok).Finds 3 t Y) : Y = inE3 A := by
  obtain ⟨d, hd⟩ := (datE A T htok).finds_in_eq_fetched 3 rfl (fun _ _ _ => rfl) (fun _ _ _ h => h) t Y h
  exact hd.trans (flE3_eq A t d)
theorem findsE4 (t : Fin cfg0.N) (Y) (h : (datE A T htok).Finds 4 t Y) : Y = inE4 A := by
  obtain ⟨d, hd⟩ := (datE A T htok).finds_in_eq_fetched 4 rfl (fun _ _ _ => rfl) (fun _ _ _ h => h) t Y h
  exact hd.trans (flE4_eq A t d)
theorem findsE5 (t : Fin cfg0.N) (Y) (h : (datE A T htok).Finds 5 t Y) : Y = inE5 A := by
  obtain ⟨d, hd⟩ := (datE A T htok).finds_in_eq_fetched 5 rfl (fun _ _ _ => rfl) (fun _ _ _ h => h) t Y h
  exact hd.trans (flE5_eq A t d)

theorem arrE6_eq (G) (h : (datE A T htok).ArrAt 6 cfg0.N G) : G = outE6 A T htok := by
  obtain ⟨X, hX, hG⟩ := h.exists_exact
  rw [hG (Function.update (fun _ _ _ => Classical.arbitrary _) 6 X) fun u _ _ => by rw [Function.update_self]]
  refine Pipeline.Dat.arrAt_eq_of_covers _ 6 _ (by decide +kernel) fun t hf y => ?_
  rw [Pipeline.RDat.withAfter_after, Function.update_self]
  obtain ⟨Y, -, hR⟩ := hX t t.isLt hf
  obtain ⟨i0, i1⟩ := atE6 t
  have e0 : ((((cfg0.win 6).blk t).view.emb y) 0).val = 64 * t.val + (((cfg0.win 6).xinj (cfg0.grid.coords t) y) 0).val := by
    refine (ValueKit.view_emb_slice_whole_unit_val main_v4_0 _ _ _ _ _).trans ?_
    show cc0_transform_7 (grid0.coords t) 0 * 64 + (y 0).val = 64 * t.val + (y 0).val
    rw [i0]; omega
  have e1 : ((((cfg0.win 6).blk t).view.emb y) 1).val = (((cfg0.win 6).xinj (cfg0.grid.coords t) y) 1).val := by
    refine (ValueKit.view_emb_slice_whole_unit_val main_v4_0 _ _ _ _ _).trans ?_
    show cc0_transform_7 (grid0.coords t) 1 * 256 + (y 1).val = (y 1).val
    rw [i1]; omega
  refine Eq.trans ?_ (outE6_at A T htok t _ _ _ e0 e1).symm
  have hR' : X t = valE6 A T htok t := hR
  show X t _ = _
  rw [hR']
  refine congrArg (valE6 A T htok t) ?_
  funext a; match a with | ⟨0, _⟩ => rfl | ⟨1, _⟩ => rfl

theorem arrE7_eq (G) (h : (datE A T htok).ArrAt 7 cfg0.N G) : G = outE7 A T htok := by
  obtain ⟨X, hX, hG⟩ := h.exists_exact
  rw [hG (Function.update (fun _ _ _ => Classical.arbitrary _) 7 X) fun u _ _ => by rw [Function.update_self]]
  refine Pipeline.Dat.arrAt_eq_of_covers _ 7 _ (by decide +kernel) fun t hf y => ?_
  rw [Pipeline.RDat.withAfter_after, Function.update_self]
  obtain ⟨Y, -, hR⟩ := hX t t.isLt hf
  obtain ⟨i0, i1⟩ := atE7 t
  have e0 : ((((cfg0.win 7).blk t).view.emb y) 0).val = 64 * t.val + (((cfg0.win 7).xinj (cfg0.grid.coords t) y) 0).val := by
    refine (ValueKit.view_emb_slice_whole_unit_val main_v4_1 _ _ _ _ _).trans ?_
    show cc0_transform_8 (grid0.coords t) 0 * 64 + (y 0).val = 64 * t.val + (y 0).val
    rw [i0]; omega
  have e1 : ((((cfg0.win 7).blk t).view.emb y) 1).val = (((cfg0.win 7).xinj (cfg0.grid.coords t) y) 1).val := by
    refine (ValueKit.view_emb_slice_whole_unit_val main_v4_1 _ _ _ _ _).trans ?_
    show cc0_transform_8 (grid0.coords t) 1 * 128 + (y 1).val = (y 1).val
    rw [i1]; omega
  refine Eq.trans ?_ (outE7_at A T htok t _ _ _ e0 e1).symm
  have hR' : X t = valE7 A T htok t := hR
  show X t _ = _
  rw [hR']
  refine congrArg (valE7 A T htok t) ?_
  funext a; match a with | ⟨0, _⟩ => rfl | ⟨1, _⟩ => rfl

/-- One step of the call, from buffers holding what the step finds. -/
theorem stepE (t : Fin cfg0.N) (Y0 : S128.Idx → BitVec 32) (Y1 : S64x256.Idx → F .f32) (Y2 : S768x128.Idx → F .f32) (Y3 : S768x256.Idx → F .f32) (Y4 : S1x768.Idx → F .f32) (Y5 : S1x768.Idx → F .f32) (Y6 : S64x256.Idx → F .f32) (Y7 : S64x128.Idx → F .f32)
    (h0 : Y0 = inE0 A) (h1 : Y1 = inE1 A t) (h2 : Y2 = inE2 A) (h3 : Y3 = inE3 A) (h4 : Y4 = inE4 A) (h5 : Y5 = inE5 A) :
    iprop(phiE c T ∗ (datE A T htok).owesAt () t.castSucc ∗ owns (c : Thread nD τ) (st0_0 t) fullShare Y0 ∗ owns (c : Thread nD τ) (st0_1 t) fullShare Y1 ∗ owns (c : Thread nD τ) (st0_2 t) fullShare Y2 ∗ owns (c : Thread nD τ) (st0_3 t) fullShare Y3 ∗ owns (c : Thread nD τ) (st0_4 t) fullShare Y4 ∗ owns (c : Thread nD τ) (st0_5 t) fullShare Y5 ∗ owns (c : Thread nD τ) (st0_6 t) fullShare Y6 ∗ owns (c : Thread nD τ) (st0_7 t) fullShare Y7)
    ⊢ wp frame (wpE (defs₀ (F := F)) Variants.none c none) Set.univ (bodyAt0 t) (fun _ =>
      iprop(phiE c T ∗ (datE A T htok).owesAt () t.succ ∗ (∃ X, ⌜X = Y0⌝ ∗ owns (c : Thread nD τ) (st0_0 t) fullShare X) ∗ (∃ X, ⌜X = Y1⌝ ∗ owns (c : Thread nD τ) (st0_1 t) fullShare X) ∗ (∃ X, ⌜X = Y2⌝ ∗ owns (c : Thread nD τ) (st0_2 t) fullShare X) ∗ (∃ X, ⌜X = Y3⌝ ∗ owns (c : Thread nD τ) (st0_3 t) fullShare X) ∗ (∃ X, ⌜X = Y4⌝ ∗ owns (c : Thread nD τ) (st0_4 t) fullShare X) ∗ (∃ X, ⌜X = Y5⌝ ∗ owns (c : Thread nD τ) (st0_5 t) fullShare X) ∗ (∃ X, ⌜X = valE6 A T htok t⌝ ∗ owns (c : Thread nD τ) (st0_6 t) fullShare X) ∗ (∃ X, ⌜X = valE7 A T htok t⌝ ∗ owns (c : Thread nD τ) (st0_7 t) fullShare X))) := by
  unfold phiE bodyAt0 Pipeline.RDat.owesAt Pipeline.owesWithin
  iintro ⟨⟨⟨%d0, HS⟩, Hsem, HT, Hsc, Hg⟩, ⟨%Wt, -, HO⟩, H0, H1, H2, H3, H4, H5, H6, H7⟩
  subst h0 h1 h2 h3 h4 h5
  iapply (run_E c (grid0.coords t) _ (hstage0_0 ((cfg0.slots t 0).cast nbuf0_0)) _ (Memref.isWhole_whole _) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (Memref.isWhole_whole _) cc0_scratch1 (inE0 A) htok T (inE1 A t) (inE2 A) (inE3 A) (inE4 A) (inE5 A) Wt _)
  isplitl [H0]; · iexact H0
  isplitl [HT]; · iexact HT
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexists _; iexact HS
  isplitl [Hsem]; · iexact Hsem
  isplitl [HO]; · iexact HO
  iintro ⟨H0, HT, H1, H2, H3, H4, H5, H6, H7, HS, Hsem, ⟨%W', HO⟩⟩
  isplitl [HS Hsem HT Hsc Hg]
  · isplitl [HS]; · iexact HS
    isplitl [Hsem]; · iexact Hsem
    isplitl [HT]; · iexact HT
    isplitl [Hsc]; · iexact Hsc
    iexact Hg
  isplitl [HO]
  · iexists W'
    isplitr [HO]; swap; · iexact HO
    ipureintro; exact fun _ _ => Or.inl trivial
  isplitl [H0]
  · iexists _
    isplitr [H0]; swap; · iexact H0
    ipureintro; rfl
  isplitl [H1]
  · iexists _
    isplitr [H1]; swap; · iexact H1
    ipureintro; rfl
  isplitl [H2]
  · iexists _
    isplitr [H2]; swap; · iexact H2
    ipureintro; rfl
  isplitl [H3]
  · iexists _
    isplitr [H3]; swap; · iexact H3
    ipureintro; rfl
  isplitl [H4]
  · iexists _
    isplitr [H4]; swap; · iexact H4
    ipureintro; rfl
  isplitl [H5]
  · iexists _
    isplitr [H5]; swap; · iexact H5
    ipureintro; rfl
  isplitl [H6]
  · iexists _
    isplitr [H6]; swap; · iexact H6
    ipureintro; rfl
  iexists _
  isplitr [H7]; swap; · iexact H7
  ipureintro; rfl

/-- The body obligation of the relational data. -/
theorem bodyE : (datE A T htok).BodyObligation (defs₀ (F := F)) Variants.none () Set.univ := fun t Y hY => by
  have hd : defs₀ (F := F) .tc cfg0.body (cfg0.bodyArgs t (cfg0.slots t)) = bodyAt0 t := by
    unfold defs₀; rw [Defs.onTc_tc]
  rw [bigSep_W0, hd]
  refine triple_restated (stepE A T htok t (Y 0) (Y 1) (Y 2) (Y 3) (Y 4) (Y 5) (Y 6) (Y 7) (findsE0 A T htok t _ (hY 0)) (findsE1 A T htok t _ (hY 1)) (findsE2 A T htok t _ (hY 2)) (findsE3 A T htok t _ (hY 3)) (findsE4 A T htok t _ (hY 4)) (findsE5 A T htok t _ (hY 5))) rfl .rfl fun _ => ?_
  rw [bigSep_W0]
  exact .rfl

theorem inE_eq (w : Fin cfg0.W) (hw : (cfg0.win w).isOut = false) {n : ℕ} (G) (h : (datE A T htok).ArrAt w n G) : G = A w := by
  rw [(datE A T htok).ArrAt_in w hw n] at h; exact h

end BlocksE

end Cert.KernelIdeal
-- ==== Proof.AttnRowI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp
public import Idealize.ShloMosaic.Lib.VecWindow
public import Idealize.ShloMosaic.Lib.WritesUnit
public import Idealize.ShloMosaic.Lib.ViewIndex
public import Idealize.ShloMosaic.Lib.ValueIdxCore
public import Idealize.ShloMosaic.Lib.SparseCore.Stream

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

open Idealize.ShloMosaic.ValueIdx

variable {F : FTy → Type} [FloatOps F] [Named F]

local notation "𝕄" => MT nD τ sig Unit (Elt F) ℕ (UR sig nD τ × Counters) ℕ

/-- The one entry of a 1 × 1 array. -/
def at0 {α : Type} (x : S1x1.Idx → α) : α := x (ix2 0 0)

/-- Row `n` of the step's encoder block. -/
def encA (x2 : S32x400x256.Idx → F .f32) (n : Fin 32) : Vec F S1x400x256 .f32 := fun y => x2 (ix3 n (y 1) (y 2))

theorem slA (n : Fin 32) : S32x256.Slices ![n.val, 0] S1x256 := by revert n; decide
theorem slB (n : Fin 32) : S400x32.Slices ![0, n.val] S400x1 := by revert n; decide

/-- The column of scores of row `n`. -/
def scCol (v8 : FVec F S32x256 .f32) (v10 : FVec F S1x256 .f32) (v12 : FVec F S256x1 .f32) (e : Vec F S1x400x256 .f32) (n : Fin 32) : FVec F S400x1 .f32 :=
  shapeCast S400x1 (matmul dot_S400x256_S256x1_S400x1_1_0_0_1_n_n none
    (tanh (addf (mulf (shapeCast S400x256 e shapeCasts_S1x400x256_S400x256) (broadcastTo S400x256 v10 broadcasts_S1x256_S400x256))
      (broadcastTo S400x256 (extractStridedSlice S1x256 ![n.val, 0] v8 (slA n)) broadcasts_S1x256_S400x256)))
    v12 (constant S400x1 .f32 0x00000000#32)) shapeCasts_S400x1_S400x1

/-- The step's scores, one column per row. -/
def scTA (x2 : S32x400x256.Idx → F .f32) (x3 : S32x256.Idx → F .f32) (x7 x8 : S1x256.Idx → F .f32) (x9 : S256x1.Idx → F .f32) (x10 : S1x1.Idx → F .f32) : S400x32.Idx → F .f32 :=
  fun y => scCol (k1_pay3 x3 x8 (at0 x10)) (k1_pay4 x7) (k1_pay5 x9) (encA x2 (y 1)) (y 1) (ix2 (y 0) 0)

/-- The row of context of row `n`. -/
def ctxRow (v411 : FVec F S400x32 .f32) (e : Vec F S1x400x256 .f32) (n : Fin 32) : FVec F S1x256 .f32 :=
  shapeCast S1x256 (shapeCast S1x256 (multiReduction .add [0] S256
    (mulf (shapeCast S400x256 e shapeCasts_S1x400x256_S400x256) (broadcastTo S400x256 (extractStridedSlice S400x1 ![0, n.val] v411 (slB n)) broadcasts_S400x1_S400x256))
    0x00000000#32 reduces_S400x256_S256 (.inl rfl) rfl) shapeCasts_S256_S1x256) shapeCasts_S1x256_S1x256

/-- The step's context rows. -/
def ctxA (x2 : S32x400x256.Idx → F .f32) (sc : S400x32.Idx → F .f32) : S32x256.Idx → F .f32 :=
  fun y => ctxRow (k1_pay47 sc) (encA x2 (y 0)) (y 0) (ix2 0 (y 1))

/-- The block of scattered attention of row `n`. -/
def tidBlk (v411 : FVec F S400x32 .f32) (v767 v770 : IVec S400x32 32) (n : Fin 32) : FVec F S400x128 .f32 :=
  matmul dot_S400x400_S400x128_S400x128_0_0_1_1_n_n none
    (truncf .bf16 (select (cmpi .eq (broadcastTo S400x400 (extractStridedSlice S400x1 ![0, n.val] v767 (slB n)) broadcasts_S400x1_S400x400) (broadcastTo S400x400 (iota .tc S1x400 32 [1] iota_S1x400_d1_w32) broadcasts_S1x400_S400x400))
      (broadcastTo S400x400 (shapeCast S400x1 (extractStridedSlice S400x1 ![0, n.val] v411 (slB n)) shapeCasts_S400x1_S400x1) broadcasts_S400x1_S400x400)
      (broadcast S400x400 (Scalar.ofBits .f32 0x00000000#32))) bitsLt_bf16_f32)
    (truncf .bf16 (select (cmpi .eq (broadcastTo S400x128 (extractStridedSlice S400x1 ![0, n.val] v770 (slB n)) broadcasts_S400x1_S400x128) (broadcastTo S400x128 (iota .tc S1x128 32 [1] iota_S1x128_d1_w32) broadcasts_S1x128_S400x128))
      (broadcast S400x128 (Scalar.ofBits .f32 0x3F800000#32)) (broadcast S400x128 (Scalar.ofBits .f32 0x00000000#32))) bitsLt_bf16_f32)
    (constant S400x128 .f32 0x00000000#32)

/-- The step's scattered attention: 400 rows of 128 for every row. -/
def tidA (x5 x6 : S32x400.Idx → BitVec 32) (sc : S400x32.Idx → F .f32) : S12800x128.Idx → F .f32 :=
  fun y => tidBlk (k1_pay47 sc) (k1_pay91 (F := F) x5) (k1_pay92 (F := F) x6) ⟨(y 0).val / 400, by have := (y 0).isLt; have e : S12800x128.size 0 = 12800 := rfl; omega⟩
    (ix2 ⟨(y 0).val % 400, Nat.mod_lt _ (by decide)⟩ (y 1))

theorem inbC (i : Fin 32) : ∀ a, (![0, i.val] : Fin 2 → ℕ) a + S400x1.size a ≤ S400x32.size a := by
  intro a; have := i.isLt; fin_cases a <;> simp [S400x1, S400x32] <;> omega
theorem inbR (i : Fin 32) : ∀ a, (![i.val, 0] : Fin 2 → ℕ) a + S1x256.size a ≤ S32x256.size a := by
  intro a; have := i.isLt; fin_cases a <;> simp [S1x256, S32x256] <;> omega
theorem inbT (i : Fin 32) : ∀ a, (![400 * i.val, 0] : Fin 2 → ℕ) a + S400x128.size a ≤ S12800x128.size a := by
  intro a; have := i.isLt; fin_cases a <;> simp [S400x128, S12800x128] <;> omega
theorem inbE (i : Fin 32) : ∀ a, (![i.val, 0, 0] : Fin 3 → ℕ) a + S1x400x256.size a ≤ S32x400x256.size a := by
  intro a; have := i.isLt; fin_cases a <;> simp [S1x400x256, S32x400x256] <;> omega

/-- Thirty-two columns stored one after the other. -/
theorem read_cols {κ : Kind} {sp : Space} (v : View sig κ sp S400x32 .f32) (f : v.ty.Contents (Elt F)) (P : Fin 32 → S400x1.Idx → F .f32) :
    v.read (Elt F) (v.writes (Elt F) f [⟨Rect.unit (s := S400x32) ![0, 31] S400x1.size (inbC ⟨31, by decide⟩), P ⟨31, by decide⟩⟩,
      ⟨Rect.unit (s := S400x32) ![0, 30] S400x1.size (inbC ⟨30, by decide⟩), P ⟨30, by decide⟩⟩,
      ⟨Rect.unit (s := S400x32) ![0, 29] S400x1.size (inbC ⟨29, by decide⟩), P ⟨29, by decide⟩⟩,
      ⟨Rect.unit (s := S400x32) ![0, 28] S400x1.size (inbC ⟨28, by decide⟩), P ⟨28, by decide⟩⟩,
      ⟨Rect.unit (s := S400x32) ![0, 27] S400x1.size (inbC ⟨27, by decide⟩), P ⟨27, by decide⟩⟩,
      ⟨Rect.unit (s := S400x32) ![0, 26] S400x1.size (inbC ⟨26, by decide⟩), P ⟨26, by decide⟩⟩,
      ⟨Rect.unit (s := S400x32) ![0, 25] S400x1.size (inbC ⟨25, by decide⟩), P ⟨25, by decide⟩⟩,
      ⟨Rect.unit (s := S400x32) ![0, 24] S400x1.size (inbC ⟨24, by decide⟩), P ⟨24, by decide⟩⟩,
      ⟨Rect.unit (s := S400x32) ![0, 23] S400x1.size (inbC ⟨23, by decide⟩), P ⟨23, by decide⟩⟩,
      ⟨Rect.unit (s := S400x32) ![0, 22] S400x1.size (inbC ⟨22, by decide⟩), P ⟨22, by decide⟩⟩,
      ⟨Rect.unit (s := S400x32) ![0, 21] S400x1.size (inbC ⟨21, by decide⟩), P ⟨21, by decide⟩⟩,
      ⟨Rect.unit (s := S400x32) ![0, 20] S400x1.size (inbC ⟨20, by decide⟩), P ⟨20, by decide⟩⟩,
      ⟨Rect.unit (s := S400x32) ![0, 19] S400x1.size (inbC ⟨19, by decide⟩), P ⟨19, by decide⟩⟩,
      ⟨Rect.unit (s := S400x32) ![0, 18] S400x1.size (inbC ⟨18, by decide⟩), P ⟨18, by decide⟩⟩,
      ⟨Rect.unit (s := S400x32) ![0, 17] S400x1.size (inbC ⟨17, by decide⟩), P ⟨17, by decide⟩⟩,
      ⟨Rect.unit (s := S400x32) ![0, 16] S400x1.size (inbC ⟨16, by decide⟩), P ⟨16, by decide⟩⟩,
      ⟨Rect.unit (s := S400x32) ![0, 15] S400x1.size (inbC ⟨15, by decide⟩), P ⟨15, by decide⟩⟩,
      ⟨Rect.unit (s := S400x32) ![0, 14] S400x1.size (inbC ⟨14, by decide⟩), P ⟨14, by decide⟩⟩,
      ⟨Rect.unit (s := S400x32) ![0, 13] S400x1.size (inbC ⟨13, by decide⟩), P ⟨13, by decide⟩⟩,
      ⟨Rect.unit (s := S400x32) ![0, 12] S400x1.size (inbC ⟨12, by decide⟩), P ⟨12, by decide⟩⟩,
      ⟨Rect.unit (s := S400x32) ![0, 11] S400x1.size (inbC ⟨11, by decide⟩), P ⟨11, by decide⟩⟩,
      ⟨Rect.unit (s := S400x32) ![0, 10] S400x1.size (inbC ⟨10, by decide⟩), P ⟨10, by decide⟩⟩,
      ⟨Rect.unit (s := S400x32) ![0, 9] S400x1.size (inbC ⟨9, by decide⟩), P ⟨9, by decide⟩⟩,
      ⟨Rect.unit (s := S400x32) ![0, 8] S400x1.size (inbC ⟨8, by decide⟩), P ⟨8, by decide⟩⟩,
      ⟨Rect.unit (s := S400x32) ![0, 7] S400x1.size (inbC ⟨7, by decide⟩), P ⟨7, by decide⟩⟩,
      ⟨Rect.unit (s := S400x32) ![0, 6] S400x1.size (inbC ⟨6, by decide⟩), P ⟨6, by decide⟩⟩,
      ⟨Rect.unit (s := S400x32) ![0, 5] S400x1.size (inbC ⟨5, by decide⟩), P ⟨5, by decide⟩⟩,
      ⟨Rect.unit (s := S400x32) ![0, 4] S400x1.size (inbC ⟨4, by decide⟩), P ⟨4, by decide⟩⟩,
      ⟨Rect.unit (s := S400x32) ![0, 3] S400x1.size (inbC ⟨3, by decide⟩), P ⟨3, by decide⟩⟩,
      ⟨Rect.unit (s := S400x32) ![0, 2] S400x1.size (inbC ⟨2, by decide⟩), P ⟨2, by decide⟩⟩,
      ⟨Rect.unit (s := S400x32) ![0, 1] S400x1.size (inbC ⟨1, by decide⟩), P ⟨1, by decide⟩⟩,
      ⟨Rect.unit (s := S400x32) ![0, 0] S400x1.size (inbC ⟨0, by decide⟩), P ⟨0, by decide⟩⟩]) = fun y => P (y 1) (ix2 (y 0) 0) := by
  funext y
  refine View.read_tilePieces (Val := Elt F) v f S400x1.size (fun i : Fin 32 => ![0, i.val]) inbC P 32 (Nat.le_refl _) y (y 1) (y 1).isLt (ix2 (y 0) 0) ?_ 1 ?_
  · intro a
    match a with
    | ⟨0, _⟩ => show (y 0).val = 0 + (y 0).val; omega
    | ⟨1, _⟩ => show (y 1).val = (y 1).val + 0; omega
  · intro i' hi'
    have : i'.val ≠ (y 1).val := fun h => hi' (Fin.ext h)
    show (y 1).val < i'.val ∨ i'.val + 1 ≤ (y 1).val
    omega

/-- Thirty-two rows stored one after the other. -/
theorem read_rows {κ : Kind} {sp : Space} (v : View sig κ sp S32x256 .f32) (f : v.ty.Contents (Elt F)) (P : Fin 32 → S1x256.Idx → F .f32) :
    v.read (Elt F) (v.writes (Elt F) f [⟨Rect.unit (s := S32x256) ![31, 0] S1x256.size (inbR ⟨31, by decide⟩), P ⟨31, by decide⟩⟩,
      ⟨Rect.unit (s := S32x256) ![30, 0] S1x256.size (inbR ⟨30, by decide⟩), P ⟨30, by decide⟩⟩,
      ⟨Rect.unit (s := S32x256) ![29, 0] S1x256.size (inbR ⟨29, by decide⟩), P ⟨29, by decide⟩⟩,
      ⟨Rect.unit (s := S32x256) ![28, 0] S1x256.size (inbR ⟨28, by decide⟩), P ⟨28, by decide⟩⟩,
      ⟨Rect.unit (s := S32x256) ![27, 0] S1x256.size (inbR ⟨27, by decide⟩), P ⟨27, by decide⟩⟩,
      ⟨Rect.unit (s := S32x256) ![26, 0] S1x256.size (inbR ⟨26, by decide⟩), P ⟨26, by decide⟩⟩,
      ⟨Rect.unit (s := S32x256) ![25, 0] S1x256.size (inbR ⟨25, by decide⟩), P ⟨25, by decide⟩⟩,
      ⟨Rect.unit (s := S32x256) ![24, 0] S1x256.size (inbR ⟨24, by decide⟩), P ⟨24, by decide⟩⟩,
      ⟨Rect.unit (s := S32x256) ![23, 0] S1x256.size (inbR ⟨23, by decide⟩), P ⟨23, by decide⟩⟩,
      ⟨Rect.unit (s := S32x256) ![22, 0] S1x256.size (inbR ⟨22, by decide⟩), P ⟨22, by decide⟩⟩,
      ⟨Rect.unit (s := S32x256) ![21, 0] S1x256.size (inbR ⟨21, by decide⟩), P ⟨21, by decide⟩⟩,
      ⟨Rect.unit (s := S32x256) ![20, 0] S1x256.size (inbR ⟨20, by decide⟩), P ⟨20, by decide⟩⟩,
      ⟨Rect.unit (s := S32x256) ![19, 0] S1x256.size (inbR ⟨19, by decide⟩), P ⟨19, by decide⟩⟩,
      ⟨Rect.unit (s := S32x256) ![18, 0] S1x256.size (inbR ⟨18, by decide⟩), P ⟨18, by decide⟩⟩,
      ⟨Rect.unit (s := S32x256) ![17, 0] S1x256.size (inbR ⟨17, by decide⟩), P ⟨17, by decide⟩⟩,
      ⟨Rect.unit (s := S32x256) ![16, 0] S1x256.size (inbR ⟨16, by decide⟩), P ⟨16, by decide⟩⟩,
      ⟨Rect.unit (s := S32x256) ![15, 0] S1x256.size (inbR ⟨15, by decide⟩), P ⟨15, by decide⟩⟩,
      ⟨Rect.unit (s := S32x256) ![14, 0] S1x256.size (inbR ⟨14, by decide⟩), P ⟨14, by decide⟩⟩,
      ⟨Rect.unit (s := S32x256) ![13, 0] S1x256.size (inbR ⟨13, by decide⟩), P ⟨13, by decide⟩⟩,
      ⟨Rect.unit (s := S32x256) ![12, 0] S1x256.size (inbR ⟨12, by decide⟩), P ⟨12, by decide⟩⟩,
      ⟨Rect.unit (s := S32x256) ![11, 0] S1x256.size (inbR ⟨11, by decide⟩), P ⟨11, by decide⟩⟩,
      ⟨Rect.unit (s := S32x256) ![10, 0] S1x256.size (inbR ⟨10, by decide⟩), P ⟨10, by decide⟩⟩,
      ⟨Rect.unit (s := S32x256) ![9, 0] S1x256.size (inbR ⟨9, by decide⟩), P ⟨9, by decide⟩⟩,
      ⟨Rect.unit (s := S32x256) ![8, 0] S1x256.size (inbR ⟨8, by decide⟩), P ⟨8, by decide⟩⟩,
      ⟨Rect.unit (s := S32x256) ![7, 0] S1x256.size (inbR ⟨7, by decide⟩), P ⟨7, by decide⟩⟩,
      ⟨Rect.unit (s := S32x256) ![6, 0] S1x256.size (inbR ⟨6, by decide⟩), P ⟨6, by decide⟩⟩,
      ⟨Rect.unit (s := S32x256) ![5, 0] S1x256.size (inbR ⟨5, by decide⟩), P ⟨5, by decide⟩⟩,
      ⟨Rect.unit (s := S32x256) ![4, 0] S1x256.size (inbR ⟨4, by decide⟩), P ⟨4, by decide⟩⟩,
      ⟨Rect.unit (s := S32x256) ![3, 0] S1x256.size (inbR ⟨3, by decide⟩), P ⟨3, by decide⟩⟩,
      ⟨Rect.unit (s := S32x256) ![2, 0] S1x256.size (inbR ⟨2, by decide⟩), P ⟨2, by decide⟩⟩,
      ⟨Rect.unit (s := S32x256) ![1, 0] S1x256.size (inbR ⟨1, by decide⟩), P ⟨1, by decide⟩⟩,
      ⟨Rect.unit (s := S32x256) ![0, 0] S1x256.size (inbR ⟨0, by decide⟩), P ⟨0, by decide⟩⟩]) = fun y => P (y 0) (ix2 0 (y 1)) := by
  funext y
  refine View.read_tilePieces (Val := Elt F) v f S1x256.size (fun i : Fin 32 => ![i.val, 0]) inbR P 32 (Nat.le_refl _) y (y 0) (y 0).isLt (ix2 0 (y 1)) ?_ 0 ?_
  · intro a
    match a with
    | ⟨0, _⟩ => show (y 0).val = (y 0).val + 0; omega
    | ⟨1, _⟩ => show (y 1).val = 0 + (y 1).val; omega
  · intro i' hi'
    have : i'.val ≠ (y 0).val := fun h => hi' (Fin.ext h)
    show (y 0).val < i'.val ∨ i'.val + 1 ≤ (y 0).val
    omega

/-- Thirty-two blocks of 400 rows stored one after the other. -/
theorem read_blocks {κ : Kind} {sp : Space} (v : View sig κ sp S12800x128 .f32) (f : v.ty.Contents (Elt F)) (P : Fin 32 → S400x128.Idx → F .f32) :
    v.read (Elt F) (v.writes (Elt F) f [⟨Rect.unit (s := S12800x128) ![12400, 0] S400x128.size (inbT ⟨31, by decide⟩), P ⟨31, by decide⟩⟩,
      ⟨Rect.unit (s := S12800x128) ![12000, 0] S400x128.size (inbT ⟨30, by decide⟩), P ⟨30, by decide⟩⟩,
      ⟨Rect.unit (s := S12800x128) ![11600, 0] S400x128.size (inbT ⟨29, by decide⟩), P ⟨29, by decide⟩⟩,
      ⟨Rect.unit (s := S12800x128) ![11200, 0] S400x128.size (inbT ⟨28, by decide⟩), P ⟨28, by decide⟩⟩,
      ⟨Rect.unit (s := S12800x128) ![10800, 0] S400x128.size (inbT ⟨27, by decide⟩), P ⟨27, by decide⟩⟩,
      ⟨Rect.unit (s := S12800x128) ![10400, 0] S400x128.size (inbT ⟨26, by decide⟩), P ⟨26, by decide⟩⟩,
      ⟨Rect.unit (s := S12800x128) ![10000, 0] S400x128.size (inbT ⟨25, by decide⟩), P ⟨25, by decide⟩⟩,
      ⟨Rect.unit (s := S12800x128) ![9600, 0] S400x128.size (inbT ⟨24, by decide⟩), P ⟨24, by decide⟩⟩,
      ⟨Rect.unit (s := S12800x128) ![9200, 0] S400x128.size (inbT ⟨23, by decide⟩), P ⟨23, by decide⟩⟩,
      ⟨Rect.unit (s := S12800x128) ![8800, 0] S400x128.size (inbT ⟨22, by decide⟩), P ⟨22, by decide⟩⟩,
      ⟨Rect.unit (s := S12800x128) ![8400, 0] S400x128.size (inbT ⟨21, by decide⟩), P ⟨21, by decide⟩⟩,
      ⟨Rect.unit (s := S12800x128) ![8000, 0] S400x128.size (inbT ⟨20, by decide⟩), P ⟨20, by decide⟩⟩,
      ⟨Rect.unit (s := S12800x128) ![7600, 0] S400x128.size (inbT ⟨19, by decide⟩), P ⟨19, by decide⟩⟩,
      ⟨Rect.unit (s := S12800x128) ![7200, 0] S400x128.size (inbT ⟨18, by decide⟩), P ⟨18, by decide⟩⟩,
      ⟨Rect.unit (s := S12800x128) ![6800, 0] S400x128.size (inbT ⟨17, by decide⟩), P ⟨17, by decide⟩⟩,
      ⟨Rect.unit (s := S12800x128) ![6400, 0] S400x128.size (inbT ⟨16, by decide⟩), P ⟨16, by decide⟩⟩,
      ⟨Rect.unit (s := S12800x128) ![6000, 0] S400x128.size (inbT ⟨15, by decide⟩), P ⟨15, by decide⟩⟩,
      ⟨Rect.unit (s := S12800x128) ![5600, 0] S400x128.size (inbT ⟨14, by decide⟩), P ⟨14, by decide⟩⟩,
      ⟨Rect.unit (s := S12800x128) ![5200, 0] S400x128.size (inbT ⟨13, by decide⟩), P ⟨13, by decide⟩⟩,
      ⟨Rect.unit (s := S12800x128) ![4800, 0] S400x128.size (inbT ⟨12, by decide⟩), P ⟨12, by decide⟩⟩,
      ⟨Rect.unit (s := S12800x128) ![4400, 0] S400x128.size (inbT ⟨11, by decide⟩), P ⟨11, by decide⟩⟩,
      ⟨Rect.unit (s := S12800x128) ![4000, 0] S400x128.size (inbT ⟨10, by decide⟩), P ⟨10, by decide⟩⟩,
      ⟨Rect.unit (s := S12800x128) ![3600, 0] S400x128.size (inbT ⟨9, by decide⟩), P ⟨9, by decide⟩⟩,
      ⟨Rect.unit (s := S12800x128) ![3200, 0] S400x128.size (inbT ⟨8, by decide⟩), P ⟨8, by decide⟩⟩,
      ⟨Rect.unit (s := S12800x128) ![2800, 0] S400x128.size (inbT ⟨7, by decide⟩), P ⟨7, by decide⟩⟩,
      ⟨Rect.unit (s := S12800x128) ![2400, 0] S400x128.size (inbT ⟨6, by decide⟩), P ⟨6, by decide⟩⟩,
      ⟨Rect.unit (s := S12800x128) ![2000, 0] S400x128.size (inbT ⟨5, by decide⟩), P ⟨5, by decide⟩⟩,
      ⟨Rect.unit (s := S12800x128) ![1600, 0] S400x128.size (inbT ⟨4, by decide⟩), P ⟨4, by decide⟩⟩,
      ⟨Rect.unit (s := S12800x128) ![1200, 0] S400x128.size (inbT ⟨3, by decide⟩), P ⟨3, by decide⟩⟩,
      ⟨Rect.unit (s := S12800x128) ![800, 0] S400x128.size (inbT ⟨2, by decide⟩), P ⟨2, by decide⟩⟩,
      ⟨Rect.unit (s := S12800x128) ![400, 0] S400x128.size (inbT ⟨1, by decide⟩), P ⟨1, by decide⟩⟩,
      ⟨Rect.unit (s := S12800x128) ![0, 0] S400x128.size (inbT ⟨0, by decide⟩), P ⟨0, by decide⟩⟩])
      = fun y => P ⟨(y 0).val / 400, by have := (y 0).isLt; have e : S12800x128.size 0 = 12800 := rfl; omega⟩ (ix2 ⟨(y 0).val % 400, Nat.mod_lt _ (by decide)⟩ (y 1)) := by
  funext y
  have hy : (y 0).val < 12800 := (y 0).isLt
  refine View.read_tilePieces (Val := Elt F) v f S400x128.size (fun i : Fin 32 => ![400 * i.val, 0]) inbT P 32 (Nat.le_refl _) y ⟨(y 0).val / 400, by omega⟩ (by show (y 0).val / 400 < 32; omega) (ix2 ⟨(y 0).val % 400, Nat.mod_lt _ (by decide)⟩ (y 1)) ?_ 0 ?_
  · intro a
    match a with
    | ⟨0, _⟩ => show (y 0).val = 400 * ((y 0).val / 400) + (y 0).val % 400; omega
    | ⟨1, _⟩ => show (y 1).val = 0 + (y 1).val; omega
  · intro i' hi'
    have : i'.val ≠ (y 0).val / 400 := fun h => hi' (Fin.ext h)
    show (y 0).val < 400 * i'.val ∨ 400 * i'.val + 400 ≤ (y 0).val
    omega

/-- A load of one row of the encoder block. -/
theorem enc_read {κ : Kind} {sp : Space} (v : View sig κ sp S32x400x256 .f32) (f : v.ty.Contents (Elt F)) (x2 : S32x400x256.Idx → F .f32) (h : v.read (Elt F) f = x2) (n : Fin 32) :
    View.readAt (Elt F) v (Rect.unit (s := S32x400x256) ![n.val, 0, 0] S1x400x256.size (inbE n)).toLoadRect f = encA x2 n := by
  rw [View.readAt_eq_ld, h]
  funext y
  unfold encA
  refine congrArg x2 ?_
  funext a
  apply Fin.ext
  match a with
  | ⟨0, _⟩ =>
    have : (y 0).val = 0 := Nat.lt_one_iff.mp (show (y 0).val < 1 from (y 0).isLt)
    show n.val + 1 * (y 0).val = n.val; omega
  | ⟨1, _⟩ => show 0 + 1 * (y 1).val = (y 1).val; omega
  | ⟨2, _⟩ => show 0 + 1 * (y 2).val = (y 2).val; omega

theorem first0 (h) : (Shape.Idx.first h : S1x1.Idx) = ix2 0 0 := by
  funext a
  match a with
  | ⟨0, _⟩ => exact Subsingleton.elim (α := Fin 1) _ _
  | ⟨1, _⟩ => exact Subsingleton.elim (α := Fin 1) _ _

end Cert.KernelIdeal
-- ==== Proof.AttnStepI.lean ====
module

public import proofs.«01_k».proof.Proof.AttnRowI
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Batch
public import Idealize.ShloMosaic.Lib.Tactic
public import Idealize.ShloMosaic.Lib.WordCmp
public import Idealize.ShloMosaic.Lib.VecWindow
public import Idealize.ShloMosaic.Lib.ViewIndex
public import Idealize.ShloMosaic.Lib.ValueIdxCore
public import Idealize.ShloMosaic.Lib.SparseCore.Stream

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

open Idealize.ShloMosaic.ValueIdx

/-! The parts of the second call's body as skeletons, free of the named constants. -/

set_option maxRecDepth 65536 in
theorem k1_part1_eq_skeleton {F : FTy → Type} [FloatOps F] : k1_part1 (F := F) = k1_part1_skel (F := F) := rfl
set_option maxRecDepth 65536 in
theorem k1_part2_eq_skeleton {F : FTy → Type} [FloatOps F] : k1_part2 (F := F) = k1_part2_skel (F := F) := rfl
set_option maxRecDepth 65536 in
theorem k1_part3_eq_skeleton {F : FTy → Type} [FloatOps F] : k1_part3 (F := F) = k1_part3_skel (F := F) := rfl
set_option maxRecDepth 65536 in
theorem k1_part4_eq_skeleton {F : FTy → Type} [FloatOps F] : k1_part4 (F := F) = k1_part4_skel (F := F) := rfl
set_option maxRecDepth 65536 in
theorem k1_part5_eq_skeleton {F : FTy → Type} [FloatOps F] : k1_part5 (F := F) = k1_part5_skel (F := F) := rfl
set_option maxRecDepth 65536 in
theorem k1_part6_eq_skeleton {F : FTy → Type} [FloatOps F] : k1_part6 (F := F) = k1_part6_skel (F := F) := rfl
set_option maxRecDepth 65536 in
theorem k1_part7_eq_skeleton {F : FTy → Type} [FloatOps F] : k1_part7 (F := F) = k1_part7_skel (F := F) := rfl
set_option maxRecDepth 65536 in
theorem k1_part8_eq_skeleton {F : FTy → Type} [FloatOps F] : k1_part8 (F := F) = k1_part8_skel (F := F) := rfl
set_option maxRecDepth 65536 in
theorem k1_part9_eq_skeleton {F : FTy → Type} [FloatOps F] : k1_part9 (F := F) = k1_part9_skel (F := F) := rfl
set_option maxRecDepth 65536 in
theorem k1_part10_eq_skeleton {F : FTy → Type} [FloatOps F] : k1_part10 (F := F) = k1_part10_skel (F := F) := rfl
set_option maxRecDepth 65536 in
theorem k1_part11_eq_skeleton {F : FTy → Type} [FloatOps F] : k1_part11 (F := F) = k1_part11_skel (F := F) := rfl
set_option maxRecDepth 65536 in
theorem k1_part12_eq_skeleton {F : FTy → Type} [FloatOps F] : k1_part12 (F := F) = k1_part12_skel (F := F) := rfl
set_option maxRecDepth 65536 in
theorem k1_part13_eq_skeleton {F : FTy → Type} [FloatOps F] : k1_part13 (F := F) = k1_part13_skel (F := F) := rfl
set_option maxRecDepth 65536 in
theorem k1_part14_eq_skeleton {F : FTy → Type} [FloatOps F] : k1_part14 (F := F) = k1_part14_skel (F := F) := rfl
set_option maxRecDepth 65536 in
theorem k1_part15_eq_skeleton {F : FTy → Type} [FloatOps F] : k1_part15 (F := F) = k1_part15_skel (F := F) := rfl
set_option maxRecDepth 65536 in
theorem k1_part16_eq_skeleton {F : FTy → Type} [FloatOps F] : k1_part16 (F := F) = k1_part16_skel (F := F) := rfl
set_option maxRecDepth 65536 in
theorem k1_part17_eq_skeleton {F : FTy → Type} [FloatOps F] : k1_part17 (F := F) = k1_part17_skel (F := F) := rfl
set_option maxRecDepth 65536 in
theorem k1_part18_eq_skeleton {F : FTy → Type} [FloatOps F] : k1_part18 (F := F) = k1_part18_skel (F := F) := rfl
set_option maxRecDepth 65536 in
theorem k1_part19_eq_skeleton {F : FTy → Type} [FloatOps F] : k1_part19 (F := F) = k1_part19_skel (F := F) := rfl
set_option maxRecDepth 65536 in
theorem k1_part20_eq_skeleton {F : FTy → Type} [FloatOps F] : k1_part20 (F := F) = k1_part20_skel (F := F) := rfl
set_option maxRecDepth 65536 in
theorem k1_part21_eq_skeleton {F : FTy → Type} [FloatOps F] : k1_part21 (F := F) = k1_part21_skel (F := F) := rfl
set_option maxRecDepth 65536 in
theorem k1_part22_eq_skeleton {F : FTy → Type} [FloatOps F] : k1_part22 (F := F) = k1_part22_skel (F := F) := rfl
set_option maxRecDepth 65536 in
theorem k1_part23_eq_skeleton {F : FTy → Type} [FloatOps F] : k1_part23 (F := F) = k1_part23_skel (F := F) := rfl
set_option maxRecDepth 65536 in
theorem k1_part24_eq_skeleton {F : FTy → Type} [FloatOps F] : k1_part24 (F := F) = k1_part24_skel (F := F) := rfl
set_option maxRecDepth 65536 in
theorem k1_part25_eq_skeleton {F : FTy → Type} [FloatOps F] : k1_part25 (F := F) = k1_part25_skel (F := F) := rfl
set_option maxRecDepth 65536 in
theorem k1_part26_eq_skeleton {F : FTy → Type} [FloatOps F] : k1_part26 (F := F) = k1_part26_skel (F := F) := rfl
set_option maxRecDepth 65536 in
theorem k1_part27_eq_skeleton {F : FTy → Type} [FloatOps F] : k1_part27 (F := F) = k1_part27_skel (F := F) := rfl
set_option maxRecDepth 65536 in
theorem k1_part28_eq_skeleton {F : FTy → Type} [FloatOps F] : k1_part28 (F := F) = k1_part28_skel (F := F) := rfl
set_option maxRecDepth 65536 in
theorem k1_part29_eq_skeleton {F : FTy → Type} [FloatOps F] : k1_part29 (F := F) = k1_part29_skel (F := F) := rfl
set_option maxRecDepth 65536 in
theorem k1_part30_eq_skeleton {F : FTy → Type} [FloatOps F] : k1_part30 (F := F) = k1_part30_skel (F := F) := rfl
set_option maxRecDepth 65536 in
theorem k1_part31_eq_skeleton {F : FTy → Type} [FloatOps F] : k1_part31 (F := F) = k1_part31_skel (F := F) := rfl
set_option maxRecDepth 65536 in
theorem k1_part32_eq_skeleton {F : FTy → Type} [FloatOps F] : k1_part32 (F := F) = k1_part32_skel (F := F) := rfl
set_option maxRecDepth 65536 in
theorem k1_part33_eq_skeleton {F : FTy → Type} [FloatOps F] : k1_part33 (F := F) = k1_part33_skel (F := F) := rfl
set_option maxRecDepth 65536 in
theorem k1_part34_eq_skeleton {F : FTy → Type} [FloatOps F] : k1_part34 (F := F) = k1_part34_skel (F := F) := rfl
set_option maxRecDepth 65536 in
theorem k1_part35_eq_skeleton {F : FTy → Type} [FloatOps F] : k1_part35 (F := F) = k1_part35_skel (F := F) := rfl
set_option maxRecDepth 65536 in
theorem k1_part36_eq_skeleton {F : FTy → Type} [FloatOps F] : k1_part36 (F := F) = k1_part36_skel (F := F) := rfl

variable {F : FTy → Type} [FloatOps F] [Named F]

local notation "𝕄" => MT nD τ sig Unit (Elt F) ℕ (UR sig nD τ × Counters) ℕ

set_option maxHeartbeats 0 in
theorem run_A (c : Dev nD) (i : grid1.Coords) (arg2 : Memref sig .tc .vmem S32x400x256 .f32) (harg2 : arg2.IsWhole) (arg3 : Memref sig .tc .vmem S32x256 .f32) (harg3 : arg3.IsWhole) (arg4 : Memref sig .tc .vmem S32x128 .f32) (harg4 : arg4.IsWhole) (arg5 : Memref sig .tc .vmem S32x400 .i32) (harg5 : arg5.IsWhole) (arg6 : Memref sig .tc .vmem S32x400 .i32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x1 .f32) (harg9 : arg9.IsWhole) (arg10 : Memref sig .tc .smem S1x1 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x128 .f32) (harg13 : arg13.IsWhole) (arg14 : Memref sig .tc .smem S1x1 .f32) (harg14 : arg14.IsWhole) (arg15 : Memref sig .tc .vmem S128x256 .f32) (harg15 : arg15.IsWhole) (arg16 : Memref sig .tc .vmem S128x256 .f32) (harg16 : arg16.IsWhole) (arg17 : Memref sig .tc .vmem S1x128 .f32) (harg17 : arg17.IsWhole) (arg18 : Memref sig .tc .vmem S32x128 .f32) (harg18 : arg18.IsWhole) (arg19 : Memref sig .tc .vmem S32x128 .f32) (harg19 : arg19.IsWhole) (arg20 : Memref sig .tc .vmem S32x400 .f32) (harg20 : arg20.IsWhole) (arg21 : Memref sig .tc .vmem S12800x128 .f32) (harg21 : arg21.IsWhole) (arg22 : Memref sig .tc .vmem S400x32 .f32) (harg22 : arg22.IsWhole) (arg23 : Memref sig .tc .vmem S32x256 .f32) (harg23 : arg23.IsWhole)
    (x2 : S32x400x256.Idx → F .f32) (x3 : S32x256.Idx → F .f32) (x4 : S32x128.Idx → F .f32) (x5 : S32x400.Idx → BitVec 32) (x6 : S32x400.Idx → BitVec 32) (x7 : S1x256.Idx → F .f32) (x8 : S1x256.Idx → F .f32) (x9 : S256x1.Idx → F .f32) (x10 : S1x1.Idx → F .f32) (x11 : S1x256.Idx → F .f32) (x12 : S1x256.Idx → F .f32) (x13 : S1x128.Idx → F .f32) (x14 : S1x1.Idx → F .f32) (x15 : S128x256.Idx → F .f32) (x16 : S128x256.Idx → F .f32) (x17 : S1x128.Idx → F .f32) :
    ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (k1_pay89 (k1_pay2 x3) (ctxA x2 (scTA x2 x3 x7 x8 x9 x10)) x15 x16 x17) ∗ owns (c : Thread nD τ) arg19 fullShare (k1_pay90 (k1_pay2 x3) (ctxA x2 (scTA x2 x3 x7 x8 x9 x10)) x11 x12 x4 x13 (at0 x14)) ∗ owns (c : Thread nD τ) arg20 fullShare (k1_pay46 (scTA x2 x3 x7 x8 x9 x10)) ∗ owns (c : Thread nD τ) arg21 fullShare (tidA x5 x6 (scTA x2 x3 x7 x8 x9 x10)) ∗ (∃ d, owns (c : Thread nD τ) arg22 fullShare d) ∗ (∃ d, owns (c : Thread nD τ) arg23 fullShare d)) -∗ K ⟨⟩))
      ⊢ wp frame (wpE (defs₀ (F := F)) Variants.none c none) E (cc1_attn_pgen i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro E K
  simp only [cc1_attn_pgen_eq_skeleton]
  unfold cc1_attn_pgen_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  sl_exec
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _; isplitr; swap; · iexact H13
    ipureintro; exact hf13
  isplitl [H14]
  · iexists _; isplitr; swap; · iexact H14
    ipureintro; exact hf14
  isplitl [H15]
  · iexists _; isplitr; swap; · iexact H15
    ipureintro; exact hf15
  isplitl [H16]
  · iexists _; isplitr; swap; · iexact H16
    ipureintro; exact hf16
  isplitl [H17]
  · iexists _; isplitr; swap; · iexact H17
    ipureintro; exact hf17
  have R3 : View.readAt (Elt F) arg3.view (Rect.unit (s := S32x256) ![0, 0] S32x256.size inb_S32x256_S32x256_0_0).toLoadRect f3 = x3 := (View.readAt_full _ _ _).trans hf3
  have R8 : View.readAt (Elt F) arg8.view (Rect.unit (s := S1x256) ![0, 0] S1x256.size inb_S1x256_S1x256_0_0).toLoadRect f8 = x8 := (View.readAt_full _ _ _).trans hf8
  have r1 : run_A.sl.r_1 c arg3 f3 = k1_pay2 x3 := by unfold run_A.sl.r_1; rw [R3]
  have r10 : run_A.sl.r c arg10 f10 = at0 x10 := by
    unfold run_A.sl.r at0
    rw [View.readAt_full, hf10]
    exact congrArg x10 (first0 _)
  have r14 : run_A.sl.r_26 c arg14 f14 = at0 x14 := by
    unfold run_A.sl.r_26 at0
    rw [View.readAt_full, hf14]
    exact congrArg x14 (first0 _)
  have r2 : run_A.sl.r_2 c arg3 arg8 arg10 f3 f8 f10 = k1_pay3 x3 x8 (at0 x10) := by unfold run_A.sl.r_2; rw [R3, R8, r10]
  have r3 : run_A.sl.r_3 c arg7 f7 = k1_pay4 x7 := by unfold run_A.sl.r_3; rw [View.readAt_full, hf7]
  have r4 : run_A.sl.r_4 c arg9 f9 = k1_pay5 x9 := by unfold run_A.sl.r_4; rw [View.readAt_full, hf9]
  have hE := fun n => enc_read arg2.view f2 x2 hf2 n
  have hv : run_A.sl.v397 c arg2 arg3 arg7 arg8 arg9 arg10 arg22 f2 f3 f7 f8 f9 f10 = scTA x2 x3 x7 x8 x9 x10 := by
    unfold run_A.sl.v397 run_A.sl.H22_32 View.readCov
    rw [View.readAt_full]
    refine (read_cols arg22.view _ (fun n => scCol (run_A.sl.r_2 c arg3 arg8 arg10 f3 f8 f10) (run_A.sl.r_3 c arg7 f7) (run_A.sl.r_4 c arg9 f9) (View.readAt (Elt F) arg2.view (Rect.unit (s := S32x400x256) ![n.val, 0, 0] S1x400x256.size (inbE n)).toLoadRect f2) n)).trans ?_
    unfold scTA
    rw [r2, r3, r4]
    funext y
    exact congrArg (fun e => scCol _ _ _ e (y 1) (ix2 (y 0) 0)) (hE (y 1))
  have hw : run_A.sl.v732 c arg2 arg3 arg7 arg8 arg9 arg10 arg22 arg23 f2 f3 f7 f8 f9 f10 = ctxA x2 (scTA x2 x3 x7 x8 x9 x10) := by
    unfold run_A.sl.v732 run_A.sl.H23_32 View.readCov
    rw [View.readAt_full]
    refine (read_rows arg23.view _ (fun n => ctxRow (run_A.sl.r_14 c arg2 arg3 arg7 arg8 arg9 arg10 arg22 f2 f3 f7 f8 f9 f10) (View.readAt (Elt F) arg2.view (Rect.unit (s := S32x400x256) ![n.val, 0, 0] S1x400x256.size (inbE n)).toLoadRect f2) n)).trans ?_
    unfold ctxA
    unfold run_A.sl.r_14
    rw [hv]
    funext y
    exact congrArg (fun e => ctxRow _ e (y 0) (ix2 0 (y 1))) (hE (y 0))
  isplitl [H18]
  · iexists _; isplitr; swap; · iexact H18
    ipureintro
    rw [View.read_writes_full, r1, hw, View.readAt_full, View.readAt_full, View.readAt_full, hf15, hf16, hf17]
  isplitl [H19]
  · iexists _; isplitr; swap; · iexact H19
    ipureintro
    rw [View.read_writes_full]
    unfold run_A.sl.r_27
    rw [r1, hw, r14, View.readAt_full, View.readAt_full, View.readAt_full, View.readAt_full, hf11, hf12, hf4, hf13]
  isplitl [H20]
  · iexists _; isplitr; swap; · iexact H20
    ipureintro
    rw [View.read_writes_full, hv]
  isplitl [H21]
  · iexists _; isplitr; swap; · iexact H21
    ipureintro
    refine (read_blocks arg21.view _ (fun n => tidBlk (run_A.sl.r_14 c arg2 arg3 arg7 arg8 arg9 arg10 arg22 f2 f3 f7 f8 f9 f10) (run_A.sl.r_28 c arg5 f5) (run_A.sl.r_29 c arg6 f6) n)).trans ?_
    unfold tidA run_A.sl.r_14 run_A.sl.r_28 run_A.sl.r_29
    rw [hv, View.readAt_full, View.readAt_full, hf5, hf6]
  isplitl [H22]
  · iexists _; iexists _; isplitr; swap; · iexact H22
    ipureintro; rfl
  iexists _; iexists _; isplitr; swap; · iexact H23
  ipureintro; rfl

end Cert.KernelIdeal
-- ==== Proof.AttnDatI.lean ====
module

public import proofs.«01_k».proof.Proof.AttnStepI
public import proofs.«01_k».proof.Proof.Gen.KernelIdeal.Launch
public import Idealize.ShloMosaic.Lib.Pipeline.ArrRel
public import Idealize.ShloMosaic.Lib.Pipeline.ValueKit
public import Idealize.ShloMosaic.Lib.Pipeline.FrameBody

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ × Counters) ℕ

/-- Contents for every array of the call. -/
abbrev ArrA (F : FTy → Type) (c : Dev nD) : Type := (w : Fin cfg1.W) → Buf (Elt F) ((cfg1.win w).arr.view.loc (c : Thread nD τ))

/-- What a fetch at step `t` leaves in window `w`'s buffer. -/
abbrev flA {c : Dev nD} (A : ArrA F c) (w : Fin cfg1.W) (t : Fin cfg1.N)
    (d : (cfg1.win w).block.Idx → Elt F (cfg1.win w).elt) : (cfg1.win w).block.Idx → Elt F (cfg1.win w).elt :=
  (cfg1.win w).fill (cfg1.grid.coords t) d (((cfg1.win w).blk t).view.read (Elt F) (A w))

theorem rowA32_lt (t : Fin cfg1.N) (r : Fin 32) : 32 * t.val + r.val < 128 := by
  have := t.isLt.trans_eq N_1; omega
theorem stepA32_lt (r : Fin 128) : r.val / 32 < cfg1.N := by
  have h : cfg1.N = 4 := N_1
  omega
theorem modA32_lt (r : Fin 128) : r.val % 32 < 32 := by omega

theorem rowA12800_lt (t : Fin cfg1.N) (r : Fin 12800) : 12800 * t.val + r.val < 51200 := by
  have := t.isLt.trans_eq N_1; omega
theorem stepA12800_lt (r : Fin 51200) : r.val / 12800 < cfg1.N := by
  have h : cfg1.N = 4 := N_1
  omega
theorem modA12800_lt (r : Fin 51200) : r.val % 12800 < 12800 := by omega

section BlocksA

variable {c : Dev nD} (A : ArrA F c)

/-- Input 0: the rows that step `t` works on. -/
def inA0 (t : Fin cfg1.N) : S32x400x256.Idx → F .f32 := fun i => (A 0 : S128x400x256.Idx → F .f32) (ix3 ⟨32 * t.val + (i 0).val, rowA32_lt t (i 0)⟩ (i 1) (i 2))
/-- Input 1: the rows that step `t` works on. -/
def inA1 (t : Fin cfg1.N) : S32x256.Idx → F .f32 := fun i => (A 1 : S128x256.Idx → F .f32) (ix2 ⟨32 * t.val + (i 0).val, rowA32_lt t (i 0)⟩ (i 1))
/-- Input 2: the rows that step `t` works on. -/
def inA2 (t : Fin cfg1.N) : S32x128.Idx → F .f32 := fun i => (A 2 : S128x128.Idx → F .f32) (ix2 ⟨32 * t.val + (i 0).val, rowA32_lt t (i 0)⟩ (i 1))
/-- Input 3: the rows that step `t` works on. -/
def inA3 (t : Fin cfg1.N) : S32x400.Idx → BitVec 32 := fun i => (A 3 : S128x400.Idx → BitVec 32) (ix2 ⟨32 * t.val + (i 0).val, rowA32_lt t (i 0)⟩ (i 1))
/-- Input 4: the rows that step `t` works on. -/
def inA4 (t : Fin cfg1.N) : S32x400.Idx → BitVec 32 := fun i => (A 4 : S128x400.Idx → BitVec 32) (ix2 ⟨32 * t.val + (i 0).val, rowA32_lt t (i 0)⟩ (i 1))
/-- Input 5, whole at every step. -/
def inA5 : S1x256.Idx → F .f32 := A 5
/-- Input 6, whole at every step. -/
def inA6 : S1x256.Idx → F .f32 := A 6
/-- Input 7, whole at every step. -/
def inA7 : S256x1.Idx → F .f32 := A 7
/-- Input 8, whole at every step. -/
def inA8 : S1x1.Idx → F .f32 := A 8
/-- Input 9, whole at every step. -/
def inA9 : S1x256.Idx → F .f32 := A 9
/-- Input 10, whole at every step. -/
def inA10 : S1x256.Idx → F .f32 := A 10
/-- Input 11, whole at every step. -/
def inA11 : S1x128.Idx → F .f32 := A 11
/-- Input 12, whole at every step. -/
def inA12 : S1x1.Idx → F .f32 := A 12
/-- Input 13, whole at every step. -/
def inA13 : S128x256.Idx → F .f32 := A 13
/-- Input 14, whole at every step. -/
def inA14 : S128x256.Idx → F .f32 := A 14
/-- Input 15, whole at every step. -/
def inA15 : S1x128.Idx → F .f32 := A 15

theorem atA0 : ∀ t : Fin grid1.N, cc1_transform_0 (grid1.coords t) 0 = t.val ∧ cc1_transform_0 (grid1.coords t) 1 = 0 ∧ cc1_transform_0 (grid1.coords t) 2 = 0 := by decide +kernel
theorem flA0_eq (t : Fin cfg1.N) (d) : flA A 0 t d = inA0 A t := by
  obtain ⟨h0, h1, h2⟩ := atA0 t
  refine funext fun i => congrArg (A 0 : S128x400x256.Idx → F .f32) (funext fun a => Fin.ext ?_)
  match a with
  | ⟨0, _⟩ =>
    refine (ValueKit.view_emb_slice_whole_unit_val main_arg2 _ _ _ _ _).trans ?_
    show cc1_transform_0 (grid1.coords t) 0 * 32 + (i 0).val = 32 * t.val + (i 0).val
    rw [h0]; omega
  | ⟨1, _⟩ =>
    refine (ValueKit.view_emb_slice_whole_unit_val main_arg2 _ _ _ _ _).trans ?_
    show cc1_transform_0 (grid1.coords t) 1 * 400 + (i 1).val = (i 1).val
    rw [h1]; omega
  | ⟨2, _⟩ =>
    refine (ValueKit.view_emb_slice_whole_unit_val main_arg2 _ _ _ _ _).trans ?_
    show cc1_transform_0 (grid1.coords t) 2 * 256 + (i 2).val = (i 2).val
    rw [h2]; omega
theorem atA1 : ∀ t : Fin grid1.N, cc1_transform_1 (grid1.coords t) 0 = t.val ∧ cc1_transform_1 (grid1.coords t) 1 = 0 := by decide +kernel
theorem flA1_eq (t : Fin cfg1.N) (d) : flA A 1 t d = inA1 A t := by
  obtain ⟨h0, h1⟩ := atA1 t
  refine funext fun i => congrArg (A 1 : S128x256.Idx → F .f32) (funext fun a => Fin.ext ?_)
  match a with
  | ⟨0, _⟩ =>
    refine (ValueKit.view_emb_slice_whole_unit_val main_v4_0 _ _ _ _ _).trans ?_
    show cc1_transform_1 (grid1.coords t) 0 * 32 + (i 0).val = 32 * t.val + (i 0).val
    rw [h0]; omega
  | ⟨1, _⟩ =>
    refine (ValueKit.view_emb_slice_whole_unit_val main_v4_0 _ _ _ _ _).trans ?_
    show cc1_transform_1 (grid1.coords t) 1 * 256 + (i 1).val = (i 1).val
    rw [h1]; omega
theorem atA2 : ∀ t : Fin grid1.N, cc1_transform_2 (grid1.coords t) 0 = t.val ∧ cc1_transform_2 (grid1.coords t) 1 = 0 := by decide +kernel
theorem flA2_eq (t : Fin cfg1.N) (d) : flA A 2 t d = inA2 A t := by
  obtain ⟨h0, h1⟩ := atA2 t
  refine funext fun i => congrArg (A 2 : S128x128.Idx → F .f32) (funext fun a => Fin.ext ?_)
  match a with
  | ⟨0, _⟩ =>
    refine (ValueKit.view_emb_slice_whole_unit_val main_v4_1 _ _ _ _ _).trans ?_
    show cc1_transform_2 (grid1.coords t) 0 * 32 + (i 0).val = 32 * t.val + (i 0).val
    rw [h0]; omega
  | ⟨1, _⟩ =>
    refine (ValueKit.view_emb_slice_whole_unit_val main_v4_1 _ _ _ _ _).trans ?_
    show cc1_transform_2 (grid1.coords t) 1 * 128 + (i 1).val = (i 1).val
    rw [h1]; omega
theorem atA3 : ∀ t : Fin grid1.N, cc1_transform_3 (grid1.coords t) 0 = t.val ∧ cc1_transform_3 (grid1.coords t) 1 = 0 := by decide +kernel
theorem flA3_eq (t : Fin cfg1.N) (d) : flA A 3 t d = inA3 A t := by
  obtain ⟨h0, h1⟩ := atA3 t
  refine funext fun i => congrArg (A 3 : S128x400.Idx → BitVec 32) (funext fun a => Fin.ext ?_)
  match a with
  | ⟨0, _⟩ =>
    refine (ValueKit.view_emb_slice_whole_unit_val main_v6 _ _ _ _ _).trans ?_
    show cc1_transform_3 (grid1.coords t) 0 * 32 + (i 0).val = 32 * t.val + (i 0).val
    rw [h0]; omega
  | ⟨1, _⟩ =>
    refine (ValueKit.view_emb_slice_whole_unit_val main_v6 _ _ _ _ _).trans ?_
    show cc1_transform_3 (grid1.coords t) 1 * 400 + (i 1).val = (i 1).val
    rw [h1]; omega
theorem atA4 : ∀ t : Fin grid1.N, cc1_transform_4 (grid1.coords t) 0 = t.val ∧ cc1_transform_4 (grid1.coords t) 1 = 0 := by decide +kernel
theorem flA4_eq (t : Fin cfg1.N) (d) : flA A 4 t d = inA4 A t := by
  obtain ⟨h0, h1⟩ := atA4 t
  refine funext fun i => congrArg (A 4 : S128x400.Idx → BitVec 32) (funext fun a => Fin.ext ?_)
  match a with
  | ⟨0, _⟩ =>
    refine (ValueKit.view_emb_slice_whole_unit_val main_v8 _ _ _ _ _).trans ?_
    show cc1_transform_4 (grid1.coords t) 0 * 32 + (i 0).val = 32 * t.val + (i 0).val
    rw [h0]; omega
  | ⟨1, _⟩ =>
    refine (ValueKit.view_emb_slice_whole_unit_val main_v8 _ _ _ _ _).trans ?_
    show cc1_transform_4 (grid1.coords t) 1 * 400 + (i 1).val = (i 1).val
    rw [h1]; omega
theorem atA5 : ∀ t : Fin grid1.N, cc1_transform_5 (grid1.coords t) 0 = 0 ∧ cc1_transform_5 (grid1.coords t) 1 = 0 := by decide +kernel
theorem flA5_eq (t : Fin cfg1.N) (d) : flA A 5 t d = inA5 A := by
  obtain ⟨h0, h1⟩ := atA5 t
  refine funext fun i => congrArg (A 5 : S1x256.Idx → F .f32) (funext fun a => Fin.ext ?_)
  match a with
  | ⟨0, _⟩ =>
    refine (ValueKit.view_emb_slice_whole_unit_val main_v9 _ _ _ _ _).trans ?_
    show cc1_transform_5 (grid1.coords t) 0 * 1 + (i 0).val = (i 0).val
    rw [h0]; omega
  | ⟨1, _⟩ =>
    refine (ValueKit.view_emb_slice_whole_unit_val main_v9 _ _ _ _ _).trans ?_
    show cc1_transform_5 (grid1.coords t) 1 * 256 + (i 1).val = (i 1).val
    rw [h1]; omega
theorem atA6 : ∀ t : Fin grid1.N, cc1_transform_6 (grid1.coords t) 0 = 0 ∧ cc1_transform_6 (grid1.coords t) 1 = 0 := by decide +kernel
theorem flA6_eq (t : Fin cfg1.N) (d) : flA A 6 t d = inA6 A := by
  obtain ⟨h0, h1⟩ := atA6 t
  refine funext fun i => congrArg (A 6 : S1x256.Idx → F .f32) (funext fun a => Fin.ext ?_)
  match a with
  | ⟨0, _⟩ =>
    refine (ValueKit.view_emb_slice_whole_unit_val main_v10 _ _ _ _ _).trans ?_
    show cc1_transform_6 (grid1.coords t) 0 * 1 + (i 0).val = (i 0).val
    rw [h0]; omega
  | ⟨1, _⟩ =>
    refine (ValueKit.view_emb_slice_whole_unit_val main_v10 _ _ _ _ _).trans ?_
    show cc1_transform_6 (grid1.coords t) 1 * 256 + (i 1).val = (i 1).val
    rw [h1]; omega
theorem atA7 : ∀ t : Fin grid1.N, cc1_transform_7 (grid1.coords t) 0 = 0 ∧ cc1_transform_7 (grid1.coords t) 1 = 0 := by decide +kernel
theorem flA7_eq (t : Fin cfg1.N) (d) : flA A 7 t d = inA7 A := by
  obtain ⟨h0, h1⟩ := atA7 t
  refine funext fun i => congrArg (A 7 : S256x1.Idx → F .f32) (funext fun a => Fin.ext ?_)
  match a with
  | ⟨0, _⟩ =>
    refine (ValueKit.view_emb_slice_whole_unit_val main_v11 _ _ _ _ _).trans ?_
    show cc1_transform_7 (grid1.coords t) 0 * 256 + (i 0).val = (i 0).val
    rw [h0]; omega
  | ⟨1, _⟩ =>
    refine (ValueKit.view_emb_slice_whole_unit_val main_v11 _ _ _ _ _).trans ?_
    show cc1_transform_7 (grid1.coords t) 1 * 1 + (i 1).val = (i 1).val
    rw [h1]; omega
theorem atA8 : ∀ t : Fin grid1.N, cc1_transform_8 (grid1.coords t) 0 = 0 ∧ cc1_transform_8 (grid1.coords t) 1 = 0 := by decide +kernel
theorem flA8_eq (t : Fin cfg1.N) (d) : flA A 8 t d = inA8 A := by
  obtain ⟨h0, h1⟩ := atA8 t
  refine funext fun i => congrArg (A 8 : S1x1.Idx → F .f32) (funext fun a => Fin.ext ?_)
  match a with
  | ⟨0, _⟩ =>
    refine (ValueKit.view_emb_slice_whole_unit_val main_v12 _ _ _ _ _).trans ?_
    show cc1_transform_8 (grid1.coords t) 0 * 1 + (i 0).val = (i 0).val
    rw [h0]; omega
  | ⟨1, _⟩ =>
    refine (ValueKit.view_emb_slice_whole_unit_val main_v12 _ _ _ _ _).trans ?_
    show cc1_transform_8 (grid1.coords t) 1 * 1 + (i 1).val = (i 1).val
    rw [h1]; omega
theorem atA9 : ∀ t : Fin grid1.N, cc1_transform_9 (grid1.coords t) 0 = 0 ∧ cc1_transform_9 (grid1.coords t) 1 = 0 := by decide +kernel
theorem flA9_eq (t : Fin cfg1.N) (d) : flA A 9 t d = inA9 A := by
  obtain ⟨h0, h1⟩ := atA9 t
  refine funext fun i => congrArg (A 9 : S1x256.Idx → F .f32) (funext fun a => Fin.ext ?_)
  match a with
  | ⟨0, _⟩ =>
    refine (ValueKit.view_emb_slice_whole_unit_val main_v13 _ _ _ _ _).trans ?_
    show cc1_transform_9 (grid1.coords t) 0 * 1 + (i 0).val = (i 0).val
    rw [h0]; omega
  | ⟨1, _⟩ =>
    refine (ValueKit.view_emb_slice_whole_unit_val main_v13 _ _ _ _ _).trans ?_
    show cc1_transform_9 (grid1.coords t) 1 * 256 + (i 1).val = (i 1).val
    rw [h1]; omega
theorem atA10 : ∀ t : Fin grid1.N, cc1_transform_10 (grid1.coords t) 0 = 0 ∧ cc1_transform_10 (grid1.coords t) 1 = 0 := by decide +kernel
theorem flA10_eq (t : Fin cfg1.N) (d) : flA A 10 t d = inA10 A := by
  obtain ⟨h0, h1⟩ := atA10 t
  refine funext fun i => congrArg (A 10 : S1x256.Idx → F .f32) (funext fun a => Fin.ext ?_)
  match a with
  | ⟨0, _⟩ =>
    refine (ValueKit.view_emb_slice_whole_unit_val main_v14 _ _ _ _ _).trans ?_
    show cc1_transform_10 (grid1.coords t) 0 * 1 + (i 0).val = (i 0).val
    rw [h0]; omega
  | ⟨1, _⟩ =>
    refine (ValueKit.view_emb_slice_whole_unit_val main_v14 _ _ _ _ _).trans ?_
    show cc1_transform_10 (grid1.coords t) 1 * 256 + (i 1).val = (i 1).val
    rw [h1]; omega
theorem atA11 : ∀ t : Fin grid1.N, cc1_transform_11 (grid1.coords t) 0 = 0 ∧ cc1_transform_11 (grid1.coords t) 1 = 0 := by decide +kernel
theorem flA11_eq (t : Fin cfg1.N) (d) : flA A 11 t d = inA11 A := by
  obtain ⟨h0, h1⟩ := atA11 t
  refine funext fun i => congrArg (A 11 : S1x128.Idx → F .f32) (funext fun a => Fin.ext ?_)
  match a with
  | ⟨0, _⟩ =>
    refine (ValueKit.view_emb_slice_whole_unit_val main_v15 _ _ _ _ _).trans ?_
    show cc1_transform_11 (grid1.coords t) 0 * 1 + (i 0).val = (i 0).val
    rw [h0]; omega
  | ⟨1, _⟩ =>
    refine (ValueKit.view_emb_slice_whole_unit_val main_v15 _ _ _ _ _).trans ?_
    show cc1_transform_11 (grid1.coords t) 1 * 128 + (i 1).val = (i 1).val
    rw [h1]; omega
theorem atA12 : ∀ t : Fin grid1.N, cc1_transform_12 (grid1.coords t) 0 = 0 ∧ cc1_transform_12 (grid1.coords t) 1 = 0 := by decide +kernel
theorem flA12_eq (t : Fin cfg1.N) (d) : flA A 12 t d = inA12 A := by
  obtain ⟨h0, h1⟩ := atA12 t
  refine funext fun i => congrArg (A 12 : S1x1.Idx → F .f32) (funext fun a => Fin.ext ?_)
  match a with
  | ⟨0, _⟩ =>
    refine (ValueKit.view_emb_slice_whole_unit_val main_v16 _ _ _ _ _).trans ?_
    show cc1_transform_12 (grid1.coords t) 0 * 1 + (i 0).val = (i 0).val
    rw [h0]; omega
  | ⟨1, _⟩ =>
    refine (ValueKit.view_emb_slice_whole_unit_val main_v16 _ _ _ _ _).trans ?_
    show cc1_transform_12 (grid1.coords t) 1 * 1 + (i 1).val = (i 1).val
    rw [h1]; omega
theorem atA13 : ∀ t : Fin grid1.N, cc1_transform_13 (grid1.coords t) 0 = 0 ∧ cc1_transform_13 (grid1.coords t) 1 = 0 := by decide +kernel
theorem flA13_eq (t : Fin cfg1.N) (d) : flA A 13 t d = inA13 A := by
  obtain ⟨h0, h1⟩ := atA13 t
  refine funext fun i => congrArg (A 13 : S128x256.Idx → F .f32) (funext fun a => Fin.ext ?_)
  match a with
  | ⟨0, _⟩ =>
    refine (ValueKit.view_emb_slice_whole_unit_val main_v17 _ _ _ _ _).trans ?_
    show cc1_transform_13 (grid1.coords t) 0 * 128 + (i 0).val = (i 0).val
    rw [h0]; omega
  | ⟨1, _⟩ =>
    refine (ValueKit.view_emb_slice_whole_unit_val main_v17 _ _ _ _ _).trans ?_
    show cc1_transform_13 (grid1.coords t) 1 * 256 + (i 1).val = (i 1).val
    rw [h1]; omega
theorem atA14 : ∀ t : Fin grid1.N, cc1_transform_14 (grid1.coords t) 0 = 0 ∧ cc1_transform_14 (grid1.coords t) 1 = 0 := by decide +kernel
theorem flA14_eq (t : Fin cfg1.N) (d) : flA A 14 t d = inA14 A := by
  obtain ⟨h0, h1⟩ := atA14 t
  refine funext fun i => congrArg (A 14 : S128x256.Idx → F .f32) (funext fun a => Fin.ext ?_)
  match a with
  | ⟨0, _⟩ =>
    refine (ValueKit.view_emb_slice_whole_unit_val main_v18 _ _ _ _ _).trans ?_
    show cc1_transform_14 (grid1.coords t) 0 * 128 + (i 0).val = (i 0).val
    rw [h0]; omega
  | ⟨1, _⟩ =>
    refine (ValueKit.view_emb_slice_whole_unit_val main_v18 _ _ _ _ _).trans ?_
    show cc1_transform_14 (grid1.coords t) 1 * 256 + (i 1).val = (i 1).val
    rw [h1]; omega
theorem atA15 : ∀ t : Fin grid1.N, cc1_transform_15 (grid1.coords t) 0 = 0 ∧ cc1_transform_15 (grid1.coords t) 1 = 0 := by decide +kernel
theorem flA15_eq (t : Fin cfg1.N) (d) : flA A 15 t d = inA15 A := by
  obtain ⟨h0, h1⟩ := atA15 t
  refine funext fun i => congrArg (A 15 : S1x128.Idx → F .f32) (funext fun a => Fin.ext ?_)
  match a with
  | ⟨0, _⟩ =>
    refine (ValueKit.view_emb_slice_whole_unit_val main_v19 _ _ _ _ _).trans ?_
    show cc1_transform_15 (grid1.coords t) 0 * 1 + (i 0).val = (i 0).val
    rw [h0]; omega
  | ⟨1, _⟩ =>
    refine (ValueKit.view_emb_slice_whole_unit_val main_v19 _ _ _ _ _).trans ?_
    show cc1_transform_15 (grid1.coords t) 1 * 128 + (i 1).val = (i 1).val
    rw [h1]; omega
theorem atA16 : ∀ t : Fin grid1.N, cc1_transform_16 (grid1.coords t) 0 = t.val ∧ cc1_transform_16 (grid1.coords t) 1 = 0 := by decide +kernel
theorem atA17 : ∀ t : Fin grid1.N, cc1_transform_17 (grid1.coords t) 0 = t.val ∧ cc1_transform_17 (grid1.coords t) 1 = 0 := by decide +kernel
theorem atA18 : ∀ t : Fin grid1.N, cc1_transform_18 (grid1.coords t) 0 = t.val ∧ cc1_transform_18 (grid1.coords t) 1 = 0 := by decide +kernel
theorem atA19 : ∀ t : Fin grid1.N, cc1_transform_19 (grid1.coords t) 0 = t.val ∧ cc1_transform_19 (grid1.coords t) 1 = 0 := by decide +kernel

/-- The scores of step `t`, one column for each row of the batch. -/
def scA (t : Fin cfg1.N) : S400x32.Idx → F .f32 := scTA (inA0 A t) (inA1 A t) (inA5 A) (inA6 A) (inA7 A) (inA8 A)
/-- The contexts of step `t`. -/
def cxA (t : Fin cfg1.N) : S32x256.Idx → F .f32 := ctxA (inA0 A t) (scA A t)
/-- What step `t` leaves in the buffer of output 0. -/
def valA16 (t : Fin cfg1.N) : S32x128.Idx → F .f32 := k1_pay89 (k1_pay2 (inA1 A t)) (cxA A t) (inA13 A) (inA14 A) (inA15 A)
/-- Output 0 after the call. -/
def outA16 : S128x128.Idx → F .f32 := fun i => valA16 A ⟨(i 0).val / 32, stepA32_lt (i 0)⟩ (ix2 ⟨(i 0).val % 32, modA32_lt (i 0)⟩ (i 1))
theorem outA16_at (t : Fin cfg1.N) (r : Fin 32) (j : Fin 128) (i : S128x128.Idx) (h0 : (i 0).val = 32 * t.val + r.val) (h1 : (i 1).val = j.val) :
    outA16 A i = valA16 A t (ix2 r j) := by
  have e0 : (⟨(i 0).val / 32, stepA32_lt (i 0)⟩ : Fin cfg1.N) = t := Fin.ext (by show (i 0).val / 32 = t.val; omega)
  have e1 : (⟨(i 0).val % 32, modA32_lt (i 0)⟩ : Fin 32) = r := Fin.ext (by show (i 0).val % 32 = r.val; omega)
  have e2 : (i 1 : Fin 128) = j := Fin.ext h1
  unfold outA16
  rw [e0, e1]
  exact congrArg (fun z : Fin 128 => valA16 A t (ix2 r z)) e2

/-- What step `t` leaves in the buffer of output 1. -/
def valA17 (t : Fin cfg1.N) : S32x128.Idx → F .f32 := k1_pay90 (k1_pay2 (inA1 A t)) (cxA A t) (inA9 A) (inA10 A) (inA2 A t) (inA11 A) (at0 (inA12 A))
/-- Output 1 after the call. -/
def outA17 : S128x128.Idx → F .f32 := fun i => valA17 A ⟨(i 0).val / 32, stepA32_lt (i 0)⟩ (ix2 ⟨(i 0).val % 32, modA32_lt (i 0)⟩ (i 1))
theorem outA17_at (t : Fin cfg1.N) (r : Fin 32) (j : Fin 128) (i : S128x128.Idx) (h0 : (i 0).val = 32 * t.val + r.val) (h1 : (i 1).val = j.val) :
    outA17 A i = valA17 A t (ix2 r j) := by
  have e0 : (⟨(i 0).val / 32, stepA32_lt (i 0)⟩ : Fin cfg1.N) = t := Fin.ext (by show (i 0).val / 32 = t.val; omega)
  have e1 : (⟨(i 0).val % 32, modA32_lt (i 0)⟩ : Fin 32) = r := Fin.ext (by show (i 0).val % 32 = r.val; omega)
  have e2 : (i 1 : Fin 128) = j := Fin.ext h1
  unfold outA17
  rw [e0, e1]
  exact congrArg (fun z : Fin 128 => valA17 A t (ix2 r z)) e2

/-- What step `t` leaves in the buffer of output 2. -/
def valA18 (t : Fin cfg1.N) : S32x400.Idx → F .f32 := k1_pay46 (scA A t)
/-- Output 2 after the call. -/
def outA18 : S128x400.Idx → F .f32 := fun i => valA18 A ⟨(i 0).val / 32, stepA32_lt (i 0)⟩ (ix2 ⟨(i 0).val % 32, modA32_lt (i 0)⟩ (i 1))
theorem outA18_at (t : Fin cfg1.N) (r : Fin 32) (j : Fin 400) (i : S128x400.Idx) (h0 : (i 0).val = 32 * t.val + r.val) (h1 : (i 1).val = j.val) :
    outA18 A i = valA18 A t (ix2 r j) := by
  have e0 : (⟨(i 0).val / 32, stepA32_lt (i 0)⟩ : Fin cfg1.N) = t := Fin.ext (by show (i 0).val / 32 = t.val; omega)
  have e1 : (⟨(i 0).val % 32, modA32_lt (i 0)⟩ : Fin 32) = r := Fin.ext (by show (i 0).val % 32 = r.val; omega)
  have e2 : (i 1 : Fin 400) = j := Fin.ext h1
  unfold outA18
  rw [e0, e1]
  exact congrArg (fun z : Fin 400 => valA18 A t (ix2 r z)) e2

/-- What step `t` leaves in the buffer of output 3. -/
def valA19 (t : Fin cfg1.N) : S12800x128.Idx → F .f32 := tidA (inA3 A t) (inA4 A t) (scA A t)
/-- Output 3 after the call. -/
def outA19 : S51200x128.Idx → F .f32 := fun i => valA19 A ⟨(i 0).val / 12800, stepA12800_lt (i 0)⟩ (ix2 ⟨(i 0).val % 12800, modA12800_lt (i 0)⟩ (i 1))
theorem outA19_at (t : Fin cfg1.N) (r : Fin 12800) (j : Fin 128) (i : S51200x128.Idx) (h0 : (i 0).val = 12800 * t.val + r.val) (h1 : (i 1).val = j.val) :
    outA19 A i = valA19 A t (ix2 r j) := by
  have e0 : (⟨(i 0).val / 12800, stepA12800_lt (i 0)⟩ : Fin cfg1.N) = t := Fin.ext (by show (i 0).val / 12800 = t.val; omega)
  have e1 : (⟨(i 0).val % 12800, modA12800_lt (i 0)⟩ : Fin 12800) = r := Fin.ext (by show (i 0).val % 12800 = r.val; omega)
  have e2 : (i 1 : Fin 128) = j := Fin.ext h1
  unfold outA19
  rw [e0, e1]
  exact congrArg (fun z : Fin 128 => valA19 A t (ix2 r z)) e2

/-- The scratch between steps, with what the call keeps beside it. -/
def phiA (c : Dev nD) : sProp 𝕄 :=
  iprop((∃ d, owns (c : Thread nD τ) (Memref.whole cc1_scratch0) fullShare d) ∗ (∃ d, owns (c : Thread nD τ) (Memref.whole cc1_scratch1) fullShare d)
    ∗ Pipeline.scopedRestBut spec1 c [cc1_scratch0, cc1_scratch1] ∗ (∃ r, prngReg c r))

/-- The call's relational data. -/
def datA : Pipeline.RDat τ (Elt F) Unit ℕ (UR sig nD τ × Counters) ℕ cfg1 c where
  A := A
  after w t Y X := match w, X, Y with
    | ⟨0, _⟩, X, Y => X = Y
    | ⟨1, _⟩, X, Y => X = Y
    | ⟨2, _⟩, X, Y => X = Y
    | ⟨3, _⟩, X, Y => X = Y
    | ⟨4, _⟩, X, Y => X = Y
    | ⟨5, _⟩, X, Y => X = Y
    | ⟨6, _⟩, X, Y => X = Y
    | ⟨7, _⟩, X, Y => X = Y
    | ⟨8, _⟩, X, Y => X = Y
    | ⟨9, _⟩, X, Y => X = Y
    | ⟨10, _⟩, X, Y => X = Y
    | ⟨11, _⟩, X, Y => X = Y
    | ⟨12, _⟩, X, Y => X = Y
    | ⟨13, _⟩, X, Y => X = Y
    | ⟨14, _⟩, X, Y => X = Y
    | ⟨15, _⟩, X, Y => X = Y
    | ⟨16, _⟩, X, _ => X = valA16 A t
    | ⟨17, _⟩, X, _ => X = valA17 A t
    | ⟨18, _⟩, X, _ => X = valA18 A t
    | ⟨19, _⟩, X, _ => X = valA19 A t
    | ⟨_ + 20, h⟩, _, _ => absurd h (Nat.not_lt.2 (Nat.le_add_left _ _))
  Φ _ := phiA c
  q _ := fullShare
  owed _ := 0

theorem findsA0 (t : Fin cfg1.N) (Y) (h : (datA A).Finds 0 t Y) : Y = inA0 A t := by
  obtain ⟨d, hd⟩ := ((datA A).finds_of_fetch (fetch1_0 t) Y).mp h
  exact hd.trans (flA0_eq A t d)
theorem findsA1 (t : Fin cfg1.N) (Y) (h : (datA A).Finds 1 t Y) : Y = inA1 A t := by
  obtain ⟨d, hd⟩ := ((datA A).finds_of_fetch (fetch1_1 t) Y).mp h
  exact hd.trans (flA1_eq A t d)
theorem findsA2 (t : Fin cfg1.N) (Y) (h : (datA A).Finds 2 t Y) : Y = inA2 A t := by
  obtain ⟨d, hd⟩ := ((datA A).finds_of_fetch (fetch1_2 t) Y).mp h
  exact hd.trans (flA2_eq A t d)
theorem findsA3 (t : Fin cfg1.N) (Y) (h : (datA A).Finds 3 t Y) : Y = inA3 A t := by
  obtain ⟨d, hd⟩ := ((datA A).finds_of_fetch (fetch1_3 t) Y).mp h
  exact hd.trans (flA3_eq A t d)
theorem findsA4 (t : Fin cfg1.N) (Y) (h : (datA A).Finds 4 t Y) : Y = inA4 A t := by
  obtain ⟨d, hd⟩ := ((datA A).finds_of_fetch (fetch1_4 t) Y).mp h
  exact hd.trans (flA4_eq A t d)
theorem findsA5 (t : Fin cfg1.N) (Y) (h : (datA A).Finds 5 t Y) : Y = inA5 A := by
  obtain ⟨d, hd⟩ := (datA A).finds_in_eq_fetched 5 rfl (fun _ _ _ => rfl) (fun _ _ _ h => h) t Y h
  exact hd.trans (flA5_eq A t d)
theorem findsA6 (t : Fin cfg1.N) (Y) (h : (datA A).Finds 6 t Y) : Y = inA6 A := by
  obtain ⟨d, hd⟩ := (datA A).finds_in_eq_fetched 6 rfl (fun _ _ _ => rfl) (fun _ _ _ h => h) t Y h
  exact hd.trans (flA6_eq A t d)
theorem findsA7 (t : Fin cfg1.N) (Y) (h : (datA A).Finds 7 t Y) : Y = inA7 A := by
  obtain ⟨d, hd⟩ := (datA A).finds_in_eq_fetched 7 rfl (fun _ _ _ => rfl) (fun _ _ _ h => h) t Y h
  exact hd.trans (flA7_eq A t d)
theorem findsA8 (t : Fin cfg1.N) (Y) (h : (datA A).Finds 8 t Y) : Y = inA8 A := by
  obtain ⟨d, hd⟩ := (datA A).finds_in_eq_fetched 8 rfl (fun _ _ _ => rfl) (fun _ _ _ h => h) t Y h
  exact hd.trans (flA8_eq A t d)
theorem findsA9 (t : Fin cfg1.N) (Y) (h : (datA A).Finds 9 t Y) : Y = inA9 A := by
  obtain ⟨d, hd⟩ := (datA A).finds_in_eq_fetched 9 rfl (fun _ _ _ => rfl) (fun _ _ _ h => h) t Y h
  exact hd.trans (flA9_eq A t d)
theorem findsA10 (t : Fin cfg1.N) (Y) (h : (datA A).Finds 10 t Y) : Y = inA10 A := by
  obtain ⟨d, hd⟩ := (datA A).finds_in_eq_fetched 10 rfl (fun _ _ _ => rfl) (fun _ _ _ h => h) t Y h
  exact hd.trans (flA10_eq A t d)
theorem findsA11 (t : Fin cfg1.N) (Y) (h : (datA A).Finds 11 t Y) : Y = inA11 A := by
  obtain ⟨d, hd⟩ := (datA A).finds_in_eq_fetched 11 rfl (fun _ _ _ => rfl) (fun _ _ _ h => h) t Y h
  exact hd.trans (flA11_eq A t d)
theorem findsA12 (t : Fin cfg1.N) (Y) (h : (datA A).Finds 12 t Y) : Y = inA12 A := by
  obtain ⟨d, hd⟩ := (datA A).finds_in_eq_fetched 12 rfl (fun _ _ _ => rfl) (fun _ _ _ h => h) t Y h
  exact hd.trans (flA12_eq A t d)
theorem findsA13 (t : Fin cfg1.N) (Y) (h : (datA A).Finds 13 t Y) : Y = inA13 A := by
  obtain ⟨d, hd⟩ := (datA A).finds_in_eq_fetched 13 rfl (fun _ _ _ => rfl) (fun _ _ _ h => h) t Y h
  exact hd.trans (flA13_eq A t d)
theorem findsA14 (t : Fin cfg1.N) (Y) (h : (datA A).Finds 14 t Y) : Y = inA14 A := by
  obtain ⟨d, hd⟩ := (datA A).finds_in_eq_fetched 14 rfl (fun _ _ _ => rfl) (fun _ _ _ h => h) t Y h
  exact hd.trans (flA14_eq A t d)
theorem findsA15 (t : Fin cfg1.N) (Y) (h : (datA A).Finds 15 t Y) : Y = inA15 A := by
  obtain ⟨d, hd⟩ := (datA A).finds_in_eq_fetched 15 rfl (fun _ _ _ => rfl) (fun _ _ _ h => h) t Y h
  exact hd.trans (flA15_eq A t d)

theorem arrA16_eq (G) (h : (datA A).ArrAt 16 cfg1.N G) : G = outA16 A := by
  obtain ⟨X, hX, hG⟩ := h.exists_exact
  rw [hG (Function.update (fun _ _ _ => Classical.arbitrary _) 16 X) fun u _ _ => by rw [Function.update_self]]
  refine Pipeline.Dat.arrAt_eq_of_covers _ 16 _ (by decide +kernel) fun t hf y => ?_
  rw [Pipeline.RDat.withAfter_after, Function.update_self]
  obtain ⟨Y, -, hR⟩ := hX t t.isLt hf
  obtain ⟨i0, i1⟩ := atA16 t
  have e0 : ((((cfg1.win 16).blk t).view.emb y) 0).val = 32 * t.val + (((cfg1.win 16).xinj (cfg1.grid.coords t) y) 0).val := by
    refine (ValueKit.view_emb_slice_whole_unit_val main_v20_0 _ _ _ _ _).trans ?_
    show cc1_transform_16 (grid1.coords t) 0 * 32 + (y 0).val = 32 * t.val + (y 0).val
    rw [i0]; omega
  have e1 : ((((cfg1.win 16).blk t).view.emb y) 1).val = (((cfg1.win 16).xinj (cfg1.grid.coords t) y) 1).val := by
    refine (ValueKit.view_emb_slice_whole_unit_val main_v20_0 _ _ _ _ _).trans ?_
    show cc1_transform_16 (grid1.coords t) 1 * 128 + (y 1).val = (y 1).val
    rw [i1]; omega
  refine Eq.trans ?_ (outA16_at A t _ _ _ e0 e1).symm
  have hR' : X t = valA16 A t := hR
  show X t _ = _
  rw [hR']
  refine congrArg (valA16 A t) ?_
  funext a; match a with | ⟨0, _⟩ => rfl | ⟨1, _⟩ => rfl

theorem arrA17_eq (G) (h : (datA A).ArrAt 17 cfg1.N G) : G = outA17 A := by
  obtain ⟨X, hX, hG⟩ := h.exists_exact
  rw [hG (Function.update (fun _ _ _ => Classical.arbitrary _) 17 X) fun u _ _ => by rw [Function.update_self]]
  refine Pipeline.Dat.arrAt_eq_of_covers _ 17 _ (by decide +kernel) fun t hf y => ?_
  rw [Pipeline.RDat.withAfter_after, Function.update_self]
  obtain ⟨Y, -, hR⟩ := hX t t.isLt hf
  obtain ⟨i0, i1⟩ := atA17 t
  have e0 : ((((cfg1.win 17).blk t).view.emb y) 0).val = 32 * t.val + (((cfg1.win 17).xinj (cfg1.grid.coords t) y) 0).val := by
    refine (ValueKit.view_emb_slice_whole_unit_val main_v20_1 _ _ _ _ _).trans ?_
    show cc1_transform_17 (grid1.coords t) 0 * 32 + (y 0).val = 32 * t.val + (y 0).val
    rw [i0]; omega
  have e1 : ((((cfg1.win 17).blk t).view.emb y) 1).val = (((cfg1.win 17).xinj (cfg1.grid.coords t) y) 1).val := by
    refine (ValueKit.view_emb_slice_whole_unit_val main_v20_1 _ _ _ _ _).trans ?_
    show cc1_transform_17 (grid1.coords t) 1 * 128 + (y 1).val = (y 1).val
    rw [i1]; omega
  refine Eq.trans ?_ (outA17_at A t _ _ _ e0 e1).symm
  have hR' : X t = valA17 A t := hR
  show X t _ = _
  rw [hR']
  refine congrArg (valA17 A t) ?_
  funext a; match a with | ⟨0, _⟩ => rfl | ⟨1, _⟩ => rfl

theorem arrA18_eq (G) (h : (datA A).ArrAt 18 cfg1.N G) : G = outA18 A := by
  obtain ⟨X, hX, hG⟩ := h.exists_exact
  rw [hG (Function.update (fun _ _ _ => Classical.arbitrary _) 18 X) fun u _ _ => by rw [Function.update_self]]
  refine Pipeline.Dat.arrAt_eq_of_covers _ 18 _ (by decide +kernel) fun t hf y => ?_
  rw [Pipeline.RDat.withAfter_after, Function.update_self]
  obtain ⟨Y, -, hR⟩ := hX t t.isLt hf
  obtain ⟨i0, i1⟩ := atA18 t
  have e0 : ((((cfg1.win 18).blk t).view.emb y) 0).val = 32 * t.val + (((cfg1.win 18).xinj (cfg1.grid.coords t) y) 0).val := by
    refine (ValueKit.view_emb_slice_whole_unit_val main_v20_2 _ _ _ _ _).trans ?_
    show cc1_transform_18 (grid1.coords t) 0 * 32 + (y 0).val = 32 * t.val + (y 0).val
    rw [i0]; omega
  have e1 : ((((cfg1.win 18).blk t).view.emb y) 1).val = (((cfg1.win 18).xinj (cfg1.grid.coords t) y) 1).val := by
    refine (ValueKit.view_emb_slice_whole_unit_val main_v20_2 _ _ _ _ _).trans ?_
    show cc1_transform_18 (grid1.coords t) 1 * 400 + (y 1).val = (y 1).val
    rw [i1]; omega
  refine Eq.trans ?_ (outA18_at A t _ _ _ e0 e1).symm
  have hR' : X t = valA18 A t := hR
  show X t _ = _
  rw [hR']
  refine congrArg (valA18 A t) ?_
  funext a; match a with | ⟨0, _⟩ => rfl | ⟨1, _⟩ => rfl

theorem arrA19_eq (G) (h : (datA A).ArrAt 19 cfg1.N G) : G = outA19 A := by
  obtain ⟨X, hX, hG⟩ := h.exists_exact
  rw [hG (Function.update (fun _ _ _ => Classical.arbitrary _) 19 X) fun u _ _ => by rw [Function.update_self]]
  refine Pipeline.Dat.arrAt_eq_of_covers _ 19 _ (by decide +kernel) fun t hf y => ?_
  rw [Pipeline.RDat.withAfter_after, Function.update_self]
  obtain ⟨Y, -, hR⟩ := hX t t.isLt hf
  obtain ⟨i0, i1⟩ := atA19 t
  have e0 : ((((cfg1.win 19).blk t).view.emb y) 0).val = 12800 * t.val + (((cfg1.win 19).xinj (cfg1.grid.coords t) y) 0).val := by
    refine (ValueKit.view_emb_slice_whole_unit_val main_v20_3 _ _ _ _ _).trans ?_
    show cc1_transform_19 (grid1.coords t) 0 * 12800 + (y 0).val = 12800 * t.val + (y 0).val
    rw [i0]; omega
  have e1 : ((((cfg1.win 19).blk t).view.emb y) 1).val = (((cfg1.win 19).xinj (cfg1.grid.coords t) y) 1).val := by
    refine (ValueKit.view_emb_slice_whole_unit_val main_v20_3 _ _ _ _ _).trans ?_
    show cc1_transform_19 (grid1.coords t) 1 * 128 + (y 1).val = (y 1).val
    rw [i1]; omega
  refine Eq.trans ?_ (outA19_at A t _ _ _ e0 e1).symm
  have hR' : X t = valA19 A t := hR
  show X t _ = _
  rw [hR']
  refine congrArg (valA19 A t) ?_
  funext a; match a with | ⟨0, _⟩ => rfl | ⟨1, _⟩ => rfl

/-- One step of the call, from buffers holding what the step finds. -/
theorem stepA (t : Fin cfg1.N) (Y0 : S32x400x256.Idx → F .f32) (Y1 : S32x256.Idx → F .f32) (Y2 : S32x128.Idx → F .f32) (Y3 : S32x400.Idx → BitVec 32) (Y4 : S32x400.Idx → BitVec 32) (Y5 : S1x256.Idx → F .f32) (Y6 : S1x256.Idx → F .f32) (Y7 : S256x1.Idx → F .f32) (Y8 : S1x1.Idx → F .f32) (Y9 : S1x256.Idx → F .f32) (Y10 : S1x256.Idx → F .f32) (Y11 : S1x128.Idx → F .f32) (Y12 : S1x1.Idx → F .f32) (Y13 : S128x256.Idx → F .f32) (Y14 : S128x256.Idx → F .f32) (Y15 : S1x128.Idx → F .f32) (Y16 : S32x128.Idx → F .f32) (Y17 : S32x128.Idx → F .f32) (Y18 : S32x400.Idx → F .f32) (Y19 : S12800x128.Idx → F .f32)
    (h0 : Y0 = inA0 A t) (h1 : Y1 = inA1 A t) (h2 : Y2 = inA2 A t) (h3 : Y3 = inA3 A t) (h4 : Y4 = inA4 A t) (h5 : Y5 = inA5 A) (h6 : Y6 = inA6 A) (h7 : Y7 = inA7 A) (h8 : Y8 = inA8 A) (h9 : Y9 = inA9 A) (h10 : Y10 = inA10 A) (h11 : Y11 = inA11 A) (h12 : Y12 = inA12 A) (h13 : Y13 = inA13 A) (h14 : Y14 = inA14 A) (h15 : Y15 = inA15 A) :
    iprop(phiA c ∗ (datA A).owesAt () t.castSucc ∗ owns (c : Thread nD τ) (st1_0 t) fullShare Y0 ∗ owns (c : Thread nD τ) (st1_1 t) fullShare Y1 ∗ owns (c : Thread nD τ) (st1_2 t) fullShare Y2 ∗ owns (c : Thread nD τ) (st1_3 t) fullShare Y3 ∗ owns (c : Thread nD τ) (st1_4 t) fullShare Y4 ∗ owns (c : Thread nD τ) (st1_5 t) fullShare Y5 ∗ owns (c : Thread nD τ) (st1_6 t) fullShare Y6 ∗ owns (c : Thread nD τ) (st1_7 t) fullShare Y7 ∗ owns (c : Thread nD τ) (st1_8 t) fullShare Y8 ∗ owns (c : Thread nD τ) (st1_9 t) fullShare Y9 ∗ owns (c : Thread nD τ) (st1_10 t) fullShare Y10 ∗ owns (c : Thread nD τ) (st1_11 t) fullShare Y11 ∗ owns (c : Thread nD τ) (st1_12 t) fullShare Y12 ∗ owns (c : Thread nD τ) (st1_13 t) fullShare Y13 ∗ owns (c : Thread nD τ) (st1_14 t) fullShare Y14 ∗ owns (c : Thread nD τ) (st1_15 t) fullShare Y15 ∗ owns (c : Thread nD τ) (st1_16 t) fullShare Y16 ∗ owns (c : Thread nD τ) (st1_17 t) fullShare Y17 ∗ owns (c : Thread nD τ) (st1_18 t) fullShare Y18 ∗ owns (c : Thread nD τ) (st1_19 t) fullShare Y19)
    ⊢ wp frame (wpE (defs₀ (F := F)) Variants.none c none) Set.univ (bodyAt1 t) (fun _ =>
      iprop(phiA c ∗ (datA A).owesAt () t.succ ∗ (∃ X, ⌜X = Y0⌝ ∗ owns (c : Thread nD τ) (st1_0 t) fullShare X) ∗ (∃ X, ⌜X = Y1⌝ ∗ owns (c : Thread nD τ) (st1_1 t) fullShare X) ∗ (∃ X, ⌜X = Y2⌝ ∗ owns (c : Thread nD τ) (st1_2 t) fullShare X) ∗ (∃ X, ⌜X = Y3⌝ ∗ owns (c : Thread nD τ) (st1_3 t) fullShare X) ∗ (∃ X, ⌜X = Y4⌝ ∗ owns (c : Thread nD τ) (st1_4 t) fullShare X) ∗ (∃ X, ⌜X = Y5⌝ ∗ owns (c : Thread nD τ) (st1_5 t) fullShare X) ∗ (∃ X, ⌜X = Y6⌝ ∗ owns (c : Thread nD τ) (st1_6 t) fullShare X) ∗ (∃ X, ⌜X = Y7⌝ ∗ owns (c : Thread nD τ) (st1_7 t) fullShare X) ∗ (∃ X, ⌜X = Y8⌝ ∗ owns (c : Thread nD τ) (st1_8 t) fullShare X) ∗ (∃ X, ⌜X = Y9⌝ ∗ owns (c : Thread nD τ) (st1_9 t) fullShare X) ∗ (∃ X, ⌜X = Y10⌝ ∗ owns (c : Thread nD τ) (st1_10 t) fullShare X) ∗ (∃ X, ⌜X = Y11⌝ ∗ owns (c : Thread nD τ) (st1_11 t) fullShare X) ∗ (∃ X, ⌜X = Y12⌝ ∗ owns (c : Thread nD τ) (st1_12 t) fullShare X) ∗ (∃ X, ⌜X = Y13⌝ ∗ owns (c : Thread nD τ) (st1_13 t) fullShare X) ∗ (∃ X, ⌜X = Y14⌝ ∗ owns (c : Thread nD τ) (st1_14 t) fullShare X) ∗ (∃ X, ⌜X = Y15⌝ ∗ owns (c : Thread nD τ) (st1_15 t) fullShare X) ∗ (∃ X, ⌜X = valA16 A t⌝ ∗ owns (c : Thread nD τ) (st1_16 t) fullShare X) ∗ (∃ X, ⌜X = valA17 A t⌝ ∗ owns (c : Thread nD τ) (st1_17 t) fullShare X) ∗ (∃ X, ⌜X = valA18 A t⌝ ∗ owns (c : Thread nD τ) (st1_18 t) fullShare X) ∗ (∃ X, ⌜X = valA19 A t⌝ ∗ owns (c : Thread nD τ) (st1_19 t) fullShare X))) := by
  unfold phiA bodyAt1 Pipeline.RDat.owesAt Pipeline.owesWithin
  iintro ⟨⟨⟨%d0, HS0⟩, ⟨%d1, HS1⟩, Hsc, Hg⟩, HO, H0, H1, H2, H3, H4, H5, H6, H7, H8, H9, H10, H11, H12, H13, H14, H15, H16, H17, H18, H19⟩
  subst h0 h1 h2 h3 h4 h5 h6 h7 h8 h9 h10 h11 h12 h13 h14 h15
  iapply (run_A c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (hstage1_12 ((cfg1.slots t 12).cast nbuf1_12)) _ (hstage1_13 ((cfg1.slots t 13).cast nbuf1_13)) _ (hstage1_14 ((cfg1.slots t 14).cast nbuf1_14)) _ (hstage1_15 ((cfg1.slots t 15).cast nbuf1_15)) _ (hstage1_16 ((cfg1.slots t 16).cast nbuf1_16)) _ (hstage1_17 ((cfg1.slots t 17).cast nbuf1_17)) _ (hstage1_18 ((cfg1.slots t 18).cast nbuf1_18)) _ (hstage1_19 ((cfg1.slots t 19).cast nbuf1_19)) _ (Memref.isWhole_whole _) _ (Memref.isWhole_whole _) (inA0 A t) (inA1 A t) (inA2 A t) (inA3 A t) (inA4 A t) (inA5 A) (inA6 A) (inA7 A) (inA8 A) (inA9 A) (inA10 A) (inA11 A) (inA12 A) (inA13 A) (inA14 A) (inA15 A) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [HS0]; · iexists _; iexact HS0
  isplitl [HS1]; · iexists _; iexact HS1
  iintro ⟨H0, H1, H2, H3, H4, H5, H6, H7, H8, H9, H10, H11, H12, H13, H14, H15, H16, H17, H18, H19, HS0, HS1⟩
  isplitl [HS0 HS1 Hsc Hg]
  · isplitl [HS0]; · iexact HS0
    isplitl [HS1]; · iexact HS1
    isplitl [Hsc]; · iexact Hsc
    iexact Hg
  isplitl [HO]; · iexact HO
  isplitl [H0]
  · iexists _
    isplitr [H0]; swap; · iexact H0
    ipureintro; rfl
  isplitl [H1]
  · iexists _
    isplitr [H1]; swap; · iexact H1
    ipureintro; rfl
  isplitl [H2]
  · iexists _
    isplitr [H2]; swap; · iexact H2
    ipureintro; rfl
  isplitl [H3]
  · iexists _
    isplitr [H3]; swap; · iexact H3
    ipureintro; rfl
  isplitl [H4]
  · iexists _
    isplitr [H4]; swap; · iexact H4
    ipureintro; rfl
  isplitl [H5]
  · iexists _
    isplitr [H5]; swap; · iexact H5
    ipureintro; rfl
  isplitl [H6]
  · iexists _
    isplitr [H6]; swap; · iexact H6
    ipureintro; rfl
  isplitl [H7]
  · iexists _
    isplitr [H7]; swap; · iexact H7
    ipureintro; rfl
  isplitl [H8]
  · iexists _
    isplitr [H8]; swap; · iexact H8
    ipureintro; rfl
  isplitl [H9]
  · iexists _
    isplitr [H9]; swap; · iexact H9
    ipureintro; rfl
  isplitl [H10]
  · iexists _
    isplitr [H10]; swap; · iexact H10
    ipureintro; rfl
  isplitl [H11]
  · iexists _
    isplitr [H11]; swap; · iexact H11
    ipureintro; rfl
  isplitl [H12]
  · iexists _
    isplitr [H12]; swap; · iexact H12
    ipureintro; rfl
  isplitl [H13]
  · iexists _
    isplitr [H13]; swap; · iexact H13
    ipureintro; rfl
  isplitl [H14]
  · iexists _
    isplitr [H14]; swap; · iexact H14
    ipureintro; rfl
  isplitl [H15]
  · iexists _
    isplitr [H15]; swap; · iexact H15
    ipureintro; rfl
  isplitl [H16]
  · iexists _
    isplitr [H16]; swap; · iexact H16
    ipureintro; rfl
  isplitl [H17]
  · iexists _
    isplitr [H17]; swap; · iexact H17
    ipureintro; rfl
  isplitl [H18]
  · iexists _
    isplitr [H18]; swap; · iexact H18
    ipureintro; rfl
  iexists _
  isplitr [H19]; swap; · iexact H19
  ipureintro; rfl

/-- The body obligation of the relational data. -/
theorem bodyA : (datA A).BodyObligation (defs₀ (F := F)) Variants.none () Set.univ := fun t Y hY => by
  have hd : defs₀ (F := F) .tc cfg1.body (cfg1.bodyArgs t (cfg1.slots t)) = bodyAt1 t := by
    unfold defs₀; rw [Defs.onTc_tc]
  rw [bigSep_W1, hd]
  refine triple_restated (stepA A t (Y 0) (Y 1) (Y 2) (Y 3) (Y 4) (Y 5) (Y 6) (Y 7) (Y 8) (Y 9) (Y 10) (Y 11) (Y 12) (Y 13) (Y 14) (Y 15) (Y 16) (Y 17) (Y 18) (Y 19) (findsA0 A t _ (hY 0)) (findsA1 A t _ (hY 1)) (findsA2 A t _ (hY 2)) (findsA3 A t _ (hY 3)) (findsA4 A t _ (hY 4)) (findsA5 A t _ (hY 5)) (findsA6 A t _ (hY 6)) (findsA7 A t _ (hY 7)) (findsA8 A t _ (hY 8)) (findsA9 A t _ (hY 9)) (findsA10 A t _ (hY 10)) (findsA11 A t _ (hY 11)) (findsA12 A t _ (hY 12)) (findsA13 A t _ (hY 13)) (findsA14 A t _ (hY 14)) (findsA15 A t _ (hY 15))) rfl .rfl fun _ => ?_
  rw [bigSep_W1]
  exact .rfl

theorem inA_eq (w : Fin cfg1.W) (hw : (cfg1.win w).isOut = false) {n : ℕ} (G) (h : (datA A).ArrAt w n G) : G = A w := by
  rw [(datA A).ArrAt_in w hw n] at h; exact h

end BlocksA

end Cert.KernelIdeal
-- ==== Proof.VocabStepI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.ValueLayout

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ × Counters) ℕ

open Idealize.ShloMosaic.ValueIdx

/-- The logits scratch with slot `n` replaced by a block of 128 × 4096 values. -/
def setSlot (n : ℕ) (lg : S13x128x4096.Idx → F .f32) (w : S128x4096.Idx → F .f32) : S13x128x4096.Idx → F .f32 :=
  fun y => if (y 0).val = n then w (ix2 (y 1) (y 2)) else lg y

/-- A quarter of a chunk (1024 columns from column `o`), viewed with a leading axis of size one, reads the chunk at the shifted column. -/
theorem quarter_apply (o : ℕ) (w : S128x4096.Idx → F .f32) (hs : S128x4096.Slices ![0, o] S128x1024) (hc : S128x1024.ShapeCasts S1x128x1024)
    (x : S1x128x1024.Idx) (k : Fin 4096) (hk : k.val = o + (x 2).val) :
    shapeCast S1x128x1024 (extractStridedSlice S128x1024 ![0, o] w hs) hc x = w (ix2 (x 1) k) := by
  exact (congrArg _ (eq_ix3 (n0 := 1) (n1 := 128) (n2 := 1024) x)).trans ((shapeCast_ab_1ab_apply (a := 128) (b := 1024) _ hc (x 0) (x 1) (x 2)).trans
    (slice2_axis1_apply (n0 := 128) (n1 := 4096) (m := 1024) o w hs (x 1) (x 2) k hk))

/-- Four quarters stored into slot `n` are the chunk stored there whole. -/
theorem put_quarters (n : ℕ) (lg : S13x128x4096.Idx → F .f32) (w : S128x4096.Idx → F .f32) (q1 q2 q3 q4 : S1x128x1024.Idx → F .f32)
    (h1 : ∀ (x : S1x128x1024.Idx) (k : Fin 4096), k.val = 0 + (x 2).val → q1 x = w (ix2 (x 1) k))
    (h2 : ∀ (x : S1x128x1024.Idx) (k : Fin 4096), k.val = 1024 + (x 2).val → q2 x = w (ix2 (x 1) k))
    (h3 : ∀ (x : S1x128x1024.Idx) (k : Fin 4096), k.val = 2048 + (x 2).val → q3 x = w (ix2 (x 1) k))
    (h4 : ∀ (x : S1x128x1024.Idx) (k : Fin 4096), k.val = 3072 + (x 2).val → q4 x = w (ix2 (x 1) k)) :
    VecWindow.put (VecWindow.put (VecWindow.put (VecWindow.put lg ![n, 0, 0] S1x128x1024.size q1) ![n, 0, 1024] S1x128x1024.size q2)
      ![n, 0, 2048] S1x128x1024.size q3) ![n, 0, 3072] S1x128x1024.size q4 = setSlot n lg w := by
  funext y
  have b2 : (y 2).val < 4096 := (y 2).isLt
  have b1 : (y 1).val < 128 := (y 1).isLt
  have key : ∀ o : ℕ, (∀ a : Fin 3, (![n, 0, o] : Fin 3 → ℕ) a ≤ (y a).val ∧ (y a).val < (![n, 0, o] : Fin 3 → ℕ) a + S1x128x1024.size a)
      ↔ ((y 0).val = n ∧ o ≤ (y 2).val ∧ (y 2).val < o + 1024) := by
    intro o
    constructor
    · intro h
      have h0 := h 0
      have h2 := h 2
      change n ≤ (y 0).val ∧ (y 0).val < n + 1 at h0
      change o ≤ (y 2).val ∧ (y 2).val < o + 1024 at h2
      omega
    · rintro ⟨h0, h2, h3⟩ a
      match a with
      | ⟨0, _⟩ => change n ≤ (y 0).val ∧ (y 0).val < n + 1; omega
      | ⟨1, _⟩ => change 0 ≤ (y 1).val ∧ (y 1).val < 0 + 128; omega
      | ⟨2, _⟩ => change o ≤ (y 2).val ∧ (y 2).val < o + 1024; omega
  unfold VecWindow.put setSlot
  by_cases hn : (y 0).val = n
  · rw [if_pos hn]
    by_cases c4 : 3072 ≤ (y 2).val
    · rw [dif_pos ((key 3072).2 ⟨hn, c4, by omega⟩)]
      refine h4 _ (y 2) ?_
      show (y 2).val = 3072 + ((y 2).val - 3072)
      omega
    rw [dif_neg (fun h => by have := (key 3072).1 h; omega)]
    by_cases c3 : 2048 ≤ (y 2).val
    · rw [dif_pos ((key 2048).2 ⟨hn, c3, by omega⟩)]
      refine h3 _ (y 2) ?_
      show (y 2).val = 2048 + ((y 2).val - 2048)
      omega
    rw [dif_neg (fun h => by have := (key 2048).1 h; omega)]
    by_cases c2 : 1024 ≤ (y 2).val
    · rw [dif_pos ((key 1024).2 ⟨hn, c2, by omega⟩)]
      refine h2 _ (y 2) ?_
      show (y 2).val = 1024 + ((y 2).val - 1024)
      omega
    rw [dif_neg (fun h => by have := (key 1024).1 h; omega)]
    rw [dif_pos ((key 0).2 ⟨hn, by omega, by omega⟩)]
    refine h1 _ (y 2) ?_
    show (y 2).val = 0 + ((y 2).val - 0)
    omega
  · rw [if_neg hn]
    rw [dif_neg (fun h => by have := (key 3072).1 h; omega), dif_neg (fun h => by have := (key 2048).1 h; omega),
      dif_neg (fun h => by have := (key 1024).1 h; omega), dif_neg (fun h => by have := (key 0).1 h; omega)]

/-- Payload 9 is the quarter of the masked logits from column 0. -/
theorem pay9_apply (arg0 : BitVec 32) (v9 : Vec F S128x128 .f32) (v10 : Vec F S4096x128 .f32) (v12 : Vec F S1x4096 .f32)
    (x : S1x128x1024.Idx) (k : Fin 4096) (hk : k.val = 0 + (x 2).val) :
    k2_pay9 arg0 v9 v10 v12 x = k2_pay8 arg0 v9 v10 v12 (ix2 (x 1) k) := by
  unfold k2_pay9
  exact quarter_apply 0 _ _ _ x k hk

/-- Payload 10 is the quarter of the masked logits from column 1024. -/
theorem pay10_apply (arg0 : BitVec 32) (v9 : Vec F S128x128 .f32) (v10 : Vec F S4096x128 .f32) (v12 : Vec F S1x4096 .f32)
    (x : S1x128x1024.Idx) (k : Fin 4096) (hk : k.val = 1024 + (x 2).val) :
    k2_pay10 arg0 v9 v10 v12 x = k2_pay8 arg0 v9 v10 v12 (ix2 (x 1) k) := by
  unfold k2_pay10
  exact quarter_apply 1024 _ _ _ x k hk

/-- Payload 11 is the quarter of the masked logits from column 2048. -/
theorem pay11_apply (arg0 : BitVec 32) (v9 : Vec F S128x128 .f32) (v10 : Vec F S4096x128 .f32) (v12 : Vec F S1x4096 .f32)
    (x : S1x128x1024.Idx) (k : Fin 4096) (hk : k.val = 2048 + (x 2).val) :
    k2_pay11 arg0 v9 v10 v12 x = k2_pay8 arg0 v9 v10 v12 (ix2 (x 1) k) := by
  unfold k2_pay11
  exact quarter_apply 2048 _ _ _ x k hk

/-- Payload 12 is the quarter of the masked logits from column 3072. -/
theorem pay12_apply (arg0 : BitVec 32) (v9 : Vec F S128x128 .f32) (v10 : Vec F S4096x128 .f32) (v12 : Vec F S1x4096 .f32)
    (x : S1x128x1024.Idx) (k : Fin 4096) (hk : k.val = 3072 + (x 2).val) :
    k2_pay12 arg0 v9 v10 v12 x = k2_pay8 arg0 v9 v10 v12 (ix2 (x 1) k) := by
  unfold k2_pay12
  exact quarter_apply 3072 _ _ _ x k hk

/-- A step of the second phase: the slot of logits for this chunk, the final maximum and the final sum are read; the chunk of the probabilities and the
    chunk of the mixed distribution are written whole; the scratch is left as it was. -/
theorem run_late (c : Dev nD) (i : grid2.Coords)
    (arg1 : Memref sig .tc .vmem S128x128 .f32) (harg1 : arg1.IsWhole) (arg2 : Memref sig .tc .vmem S4096x128 .f32) (harg2 : arg2.IsWhole)
    (arg3 : Memref sig .tc .vmem S1x4096 .f32) (harg3 : arg3.IsWhole) (arg4 : Memref sig .tc .vmem S128x128 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x1 .f32) (harg8 : arg8.IsWhole)
    (arg9 : Memref sig .tc .vmem S128x1 .f32) (harg9 : arg9.IsWhole) (arg10 : Memref sig .tc .vmem S13x128x4096 .f32) (harg10 : arg10.IsWhole)
    (h1 : ¬ (Scalar.cmpi .ne (Scalar.extui (Scalar.cmpi .eq (BitVec.ofNat 32 (i 0).val) 0#32) : BitVec 32) 0#32 = 1#1))
    (h2 : ¬ k2_cond2 i = 1#1) (h3 : k2_cond3 i = 1#1)
    (x4 : S128x128.Idx → F .f32) (x5 : S128x4096.Idx → F .f32) (m s : S128x1.Idx → F .f32) (lg : S13x128x4096.Idx → F .f32) :
    ∀ (E : Set ℕ) (K : PUnit → sProp 𝕄),
      iprop(owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare m ∗ owns (c : Thread nD τ) arg9 fullShare s ∗ owns (c : Thread nD τ) arg10 fullShare lg
          ∗ (iprop(owns (c : Thread nD τ) arg4 fullShare x4 ∗ owns (c : Thread nD τ) arg5 fullShare x5 ∗ owns (c : Thread nD τ) arg6 fullShare (k2_pay6 (View.ld lg (Rect.unit (s := S13x128x4096) (k2_off5 i) S1x128x4096.size (k2_off5_inb i h3))) m s) ∗ owns (c : Thread nD τ) arg7 fullShare (k2_pay7 (View.ld lg (Rect.unit (s := S13x128x4096) (k2_off5 i) S1x128x4096.size (k2_off5_inb i h3))) m s (View.ld x4 (Rect.unit (s := S128x128) ![0, 0] S128x1.size inb_S128x128_S128x1_0_0)) x5) ∗ owns (c : Thread nD τ) arg8 fullShare m ∗ owns (c : Thread nD τ) arg9 fullShare s ∗ owns (c : Thread nD τ) arg10 fullShare lg) -∗ K ⟨⟩))
        ⊢ wp frame (wpE (defs₀ (F := F)) Variants.none c none) E
            (cc2_vocab_softmax_mix i arg1 harg1 arg2 harg2 arg3 harg3 arg4 harg4 arg5 harg5 arg6 harg6 arg7 harg7 arg8 harg8 arg9 harg9 arg10 harg10) K := by
  intro E K
  simp only [cc2_vocab_softmax_mix_eq_skeleton]
  unfold cc2_vocab_softmax_mix_skel
  unfold owns
  iintro ⟨⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  sl_exec (disch := first | sl_exact h1 | sl_exact h2 | sl_exact h3)
  sl_step
  iapply Hk
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; rw [View.read_writes_full, View.readAt_full, View.readAt_full, View.readAt_eq_ld, hf8, hf9, hf10]
  isplitl [H7]
  · iexists _; isplitr; swap; · iexact H7
    ipureintro; rw [View.read_writes_full, View.readAt_full, View.readAt_full, View.readAt_full, View.readAt_eq_ld, View.readAt_eq_ld, hf8, hf9, hf10, hf4, hf5]
  isplitl [H8]
  · iexists _; isplitr; swap; · iexact H8
    ipureintro; exact hf8
  isplitl [H9]
  · iexists _; isplitr; swap; · iexact H9
    ipureintro; exact hf9
  iexists _; isplitr; swap; · iexact H10
  ipureintro; exact hf10

/-- A step of the first phase after the first: the chunk's masked logits go to their slot, the maximum is renewed, the sum is rescaled and extended. -/
theorem run_early (c : Dev nD) (i : grid2.Coords)
    (arg1 : Memref sig .tc .vmem S128x128 .f32) (harg1 : arg1.IsWhole) (arg2 : Memref sig .tc .vmem S4096x128 .f32) (harg2 : arg2.IsWhole)
    (arg3 : Memref sig .tc .vmem S1x4096 .f32) (harg3 : arg3.IsWhole) (arg4 : Memref sig .tc .vmem S128x128 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x1 .f32) (harg8 : arg8.IsWhole)
    (arg9 : Memref sig .tc .vmem S128x1 .f32) (harg9 : arg9.IsWhole) (arg10 : Memref sig .tc .vmem S13x128x4096 .f32) (harg10 : arg10.IsWhole)
    (h1 : ¬ (Scalar.cmpi .ne (Scalar.extui (Scalar.cmpi .eq (BitVec.ofNat 32 (i 0).val) 0#32) : BitVec 32) 0#32 = 1#1))
    (h2 : k2_cond2 i = 1#1) (h3 : ¬ k2_cond3 i = 1#1)
    (x1 : S128x128.Idx → F .f32) (x2 : S4096x128.Idx → F .f32) (x3 : S1x4096.Idx → F .f32) (m s : S128x1.Idx → F .f32) (lg : S13x128x4096.Idx → F .f32) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ owns (c : Thread nD τ) arg8 fullShare m ∗ owns (c : Thread nD τ) arg9 fullShare s ∗ owns (c : Thread nD τ) arg10 fullShare lg
          ∗ (iprop(owns (c : Thread nD τ) arg1 fullShare x1 ∗ owns (c : Thread nD τ) arg2 fullShare x2 ∗ owns (c : Thread nD τ) arg3 fullShare x3 ∗ owns (c : Thread nD τ) arg8 fullShare (k2_pay5 (k2_pay13 (BitVec.ofNat 32 (i 0).val) x1 x2 x3) m) ∗ owns (c : Thread nD τ) arg9 fullShare (k2_pay4 (k2_pay8 (BitVec.ofNat 32 (i 0).val) x1 x2 x3) (k2_pay13 (BitVec.ofNat 32 (i 0).val) x1 x2 x3) m s m) ∗ owns (c : Thread nD τ) arg10 fullShare (setSlot (i 0).val lg (k2_pay8 (BitVec.ofNat 32 (i 0).val) x1 x2 x3))) -∗ K ⟨⟩))
        ⊢ wp frame (wpE (defs₀ (F := F)) Variants.none c none) E
            (cc2_vocab_softmax_mix i arg1 harg1 arg2 harg2 arg3 harg3 arg4 harg4 arg5 harg5 arg6 harg6 arg7 harg7 arg8 harg8 arg9 harg9 arg10 harg10) K := by
  intro E K
  simp only [cc2_vocab_softmax_mix_eq_skeleton]
  unfold cc2_vocab_softmax_mix_skel
  simp only [k2_part1_eq_skeleton]
  unfold owns
  iintro ⟨⟨%f1, %hf1, H1⟩, ⟨%f2, %hf2, H2⟩, ⟨%f3, %hf3, H3⟩, ⟨%f8, %hf8, H8⟩, ⟨%f9, %hf9, H9⟩, ⟨%f10, %hf10, H10⟩, Hk⟩
  sl_exec (disch := first | sl_exact h1 | sl_exact h2 | sl_exact h3)
  sl_step
  iapply Hk
  have R1 : View.readAt (Elt F) arg1.view (Rect.unit (s := S128x128) ![0, 0] ![128, 128] inb_S128x128_S128x128_0_0).toLoadRect f1 = x1 :=
    (View.readAt_full _ _ _).trans hf1
  have R2 : View.readAt (Elt F) arg2.view (Rect.unit (s := S4096x128) ![0, 0] ![4096, 128] inb_S4096x128_S4096x128_0_0).toLoadRect f2 = x2 :=
    (View.readAt_full _ _ _).trans hf2
  have R3 : View.readAt (Elt F) arg3.view (Rect.unit (s := S1x4096) ![0, 0] ![1, 4096] inb_S1x4096_S1x4096_0_0).toLoadRect f3 = x3 :=
    (View.readAt_full _ _ _).trans hf3
  have R8 : View.readAt (Elt F) arg8.view (Rect.unit (s := S128x1) ![0, 0] ![128, 1] inb_S128x1_S128x1_0_0).toLoadRect f8 = m :=
    (View.readAt_full _ _ _).trans hf8
  have R9 : View.readAt (Elt F) arg9.view (Rect.unit (s := S128x1) ![0, 0] ![128, 1] inb_S128x1_S128x1_0_0).toLoadRect f9 = s :=
    (View.readAt_full _ _ _).trans hf9
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H8]
  · iexists _; isplitr; swap; · iexact H8
    ipureintro; rw [View.read_writes_full]; delta run_early.sl.r_1; simp only [R1, R2, R3, R8, R9]
  isplitl [H9]
  · iexists _; isplitr; swap; · iexact H9
    ipureintro; rw [View.read_writes_full]; delta run_early.sl.r run_early.sl.r_1; simp only [R1, R2, R3, R8, R9]
  iexists _; isplitr; swap; · iexact H10
  ipureintro
  rw [View.read_writes_cons_put _ _ _ _ _ (k2_off4_eq i), View.read_writes_cons_put _ _ _ _ _ (k2_off3_eq i), View.read_writes_cons_put _ _ _ _ _ (k2_off2_eq i),
    View.read_writes_cons_put _ _ _ _ _ (k2_off1_eq i), View.writes_nil, hf10]
  simp only [R1, R2, R3]
  have h := put_quarters (i 0).val lg (k2_pay8 (BitVec.ofNat 32 (i 0).val) x1 x2 x3)
    (k2_pay9 (BitVec.ofNat 32 (i 0).val) x1 x2 x3) (k2_pay10 (BitVec.ofNat 32 (i 0).val) x1 x2 x3) (k2_pay11 (BitVec.ofNat 32 (i 0).val) x1 x2 x3) (k2_pay12 (BitVec.ofNat 32 (i 0).val) x1 x2 x3)
    (pay9_apply _ _ _ _) (pay10_apply _ _ _ _)
    (pay11_apply _ _ _ _) (pay12_apply _ _ _ _)
  exact h

/-- The first step: the maximum and the sum are set to their initial values, then the step runs as any other of the first phase. -/
theorem run_first (c : Dev nD) (i : grid2.Coords)
    (arg1 : Memref sig .tc .vmem S128x128 .f32) (harg1 : arg1.IsWhole) (arg2 : Memref sig .tc .vmem S4096x128 .f32) (harg2 : arg2.IsWhole)
    (arg3 : Memref sig .tc .vmem S1x4096 .f32) (harg3 : arg3.IsWhole) (arg4 : Memref sig .tc .vmem S128x128 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x1 .f32) (harg8 : arg8.IsWhole)
    (arg9 : Memref sig .tc .vmem S128x1 .f32) (harg9 : arg9.IsWhole) (arg10 : Memref sig .tc .vmem S13x128x4096 .f32) (harg10 : arg10.IsWhole)
    (h1 : (Scalar.cmpi .ne (Scalar.extui (Scalar.cmpi .eq (BitVec.ofNat 32 (i 0).val) 0#32) : BitVec 32) 0#32 = 1#1))
    (h2 : k2_cond2 i = 1#1) (h3 : ¬ k2_cond3 i = 1#1)
    (x1 : S128x128.Idx → F .f32) (x2 : S4096x128.Idx → F .f32) (x3 : S1x4096.Idx → F .f32) (lg : S13x128x4096.Idx → F .f32) :
    ∀ (E : Set ℕ) (K : PUnit → sProp 𝕄),
      iprop(owns (c : Thread nD τ) arg1 fullShare x1 ∗ owns (c : Thread nD τ) arg2 fullShare x2 ∗ owns (c : Thread nD τ) arg3 fullShare x3 ∗ (∃ d, owns (c : Thread nD τ) arg8 fullShare d) ∗ (∃ d, owns (c : Thread nD τ) arg9 fullShare d) ∗ owns (c : Thread nD τ) arg10 fullShare lg
          ∗ (iprop(owns (c : Thread nD τ) arg1 fullShare x1 ∗ owns (c : Thread nD τ) arg2 fullShare x2 ∗ owns (c : Thread nD τ) arg3 fullShare x3 ∗ owns (c : Thread nD τ) arg8 fullShare (k2_pay5 (k2_pay13 (BitVec.ofNat 32 (i 0).val) x1 x2 x3) (k2_pay1 (F := F))) ∗ owns (c : Thread nD τ) arg9 fullShare (k2_pay4 (k2_pay8 (BitVec.ofNat 32 (i 0).val) x1 x2 x3) (k2_pay13 (BitVec.ofNat 32 (i 0).val) x1 x2 x3) (k2_pay1 (F := F)) (k2_pay2 (F := F)) (k2_pay1 (F := F))) ∗ owns (c : Thread nD τ) arg10 fullShare (setSlot (i 0).val lg (k2_pay8 (BitVec.ofNat 32 (i 0).val) x1 x2 x3))) -∗ K ⟨⟩))
        ⊢ wp frame (wpE (defs₀ (F := F)) Variants.none c none) E
            (cc2_vocab_softmax_mix i arg1 harg1 arg2 harg2 arg3 harg3 arg4 harg4 arg5 harg5 arg6 harg6 arg7 harg7 arg8 harg8 arg9 harg9 arg10 harg10) K := by
  intro E K
  simp only [cc2_vocab_softmax_mix_eq_skeleton]
  unfold cc2_vocab_softmax_mix_skel
  simp only [k2_part1_eq_skeleton]
  unfold owns
  iintro ⟨⟨%f1, %hf1, H1⟩, ⟨%f2, %hf2, H2⟩, ⟨%f3, %hf3, H3⟩, ⟨%d8, %f8, -, H8⟩, ⟨%d9, %f9, -, H9⟩, ⟨%f10, %hf10, H10⟩, Hk⟩
  sl_exec (disch := first | sl_exact h1 | sl_exact h2 | sl_exact h3)
  sl_step
  iapply Hk
  have R1 : View.readAt (Elt F) arg1.view (Rect.unit (s := S128x128) ![0, 0] ![128, 128] inb_S128x128_S128x128_0_0).toLoadRect f1 = x1 :=
    (View.readAt_full _ _ _).trans hf1
  have R2 : View.readAt (Elt F) arg2.view (Rect.unit (s := S4096x128) ![0, 0] ![4096, 128] inb_S4096x128_S4096x128_0_0).toLoadRect f2 = x2 :=
    (View.readAt_full _ _ _).trans hf2
  have R3 : View.readAt (Elt F) arg3.view (Rect.unit (s := S1x4096) ![0, 0] ![1, 4096] inb_S1x4096_S1x4096_0_0).toLoadRect f3 = x3 :=
    (View.readAt_full _ _ _).trans hf3
  have R8 : View.readCov (Val := Elt F) arg8.view [⟨Rect.unit (s := S128x1) ![0, 0] ![128, 1] inb_S128x1_S128x1_0_0, k2_pay1 (F := F)⟩]
      (Rect.unit (s := S128x1) ![0, 0] ![128, 1] inb_S128x1_S128x1_0_0).toLoadRect = (k2_pay1 (F := F)) :=
    View.readCov_full arg8.view inb_S128x1_S128x1_0_0 inb_S128x1_S128x1_0_0 _ _
  have R9 : View.readCov (Val := Elt F) arg9.view [⟨Rect.unit (s := S128x1) ![0, 0] ![128, 1] inb_S128x1_S128x1_0_0, k2_pay2 (F := F)⟩]
      (Rect.unit (s := S128x1) ![0, 0] ![128, 1] inb_S128x1_S128x1_0_0).toLoadRect = (k2_pay2 (F := F)) :=
    View.readCov_full arg9.view inb_S128x1_S128x1_0_0 inb_S128x1_S128x1_0_0 _ _
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H8]
  · iexists _; isplitr; swap; · iexact H8
    ipureintro; rw [View.read_writes_full]; delta run_first.sl.r_1 run_first.sl.v46 run_first.sl.H8_1; simp only [R1, R2, R3, R8, R9]
  isplitl [H9]
  · iexists _; isplitr; swap; · iexact H9
    ipureintro; rw [View.read_writes_full]; delta run_first.sl.r run_first.sl.r_1 run_first.sl.v46 run_first.sl.v48 run_first.sl.H8_1 run_first.sl.H9_1; simp only [R1, R2, R3, R8, R9]
  iexists _; isplitr; swap; · iexact H10
  ipureintro
  rw [View.read_writes_cons_put _ _ _ _ _ (k2_off4_eq i), View.read_writes_cons_put _ _ _ _ _ (k2_off3_eq i), View.read_writes_cons_put _ _ _ _ _ (k2_off2_eq i),
    View.read_writes_cons_put _ _ _ _ _ (k2_off1_eq i), View.writes_nil, hf10]
  simp only [R1, R2, R3]
  have h := put_quarters (i 0).val lg (k2_pay8 (BitVec.ofNat 32 (i 0).val) x1 x2 x3)
    (k2_pay9 (BitVec.ofNat 32 (i 0).val) x1 x2 x3) (k2_pay10 (BitVec.ofNat 32 (i 0).val) x1 x2 x3) (k2_pay11 (BitVec.ofNat 32 (i 0).val) x1 x2 x3) (k2_pay12 (BitVec.ofNat 32 (i 0).val) x1 x2 x3)
    (pay9_apply _ _ _ _) (pay10_apply _ _ _ _)
    (pay11_apply _ _ _ _) (pay12_apply _ _ _ _)
  exact h

end Cert.KernelIdeal
-- ==== Proof.VocabDatI.lean ====
module

public import proofs.«01_k».proof.Proof.VocabStepI
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.ValueLayout

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ × Counters) ℕ

/-! The pipeline's proof data, relational: what the scratch holds before a step (`Rel.Inv`) and what a step may leave in the two
output buffers (`Rel.R5`, `Rel.R6`) are parameters, the input buffers are left as found. -/

/-- The grid's one coordinate is the step number. -/
theorem coord_val : ∀ t : Fin grid2.N, (grid2.coords t 0).val = t.val := by decide +kernel

theorem cond1_iff : ∀ t : Fin grid2.N, (Scalar.cmpi .ne (Scalar.extui (Scalar.cmpi .eq (BitVec.ofNat 32 (grid2.coords t 0).val) 0#32) : BitVec 32) 0#32 = 1#1) ↔ t.val = 0 := by
  decide +kernel
theorem cond2_iff : ∀ t : Fin grid2.N, k2_cond2 (grid2.coords t) = 1#1 ↔ t.val < 13 := by decide +kernel
theorem cond3_iff : ∀ t : Fin grid2.N, k2_cond3 (grid2.coords t) = 1#1 ↔ 13 ≤ t.val := by decide +kernel

/-- What a fetch at step `t` leaves in window `w`'s buffer: the array's block where it lies in the array, `d` elsewhere. -/
abbrev fl {c : Dev nD} (A : (w : Fin cfg2.W) → Buf (Elt F) ((cfg2.win w).arr.view.loc (c : Thread nD τ))) (w : Fin cfg2.W) (t : Fin cfg2.N)
    (d : (cfg2.win w).block.Idx → Elt F (cfg2.win w).elt) : (cfg2.win w).block.Idx → Elt F (cfg2.win w).elt :=
  (cfg2.win w).fill (cfg2.grid.coords t) d (((cfg2.win w).blk t).view.read (Elt F) (A w))

/-- The slot of the logits scratch that a second-phase step reads. -/
abbrev slotAt (i : grid2.Coords) (h3 : k2_cond3 i = 1#1) (lg : S13x128x4096.Idx → F .f32) : S1x128x4096.Idx → F .f32 :=
  View.ld (Val := Elt F) (e' := .f32) lg (Rect.unit (s := S13x128x4096) (k2_off5 i) S1x128x4096.size (k2_off5_inb i h3))

/-- The first column of the generation probabilities' block. -/
abbrev col0 (x4 : S128x128.Idx → F .f32) : S128x1.Idx → F .f32 :=
  View.ld (Val := Elt F) (e' := .f32) x4 (Rect.unit (s := S128x128) ![0, 0] S128x1.size inb_S128x128_S128x1_0_0)

/-- What is known of the scratch before each step and of the output buffers after it, kept by every step. -/
structure Rel {c : Dev nD} (A : (w : Fin cfg2.W) → Buf (Elt F) ((cfg2.win w).arr.view.loc (c : Thread nD τ))) where
  /-- what the running maximum, the running sum and the logits scratch hold before step `n` -/
  Inv : ℕ → (S128x1.Idx → F .f32) → (S128x1.Idx → F .f32) → (S13x128x4096.Idx → F .f32) → Prop
  /-- what step `t` may leave in the buffer of the first result -/
  R5 : Fin cfg2.N → (S128x4096.Idx → F .f32) → Prop
  /-- what step `t` may leave in the buffer of the second result -/
  R6 : Fin cfg2.N → (S128x4096.Idx → F .f32) → Prop
  zero : ∀ m s lg, Inv 0 m s lg
  idle5 : ∀ t X, t.val < 13 → R5 t X
  idle6 : ∀ t X, t.val < 13 → R6 t X
  first : ∀ (t : Fin cfg2.N) d0 d1 d2 m s lg, t.val = 0 → Inv 0 m s lg →
    Inv 1 (k2_pay5 (k2_pay13 (BitVec.ofNat 32 (grid2.coords t 0).val) (fl A 0 t d0) (fl A 1 t d1) (fl A 2 t d2)) (k2_pay1 (F := F)))
      (k2_pay4 (k2_pay8 (BitVec.ofNat 32 (grid2.coords t 0).val) (fl A 0 t d0) (fl A 1 t d1) (fl A 2 t d2))
        (k2_pay13 (BitVec.ofNat 32 (grid2.coords t 0).val) (fl A 0 t d0) (fl A 1 t d1) (fl A 2 t d2)) (k2_pay1 (F := F)) (k2_pay2 (F := F)) (k2_pay1 (F := F)))
      (setSlot (grid2.coords t 0).val lg (k2_pay8 (BitVec.ofNat 32 (grid2.coords t 0).val) (fl A 0 t d0) (fl A 1 t d1) (fl A 2 t d2)))
  early : ∀ (t : Fin cfg2.N) d0 d1 d2 m s lg, t.val ≠ 0 → t.val < 13 → Inv t.val m s lg →
    Inv (t.val + 1) (k2_pay5 (k2_pay13 (BitVec.ofNat 32 (grid2.coords t 0).val) (fl A 0 t d0) (fl A 1 t d1) (fl A 2 t d2)) m)
      (k2_pay4 (k2_pay8 (BitVec.ofNat 32 (grid2.coords t 0).val) (fl A 0 t d0) (fl A 1 t d1) (fl A 2 t d2))
        (k2_pay13 (BitVec.ofNat 32 (grid2.coords t 0).val) (fl A 0 t d0) (fl A 1 t d1) (fl A 2 t d2)) m s m)
      (setSlot (grid2.coords t 0).val lg (k2_pay8 (BitVec.ofNat 32 (grid2.coords t 0).val) (fl A 0 t d0) (fl A 1 t d1) (fl A 2 t d2)))
  late : ∀ (t : Fin cfg2.N) (h3 : k2_cond3 (grid2.coords t) = 1#1) d3 d4 m s lg, 13 ≤ t.val → Inv t.val m s lg →
    Inv (t.val + 1) m s lg ∧ R5 t (k2_pay6 (slotAt (grid2.coords t) h3 lg) m s)
      ∧ R6 t (k2_pay7 (slotAt (grid2.coords t) h3 lg) m s (col0 (fl A 3 t d3)) (fl A 4 t d4))

variable {c : Dev nD} {A : (w : Fin cfg2.W) → Buf (Elt F) ((cfg2.win w).arr.view.loc (c : Thread nD τ))}

/-- The invariant before step `n`: the three scratch buffers at contents satisfying `Inv n`, and the generator register. -/
def Rel.phi (R : Rel A) (n : ℕ) : sProp 𝕄 :=
  iprop((∃ m, ∃ s, ∃ lg, ⌜R.Inv n m s lg⌝ ∗ owns (c : Thread nD τ) (Memref.whole cc2_scratch0) fullShare m ∗ owns (c : Thread nD τ) (Memref.whole cc2_scratch1) fullShare s
    ∗ owns (c : Thread nD τ) (Memref.whole cc2_scratch2) fullShare lg)
    ∗ (Pipeline.scopedRestBut spec2 c [cc2_scratch0, cc2_scratch1, cc2_scratch2] ∗ (∃ r, prngReg c r)))

/-- The relational proof data of the pipeline. -/
def Rel.dat (R : Rel A) : Pipeline.RDat τ (Elt F) Unit ℕ (UR sig nD τ × Counters) ℕ cfg2 c where
  A := A
  after w t Y X := match w, X, Y with
    | ⟨0, _⟩, X, Y => X = Y
    | ⟨1, _⟩, X, Y => X = Y
    | ⟨2, _⟩, X, Y => X = Y
    | ⟨3, _⟩, X, Y => X = Y
    | ⟨4, _⟩, X, Y => X = Y
    | ⟨5, _⟩, X, _ => R.R5 t X
    | ⟨6, _⟩, X, _ => R.R6 t X
    | ⟨_ + 7, h⟩, _, _ => absurd h (Nat.not_lt.2 (Nat.le_add_left _ _))
  Φ n := R.phi n.val
  q _ := fullShare
  owed _ := 0

theorem finds0 (R : Rel A) (t : Fin cfg2.N) (Y) (h : R.dat.Finds 0 t Y) : ∃ d, Y = fl A 0 t d :=
  R.dat.finds_in_eq_fetched 0 rfl (fun _ _ _ => rfl) (fun _ _ _ h => h) t Y h
theorem finds1 (R : Rel A) (t : Fin cfg2.N) (Y) (h : R.dat.Finds 1 t Y) : ∃ d, Y = fl A 1 t d :=
  (R.dat.finds_of_fetch (fetch2_1 t) Y).mp h
theorem finds2 (R : Rel A) (t : Fin cfg2.N) (Y) (h : R.dat.Finds 2 t Y) : ∃ d, Y = fl A 2 t d :=
  (R.dat.finds_of_fetch (fetch2_2 t) Y).mp h
theorem finds3 (R : Rel A) (t : Fin cfg2.N) (Y) (h : R.dat.Finds 3 t Y) : ∃ d, Y = fl A 3 t d :=
  R.dat.finds_in_eq_fetched 3 rfl (fun _ _ _ => rfl) (fun _ _ _ h => h) t Y h

/-- Where the probability block's index is the same at two steps so is its cut. -/
theorem clip4 (t t' : Fin cfg2.N) (h : (cfg2.win 4).index t = (cfg2.win 4).index t') :
    (cfg2.win 4).clip (cfg2.grid.coords t) = (cfg2.win 4).clip (cfg2.grid.coords t') := by
  have h' : cc2_transform_4 (grid2.coords t) = cc2_transform_4 (grid2.coords t') := h
  funext a
  show Pipeline.Clip.of (cc2_transform_4 (grid2.coords t) a) _ _ = Pipeline.Clip.of (cc2_transform_4 (grid2.coords t') a) _ _
  simp only [h']
theorem finds4 (R : Rel A) (t : Fin cfg2.N) (Y) (h : R.dat.Finds 4 t Y) : ∃ d, Y = fl A 4 t d :=
  R.dat.finds_in_eq_fetched 4 rfl clip4 (fun _ _ _ h => h) t Y h

theorem defs₀_row (t : Fin cfg2.N) : defs₀ (F := F) .tc cfg2.body (cfg2.bodyArgs t (cfg2.slots t)) = bodyAt2 t := by
  unfold defs₀; rw [Defs.onTc_tc]

/-- The body at any step, from buffers at contents a step may find: it leaves the inputs as found, the outputs as `R5`, `R6` say, and the scratch as the
next step's invariant says. -/
theorem body_step (R : Rel A) (t : Fin cfg2.N) (Y0 : S128x128.Idx → F .f32) (Y1 : S4096x128.Idx → F .f32) (Y2 : S1x4096.Idx → F .f32)
    (Y3 : S128x128.Idx → F .f32) (Y4 Y5 Y6 : S128x4096.Idx → F .f32)
    (h0 : ∃ d, Y0 = fl A 0 t d) (h1 : ∃ d, Y1 = fl A 1 t d) (h2 : ∃ d, Y2 = fl A 2 t d) (h3 : ∃ d, Y3 = fl A 3 t d) (h4 : ∃ d, Y4 = fl A 4 t d) (O : sProp 𝕄) :
    iprop(R.phi t.val ∗ O ∗ owns (c : Thread nD τ) (st2_0 t) fullShare Y0 ∗ owns (c : Thread nD τ) (st2_1 t) fullShare Y1
      ∗ owns (c : Thread nD τ) (st2_2 t) fullShare Y2 ∗ owns (c : Thread nD τ) (st2_3 t) fullShare Y3 ∗ owns (c : Thread nD τ) (st2_4 t) fullShare Y4
      ∗ owns (c : Thread nD τ) (st2_5 t) fullShare Y5 ∗ owns (c : Thread nD τ) (st2_6 t) fullShare Y6)
    ⊢ wp frame (wpE (defs₀ (F := F)) Variants.none c none) Set.univ (bodyAt2 t) (fun _ =>
      iprop(R.phi (t.val + 1) ∗ O ∗ (∃ X, ⌜X = Y0⌝ ∗ owns (c : Thread nD τ) (st2_0 t) fullShare X) ∗ (∃ X, ⌜X = Y1⌝ ∗ owns (c : Thread nD τ) (st2_1 t) fullShare X)
      ∗ (∃ X, ⌜X = Y2⌝ ∗ owns (c : Thread nD τ) (st2_2 t) fullShare X) ∗ (∃ X, ⌜X = Y3⌝ ∗ owns (c : Thread nD τ) (st2_3 t) fullShare X)
      ∗ (∃ X, ⌜X = Y4⌝ ∗ owns (c : Thread nD τ) (st2_4 t) fullShare X)
      ∗ (∃ X, ⌜R.R5 t X⌝ ∗ owns (c : Thread nD τ) (st2_5 t) fullShare X) ∗ (∃ X, ⌜R.R6 t X⌝ ∗ owns (c : Thread nD τ) (st2_6 t) fullShare X))) := by
  obtain ⟨d0, h0⟩ := h0; obtain ⟨d1, h1⟩ := h1; obtain ⟨d2, h2⟩ := h2; obtain ⟨d3, h3⟩ := h3; obtain ⟨d4, h4⟩ := h4
  unfold Rel.phi bodyAt2
  iintro ⟨⟨⟨%m, %s, %lg, %hI, HS0, HS1, HS2⟩, Hg⟩, HO, H0, H1, H2, H3, H4, H5, H6⟩
  by_cases hz : t.val = 0
  · have hI' := R.first t d0 d1 d2 m s lg hz (hz ▸ hI)
    rw [← h0, ← h1, ← h2] at hI'
    iapply (run_first c (grid2.coords t) _ _ _ _ _ _ _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ _ _ _ _ _ ((cond1_iff t).mpr hz) ((cond2_iff t).mpr (by omega)) (fun h => absurd ((cond3_iff t).mp h) (by omega)) Y0 Y1 Y2 lg Set.univ _)
    isplitl [H0]; · iexact H0
    isplitl [H1]; · iexact H1
    isplitl [H2]; · iexact H2
    isplitl [HS0]; · iexists _; iexact HS0
    isplitl [HS1]; · iexists _; iexact HS1
    isplitl [HS2]; · iexact HS2
    iintro ⟨H0, H1, H2, HS0, HS1, HS2⟩
    isplitl [HS0 HS1 HS2 Hg]
    · isplitl [HS0 HS1 HS2]
      · iexists _; iexists _; iexists _
        isplitr [HS0 HS1 HS2]; swap
        · isplitl [HS0]; · iexact HS0
          isplitl [HS1]; · iexact HS1
          iexact HS2
        ipureintro; rw [hz]; exact hI'
      iexact Hg
    isplitl [HO]; · iexact HO
    isplitl [H0]; · iexists _; isplitr [H0]; swap; · iexact H0
                    ipureintro; rfl
    isplitl [H1]; · iexists _; isplitr [H1]; swap; · iexact H1
                    ipureintro; rfl
    isplitl [H2]; · iexists _; isplitr [H2]; swap; · iexact H2
                    ipureintro; rfl
    isplitl [H3]; · iexists _; isplitr [H3]; swap; · iexact H3
                    ipureintro; rfl
    isplitl [H4]; · iexists _; isplitr [H4]; swap; · iexact H4
                    ipureintro; rfl
    isplitl [H5]; · iexists _; isplitr [H5]; swap; · iexact H5
                    ipureintro; exact R.idle5 t _ (by omega)
    iexists _; isplitr [H6]; swap; · iexact H6
    ipureintro; exact R.idle6 t _ (by omega)
  by_cases hl : t.val < 13
  · have hI' := R.early t d0 d1 d2 m s lg hz hl hI
    rw [← h0, ← h1, ← h2] at hI'
    iapply (run_early c (grid2.coords t) _ _ _ _ _ _ _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ _ _ _ _ _ (fun h => absurd ((cond1_iff t).mp h) hz) ((cond2_iff t).mpr hl) (fun h => absurd ((cond3_iff t).mp h) (by omega)) Y0 Y1 Y2 m s lg Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1 HS2]
      · iexists _; iexists _; iexists _
        isplitr [HS0 HS1 HS2]; swap
        · isplitl [HS0]; · iexact HS0
          isplitl [HS1]; · iexact HS1
          iexact HS2
        ipureintro; exact hI'
      iexact Hg
    isplitl [HO]; · iexact HO
    isplitl [H0]; · iexists _; isplitr [H0]; swap; · iexact H0
                    ipureintro; rfl
    isplitl [H1]; · iexists _; isplitr [H1]; swap; · iexact H1
                    ipureintro; rfl
    isplitl [H2]; · iexists _; isplitr [H2]; swap; · iexact H2
                    ipureintro; rfl
    isplitl [H3]; · iexists _; isplitr [H3]; swap; · iexact H3
                    ipureintro; rfl
    isplitl [H4]; · iexists _; isplitr [H4]; swap; · iexact H4
                    ipureintro; rfl
    isplitl [H5]; · iexists _; isplitr [H5]; swap; · iexact H5
                    ipureintro; exact R.idle5 t _ (by omega)
    iexists _; isplitr [H6]; swap; · iexact H6
    ipureintro; exact R.idle6 t _ (by omega)
  have hc3 := (cond3_iff t).mpr (by omega)
  obtain ⟨hI', h5, h6⟩ := R.late t hc3 d3 d4 m s lg (by omega) hI
  rw [← h3, ← h4] at h6
  iapply (run_late c (grid2.coords t) _ (hstage2_0 ((cfg2.slots t 0).cast nbuf2_0)) _ (hstage2_1 ((cfg2.slots t 1).cast nbuf2_1)) _ (hstage2_2 ((cfg2.slots t 2).cast nbuf2_2)) _ _ _ _ _ _ _ _ _ _ _ _ _ _ (fun h => absurd ((cond1_iff t).mp h) hz) (fun h => absurd ((cond2_iff t).mp h) hl) hc3 Y3 Y4 m s lg Set.univ _)
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  iintro ⟨H3, H4, H5, H6, HS0, HS1, HS2⟩
  isplitl [HS0 HS1 HS2 Hg]
  · isplitl [HS0 HS1 HS2]
    · iexists _; iexists _; iexists _
      isplitr [HS0 HS1 HS2]; swap
      · isplitl [HS0]; · iexact HS0
        isplitl [HS1]; · iexact HS1
        iexact HS2
      ipureintro; exact hI'
    iexact Hg
  isplitl [HO]; · iexact HO
  isplitl [H0]; · iexists _; isplitr [H0]; swap; · iexact H0
                  ipureintro; rfl
  isplitl [H1]; · iexists _; isplitr [H1]; swap; · iexact H1
                  ipureintro; rfl
  isplitl [H2]; · iexists _; isplitr [H2]; swap; · iexact H2
                  ipureintro; rfl
  isplitl [H3]; · iexists _; isplitr [H3]; swap; · iexact H3
                  ipureintro; rfl
  isplitl [H4]; · iexists _; isplitr [H4]; swap; · iexact H4
                  ipureintro; rfl
  isplitl [H5]; · iexists _; isplitr [H5]; swap; · iexact H5
                  ipureintro; exact h5
  iexists _; isplitr [H6]; swap; · iexact H6
  ipureintro; exact h6

/-- The body obligation of the relational data. -/
theorem body_obligation (R : Rel A) : R.dat.BodyObligation (defs₀ (F := F)) Variants.none () Set.univ := fun t Y hY => by
  rw [bigSep_W2, defs₀_row]
  refine triple_restated (body_step R t (Y 0) (Y 1) (Y 2) (Y 3) (Y 4) (Y 5) (Y 6) (finds0 R t _ (hY 0)) (finds1 R t _ (hY 1)) (finds2 R t _ (hY 2)) (finds3 R t _ (hY 3)) (finds4 R t _ (hY 4)) (R.dat.owesAt () t.castSucc)) rfl .rfl fun _ => ?_
  rw [bigSep_W2]
  exact .rfl

/-- An input array is as at entry. -/
theorem ArrAt_eq {c : Dev nD} {A : (w : Fin cfg2.W) → Buf (Elt F) ((cfg2.win w).arr.view.loc (c : Thread nD τ))} (R : Rel A) (w : Fin cfg2.W) (hw : (cfg2.win w).isOut = false) {n : ℕ} (G)
    (h : R.dat.ArrAt w n G) : G = A w := by
  rw [R.dat.ArrAt_in w hw n] at h; exact h

/-- Nothing said of the scratch or of the outputs. -/
def Rel.triv {c : Dev nD} (A : (w : Fin cfg2.W) → Buf (Elt F) ((cfg2.win w).arr.view.loc (c : Thread nD τ))) : Rel A where
  Inv _ _ _ _ := True
  R5 _ _ := True
  R6 _ _ := True
  zero _ _ _ := trivial
  idle5 _ _ _ := trivial
  idle6 _ _ _ := trivial
  first _ _ _ _ _ _ _ _ _ := trivial
  early _ _ _ _ _ _ _ _ _ _ := trivial
  late _ _ _ _ _ _ _ _ _ := ⟨trivial, trivial, trivial⟩

end Cert.KernelIdeal
-- ==== Proof.RunI.lean ====
module

public import proofs.«01_k».proof.Proof.EmbedDatI
public import proofs.«01_k».proof.Proof.AttnDatI
public import proofs.«01_k».proof.Proof.VocabDatI
public import proofs.«01_k».proof.Proof.Compose
public import proofs.«01_k».proof.Proof.Gen.KernelIdeal.Regions

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ × Counters) ℕ

/-! The whole program: the buffers' contents between its stretches, its three calls as segments, and its run. -/

variable (m : (ℓ : Loc nD τ sig) → Buf (Elt F) ℓ)

/-- The first call's arrays as it finds them. -/
abbrev aE (c : Dev nD) : ArrE F c := fun w => V1 m c (Proc.devRef .tc (Pipeline.arrRef spec0 w))
/-- The table that the first call reads. -/
abbrev tabE (c : Dev nD) : S50000x1x128.Idx → F .f32 := V1 m c (Proc.devRef .tc main_v1)

variable (htok : ∀ c k, ((inE0 (aE m c)) k).toNat < 50000)

/-- The unscoped buffers after the first call. -/
def W2 (c : Dev nD) : Valuation τ sig (Elt F) :=
  Function.update (Function.update (V1 m c) main_v4_0 (outE6 (aE m c) (tabE m c) (htok c))) main_v4_1 (outE7 (aE m c) (tabE m c) (htok c))
/-- … before the second call. -/
def W3 (c : Dev nD) : Valuation τ sig (Elt F) := StableHlo.after hostOps1 (W2 m htok c)
/-- The second call's arrays as it finds them. -/
abbrev aA (c : Dev nD) : ArrA F c := fun w => W3 m htok c (Proc.devRef .tc (Pipeline.arrRef spec1 w))
/-- … after the second call. -/
def W4 (c : Dev nD) : Valuation τ sig (Elt F) :=
  Function.update (Function.update (Function.update (Function.update (W3 m htok c) main_v20_0 (outA16 (aA m htok c))) main_v20_1 (outA17 (aA m htok c)))
    main_v20_2 (outA18 (aA m htok c))) main_v20_3 (outA19 (aA m htok c))
/-- … before the third call. -/
def W5 (c : Dev nD) : Valuation τ sig (Elt F) := StableHlo.after hostOps2 (W4 m htok c)
/-- The third call's arrays as it finds them. -/
abbrev aB (c : Dev nD) (w : Fin cfg2.W) : Buf (Elt F) ((cfg2.win w).arr.view.loc (c : Thread nD τ)) := W5 m htok c (Proc.devRef .tc (Pipeline.arrRef spec2 w))
/-- … after the third call, its two results given. -/
def W6 (c : Dev nD) (x : (S128x50000.Idx → F .f32) × (S128x50250.Idx → F .f32)) : Valuation τ sig (Elt F) :=
  Function.update (Function.update (W5 m htok c) main_v23_0 x.1) main_v23_1 x.2
/-- … at the end. -/
def W7 (c : Dev nD) (x : (S128x50000.Idx → F .f32) × (S128x50250.Idx → F .f32)) : Valuation τ sig (Elt F) := StableHlo.after hostOps3 (W6 m htok c x)

theorem ne_of_mem {r s : Ref sig .tc} {l : List (Ref sig .tc)} (hr : r ∉ l) (hs : s ∈ l) : (Proc.devRef .tc r : DevRef τ sig) ≠ Proc.devRef .tc s :=
  StableHlo.devRef_ne_of_ne fun h => hr (h ▸ hs)

theorem W2_of (c : Dev nD) (r : Ref sig .tc) (h : r ∉ [main_v4_0, main_v4_1]) : W2 m htok c r = V1 m c r := by
  unfold W2
  rw [Function.update_of_ne (ne_of_mem h (by decide)), Function.update_of_ne (ne_of_mem h (by decide))]
theorem W3_of (c : Dev nD) (r : Ref sig .tc) (h : r ∉ hostOps1_W) : W3 m htok c r = W2 m htok c r :=
  StableHlo.after_of_writes_sub hostOps1 _ hostOps1_writes h
theorem W4_of (c : Dev nD) (r : Ref sig .tc) (h : r ∉ [main_v20_0, main_v20_1, main_v20_2, main_v20_3]) : W4 m htok c r = W3 m htok c r := by
  unfold W4
  rw [Function.update_of_ne (ne_of_mem h (by decide)), Function.update_of_ne (ne_of_mem h (by decide)), Function.update_of_ne (ne_of_mem h (by decide)), Function.update_of_ne (ne_of_mem h (by decide))]
theorem W5_of (c : Dev nD) (r : Ref sig .tc) (h : r ∉ hostOps2_W) : W5 m htok c r = W4 m htok c r :=
  StableHlo.after_of_writes_sub hostOps2 _ hostOps2_writes h
theorem W6_of (c : Dev nD) (x) (r : Ref sig .tc) (h : r ∉ [main_v23_0, main_v23_1]) : W6 m htok c x r = W5 m htok c r := by
  unfold W6
  rw [Function.update_of_ne (ne_of_mem h (by decide)), Function.update_of_ne (ne_of_mem h (by decide))]
theorem W7_of (c : Dev nD) (x) (r : Ref sig .tc) (h : r ∉ hostOps3_W) : W7 m htok c x r = W6 m htok c x r :=
  StableHlo.after_of_writes_sub hostOps3 _ hostOps3_writes h

theorem W2_out0 (c : Dev nD) : W2 m htok c main_v4_0 = outE6 (aE m c) (tabE m c) (htok c) := by
  unfold W2; rw [Function.update_of_ne (StableHlo.devRef_ne_of_ne (by decide))]; exact Function.update_self ..
theorem W2_out1 (c : Dev nD) : W2 m htok c main_v4_1 = outE7 (aE m c) (tabE m c) (htok c) := by
  unfold W2; exact Function.update_self ..
theorem W4_out0 (c : Dev nD) : W4 m htok c main_v20_0 = outA16 (aA m htok c) := by
  unfold W4; rw [Function.update_of_ne (StableHlo.devRef_ne_of_ne (by decide)), Function.update_of_ne (StableHlo.devRef_ne_of_ne (by decide)), Function.update_of_ne (StableHlo.devRef_ne_of_ne (by decide))]; exact Function.update_self ..
theorem W4_out1 (c : Dev nD) : W4 m htok c main_v20_1 = outA17 (aA m htok c) := by
  unfold W4; rw [Function.update_of_ne (StableHlo.devRef_ne_of_ne (by decide)), Function.update_of_ne (StableHlo.devRef_ne_of_ne (by decide))]; exact Function.update_self ..
theorem W4_out2 (c : Dev nD) : W4 m htok c main_v20_2 = outA18 (aA m htok c) := by
  unfold W4; rw [Function.update_of_ne (StableHlo.devRef_ne_of_ne (by decide))]; exact Function.update_self ..
theorem W4_out3 (c : Dev nD) : W4 m htok c main_v20_3 = outA19 (aA m htok c) := by
  unfold W4; exact Function.update_self ..
theorem W6_out0 (c : Dev nD) (x) : W6 m htok c x main_v23_0 = x.1 := by
  unfold W6; rw [Function.update_of_ne (StableHlo.devRef_ne_of_ne (by decide))]; exact Function.update_self ..
theorem W6_out1 (c : Dev nD) (x) : W6 m htok c x main_v23_1 = x.2 := by
  unfold W6; exact Function.update_self ..
theorem W2_off (c : Dev nD) (b : DevRef τ sig) (h0 : b ≠ Proc.devRef .tc main_v4_0) (h1 : b ≠ Proc.devRef .tc main_v4_1) : W2 m htok c b = V1 m c b := by
  unfold W2; rw [Function.update_of_ne h1, Function.update_of_ne h0]
theorem W4_off (c : Dev nD) (b : DevRef τ sig) (h0 : b ≠ Proc.devRef .tc main_v20_0) (h1 : b ≠ Proc.devRef .tc main_v20_1) (h2 : b ≠ Proc.devRef .tc main_v20_2)
    (h3 : b ≠ Proc.devRef .tc main_v20_3) : W4 m htok c b = W3 m htok c b := by
  unfold W4; rw [Function.update_of_ne h3, Function.update_of_ne h2, Function.update_of_ne h1, Function.update_of_ne h0]
theorem W6_off (c : Dev nD) (x) (b : DevRef τ sig) (h0 : b ≠ Proc.devRef .tc main_v23_0) (h1 : b ≠ Proc.devRef .tc main_v23_1) : W6 m htok c x b = W5 m htok c b := by
  unfold W6; rw [Function.update_of_ne h1, Function.update_of_ne h0]

/-- A buffer that nothing writes is as launched before the third call. -/
theorem W5_arg (c : Dev nD) (r : Ref sig .tc) (h0 : r ∉ hostOps0_W) (h1 : r ∉ [main_v4_0, main_v4_1]) (h2 : r ∉ hostOps1_W)
    (h3 : r ∉ [main_v20_0, main_v20_1, main_v20_2, main_v20_3]) (h4 : r ∉ hostOps2_W) : W5 m htok c r = m ((c.tc : Thread nD τ).loc r) :=
  (W5_of m htok c r h4).trans ((W4_of m htok c r h3).trans ((W3_of m htok c r h2).trans ((W2_of m htok c r h1).trans (V1_of m c r h0))))
/-- A buffer that nothing writes is as launched at the end. -/
theorem W7_arg (c : Dev nD) (x) (r : Ref sig .tc) (h0 : r ∉ hostOps0_W) (h1 : r ∉ [main_v4_0, main_v4_1]) (h2 : r ∉ hostOps1_W)
    (h3 : r ∉ [main_v20_0, main_v20_1, main_v20_2, main_v20_3]) (h4 : r ∉ hostOps2_W) (h5 : r ∉ [main_v23_0, main_v23_1]) (h6 : r ∉ hostOps3_W) :
    W7 m htok c x r = m ((c.tc : Thread nD τ).loc r) :=
  (W7_of m htok c x r h6).trans ((W6_of m htok c x r h5).trans (W5_arg m htok c r h0 h1 h2 h3 h4))

variable (R : (c : Dev nD) → Rel (aB m htok c))

/-- The relational data of the three calls. -/
abbrev rdats : (p : Fin 3) → (c : Dev nD) → Pipeline.RDat τ (Elt F) Unit ℕ (UR sig nD τ × Counters) ℕ (Pipeline.pin (pcfgs (F := F)) adm p) c := fun p c => match p with
  | 0 => datE (aE m c) (tabE m c) (htok c)
  | 1 => datA (aA m htok c)
  | 2 => (R c).dat

/-- No dues. -/
abbrev L0 : GSem nD τ sig → Finset Unit := fun _ => ∅
abbrev lv0 : GSem nD τ sig → Unit → ℕ := fun _ _ => 0

theorem mem_arr {gr W : Nat} (win : Fin W → Pipeline.WinSpec sig gr) (w : Fin W) : (Proc.devRef .tc (Pipeline.arrRef win w) : DevRef τ sig) ∈ Pipeline.arrRefs (τ := τ) win :=
  Finset.mem_map_of_mem _ (Finset.mem_image_of_mem _ (Finset.mem_univ w))

theorem ne_of_others {p : Fin 3} {b : DevRef τ sig} (hb : b ∈ Cert.Compose.others (τ := τ) (pcfgs (F := F)) p) (w) :
    b ≠ Proc.devRef .tc (Pipeline.arrRef (pcfgs (F := F) p).spec w) := fun h => (Finset.mem_sdiff.mp hb).2 (h ▸ mem_arr _ w)

theorem phiE_in (c : Dev nD) : iprop(Pipeline.scopedRest (Val := Elt F) spec0 c ∗ (∃ r, prngReg c r) ∗ Pipeline.ownSems0 (fun _ : Unit => SemLoc.dma (sig := sig) cc0_scratch1.sem) c
      ∗ (bigSep {main_v1} fun b => ((c.tc : Thread nD τ).loc b) ↦{fullShare} V1 m c (Proc.devRef .tc b))) ⊢ (phiE c (tabE m c) : sProp 𝕄) := by
  rw [scopedRest0_split, bigSep_singleton]
  unfold phiE Pipeline.ownSems0
  rw [show (Finset.univ : Finset Unit) = {()} from rfl, bigSep_singleton]
  simp only [owns_whole]
  iintro ⟨⟨H0, Hr⟩, Hp, Hs, HT⟩
  isplitl [H0]; · iexact H0
  isplitl [Hs]; · iexact Hs
  isplitl [HT]; · iexact HT
  isplitl [Hr]; · iexact Hr
  iexact Hp

theorem phiE_out (c : Dev nD) : (phiE c (tabE m c) : sProp 𝕄) ⊢ iprop(Pipeline.scopedRest (Val := Elt F) spec0 c ∗ (∃ r, prngReg c r) ∗ Pipeline.ownSems0 (fun _ : Unit => SemLoc.dma (sig := sig) cc0_scratch1.sem) c
      ∗ (bigSep {main_v1} fun b => ((c.tc : Thread nD τ).loc b) ↦{fullShare} V1 m c (Proc.devRef .tc b))) := by
  rw [scopedRest0_split, bigSep_singleton]
  unfold phiE Pipeline.ownSems0
  rw [show (Finset.univ : Finset Unit) = {()} from rfl, bigSep_singleton]
  simp only [owns_whole]
  iintro ⟨H0, Hs, HT, Hr, Hp⟩
  isplitl [H0 Hr]
  · isplitl [H0]; · iexact H0
    iexact Hr
  isplitl [Hp]; · iexact Hp
  isplitl [Hs]; · iexact Hs
  iexact HT

theorem phiA_in (c : Dev nD) (X : (b : Ref sig .tc) → Buf (Elt F) ((c.tc : Thread nD τ).loc b)) : iprop(Pipeline.scopedRest (Val := Elt F) spec1 c ∗ (∃ r, prngReg c r) ∗ Pipeline.ownSems0 (sig := sig) (fun k : PEmpty => k.elim) c
      ∗ (bigSep ∅ fun b => ((c.tc : Thread nD τ).loc b) ↦{fullShare} X b)) ⊢ (phiA c : sProp 𝕄) := by
  rw [scopedRest1_split]
  unfold phiA
  simp only [owns_whole]
  iintro ⟨⟨⟨H0, H1⟩, Hr⟩, Hp, -, -⟩
  isplitl [H0]; · iexact H0
  isplitl [H1]; · iexact H1
  isplitl [Hr]; · iexact Hr
  iexact Hp

theorem none_intro (c : Dev nD) (X : (b : Ref sig .tc) → Buf (Elt F) ((c.tc : Thread nD τ).loc b)) : (BI.emp : sProp 𝕄) ⊢ iprop(Pipeline.ownSems0 (sig := sig) (fun k : PEmpty => k.elim) c
      ∗ (bigSep ∅ fun b => ((c.tc : Thread nD τ).loc b) ↦{fullShare} X b)) := by
  unfold Pipeline.ownSems0
  rw [show (Finset.univ : Finset PEmpty) = ∅ from rfl, bigSep_empty, bigSep_empty]
  iintro -
  isplitl <;> iempintro

theorem phiA_out (c : Dev nD) (X : (b : Ref sig .tc) → Buf (Elt F) ((c.tc : Thread nD τ).loc b)) : (phiA c : sProp 𝕄) ⊢ iprop(Pipeline.scopedRest (Val := Elt F) spec1 c ∗ (∃ r, prngReg c r) ∗ Pipeline.ownSems0 (sig := sig) (fun k : PEmpty => k.elim) c
      ∗ (bigSep ∅ fun b => ((c.tc : Thread nD τ).loc b) ↦{fullShare} X b)) := by
  rw [scopedRest1_split]
  unfold phiA
  simp only [owns_whole]
  iintro ⟨H0, H1, Hr, Hp⟩
  isplitl [H0 H1 Hr]
  · isplitl [H0 H1]
    · isplitl [H0]; · iexact H0
      iexact H1
    iexact Hr
  isplitl [Hp]; · iexact Hp
  iapply (none_intro c X)
  iempintro

theorem phiB_in {c : Dev nD} {A : (w : Fin cfg2.W) → Buf (Elt F) ((cfg2.win w).arr.view.loc (c : Thread nD τ))} (R : Rel A) (X : (b : Ref sig .tc) → Buf (Elt F) ((c.tc : Thread nD τ).loc b)) :
    iprop(Pipeline.scopedRest (Val := Elt F) spec2 c ∗ (∃ r, prngReg c r) ∗ Pipeline.ownSems0 (sig := sig) (fun k : PEmpty => k.elim) c
      ∗ (bigSep ∅ fun b => ((c.tc : Thread nD τ).loc b) ↦{fullShare} X b)) ⊢ (R.phi 0 : sProp 𝕄) := by
  rw [scopedRest2_split]
  unfold Rel.phi
  simp only [owns_whole]
  iintro ⟨⟨⟨⟨%f0, H0⟩, ⟨%f1, H1⟩, ⟨%f2, H2⟩⟩, Hr⟩, Hp, -, -⟩
  isplitl [H0 H1 H2]
  · iexists f0; iexists f1; iexists f2
    isplitr [H0 H1 H2]; swap
    · isplitl [H0]; · iexact H0
      isplitl [H1]; · iexact H1
      iexact H2
    ipureintro; exact R.zero _ _ _
  isplitl [Hr]; · iexact Hr
  iexact Hp

theorem phiB_out {c : Dev nD} {A : (w : Fin cfg2.W) → Buf (Elt F) ((cfg2.win w).arr.view.loc (c : Thread nD τ))} (R : Rel A) (n : ℕ) (X : (b : Ref sig .tc) → Buf (Elt F) ((c.tc : Thread nD τ).loc b)) :
    (R.phi n : sProp 𝕄) ⊢ iprop(Pipeline.scopedRest (Val := Elt F) spec2 c ∗ (∃ r, prngReg c r) ∗ Pipeline.ownSems0 (sig := sig) (fun k : PEmpty => k.elim) c
      ∗ (bigSep ∅ fun b => ((c.tc : Thread nD τ).loc b) ↦{fullShare} X b)) := by
  rw [scopedRest2_split]
  unfold Rel.phi
  simp only [owns_whole]
  iintro ⟨⟨%f0, %f1, %f2, -, H0, H1, H2⟩, Hr, Hp⟩
  isplitl [H0 H1 H2 Hr]
  · isplitl [H0 H1 H2]
    · isplitl [H0]; · iexists _; iexact H0
      isplitl [H1]; · iexists _; iexact H1
      iexists _; iexact H2
    iexact Hr
  isplitl [Hp]; · iexact Hp
  iapply (none_intro c X)
  iempintro

theorem own0 : Pipeline.OwnSemFacts spec0 (fun _ : Unit => SemLoc.dma (sig := sig) cc0_scratch1.sem) := by decide
theorem hbm0 : Pipeline.hbmRefs (τ := τ) ({main_v1} : Finset (Ref sig .tc)) ⊆ Pipeline.ucRefs τ sig \ Pipeline.arrRefs (τ := τ) spec0 := by
  intro b hb
  obtain ⟨r, hr, rfl⟩ := Finset.mem_map.mp hb
  obtain rfl := Finset.mem_singleton.mp hr
  refine Finset.mem_sdiff.mpr ⟨Finset.mem_filter.mpr ⟨StableHlo.devRef_mem_tcRefs _, by decide⟩, fun h => ?_⟩
  obtain ⟨r, hr, h⟩ := Finset.mem_map.mp h
  obtain ⟨w, -, rfl⟩ := Finset.mem_image.mp hr
  have h' := Proc.devRef_injective _ h
  revert w; decide

theorem W2_arrs (c : Dev nD) (A : ArrE F c) (hA : ∀ w, (datE (aE m c) (tabE m c) (htok c)).ArrAt w cfg0.N (A w)) (w : Fin cfg0.W) :
    A w = W2 m htok c (Proc.devRef .tc (Pipeline.arrRef spec0 w)) := match w with
    | ⟨0, _⟩ => (inE_eq _ _ _ 0 rfl _ (hA 0)).trans (W2_of m htok c _ (by decide)).symm
    | ⟨1, _⟩ => (inE_eq _ _ _ 1 rfl _ (hA 1)).trans (W2_of m htok c _ (by decide)).symm
    | ⟨2, _⟩ => (inE_eq _ _ _ 2 rfl _ (hA 2)).trans (W2_of m htok c _ (by decide)).symm
    | ⟨3, _⟩ => (inE_eq _ _ _ 3 rfl _ (hA 3)).trans (W2_of m htok c _ (by decide)).symm
    | ⟨4, _⟩ => (inE_eq _ _ _ 4 rfl _ (hA 4)).trans (W2_of m htok c _ (by decide)).symm
    | ⟨5, _⟩ => (inE_eq _ _ _ 5 rfl _ (hA 5)).trans (W2_of m htok c _ (by decide)).symm
    | ⟨6, _⟩ => (arrE6_eq _ _ _ _ (hA 6)).trans (W2_out0 m htok c).symm
    | ⟨7, _⟩ => (arrE7_eq _ _ _ _ (hA 7)).trans (W2_out1 m htok c).symm
    | ⟨_ + 8, h⟩ => absurd h (Nat.not_lt.2 (Nat.le_add_left _ _))

theorem W4_arrs (c : Dev nD) (A : ArrA F c) (hA : ∀ w, (datA (aA m htok c)).ArrAt w cfg1.N (A w)) (w : Fin cfg1.W) :
    A w = W4 m htok c (Proc.devRef .tc (Pipeline.arrRef spec1 w)) := by
  have h1 : ∀ w, (cfg1.win w).isOut = false → Pipeline.arrRef spec1 w ∉ [main_v20_0, main_v20_1, main_v20_2, main_v20_3] := by decide
  have h2 : ∀ w, (cfg1.win w).isOut ≠ false → w = 16 ∨ w = 17 ∨ w = 18 ∨ w = 19 := by decide
  by_cases hw : (cfg1.win w).isOut = false
  · exact (inA_eq _ w hw _ (hA w)).trans (W4_of m htok c _ (h1 w hw)).symm
  rcases h2 w hw with rfl | rfl | rfl | rfl
  · exact (arrA16_eq _ _ (hA 16)).trans (W4_out0 m htok c).symm
  · exact (arrA17_eq _ _ (hA 17)).trans (W4_out1 m htok c).symm
  · exact (arrA18_eq _ _ (hA 18)).trans (W4_out2 m htok c).symm
  · exact (arrA19_eq _ _ (hA 19)).trans (W4_out3 m htok c).symm

theorem W6_arrs (c : Dev nD) (A : (w : Fin cfg2.W) → Buf (Elt F) ((cfg2.win w).arr.view.loc (c : Thread nD τ))) (hA : ∀ w, (R c).dat.ArrAt w cfg2.N (A w)) (w : Fin cfg2.W) :
    A w = W6 m htok c (A 5, A 6) (Proc.devRef .tc (Pipeline.arrRef spec2 w)) := by
  have h1 : ∀ w, (cfg2.win w).isOut = false → Pipeline.arrRef spec2 w ∉ [main_v23_0, main_v23_1] := by decide
  have h2 : ∀ w, (cfg2.win w).isOut ≠ false → w = 5 ∨ w = 6 := by decide
  by_cases hw : (cfg2.win w).isOut = false
  · exact (ArrAt_eq (R c) w hw _ (hA w)).trans (W6_of m htok c _ _ (h1 w hw)).symm
  rcases h2 w hw with rfl | rfl
  · exact (W6_out0 m htok c (A 5, A 6)).symm
  · exact (W6_out1 m htok c (A 5, A 6)).symm

set_option backward.isDefEq.respectTransparency.types false in
/-- The first call. -/
def regE : Pipeline.RDat.RegionSeg (pcfgs (F := F)) adm (rdats m htok R) () defs₀ Variants.none L0 lv0 0 :=
  Cert.Compose.region (pcfgs (F := F)) adm (rdats m htok R) defs₀ Variants.none L0 lv0 0 (fun _ : Unit => SemLoc.dma (sig := sig) cc0_scratch1.sem) own0
    {main_v1} (Pipeline.arrRefs_sub_ucRefs spec0 winFacts0.arr_unscoped) hbm0 (Pipeline.LaunchFacts.toP launch0) rfl
    (fun c => bodyE (aE m c) (tabE m c) (htok c)) (fun _ _ => rfl) (fun _ => rfl) (fun c => (datE (aE m c) (tabE m c) (htok c)).share_full fun _ => rfl)
    (fun c => V1 m c) (fun c _ => W2 m htok c) (fun _ _ => rfl)
    (fun c A hA w => W2_arrs m htok c A hA w)
    (fun c A b hb => W2_off m htok c b (ne_of_others (F := F) (p := 0) hb 6) (ne_of_others (F := F) (p := 0) hb 7))
    (fun c => phiE_in m c) (fun c => phiE_out m c)

set_option backward.isDefEq.respectTransparency.types false in
/-- The second call. -/
def regA : Pipeline.RDat.RegionSeg (pcfgs (F := F)) adm (rdats m htok R) () defs₀ Variants.none L0 lv0 1 :=
  Cert.Compose.region (pcfgs (F := F)) adm (rdats m htok R) defs₀ Variants.none L0 lv0 1 (fun k : PEmpty => k.elim) (Pipeline.OwnSemFacts.none _)
    ∅ (Pipeline.arrRefs_sub_ucRefs spec1 winFacts1.arr_unscoped) (fun _ h => absurd h (by simp [Pipeline.hbmRefs])) (Pipeline.LaunchFacts.toP launch1) rfl
    (fun c => bodyA (aA m htok c)) (fun _ _ => rfl) (fun _ => rfl) (fun c => (datA (aA m htok c)).share_full fun _ => rfl)
    (fun c => W3 m htok c) (fun c _ => W4 m htok c) (fun _ _ => rfl)
    (fun c A hA w => W4_arrs m htok c A hA w)
    (fun c A b hb => W4_off m htok c b (ne_of_others (F := F) (p := 1) hb 16) (ne_of_others (F := F) (p := 1) hb 17) (ne_of_others (F := F) (p := 1) hb 18) (ne_of_others (F := F) (p := 1) hb 19))
    (fun c => phiA_in c _) (fun c => phiA_out c _)

set_option backward.isDefEq.respectTransparency.types false in
/-- The third call. -/
def regB : Pipeline.RDat.RegionSeg (pcfgs (F := F)) adm (rdats m htok R) () defs₀ Variants.none L0 lv0 2 :=
  Cert.Compose.region (pcfgs (F := F)) adm (rdats m htok R) defs₀ Variants.none L0 lv0 2 (fun k : PEmpty => k.elim) (Pipeline.OwnSemFacts.none _)
    ∅ (Pipeline.arrRefs_sub_ucRefs spec2 winFacts2.arr_unscoped) (fun _ h => absurd h (by simp [Pipeline.hbmRefs])) (Pipeline.LaunchFacts.toP launch2) rfl
    (fun c => body_obligation (R c)) (fun _ _ => rfl) (fun _ => rfl) (fun c => (R c).dat.share_full fun _ => rfl)
    (fun c => W5 m htok c) (fun c A => W6 m htok c (A 5, A 6)) (fun _ _ => rfl)
    (fun c A hA w => W6_arrs m htok R c A hA w)
    (fun c A b hb => W6_off m htok c _ b (ne_of_others (F := F) (p := 2) hb 5) (ne_of_others (F := F) (p := 2) hb 6))
    (fun c => phiB_in (R c) _) (fun c => phiB_out (R c) _ _)

/-- What the third call's results are known to be. -/
def known (c : Dev nD) (x : (S128x50000.Idx → F .f32) × (S128x50250.Idx → F .f32)) : Prop := (R c).dat.ArrAt 5 cfg2.N x.1 ∧ (R c).dat.ArrAt 6 cfg2.N x.2

abbrev H0 : Pipeline.HostSeg (Ix := Unit) (Name := ℕ) (U := UR sig nD τ × Counters) (Lvl := ℕ) (pcfgs (F := F)) defs₀ Variants.none L0 lv0 :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Cert.Compose.side
abbrev H1 : Pipeline.HostSeg (Ix := Unit) (Name := ℕ) (U := UR sig nD τ × Counters) (Lvl := ℕ) (pcfgs (F := F)) defs₀ Variants.none L0 lv0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m htok) Cert.Compose.side
abbrev H2 : Pipeline.HostSeg (Ix := Unit) (Name := ℕ) (U := UR sig nD τ × Counters) (Lvl := ℕ) (pcfgs (F := F)) defs₀ Variants.none L0 lv0 :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m htok) Cert.Compose.side
abbrev H3 : Pipeline.HostSeg (Ix := Unit) (Name := ℕ) (U := UR sig nD τ × Counters) (Lvl := ℕ) (pcfgs (F := F)) defs₀ Variants.none L0 lv0 :=
  Cert.Compose.hostEx (pcfgs (F := F)) defs₀ Variants.none L0 lv0 (Pipeline.ucRefs τ sig) hostOps3
    (fun op h => Pipeline.sub_ucRefs op ((List.forall_iff_forall_mem.mp hostOps3_sub) op h))
    (fun op h => (List.forall_iff_forall_mem.mp hostOps3_fresh) op h) (W6 m htok) (known m htok R) Cert.Compose.side

/-- The program's stretches in order. -/
abbrev segsAll (c : Dev nD) : List (Pipeline.RDat.Seg (pcfgs (F := F)) adm (rdats m htok R) () defs₀ Variants.none L0 lv0) :=
  [.host (H0 m), .region (regE m htok R), .host (H1 m htok), .region (regA m htok R), .host (H2 m htok), .region (regB m htok R), .host (H3 m htok R)]

theorem post_drop {c : Dev nD} {α : Type} (P : α → Prop) (Q : sProp 𝕄) : iprop(∃ A : α, ⌜P A⌝ ∗ Q) ⊢ Q := by
  iintro ⟨%A, -, H⟩
  iexact H

theorem side_intro (c : Dev nD) (r : PrngReg) : iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c r ∗ emp)
    ⊢ (iprop(StableHlo.held (c : Thread nD τ) (Pipeline.ucRefs τ sig) (V0 m c) ∗ Cert.Compose.side c) : sProp 𝕄) := by
  have e := Pipeline.unscopedBufs_held (Ix := Unit) (Name := ℕ) (U := UR sig nD τ × Counters) (Lvl := ℕ) c (V0 m c)
  unfold Cert.Compose.side
  iintro ⟨Hb, -, HO, -, Hp, -⟩
  isplitl [Hb]
  · iapply (Entails.of_eq e); iexact Hb
  isplitl [Hp]; · iexists _; iexact Hp
  iexists _; iexact HO

variable (ρ : Dev nD → PrngReg)

set_option backward.isDefEq.respectTransparency.types false in
/-- The run: at the end the unscoped buffers are as computed, the third call's results as its relational data allow, and every counter is at zero. -/
theorem run_all : θ_run defs (onTc (τ := τ) (main (F := F))) ⟨m, fun _ => 0, ρ⟩ (fun r => (∀ c : Dev nD, ∃ x, known m htok R c x ∧
      ∀ b : Ref sig .tc, b.isScoped = false → r.2.mem ((c.tc : Thread nD τ).loc b) = W7 m htok c x (Proc.devRef .tc b)) ∧ r.2.sem = fun _ => 0) := by
  refine Pipeline.RDat.θ_run_regions_kit_dev_sems (pcfgs (F := F)) adm (rdats m htok R) () cellOf_inj embL defs₀ Variants.none L0 lv0 m ρ main
    (segsAll m htok R)
    (fun c Q => by
      rewrite [main_chain c, Pipeline.RDat.Seg.run_eq_chain,
        show (segsAll m htok R c).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segsAll, Pipeline.RDat.Seg.pipes_host, Pipeline.RDat.Seg.pipes_region, Pipeline.RDat.Seg.pipes_nil]; decide) 0 (fun _ _ => rfl)
    (fun _ => iprop(emp)) (initOf (Pipeline.cells (Pipeline.pin (pcfgs (F := F)) adm) cellOf_inj) (Pipeline.launchToks (Pipeline.pin (pcfgs (F := F)) adm) cellOf_inj), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Cert.Compose.side c))
    (Tₙ := fun c => iprop(∃ x, ⌜known m htok R c x⌝ ∗ StableHlo.held (c : Thread nD τ) (Pipeline.ucRefs τ sig) (W7 m htok c x)))
    (hch := fun c => ⟨.rfl, .rfl, post_drop (c := c) _ _, .rfl, post_drop (c := c) _ _, .rfl, ?_, ?_⟩)
    (hinit := ?_) (QY := fun c s => ∃ x, known m htok R c x ∧ ∀ b : Ref sig .tc, b.isScoped = false → s.mem ((c.tc : Thread nD τ).loc b) = W7 m htok c x (Proc.devRef .tc b))
    (hfin := fun c s' => ?_) (hQ := fun _ h hz => ⟨h, funext fun g => hz g (.inr (regions_no_unscoped g.2))⟩)
  · show iprop(∃ A : Cert.Compose.Arrs (nD := nD) (τ := τ) (pcfgs (F := F)) adm 2 c, ⌜∀ w, (R c).dat.ArrAt w cfg2.N (A w)⌝
      ∗ StableHlo.held (c.tc : Thread nD τ) (Pipeline.ucRefs τ sig) (W6 m htok c (A 5, A 6)) ∗ Cert.Compose.side c)
      ⊢ (iprop(∃ x, ⌜known m htok R c x⌝ ∗ StableHlo.held (c.tc : Thread nD τ) (Pipeline.ucRefs τ sig) (W6 m htok c x) ∗ Cert.Compose.side c) : sProp 𝕄)
    iintro ⟨%A, %hA, H⟩
    iexists (A 5, A 6)
    isplitr; · ipureintro; exact ⟨hA 5, hA 6⟩
    iexact H
  · show iprop(∃ x, ⌜known m htok R c x⌝ ∗ StableHlo.held (c.tc : Thread nD τ) (Pipeline.ucRefs τ sig) (W7 m htok c x) ∗ Cert.Compose.side c)
      ⊢ (iprop((∃ x, ⌜known m htok R c x⌝ ∗ StableHlo.held (c.tc : Thread nD τ) (Pipeline.ucRefs τ sig) (W7 m htok c x))
        ∗ ∃ W, owes (c.tc : Thread nD τ) (0 : CellTallies nD τ sig Unit) W) : sProp 𝕄)
    unfold Cert.Compose.side
    iintro ⟨%x, %hx, Hh, -, HO⟩
    isplitl [Hh]
    · iexists x
      isplitr; · ipureintro; exact hx
      iexact Hh
    iexact HO
  · iintro ⟨H, -⟩
    imodintro
    iapply (show _ ⊢ _ from bigSep_mono fun c _ => side_intro m c (ρ c))
    iexact H
  · iintro ⟨⟨%x, %hx, Hh⟩, HSI⟩
    ihave Hr := (show iprop(StableHlo.held (c : Thread nD τ) (Pipeline.ucRefs τ sig) (W7 m htok c x) ∗ SI s') ⊢ _ from
      pointsTo_read_all (Pipeline.ucRefs τ sig) (fun b => ((c : Thread nD τ).1, b)) (W7 m htok c x) s') $$ [Hh HSI]
    · isplitl [Hh] <;> iassumption
    icases Hr with ⟨%h, HSI⟩
    imodintro
    isplitr
    · ipureintro
      exact ⟨x, hx, fun b hb => h (Proc.devRef .tc b) (Finset.mem_filter.mpr ⟨StableHlo.devRef_mem_tcRefs b, fun h' => Bool.false_ne_true (hb.symm.trans h')⟩)⟩
    iexact HSI

include htok in
/-- The arguments end as launched. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => by
    obtain ⟨x, -, hb⟩ := h.1 c
    have ha := fun (b : Ref sig .tc) hs h0 h1 h2 h3 h4 h5 h6 => (hb b hs).trans (W7_arg m htok c x b h0 h1 h2 h3 h4 h5 h6)
    exact ⟨ha main_arg0 rfl (by decide) (by decide) (by decide) (by decide) (by decide) (by decide) (by decide),
      ha main_arg1 rfl (by decide) (by decide) (by decide) (by decide) (by decide) (by decide) (by decide),
      ha main_arg2 rfl (by decide) (by decide) (by decide) (by decide) (by decide) (by decide) (by decide),
      ha main_arg3 rfl (by decide) (by decide) (by decide) (by decide) (by decide) (by decide) (by decide),
      ha main_arg4 rfl (by decide) (by decide) (by decide) (by decide) (by decide) (by decide) (by decide),
      ha main_arg5 rfl (by decide) (by decide) (by decide) (by decide) (by decide) (by decide) (by decide),
      ha main_arg6 rfl (by decide) (by decide) (by decide) (by decide) (by decide) (by decide) (by decide),
      ha main_arg7 rfl (by decide) (by decide) (by decide) (by decide) (by decide) (by decide) (by decide),
      ha main_arg8 rfl (by decide) (by decide) (by decide) (by decide) (by decide) (by decide) (by decide),
      ha main_arg9 rfl (by decide) (by decide) (by decide) (by decide) (by decide) (by decide) (by decide),
      ha main_arg10 rfl (by decide) (by decide) (by decide) (by decide) (by decide) (by decide) (by decide),
      ha main_arg11 rfl (by decide) (by decide) (by decide) (by decide) (by decide) (by decide) (by decide),
      ha main_arg12 rfl (by decide) (by decide) (by decide) (by decide) (by decide) (by decide) (by decide),
      ha main_arg13 rfl (by decide) (by decide) (by decide) (by decide) (by decide) (by decide) (by decide),
      ha main_arg14 rfl (by decide) (by decide) (by decide) (by decide) (by decide) (by decide) (by decide),
      ha main_arg15 rfl (by decide) (by decide) (by decide) (by decide) (by decide) (by decide) (by decide),
      ha main_arg16 rfl (by decide) (by decide) (by decide) (by decide) (by decide) (by decide) (by decide),
      ha main_arg17 rfl (by decide) (by decide) (by decide) (by decide) (by decide) (by decide) (by decide),
      ha main_arg18 rfl (by decide) (by decide) (by decide) (by decide) (by decide) (by decide) (by decide)⟩, h.2⟩) (run_all m htok (fun c => Rel.triv (aB m htok c)) ρ)

end Cert.KernelIdeal
-- ==== Proof.HostVal.lean ====
module

public import proofs.«01_k».proof.Proof.RunI
public import proofs.«01_k».proof.Proof.Ids
public import Idealize.ShloMosaic.Lib.StableHlo.ReadAt

@[expose] public section

set_option maxRecDepth 16384

noncomputable section

namespace Cert.KernelIdeal

open Idealize.ShloMosaic Idealize.ShloMosaic.TcCoe Idealize.SL.Sem
open Cert.KernelIdeal.Gen

/-! What the three calls find in the buffers that the operations between them write. -/

variable (m : (ℓ : Loc nD τ sig) → Buf (Elt Ideal) ℓ) (c : Dev nD)

/-- The arguments, as arrays of extended reals and of words. -/
abbrev g0 : S128x1.Idx → BitVec 32 := m ((c.tc : Thread nD τ).loc main_arg0)
abbrev g1 : S128x256.Idx → EReal := m ((c.tc : Thread nD τ).loc main_arg1)
abbrev g2 : S128x400x256.Idx → EReal := m ((c.tc : Thread nD τ).loc main_arg2)
abbrev g3 : S128x400.Idx → BitVec 32 := m ((c.tc : Thread nD τ).loc main_arg3)
abbrev g4 : S50000x128.Idx → EReal := m ((c.tc : Thread nD τ).loc main_arg4)
abbrev g5 : S768x128.Idx → EReal := m ((c.tc : Thread nD τ).loc main_arg5)
abbrev g6 : S768x256.Idx → EReal := m ((c.tc : Thread nD τ).loc main_arg6)
abbrev g7 : S768.Idx → EReal := m ((c.tc : Thread nD τ).loc main_arg7)
abbrev g8 : S768.Idx → EReal := m ((c.tc : Thread nD τ).loc main_arg8)
abbrev g9 : S256.Idx → EReal := m ((c.tc : Thread nD τ).loc main_arg9)
abbrev g10 : S256.Idx → EReal := m ((c.tc : Thread nD τ).loc main_arg10)
abbrev g11 : S1.Idx → EReal := m ((c.tc : Thread nD τ).loc main_arg11)
abbrev g12 : S256.Idx → EReal := m ((c.tc : Thread nD τ).loc main_arg12)
abbrev g13 : S1x640.Idx → EReal := m ((c.tc : Thread nD τ).loc main_arg13)
abbrev g14 : S1.Idx → EReal := m ((c.tc : Thread nD τ).loc main_arg14)
abbrev g15 : S128x512.Idx → EReal := m ((c.tc : Thread nD τ).loc main_arg15)
abbrev g16 : S128.Idx → EReal := m ((c.tc : Thread nD τ).loc main_arg16)
abbrev g17 : S50000x128.Idx → EReal := m ((c.tc : Thread nD τ).loc main_arg17)
abbrev g18 : S50000.Idx → EReal := m ((c.tc : Thread nD τ).loc main_arg18)

theorem tok_read (k : Fin 128) : (V1 m c (Proc.devRef .tc main_v0) : S128.Idx → BitVec 32) (ix1 k) = g0 m c (ix2 k 0) := by
  unfold V1
  after_reads_at
theorem tab_read (n : Fin 50000) (e : Fin 128) : (V1 m c (Proc.devRef .tc main_v1) : S50000x1x128.Idx → EReal) (ix3 n 0 e) = g4 m c (ix2 n e) := by
  unfold V1
  after_reads_at
theorem bih_read (k : Fin 768) : (V1 m c (Proc.devRef .tc main_v2) : S1x768.Idx → EReal) (ix2 0 k) = g7 m c (ix1 k) := by
  unfold V1
  after_reads_at
theorem bhh_read (k : Fin 768) : (V1 m c (Proc.devRef .tc main_v3) : S1x768.Idx → EReal) (ix2 0 k) = g8 m c (ix1 k) := by
  unfold V1
  after_reads_at

theorem inE0_at (k : Fin 128) : inE0 (aE m c) (ix1 k) = g0 m c (ix2 k 0) := tok_read m c k

theorem tok_range (h : ∀ b : Fin 128, (g0 m c (ix2 b 0)).toNat < 50000) (k : S128.Idx) : ((inE0 (aE m c)) k).toNat < 50000 := by
  have e : (inE0 (aE m c)) k = g0 m c (ix2 (k 0) 0) := by
    rw [← tok_read m c (k 0)]
    exact congrArg (V1 m c (Proc.devRef .tc main_v0) : S128.Idx → BitVec 32) (ix1_eta k).symm
  rw [e]
  exact h _

variable (htok : ∀ c k, ((inE0 (aE m c)) k).toNat < 50000)

theorem W2_arg (r : Ref sig .tc) (h0 : r ∉ hostOps0_W) (h1 : r ∉ [main_v4_0, main_v4_1]) : W2 m htok c r = m ((c.tc : Thread nD τ).loc r) :=
  (W2_of m htok c r h1).trans (V1_of m c r h0)

theorem q_read (b : Fin 128) (s : Fin 400) : (W3 m htok c (Proc.devRef .tc main_v6) : S128x400.Idx → BitVec 32) (ix2 b s) = IntOp.shrsi .host (g3 m c (ix2 b s)) 7#32 := by
  have ea : (W2 m htok c main_arg3 : S128x400.Idx → BitVec 32) = g3 m c := W2_arg m c htok main_arg3 (by decide) (by decide)
  rw [← ea]
  unfold W3
  after_reads_at
theorem l_read (b : Fin 128) (s : Fin 400) : (W3 m htok c (Proc.devRef .tc main_v8) : S128x400.Idx → BitVec 32) (ix2 b s) = IntOp.andi (g3 m c (ix2 b s)) 127#32 := by
  have ea : (W2 m htok c main_arg3 : S128x400.Idx → BitVec 32) = g3 m c := W2_arg m c htok main_arg3 (by decide) (by decide)
  rw [← ea]
  unfold W3
  after_reads_at
theorem wh_read (e : Fin 256) : (W3 m htok c (Proc.devRef .tc main_v9) : S1x256.Idx → EReal) (ix2 0 e) = g9 m c (ix1 e) := by
  have ea : (W2 m htok c main_arg9 : S256.Idx → EReal) = g9 m c := W2_arg m c htok main_arg9 (by decide) (by decide)
  rw [← ea]
  unfold W3
  after_reads_at
theorem ws_read (e : Fin 256) : (W3 m htok c (Proc.devRef .tc main_v10) : S1x256.Idx → EReal) (ix2 0 e) = g10 m c (ix1 e) := by
  have ea : (W2 m htok c main_arg10 : S256.Idx → EReal) = g10 m c := W2_arg m c htok main_arg10 (by decide) (by decide)
  rw [← ea]
  unfold W3
  after_reads_at
theorem v_read (e : Fin 256) : (W3 m htok c (Proc.devRef .tc main_v11) : S256x1.Idx → EReal) (ix2 e 0) = g12 m c (ix1 e) := by
  have ea : (W2 m htok c main_arg12 : S256.Idx → EReal) = g12 m c := W2_arg m c htok main_arg12 (by decide) (by decide)
  rw [← ea]
  unfold W3
  after_reads_at
theorem attb_read : (W3 m htok c (Proc.devRef .tc main_v12) : S1x1.Idx → EReal) (ix2 0 0) = g11 m c (ix1 0) := by
  have ea : (W2 m htok c main_arg11 : S1.Idx → EReal) = g11 m c := W2_arg m c htok main_arg11 (by decide) (by decide)
  rw [← ea]
  unfold W3
  after_reads_at
theorem gwh_read (e : Fin 256) : (W3 m htok c (Proc.devRef .tc main_v13) : S1x256.Idx → EReal) (ix2 0 e) = g13 m c (ix2 0 ⟨e.val, by omega⟩) := by
  have ea : (W2 m htok c main_arg13 : S1x640.Idx → EReal) = g13 m c := W2_arg m c htok main_arg13 (by decide) (by decide)
  rw [← ea]
  unfold W3
  after_reads_at
theorem gwc_read (e : Fin 256) : (W3 m htok c (Proc.devRef .tc main_v14) : S1x256.Idx → EReal) (ix2 0 e) = g13 m c (ix2 0 ⟨256 + e.val, by omega⟩) := by
  have ea : (W2 m htok c main_arg13 : S1x640.Idx → EReal) = g13 m c := W2_arg m c htok main_arg13 (by decide) (by decide)
  rw [← ea]
  unfold W3
  after_reads_at
theorem gwx_read (e : Fin 128) : (W3 m htok c (Proc.devRef .tc main_v15) : S1x128.Idx → EReal) (ix2 0 e) = g13 m c (ix2 0 ⟨512 + e.val, by omega⟩) := by
  have ea : (W2 m htok c main_arg13 : S1x640.Idx → EReal) = g13 m c := W2_arg m c htok main_arg13 (by decide) (by decide)
  rw [← ea]
  unfold W3
  after_reads_at
theorem genb_read : (W3 m htok c (Proc.devRef .tc main_v16) : S1x1.Idx → EReal) (ix2 0 0) = g14 m c (ix1 0) := by
  have ea : (W2 m htok c main_arg14 : S1.Idx → EReal) = g14 m c := W2_arg m c htok main_arg14 (by decide) (by decide)
  rw [← ea]
  unfold W3
  after_reads_at
theorem ohwh_read (j : Fin 128) (e : Fin 256) : (W3 m htok c (Proc.devRef .tc main_v17) : S128x256.Idx → EReal) (ix2 j e) = g15 m c (ix2 j ⟨e.val, by omega⟩) := by
  have ea : (W2 m htok c main_arg15 : S128x512.Idx → EReal) = g15 m c := W2_arg m c htok main_arg15 (by decide) (by decide)
  rw [← ea]
  unfold W3
  after_reads_at
theorem ohwc_read (j : Fin 128) (e : Fin 256) : (W3 m htok c (Proc.devRef .tc main_v18) : S128x256.Idx → EReal) (ix2 j e) = g15 m c (ix2 j ⟨256 + e.val, by omega⟩) := by
  have ea : (W2 m htok c main_arg15 : S128x512.Idx → EReal) = g15 m c := W2_arg m c htok main_arg15 (by decide) (by decide)
  rw [← ea]
  unfold W3
  after_reads_at
theorem ohb_read (j : Fin 128) : (W3 m htok c (Proc.devRef .tc main_v19) : S1x128.Idx → EReal) (ix2 0 j) = g16 m c (ix1 j) := by
  have ea : (W2 m htok c main_arg16 : S128.Idx → EReal) = g16 m c := W2_arg m c htok main_arg16 (by decide) (by decide)
  rw [← ea]
  unfold W3
  after_reads_at

theorem outvb_read (k : Fin 50000) : (W5 m htok c (Proc.devRef .tc main_v22) : S1x50000.Idx → EReal) (ix2 0 k) = g18 m c (ix1 k) := by
  have ea : (W4 m htok c main_arg18 : S50000.Idx → EReal) = g18 m c :=
    (W4_of m htok c main_arg18 (by decide)).trans ((W3_of m htok c main_arg18 (by decide)).trans (W2_arg m c htok main_arg18 (by decide) (by decide)))
  rw [← ea]
  unfold W5
  after_reads_at
theorem tid_read (b : Fin 128) (k : Fin 51200) : (W5 m htok c (Proc.devRef .tc main_v21) : S128x51200.Idx → EReal) (ix2 b k)
    = outA19 (aA m htok c) (ix2 ⟨b.val * 400 + k.val / 128, by omega⟩ ⟨k.val % 128, by omega⟩) := by
  rw [← W4_out3]
  unfold W5
  after_reads_at
theorem pgen_read (x) (b : Fin 128) : (W7 m htok c x (Proc.devRef .tc main_v24) : S128x1.Idx → EReal) (ix2 b 0) = outA17 (aA m htok c) (ix2 b 0) := by
  have ea : W6 m htok c x main_v20_1 = outA17 (aA m htok c) := (W6_of m htok c x main_v20_1 (by decide)).trans ((W5_of m htok c main_v20_1 (by decide)).trans (W4_out1 m htok c))
  rw [← ea]
  unfold W7
  after_reads_at

/-- The precondition puts the tokens in range. -/
theorem htok_of_pre [hPre_ids_in_range : Cert.Pre_ids_in_range.Facts] (h : Pre_KernelIdeal m) (c : Dev nD) (k : S128.Idx) : ((inE0 (aE m c)) k).toNat < 50000 :=
  tok_range m c (Cert.Pre_ids_in_range.fn_ranges _ _ _ _ _ _ _ _ _ _ _ _ _ _ _ _ _ _ _ (h c)).1 k

theorem idx_of_pre [hPre_ids_in_range : Cert.Pre_ids_in_range.Facts] (h : Pre_KernelIdeal m) (c : Dev nD) (b : Fin 128) (s : Fin 400) : (g3 m c (ix2 b s)).toNat < 50250 :=
  (Cert.Pre_ids_in_range.fn_ranges _ _ _ _ _ _ _ _ _ _ _ _ _ _ _ _ _ _ _ (h c)).2 b s

/-- The kernel ends, with its arguments unchanged and every counter at zero. -/
theorem frame [hKernelIdeal : Cert.KernelIdeal.Facts] [hPre_ids_in_range : Cert.Pre_ids_in_range.Facts] : quiescent_KernelIdeal := fun m g h => run_args m (htok_of_pre m h) g

end Cert.KernelIdeal
-- ==== Proof.Spec.lean ====
module

public import Idealize.ShloMosaic.Lib.Pointwise

@[expose] public section

noncomputable section

namespace Cert.Spec

open Idealize.ShloMosaic

/-! The plain mathematics of one decoder step, one row of the batch at a time. -/

/-- The sigmoid. -/
def sg (x : EReal) : EReal := Ideal.div 1 (1 + Ideal.exp (-x))

/-- One gate row: a product with a row of weights and its bias. -/
def lin {n : ℕ} (x w : Fin n → EReal) (b : EReal) : EReal := (∑ e : Fin n, x e * w e) + b

/-- The three parts of a GRU cell, from the six gate inputs and the old state. -/
def cell (ir iz inn hr hz hn h : EReal) : EReal :=
  (1 - sg (iz + hz)) * Ideal.tanh (inn + sg (ir + hr) * hn) + sg (iz + hz) * h

/-- The largest of finitely many values. -/
def top {n : ℕ} (a : Fin n → EReal) : EReal := Finset.univ.fold max ⊥ a

/-- The softmax of finitely many values, at `k`. -/
def soft {n : ℕ} (a : Fin n → EReal) (k : Fin n) : EReal :=
  Ideal.exp (a k - top a) * Ideal.div 1 (∑ j : Fin n, Ideal.exp (a j - top a))

/-- The score of one position: the encoder row, the row of the state's part, and the two weights. -/
def score (enc wh hs v : Fin 256 → EReal) : EReal := ∑ e : Fin 256, Ideal.tanh (enc e * wh e + hs e) * v e

/-- The nineteen inputs, the tokens and the input ids in range. -/
structure Args where
  /-- the tokens -/
  a0 : (⟨2, ![128, 1]⟩ : Shape).Idx → BitVec 32
  /-- the old state -/
  a1 : (⟨2, ![128, 256]⟩ : Shape).Idx → EReal
  /-- the encoder states -/
  a2 : (⟨3, ![128, 400, 256]⟩ : Shape).Idx → EReal
  /-- the input ids -/
  a3 : (⟨2, ![128, 400]⟩ : Shape).Idx → BitVec 32
  /-- the embedding table -/
  a4 : (⟨2, ![50000, 128]⟩ : Shape).Idx → EReal
  /-- the gate weights of the token -/
  a5 : (⟨2, ![768, 128]⟩ : Shape).Idx → EReal
  /-- the gate weights of the state -/
  a6 : (⟨2, ![768, 256]⟩ : Shape).Idx → EReal
  /-- their bias -/
  a7 : (⟨1, ![768]⟩ : Shape).Idx → EReal
  /-- their bias -/
  a8 : (⟨1, ![768]⟩ : Shape).Idx → EReal
  /-- the encoder's attention weights -/
  a9 : (⟨1, ![256]⟩ : Shape).Idx → EReal
  /-- the state's attention weights -/
  a10 : (⟨1, ![256]⟩ : Shape).Idx → EReal
  /-- the attention bias -/
  a11 : (⟨1, ![1]⟩ : Shape).Idx → EReal
  /-- the score weights -/
  a12 : (⟨1, ![256]⟩ : Shape).Idx → EReal
  /-- the weights of the generation gate -/
  a13 : (⟨2, ![1, 640]⟩ : Shape).Idx → EReal
  /-- its bias -/
  a14 : (⟨1, ![1]⟩ : Shape).Idx → EReal
  /-- the weights of the projection -/
  a15 : (⟨2, ![128, 512]⟩ : Shape).Idx → EReal
  /-- its bias -/
  a16 : (⟨1, ![128]⟩ : Shape).Idx → EReal
  /-- the vocabulary weights -/
  a17 : (⟨2, ![50000, 128]⟩ : Shape).Idx → EReal
  /-- their bias -/
  a18 : (⟨1, ![50000]⟩ : Shape).Idx → EReal
  /-- every token is a row of the table -/
  tok : ∀ b : Fin 128, (a0 (ix2 b 0)).toNat < 50000
  /-- every input id is a column of the extended vocabulary -/
  ids : ∀ (b : Fin 128) (s : Fin 400), (a3 (ix2 b s)).toNat < 50250

variable (A : Args)

/-- Column `j` of gate `g` of the three. -/
def gcol (g : Fin 3) (j : Fin 256) : Fin 768 := ⟨256 * g.val + j.val, by have := g.isLt; have := j.isLt; omega⟩

/-- The token's row of the table. -/
def emb (b e : Fin 128) : EReal := A.a4 (ix2 ⟨(A.a0 (ix2 b 0)).toNat, A.tok b⟩ e)
/-- The six gate inputs, three from the token and three from the old state. -/
def gi (b : Fin 128) (k : Fin 768) : EReal := lin (emb A b) (fun e => A.a5 (ix2 k e)) (A.a7 (ix1 k))
@[inherit_doc gi] def gh (b : Fin 128) (k : Fin 768) : EReal := lin (fun e : Fin 256 => A.a1 (ix2 b e)) (fun e => A.a6 (ix2 k e)) (A.a8 (ix1 k))
/-- The new state. -/
def hnew (b : Fin 128) (j : Fin 256) : EReal :=
  cell (gi A b (gcol 0 j)) (gi A b (gcol 1 j)) (gi A b (gcol 2 j)) (gh A b (gcol 0 j)) (gh A b (gcol 1 j)) (gh A b (gcol 2 j)) (A.a1 (ix2 b j))
/-- The attention scores. -/
def sc (b : Fin 128) (s : Fin 400) : EReal :=
  score (fun e => A.a2 (ix3 b s e)) (fun e => A.a9 (ix1 e)) (fun e => A.a10 (ix1 e) * hnew A b e + A.a11 (ix1 0)) (fun e => A.a12 (ix1 e))
/-- The attention weights. -/
def att (b : Fin 128) (s : Fin 400) : EReal := soft (sc A b) s
/-- The context. -/
def ctx (b : Fin 128) (e : Fin 256) : EReal := ∑ s : Fin 400, A.a2 (ix3 b s e) * att A b s
/-- The projection of state and context. -/
def proj (b j : Fin 128) : EReal :=
  (∑ e : Fin 256, hnew A b e * A.a15 (ix2 j ⟨e.val, by omega⟩)) + (∑ e : Fin 256, ctx A b e * A.a15 (ix2 j ⟨256 + e.val, by omega⟩)) + A.a16 (ix1 j)
/-- The generation gate. -/
def pgen (b : Fin 128) : EReal :=
  sg ((∑ e : Fin 256, hnew A b e * A.a13 (ix2 0 ⟨e.val, by omega⟩)) + (∑ e : Fin 256, ctx A b e * A.a13 (ix2 0 ⟨256 + e.val, by omega⟩))
    + (∑ e : Fin 128, emb A b e * A.a13 (ix2 0 ⟨512 + e.val, by omega⟩)) + A.a14 (ix1 0))
/-- The input-token distribution: the weight of column `k`. -/
def tid (b : Fin 128) (k : ℕ) : EReal := ∑ s : Fin 400, if (A.a3 (ix2 b s)).toNat = k then att A b s else 0

end Cert.Spec
-- ==== Proof.EmbedVal.lean ====
module

public import proofs.«01_k».proof.Proof.RunI
public import proofs.«01_k».proof.Proof.Spec

@[expose] public section

set_option maxRecDepth 16384

noncomputable section

namespace Cert.KernelIdeal

open Idealize.ShloMosaic Idealize.ShloMosaic.TcCoe
open Cert.KernelIdeal.Gen Cert.Spec

/-! What the first call stores, element by element. -/

theorem pay0x_apply (v : S64x1x128.Idx → EReal) (r : Fin 64) (j : Fin 128) : k0_pay1 (F := Ideal) v (ix2 r j) = v (ix3 r 0 j) := by
  pointwise [k0_pay1]

theorem pay0h_apply (v : S64x1x128.Idx → EReal) (h : S64x256.Idx → EReal) (wi : S768x128.Idx → EReal) (bi : S1x768.Idx → EReal) (wh : S768x256.Idx → EReal) (bh : S1x768.Idx → EReal)
    (r : Fin 64) (j : Fin 256) : k0_pay2 (F := Ideal) v h wi bi wh bh (ix2 r j)
      = cell (lin (fun e : Fin 128 => v (ix3 r 0 e)) (fun e => wi (ix2 (gcol 0 j) e)) (bi (ix2 0 (gcol 0 j))))
          (lin (fun e : Fin 128 => v (ix3 r 0 e)) (fun e => wi (ix2 (gcol 1 j) e)) (bi (ix2 0 (gcol 1 j))))
          (lin (fun e : Fin 128 => v (ix3 r 0 e)) (fun e => wi (ix2 (gcol 2 j) e)) (bi (ix2 0 (gcol 2 j))))
          (lin (fun e : Fin 256 => h (ix2 r e)) (fun e => wh (ix2 (gcol 0 j) e)) (bh (ix2 0 (gcol 0 j))))
          (lin (fun e : Fin 256 => h (ix2 r e)) (fun e => wh (ix2 (gcol 1 j) e)) (bh (ix2 0 (gcol 1 j))))
          (lin (fun e : Fin 256 => h (ix2 r e)) (fun e => wh (ix2 (gcol 2 j) e)) (bh (ix2 0 (gcol 2 j))))
          (h (ix2 r j)) := by
  unfold cell lin sg
  pointwise [k0_pay2, k0_pay1, gcol]
  rfl

end Cert.KernelIdeal
-- ==== Proof.EqEmbed.lean ====
module

public import proofs.«01_k».proof.Proof.HostVal
public import proofs.«01_k».proof.Proof.EmbedVal
public import proofs.«01_k».proof.Proof.Spec

@[expose] public section

set_option maxRecDepth 16384

noncomputable section

namespace Cert.KernelIdeal

open Idealize.ShloMosaic Idealize.ShloMosaic.TcCoe Idealize.SL.Sem
open Cert.KernelIdeal.Gen Cert.Spec

/-! What the first call computes, in terms of the inputs. -/

variable (m : (ℓ : Loc nD τ sig) → Buf (Elt Ideal) ℓ) (c : Dev nD)
variable (h0 : ∀ b : Fin 128, (g0 m c (ix2 b 0)).toNat < 50000) (h3 : ∀ (b : Fin 128) (s : Fin 400), (g3 m c (ix2 b s)).toNat < 50250)

/-- The inputs. -/
abbrev gA : Args := ⟨g0 m c, g1 m c, g2 m c, g3 m c, g4 m c, g5 m c, g6 m c, g7 m c, g8 m c, g9 m c, g10 m c, g11 m c, g12 m c, g13 m c, g14 m c, g15 m c, g16 m c, g17 m c, g18 m c, h0, h3⟩

variable (htok : ∀ c k, ((inE0 (aE m c)) k).toNat < 50000)

theorem coordE : ∀ t : Fin grid0.N, (grid0.coords t 0).val = t.val := by decide +kernel

theorem tokE_at (t : Fin cfg0.N) (r : Fin 64) (b : Fin 128) (hb : b.val = 64 * t.val + r.val) :
    tokE (grid0.coords t) (inE0 (aE m c)) r = (g0 m c (ix2 b 0)).toNat := by
  unfold tokE
  rw [← inE0_at m c b]
  refine congrArg (fun k : S128.Idx => (inE0 (aE m c) k).toNat) (funext fun a => ?_)
  fin_cases a
  refine Fin.ext ?_
  have := coordE t
  show _ = b.val
  simp [this, hb]

theorem rowsE_at (t : Fin cfg0.N) (r : Fin 64) (j : Fin 128) (b : Fin 128) (hb : b.val = 64 * t.val + r.val) :
    rowsE (grid0.coords t) (inE0 (aE m c)) (htok c) (tabE m c) (ix3 r 0 j) = emb (gA m c h0 h3) b j := by
  unfold emb rowsE
  refine Eq.trans ?_ (tab_read m c _ j)
  refine congrArg (fun n : Fin 50000 => tabE m c (ix3 n 0 j)) (Fin.ext ?_)
  exact tokE_at m c t r b hb

theorem inE1_at (t : Fin cfg0.N) (r : Fin 64) (e : Fin 256) (b : Fin 128) (hb : b.val = 64 * t.val + r.val) : inE1 (aE m c) t (ix2 r e) = g1 m c (ix2 b e) := by
  have e1 : (V1 m c main_arg1 : S128x256.Idx → EReal) = g1 m c := V1_of m c main_arg1 (by decide)
  rw [← e1]
  exact congrArg (fun n : Fin 128 => (V1 m c main_arg1 : S128x256.Idx → EReal) (ix2 n e)) (Fin.ext hb.symm)
theorem inE2_eq : inE2 (aE m c) = g5 m c := V1_of m c main_arg5 (by decide)
theorem inE3_eq : inE3 (aE m c) = g6 m c := V1_of m c main_arg6 (by decide)
theorem inE4_at (k : Fin 768) : inE4 (aE m c) (ix2 0 k) = g7 m c (ix1 k) := bih_read m c k
theorem inE5_at (k : Fin 768) : inE5 (aE m c) (ix2 0 k) = g8 m c (ix1 k) := bhh_read m c k

/-- A row and a step. -/
theorem rowE (b : Fin 128) : ∃ (t : Fin cfg0.N) (r : Fin 64), b.val = 64 * t.val + r.val :=
  ⟨⟨b.val / 64, stepE64_lt b⟩, ⟨b.val % 64, modE64_lt b⟩, (Nat.div_add_mod b.val 64).symm⟩

/-- The first call's first output is the new state. -/
theorem outE6_eq (b : Fin 128) (j : Fin 256) : outE6 (aE m c) (tabE m c) (htok c) (ix2 b j) = hnew (gA m c h0 h3) b j := by
  obtain ⟨t, r, hb⟩ := rowE b
  refine (outE6_at (aE m c) (tabE m c) (htok c) t r j (ix2 b j) hb rfl).trans ?_
  unfold valE6
  refine (pay0h_apply _ _ _ _ _ _ r j).trans ?_
  unfold hnew gi gh
  simp only [rowsE_at m c h0 h3 htok t r _ b hb, inE1_at m c t r _ b hb, inE2_eq, inE3_eq, inE4_at, inE5_at]

/-- The first call's second output is the embedded token. -/
theorem outE7_eq (b : Fin 128) (j : Fin 128) : outE7 (aE m c) (tabE m c) (htok c) (ix2 b j) = emb (gA m c h0 h3) b j := by
  obtain ⟨t, r, hb⟩ := rowE b
  refine (outE7_at (aE m c) (tabE m c) (htok c) t r j (ix2 b j) hb rfl).trans ?_
  unfold valE7
  exact (pay0x_apply _ r j).trans (rowsE_at m c h0 h3 htok t r j b hb)

end Cert.KernelIdeal
-- ==== Proof.AttnVal.lean ====
module

public import proofs.«01_k».proof.Proof.RunI
public import proofs.«01_k».proof.Proof.Spec

@[expose] public section

set_option maxRecDepth 16384

noncomputable section

namespace Cert.KernelIdeal

open Idealize.ShloMosaic Idealize.ShloMosaic.TcCoe
open Cert.KernelIdeal.Gen Cert.Spec

/-! What the second call stores, element by element. -/

theorem ofBits_ninf : Ideal.ofBits FTy.f32 0xFF800000#32 = ⊥ := by simp [Ideal.ofBits, Ideal.ieee]

/-- A score of the step. -/
theorem scTA_apply (enc : S32x400x256.Idx → EReal) (h : S32x256.Idx → EReal) (wh ws : S1x256.Idx → EReal) (v : S256x1.Idx → EReal) (b : S1x1.Idx → EReal) (s : Fin 400) (n : Fin 32) :
    scTA (F := Ideal) enc h wh ws v b (ix2 s n)
      = score (fun e => enc (ix3 n s e)) (fun e => wh (ix2 0 e)) (fun e => ws (ix2 0 e) * h (ix2 n e) + b (ix2 0 0)) (fun e => v (ix2 e 0)) := by
  unfold scTA score scCol encA at0
  pointwise [k1_pay3, k1_pay4, k1_pay5, k1_pay2]
  rfl

/-- The attention weights of a row are the softmax of its scores. -/
theorem pay46_apply (sc : S400x32.Idx → EReal) (n : Fin 32) (s : Fin 400) :
    k1_pay46 (F := Ideal) sc (ix2 n s) = soft (fun t : Fin 400 => sc (ix2 t n)) s := by
  unfold soft top
  rw [← ofBits_ninf]
  pointwise [k1_pay46]

theorem pay47_apply (sc : S400x32.Idx → EReal) (n : Fin 32) (s : Fin 400) :
    k1_pay47 (F := Ideal) sc (ix2 s n) = soft (fun t : Fin 400 => sc (ix2 t n)) s := by
  rw [← pay46_apply]
  unfold k1_pay47
  generalize k1_pay46 (F := Ideal) sc = y
  pointwise []

/-- The context of a row is the weighted sum of its encoder rows. -/
theorem ctxA_apply (enc : S32x400x256.Idx → EReal) (sc : S400x32.Idx → EReal) (n : Fin 32) (e : Fin 256) :
    ctxA (F := Ideal) enc sc (ix2 n e) = ∑ s : Fin 400, enc (ix3 n s e) * soft (fun t : Fin 400 => sc (ix2 t n)) s := by
  simp only [← pay47_apply]
  unfold ctxA ctxRow encA
  generalize k1_pay47 (F := Ideal) sc = y
  pointwise []
  rfl

theorem pay89_apply (h ctx : S32x256.Idx → EReal) (w1 w2 : S128x256.Idx → EReal) (b : S1x128.Idx → EReal) (n : Fin 32) (j : Fin 128) :
    k1_pay89 (F := Ideal) (k1_pay2 h) ctx w1 w2 b (ix2 n j)
      = (∑ e : Fin 256, h (ix2 n e) * w1 (ix2 j e)) + (∑ e : Fin 256, ctx (ix2 n e) * w2 (ix2 j e)) + b (ix2 0 j) := by
  pointwise [k1_pay89, k1_pay2]

theorem pay90_apply (h ctx : S32x256.Idx → EReal) (w1 w2 : S1x256.Idx → EReal) (x : S32x128.Idx → EReal) (w3 : S1x128.Idx → EReal) (b : EReal) (n : Fin 32) (j : Fin 128) :
    k1_pay90 (F := Ideal) (k1_pay2 h) ctx w1 w2 x w3 b (ix2 n j)
      = sg ((∑ e : Fin 256, h (ix2 n e) * w1 (ix2 0 e)) + (∑ e : Fin 256, ctx (ix2 n e) * w2 (ix2 0 e)) + (∑ e : Fin 128, x (ix2 n e) * w3 (ix2 0 e)) + b) := by
  unfold sg
  pointwise [k1_pay90, k1_pay2]
  rfl

theorem sel_eq (a b : BitVec 32) (x y : EReal) : Scalar.select (IntOp.cmpi CmpIPredicate.eq a b) x y = if a = b then x else y := by
  unfold Scalar.select IntOp.cmpi
  by_cases h : a = b
  · simp [h]
  · have e : (a == b) = false := by simp [h]
    rw [if_neg h]
    simp [e]

/-- The scattered weights of a row at the quotient `q` and the remainder `l`. -/
theorem tidA_apply (xq xl : S32x400.Idx → BitVec 32) (sc : S400x32.Idx → EReal) (n : Fin 32) (q : Fin 400) (l : Fin 128) (hk : 400 * n.val + q.val < 12800) :
    tidA (F := Ideal) xq xl sc (ix2 ⟨400 * n.val + q.val, hk⟩ l)
      = ∑ s : Fin 400, (if xq (ix2 n s) = BitVec.ofNat 32 q.val then soft (fun t : Fin 400 => sc (ix2 t n)) s else 0) * (if xl (ix2 n s) = BitVec.ofNat 32 l.val then 1 else 0) := by
  have e1 : (⟨(400 * n.val + q.val) / 400, by have := n.isLt; have := q.isLt; omega⟩ : Fin 32) = n := Fin.ext (by have := q.isLt; show (400 * n.val + q.val) / 400 = n.val; omega)
  have e2 : (⟨(400 * n.val + q.val) % 400, Nat.mod_lt _ (by decide)⟩ : Fin 400) = q := Fin.ext (by have := q.isLt; show (400 * n.val + q.val) % 400 = q.val; omega)
  simp only [← pay47_apply]
  unfold tidA
  simp only [ix2_0, ix2_1, e1, e2]
  unfold tidBlk
  generalize k1_pay47 (F := Ideal) sc = y
  pointwise [k1_pay91, k1_pay92]
  refine Finset.sum_congr rfl fun x _ => ?_
  show Scalar.select (IntOp.cmpi CmpIPredicate.eq (xl (ix2 n x)) (BitVec.ofNat 32 l.val)) (Scalar.select (IntOp.cmpi CmpIPredicate.eq (xq (ix2 n x)) (BitVec.ofNat 32 q.val)) (y (ix2 x n)) 0) 0 = _
  rw [sel_eq, sel_eq]
  split
  · rw [mul_one]
  · rw [mul_zero]

end Cert.KernelIdeal
-- ==== Proof.EqAttn.lean ====
module

public import proofs.«01_k».proof.Proof.EqEmbed
public import proofs.«01_k».proof.Proof.AttnVal

@[expose] public section

set_option maxRecDepth 16384

noncomputable section

namespace Cert.KernelIdeal

open Idealize.ShloMosaic Idealize.ShloMosaic.TcCoe Idealize.SL.Sem
open Cert.KernelIdeal.Gen Cert.Spec

/-! What the second call computes, in terms of the inputs. -/

variable (m : (ℓ : Loc nD τ sig) → Buf (Elt Ideal) ℓ) (c : Dev nD)
variable (h0 : ∀ b : Fin 128, (g0 m c (ix2 b 0)).toNat < 50000) (h3 : ∀ (b : Fin 128) (s : Fin 400), (g3 m c (ix2 b s)).toNat < 50250)
variable (htok : ∀ c k, ((inE0 (aE m c)) k).toNat < 50000)

section Reads

variable (t : Fin cfg1.N) (r : Fin 32) (b : Fin 128) (hb : b.val = 32 * t.val + r.val)
include hb

theorem inA0_at (s : Fin 400) (e : Fin 256) : inA0 (aA m htok c) t (ix3 r s e) = g2 m c (ix3 b s e) := by
  have e1 : (W3 m htok c main_arg2 : S128x400x256.Idx → EReal) = g2 m c := (W3_of m htok c main_arg2 (by decide)).trans (W2_arg m c htok main_arg2 (by decide) (by decide))
  rw [← e1]
  exact congrArg (fun n : Fin 128 => (W3 m htok c main_arg2 : S128x400x256.Idx → EReal) (ix3 n s e)) (Fin.ext hb.symm)
theorem inA1_at (e : Fin 256) : inA1 (aA m htok c) t (ix2 r e) = hnew (gA m c h0 h3) b e := by
  have e1 : (W3 m htok c main_v4_0 : S128x256.Idx → EReal) = outE6 (aE m c) (tabE m c) (htok c) := (W3_of m htok c main_v4_0 (by decide)).trans (W2_out0 m htok c)
  rw [← outE6_eq m c h0 h3 htok, ← e1]
  exact congrArg (fun n : Fin 128 => (W3 m htok c main_v4_0 : S128x256.Idx → EReal) (ix2 n e)) (Fin.ext hb.symm)
theorem inA2_at (e : Fin 128) : inA2 (aA m htok c) t (ix2 r e) = emb (gA m c h0 h3) b e := by
  have e1 : (W3 m htok c main_v4_1 : S128x128.Idx → EReal) = outE7 (aE m c) (tabE m c) (htok c) := (W3_of m htok c main_v4_1 (by decide)).trans (W2_out1 m htok c)
  rw [← outE7_eq m c h0 h3 htok, ← e1]
  exact congrArg (fun n : Fin 128 => (W3 m htok c main_v4_1 : S128x128.Idx → EReal) (ix2 n e)) (Fin.ext hb.symm)
theorem inA3_at (s : Fin 400) : inA3 (aA m htok c) t (ix2 r s) = IntOp.shrsi .host (g3 m c (ix2 b s)) 7#32 := by
  rw [← q_read m c htok]
  exact congrArg (fun n : Fin 128 => (W3 m htok c (Proc.devRef .tc main_v6) : S128x400.Idx → BitVec 32) (ix2 n s)) (Fin.ext hb.symm)
theorem inA4_at (s : Fin 400) : inA4 (aA m htok c) t (ix2 r s) = IntOp.andi (g3 m c (ix2 b s)) 127#32 := by
  rw [← l_read m c htok]
  exact congrArg (fun n : Fin 128 => (W3 m htok c (Proc.devRef .tc main_v8) : S128x400.Idx → BitVec 32) (ix2 n s)) (Fin.ext hb.symm)

end Reads

theorem inA5_at (e : Fin 256) : inA5 (aA m htok c) (ix2 0 e) = g9 m c (ix1 e) := wh_read m c htok e
theorem inA6_at (e : Fin 256) : inA6 (aA m htok c) (ix2 0 e) = g10 m c (ix1 e) := ws_read m c htok e
theorem inA7_at (e : Fin 256) : inA7 (aA m htok c) (ix2 e 0) = g12 m c (ix1 e) := v_read m c htok e
theorem inA8_at : inA8 (aA m htok c) (ix2 0 0) = g11 m c (ix1 0) := attb_read m c htok
theorem inA9_at (e : Fin 256) : inA9 (aA m htok c) (ix2 0 e) = g13 m c (ix2 0 ⟨e.val, by omega⟩) := gwh_read m c htok e
theorem inA10_at (e : Fin 256) : inA10 (aA m htok c) (ix2 0 e) = g13 m c (ix2 0 ⟨256 + e.val, by omega⟩) := gwc_read m c htok e
theorem inA11_at (e : Fin 128) : inA11 (aA m htok c) (ix2 0 e) = g13 m c (ix2 0 ⟨512 + e.val, by omega⟩) := gwx_read m c htok e
theorem inA12_at : at0 (inA12 (aA m htok c)) = g14 m c (ix1 0) := genb_read m c htok
theorem inA13_at (j : Fin 128) (e : Fin 256) : inA13 (aA m htok c) (ix2 j e) = g15 m c (ix2 j ⟨e.val, by omega⟩) := ohwh_read m c htok j e
theorem inA14_at (j : Fin 128) (e : Fin 256) : inA14 (aA m htok c) (ix2 j e) = g15 m c (ix2 j ⟨256 + e.val, by omega⟩) := ohwc_read m c htok j e
theorem inA15_at (j : Fin 128) : inA15 (aA m htok c) (ix2 0 j) = g16 m c (ix1 j) := ohb_read m c htok j

/-- A row and a step. -/
theorem rowA (b : Fin 128) : ∃ (t : Fin cfg1.N) (r : Fin 32), b.val = 32 * t.val + r.val :=
  ⟨⟨b.val / 32, stepA32_lt b⟩, ⟨b.val % 32, modA32_lt b⟩, (Nat.div_add_mod b.val 32).symm⟩

theorem scA_eq (t : Fin cfg1.N) (r : Fin 32) (b : Fin 128) (hb : b.val = 32 * t.val + r.val) :
    (fun s : Fin 400 => scA (aA m htok c) t (ix2 s r)) = sc (gA m c h0 h3) b := by
  funext s
  refine (scTA_apply _ _ _ _ _ _ s r).trans ?_
  unfold sc
  simp only [inA0_at m c htok t r b hb, inA1_at m c h0 h3 htok t r b hb, inA5_at, inA6_at, inA7_at, inA8_at]

theorem cxA_eq (t : Fin cfg1.N) (r : Fin 32) (b : Fin 128) (hb : b.val = 32 * t.val + r.val) (e : Fin 256) :
    cxA (aA m htok c) t (ix2 r e) = ctx (gA m c h0 h3) b e := by
  refine (ctxA_apply _ _ r e).trans ?_
  unfold ctx att
  rw [scA_eq m c h0 h3 htok t r b hb]
  simp only [inA0_at m c htok t r b hb]

/-- The attention weights. -/
theorem outA18_eq (b : Fin 128) (s : Fin 400) : outA18 (aA m htok c) (ix2 b s) = att (gA m c h0 h3) b s := by
  obtain ⟨t, r, hb⟩ := rowA b
  refine (outA18_at (aA m htok c) t r s (ix2 b s) hb rfl).trans ?_
  refine (pay46_apply _ r s).trans ?_
  unfold att
  rw [scA_eq m c h0 h3 htok t r b hb]

/-- The projection of state and context. -/
theorem outA16_eq (b j : Fin 128) : outA16 (aA m htok c) (ix2 b j) = proj (gA m c h0 h3) b j := by
  obtain ⟨t, r, hb⟩ := rowA b
  refine (outA16_at (aA m htok c) t r j (ix2 b j) hb rfl).trans ?_
  refine (pay89_apply _ _ _ _ _ r j).trans ?_
  unfold proj
  simp only [inA1_at m c h0 h3 htok t r b hb, cxA_eq m c h0 h3 htok t r b hb, inA13_at, inA14_at, inA15_at]

/-- The generation gate, the same in every column. -/
theorem outA17_eq (b j : Fin 128) : outA17 (aA m htok c) (ix2 b j) = pgen (gA m c h0 h3) b := by
  obtain ⟨t, r, hb⟩ := rowA b
  refine (outA17_at (aA m htok c) t r j (ix2 b j) hb rfl).trans ?_
  refine (pay90_apply _ _ _ _ _ _ _ r j).trans ?_
  unfold pgen
  simp only [inA1_at m c h0 h3 htok t r b hb, inA2_at m c h0 h3 htok t r b hb, cxA_eq m c h0 h3 htok t r b hb, inA9_at, inA10_at, inA11_at, inA12_at]

theorem shr7 (x : BitVec 32) (h : x.toNat < 50250) : (IntOp.shrsi .host x 7#32).toNat = x.toNat / 128 := by
  have hm : x.msb = false := by rw [BitVec.msb_eq_false_iff_two_mul_lt]; omega
  show (BitVec.sshiftRight x 7).toNat = _
  rw [BitVec.sshiftRight_eq_of_msb_false hm, BitVec.toNat_ushiftRight, Nat.shiftRight_eq_div_pow]

theorem and127 (x : BitVec 32) : (IntOp.andi x 127#32).toNat = x.toNat % 128 := by
  show (x &&& 127#32).toNat = _
  rw [BitVec.toNat_and]
  exact Nat.and_two_pow_sub_one_eq_mod x.toNat 7

/-- The two words of an input id name its column. -/
theorem word_iff (x : BitVec 32) (h : x.toNat < 50250) (k : ℕ) (hk : k < 51200) :
    (IntOp.shrsi .host x 7#32 = BitVec.ofNat 32 (k / 128) ∧ IntOp.andi x 127#32 = BitVec.ofNat 32 (k % 128)) ↔ x.toNat = k := by
  rw [← BitVec.toNat_inj, ← BitVec.toNat_inj, shr7 x h, and127, BitVec.toNat_ofNat, BitVec.toNat_ofNat, Nat.mod_eq_of_lt (by omega), Nat.mod_eq_of_lt (a := k % 128) (by omega)]
  omega

/-- The input-token distribution, at column `k`. -/
theorem outA19_eq (b : Fin 128) (k : ℕ) (hk : k < 51200) (i : S51200x128.Idx) (hi0 : (i 0).val = b.val * 400 + k / 128) (hi1 : (i 1).val = k % 128) :
    outA19 (aA m htok c) i = tid (gA m c h0 h3) b k := by
  obtain ⟨t, r, hb⟩ := rowA b
  have hr := r.isLt
  have hq : k / 128 < 400 := by omega
  have hl : k % 128 < 128 := Nat.mod_lt _ (by decide)
  have hk2 : 400 * r.val + k / 128 < 12800 := by omega
  refine (outA19_at (aA m htok c) t ⟨400 * r.val + k / 128, hk2⟩ ⟨k % 128, hl⟩ i (by rw [hi0]; show _ = 12800 * t.val + (400 * r.val + k / 128); omega) hi1).trans ?_
  refine (tidA_apply _ _ _ r ⟨k / 128, hq⟩ ⟨k % 128, hl⟩ hk2).trans ?_
  unfold tid att
  rw [scA_eq m c h0 h3 htok t r b hb]
  refine Finset.sum_congr rfl fun s _ => ?_
  rw [inA3_at m c htok t r b hb, inA4_at m c htok t r b hb]
  have w := word_iff (g3 m c (ix2 b s)) (h3 b s) k hk
  by_cases e : (g3 m c (ix2 b s)).toNat = k
  · rw [if_pos (w.2 e).1, if_pos (w.2 e).2, mul_one]
    exact (if_pos e).symm
  · rw [if_neg (c := (g3 m c (ix2 b s)).toNat = k) e]
    by_cases e1 : IntOp.shrsi .host (g3 m c (ix2 b s)) 7#32 = BitVec.ofNat 32 (k / 128)
    · rw [if_neg (c := IntOp.andi (g3 m c (ix2 b s)) 127#32 = _) fun e2 => e (w.1 ⟨e1, e2⟩), mul_zero]
    · rw [if_neg e1, zero_mul]

end Cert.KernelIdeal
-- ==== Proof.VocabBlk.lean ====
module

public import proofs.«01_k».proof.Proof.VocabDatI
public import Idealize.ShloMosaic.Lib.Pipeline.ValueKit.Geometry
public import Idealize.ShloMosaic.Lib.Pointwise

@[expose] public section

set_option maxRecDepth 16384

noncomputable section

namespace Cert.KernelIdeal

open Idealize.ShloMosaic Idealize.ShloMosaic.TcCoe
open Cert.KernelIdeal.Gen

variable {F : FTy → Type} [FloatOps F] [Named F]

/-! What a fetched block holds, element by element. -/

variable {c : Dev nD} (A : (w : Fin cfg2.W) → Buf (Elt F) ((cfg2.win w).arr.view.loc (c : Thread nD τ)))

theorem xsize1 : ∀ t : Fin grid2.N, t.val < 13 → win2_1.xsize (grid2.coords t) 0 = min 4096 (50000 - 4096 * t.val) ∧ win2_1.xsize (grid2.coords t) 1 = 128 := by decide +kernel
theorem index1 : ∀ t : Fin grid2.N, t.val < 13 → cc2_transform_1 (grid2.coords t) 0 = t.val ∧ cc2_transform_1 (grid2.coords t) 1 = 0 := by decide +kernel
theorem xsize2 : ∀ t : Fin grid2.N, t.val < 13 → win2_2.xsize (grid2.coords t) 0 = 1 ∧ win2_2.xsize (grid2.coords t) 1 = min 4096 (50000 - 4096 * t.val) := by decide +kernel
theorem index2 : ∀ t : Fin grid2.N, t.val < 13 → cc2_transform_2 (grid2.coords t) 0 = 0 ∧ cc2_transform_2 (grid2.coords t) 1 = t.val := by decide +kernel
theorem xsize4 : ∀ t : Fin grid2.N, 13 ≤ t.val → win2_4.xsize (grid2.coords t) 0 = 128 ∧ win2_4.xsize (grid2.coords t) 1 = min 4096 (51200 - 4096 * (t.val - 13)) := by decide +kernel
theorem index4 : ∀ t : Fin grid2.N, 13 ≤ t.val → cc2_transform_4 (grid2.coords t) 0 = 0 ∧ cc2_transform_4 (grid2.coords t) 1 = t.val - 13 := by decide +kernel

/-- The rows of the vocabulary matrix that step `t` works on. -/
theorem fl1_apply (t : Fin cfg2.N) (ht : t.val < 13) (d) (j : Fin 4096) (e : Fin 128) (h : 4096 * t.val + j.val < 50000) :
    fl A 1 t d (ix2 j e) = (A 1 : S50000x128.Idx → F .f32) (ix2 ⟨4096 * t.val + j.val, h⟩ e) := by
  unfold fl Pipeline.Window.fill
  have hm : (cfg2.win 1).moved (cfg2.grid.coords t) (ix2 j e) = true := by
    rw [Pipeline.Window.moved_iff]
    intro a
    obtain ⟨x0, x1⟩ := xsize1 t ht
    match a with
    | ⟨0, _⟩ => exact lt_of_lt_of_eq (lt_min j.isLt (by show j.val < _; omega)) x0.symm
    | ⟨1, _⟩ => exact lt_of_lt_of_eq e.isLt x1.symm
  rw [dif_pos hm]
  refine congrArg (A 1 : S50000x128.Idx → F .f32) (funext fun a => Fin.ext ?_)
  obtain ⟨x0, x1⟩ := index1 t ht
  match a with
  | ⟨0, _⟩ =>
    refine (ValueKit.view_emb_slice_whole_unit_val main_arg17 _ _ _ _ _).trans ?_
    show cc2_transform_1 (grid2.coords t) 0 * 4096 + j.val = 4096 * t.val + j.val
    rw [x0]; omega
  | ⟨1, _⟩ =>
    refine (ValueKit.view_emb_slice_whole_unit_val main_arg17 _ _ _ _ _).trans ?_
    show cc2_transform_1 (grid2.coords t) 1 * 128 + e.val = e.val
    rw [x1]; omega

/-- The bias entries that step `t` works on. -/
theorem fl2_apply (t : Fin cfg2.N) (ht : t.val < 13) (d) (z : Fin 1) (j : Fin 4096) (h : 4096 * t.val + j.val < 50000) :
    fl A 2 t d (ix2 z j) = (A 2 : S1x50000.Idx → F .f32) (ix2 z ⟨4096 * t.val + j.val, h⟩) := by
  unfold fl Pipeline.Window.fill
  have hm : (cfg2.win 2).moved (cfg2.grid.coords t) (ix2 z j) = true := by
    rw [Pipeline.Window.moved_iff]
    intro a
    obtain ⟨x0, x1⟩ := xsize2 t ht
    match a with
    | ⟨0, _⟩ => exact lt_of_lt_of_eq z.isLt x0.symm
    | ⟨1, _⟩ => exact lt_of_lt_of_eq (lt_min j.isLt (by show j.val < _; omega)) x1.symm
  rw [dif_pos hm]
  refine congrArg (A 2 : S1x50000.Idx → F .f32) (funext fun a => Fin.ext ?_)
  obtain ⟨x0, x1⟩ := index2 t ht
  match a with
  | ⟨0, _⟩ =>
    refine (ValueKit.view_emb_slice_whole_unit_val main_v22 _ _ _ _ _).trans ?_
    show cc2_transform_2 (grid2.coords t) 0 * 1 + z.val = z.val
    rw [x0]; omega
  | ⟨1, _⟩ =>
    refine (ValueKit.view_emb_slice_whole_unit_val main_v22 _ _ _ _ _).trans ?_
    show cc2_transform_2 (grid2.coords t) 1 * 4096 + j.val = 4096 * t.val + j.val
    rw [x1]; omega

/-- The input-token distribution's columns that step `t` works on. -/
theorem fl4_apply (t : Fin cfg2.N) (ht : 13 ≤ t.val) (d) (r : Fin 128) (j : Fin 4096) (h : 4096 * (t.val - 13) + j.val < 51200) :
    fl A 4 t d (ix2 r j) = (A 4 : S128x51200.Idx → F .f32) (ix2 r ⟨4096 * (t.val - 13) + j.val, h⟩) := by
  unfold fl Pipeline.Window.fill
  have hm : (cfg2.win 4).moved (cfg2.grid.coords t) (ix2 r j) = true := by
    rw [Pipeline.Window.moved_iff]
    intro a
    obtain ⟨x0, x1⟩ := xsize4 t ht
    match a with
    | ⟨0, _⟩ => exact lt_of_lt_of_eq r.isLt x0.symm
    | ⟨1, _⟩ => exact lt_of_lt_of_eq (lt_min j.isLt (by show j.val < _; omega)) x1.symm
  rw [dif_pos hm]
  refine congrArg (A 4 : S128x51200.Idx → F .f32) (funext fun a => Fin.ext ?_)
  obtain ⟨x0, x1⟩ := index4 t ht
  match a with
  | ⟨0, _⟩ =>
    refine (ValueKit.view_emb_slice_whole_unit_val main_v21 _ _ _ _ _).trans ?_
    show cc2_transform_4 (grid2.coords t) 0 * 128 + r.val = r.val
    rw [x0]; omega
  | ⟨1, _⟩ =>
    refine (ValueKit.view_emb_slice_whole_unit_val main_v21 _ _ _ _ _).trans ?_
    show cc2_transform_4 (grid2.coords t) 1 * 4096 + j.val = 4096 * (t.val - 13) + j.val
    rw [x1]; omega

/-- The block of an uncut window is its whole array. -/
theorem fl0_apply (t : Fin cfg2.N) (d) (r e : Fin 128) : fl A 0 t d (ix2 r e) = (A 0 : S128x128.Idx → F .f32) (ix2 r e) := by
  refine congrArg (A 0 : S128x128.Idx → F .f32) (funext fun a => Fin.ext ?_)
  match a with
  | ⟨0, _⟩ =>
    refine (ValueKit.view_emb_slice_whole_unit_val main_v20_0 _ _ _ _ _).trans ?_
    show 0 * 128 + r.val = r.val
    omega
  | ⟨1, _⟩ =>
    refine (ValueKit.view_emb_slice_whole_unit_val main_v20_0 _ _ _ _ _).trans ?_
    show 0 * 128 + e.val = e.val
    omega

theorem fl3_apply (t : Fin cfg2.N) (d) (r e : Fin 128) : fl A 3 t d (ix2 r e) = (A 3 : S128x128.Idx → F .f32) (ix2 r e) := by
  refine congrArg (A 3 : S128x128.Idx → F .f32) (funext fun a => Fin.ext ?_)
  match a with
  | ⟨0, _⟩ =>
    refine (ValueKit.view_emb_slice_whole_unit_val main_v20_1 _ _ _ _ _).trans ?_
    show 0 * 128 + r.val = r.val
    omega
  | ⟨1, _⟩ =>
    refine (ValueKit.view_emb_slice_whole_unit_val main_v20_1 _ _ _ _ _).trans ?_
    show 0 * 128 + e.val = e.val
    omega

/-- The first column of the generation probabilities. -/
theorem col0_apply (x : S128x128.Idx → F .f32) (r : Fin 128) (z : Fin 1) : col0 x (ix2 r z) = x (ix2 r 0) := by
  refine congrArg x (funext fun a => Fin.ext ?_)
  match a with
  | ⟨0, _⟩ => show 0 + 1 * r.val = r.val; omega
  | ⟨1, _⟩ => show 0 + 1 * z.val = 0; omega

theorem off5_val : ∀ t : Fin grid2.N, 13 ≤ t.val → k2_off5 (grid2.coords t) 0 = t.val - 13 ∧ k2_off5 (grid2.coords t) 1 = 0 ∧ k2_off5 (grid2.coords t) 2 = 0 := by decide +kernel

/-- The slot of the logits scratch that a second-phase step reads. -/
theorem slotAt_apply (t : Fin cfg2.N) (ht : 13 ≤ t.val) (h3) (lg : S13x128x4096.Idx → F .f32) (z : Fin 1) (r : Fin 128) (j : Fin 4096) (hn : t.val - 13 < 13) :
    slotAt (grid2.coords t) h3 lg (ix3 z r j) = lg (ix3 ⟨t.val - 13, hn⟩ r j) := by
  obtain ⟨o0, o1, o2⟩ := off5_val t ht
  refine congrArg lg (funext fun a => Fin.ext ?_)
  match a with
  | ⟨0, _⟩ => show k2_off5 (grid2.coords t) 0 + 1 * z.val = t.val - 13; omega
  | ⟨1, _⟩ => show k2_off5 (grid2.coords t) 1 + 1 * r.val = r.val; omega
  | ⟨2, _⟩ => show k2_off5 (grid2.coords t) 2 + 1 * j.val = j.val; omega

end Cert.KernelIdeal
-- ==== Proof.Online.lean ====
module

public import Idealize.ShloMosaic.PureOps.Ideal
public import Mathlib.Data.EReal.Operations

@[expose] public section

noncomputable section

/-! The running softmax over the extended reals: a running maximum and a running sum, taken chunk by chunk, are the maximum and the sum of all terms. No
finiteness is assumed. -/

namespace Cert.Online

open Idealize.ShloMosaic

/-- The maximum of the first `n` terms (`⊥` of none). -/
def rmax (L : ℕ → EReal) (n : ℕ) : EReal := (Finset.range n).sup L

/-- The sum of the exponentials of the first `n` terms, each less their maximum. -/
def rsum (L : ℕ → EReal) (n : ℕ) : EReal := ∑ k ∈ Finset.range n, Ideal.exp (L k - rmax L n)

theorem exp_nonneg (x : EReal) : 0 ≤ Ideal.exp x := by
  induction x using EReal.rec with
  | bot => exact le_refl _
  | top => exact le_top
  | coe r => rw [Ideal.exp_coe]; exact EReal.coe_nonneg.mpr (Real.exp_pos r).le

/-- Rescaling a term from one maximum to a larger one. -/
theorem exp_rescale {a m n : EReal} (ha : a ≤ m) (hm : m ≤ n) : Ideal.exp (a - m) * Ideal.exp (m - n) = Ideal.exp (a - n) := by
  induction n using EReal.rec with
  | top =>
    have h : ∀ x : EReal, Ideal.exp (x - ⊤) = 0 := fun x => by rw [EReal.sub_top]; rfl
    rw [h, h, mul_zero]
  | bot =>
    have hm' : m = ⊥ := le_bot_iff.mp hm
    subst hm'
    have ha' : a = ⊥ := le_bot_iff.mp ha
    subst ha'
    simp
  | coe n =>
    induction m using EReal.rec with
    | top => exact absurd (lt_of_lt_of_le (EReal.coe_lt_top n) hm) (lt_irrefl _)
    | bot =>
      have ha' : a = ⊥ := le_bot_iff.mp ha
      subst ha'
      simp
    | coe m =>
      induction a using EReal.rec with
      | top => exact absurd (lt_of_lt_of_le (EReal.coe_lt_top m) ha) (lt_irrefl _)
      | bot => simp
      | coe a =>
        rw [← EReal.coe_sub, ← EReal.coe_sub, ← EReal.coe_sub, Ideal.exp_coe, Ideal.exp_coe, Ideal.exp_coe, ← EReal.coe_mul, ← Real.exp_add]
        congr 2; ring

/-- A factor on the right goes into a sum of non-negative terms. -/
theorem sum_mul_of_nonneg {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

theorem rmax_succ (L : ℕ → EReal) (n c : ℕ) : rmax L (n + c) = max (rmax L n) (Finset.univ.sup fun j : Fin c => L (n + j.val)) := by
  unfold rmax
  apply le_antisymm
  · refine Finset.sup_le fun k hk => ?_
    by_cases h : k < n
    · exact le_max_of_le_left (Finset.le_sup (f := L) (Finset.mem_range.mpr h))
    · have hk' := Finset.mem_range.mp hk
      refine le_max_of_le_right ?_
      have := Finset.le_sup (f := fun j : Fin c => L (n + j.val)) (Finset.mem_univ ⟨k - n, by omega⟩)
      simpa [Nat.add_sub_cancel' (Nat.le_of_not_lt h)] using this
  · refine max_le (Finset.sup_mono (fun k hk => Finset.mem_range.mpr (lt_of_lt_of_le (Finset.mem_range.mp hk) (Nat.le_add_right _ _)))) ?_
    exact Finset.sup_le fun j _ => Finset.le_sup (f := L) (Finset.mem_range.mpr (by omega))

/-- One chunk of the running sum: the old sum rescaled to the new maximum, plus the chunk's terms. -/
theorem rsum_succ (L : ℕ → EReal) (n c : ℕ) :
    rsum L (n + c) = rsum L n * Ideal.exp (rmax L n - rmax L (n + c)) + ∑ j : Fin c, Ideal.exp (L (n + j.val) - rmax L (n + c)) := by
  unfold rsum
  rw [Finset.sum_range_add, sum_mul_of_nonneg _ _ (fun _ => exp_nonneg _), Fin.sum_univ_eq_sum_range (fun j => Ideal.exp (L (n + j) - rmax L (n + c))) c]
  congr 1
  refine Finset.sum_congr rfl fun k hk => (exp_rescale ?_ ?_).symm
  · exact Finset.le_sup (f := L) hk
  · rw [rmax_succ]; exact le_max_left _ _

theorem rmax_zero (L : ℕ → EReal) : rmax L 0 = ⊥ := rfl
theorem rsum_zero (L : ℕ → EReal) : rsum L 0 = 0 := rfl

/-- Terms that are `⊥` from `n` on add nothing to the maximum … -/
theorem rmax_ext (L : ℕ → EReal) (n c : ℕ) (h : ∀ k, n ≤ k → L k = ⊥) : rmax L (n + c) = rmax L n := by
  rw [rmax_succ]
  refine max_eq_left (Finset.sup_le fun j _ => ?_)
  rw [h _ (Nat.le_add_right _ _)]; exact bot_le

/-- … and nothing to the sum. -/
theorem rsum_ext (L : ℕ → EReal) (n c : ℕ) (h : ∀ k, n ≤ k → L k = ⊥) : rsum L (n + c) = rsum L n := by
  unfold rsum
  rw [Finset.sum_range_add, rmax_ext L n c h]
  rw [Finset.sum_eq_zero (s := Finset.range c), add_zero]
  intro k _
  rw [h _ (Nat.le_add_right _ _), EReal.bot_sub]; rfl

/-- The maximum of the first `n` terms as a maximum over `Fin n`. -/
theorem rmax_fin (L : ℕ → EReal) (n : ℕ) : rmax L n = Finset.univ.fold max ⊥ fun j : Fin n => L j.val := by
  have h := rmax_succ L 0 n
  rw [Nat.zero_add, rmax_zero, max_eq_right bot_le] at h
  rw [h]
  simp only [Nat.zero_add]
  rfl

theorem rsum_fin (L : ℕ → EReal) (n : ℕ) : rsum L n = ∑ j : Fin n, Ideal.exp (L j.val - rmax L n) :=
  (Fin.sum_univ_eq_sum_range (fun j => Ideal.exp (L j - rmax L n)) n).symm

end Cert.Online
-- ==== Proof.VocabPay.lean ====
module

public import proofs.«01_k».proof.Proof.Gen.KernelIdeal.Skeleton
public import proofs.«01_k».proof.Proof.Online
public import Idealize.ShloMosaic.Lib.Pointwise

@[expose] public section

set_option maxRecDepth 16384

noncomputable section

namespace Cert.KernelIdeal

open Idealize.ShloMosaic Idealize.ShloMosaic.Pointwise
open Cert.KernelIdeal.Gen

/-! What the body's payloads are, element by element, over the extended reals. -/

theorem pay1_apply (r : Fin 128) (z : Fin 1) : k2_pay1 (F := Ideal) (ix2 r z) = ⊥ := by
  pointwise [k2_pay1]
  rfl

theorem pay2_apply (r : Fin 128) (z : Fin 1) : k2_pay2 (F := Ideal) (ix2 r z) = 0 := by
  pointwise [k2_pay2]

theorem named_mask : (Named.named κ "mask" 0xF149F2CA#32 : Ideal .f32) = ⊥ := rfl

/-- The column test of chunk `n`: the columns of the vocabulary. -/
theorem slt_chunk (n : ℕ) (hn : n < 13) (j : Fin 4096) :
    IntOp.cmpi CmpIPredicate.slt (BitVec.ofNat 32 j.val) (Scalar.subi (50000#32) (Scalar.muli (BitVec.ofNat 32 n) 4096#32)) = if 4096 * n + j.val < 50000 then 1#1 else 0#1 := by
  have hj : j.val < 4096 := j.isLt
  have e : Scalar.subi (50000#32) (Scalar.muli (BitVec.ofNat 32 n) 4096#32) = BitVec.ofNat 32 (50000 - 4096 * n) := by
    interval_cases n <;> rfl
  have h1 : (BitVec.ofNat 32 j.val).toInt = (j.val : Int) := by
    rw [BitVec.toInt_eq_toNat_of_lt] <;> rw [BitVec.toNat_ofNat, Nat.mod_eq_of_lt (by omega)]; omega
  have h2 : (BitVec.ofNat 32 (50000 - 4096 * n)).toInt = ((50000 - 4096 * n : ℕ) : Int) := by
    rw [BitVec.toInt_eq_toNat_of_lt] <;> rw [BitVec.toNat_ofNat, Nat.mod_eq_of_lt (by omega)]; omega
  rw [e]
  show BitVec.ofBool (BitVec.slt _ _) = _
  rw [BitVec.slt_eq_decide, h1, h2]
  by_cases h : 4096 * n + j.val < 50000
  · rw [if_pos h, decide_eq_true (by omega)]; rfl
  · rw [if_neg h, decide_eq_false (by omega)]; rfl

theorem pay8_apply (n : ℕ) (hn : n < 13) (x1 : FVec Ideal S128x128 .f32) (x2 : FVec Ideal S4096x128 .f32) (x3 : FVec Ideal S1x4096 .f32) (r : Fin 128) (j : Fin 4096) :
    k2_pay8 (F := Ideal) (BitVec.ofNat 32 n) x1 x2 x3 (ix2 r j)
      = if 4096 * n + j.val < 50000 then (∑ e : Fin 128, x1 (ix2 r e) * x2 (ix2 j e)) + x3 (ix2 0 j) else ⊥ := by
  pointwise [k2_pay8]
  rw [slt_chunk n hn j]
  split
  · rfl
  · exact named_mask

theorem pay13_apply (w : BitVec 32) (x1 : FVec Ideal S128x128 .f32) (x2 : FVec Ideal S4096x128 .f32) (x3 : FVec Ideal S1x4096 .f32) (r : Fin 128) (z : Fin 1) :
    k2_pay13 (F := Ideal) w x1 x2 x3 (ix2 r z) = Finset.univ.sup fun j : Fin 4096 => k2_pay8 (F := Ideal) w x1 x2 x3 (ix2 r j) := by
  pointwise [k2_pay13]
  rw [show Ideal.ofBits FTy.f32 4286578688#32 = ⊥ from by simp [Ideal.ofBits, Ideal.ieee]]
  rfl

theorem pay5_apply (mc m : FVec Ideal S128x1 .f32) (r : Fin 128) (z : Fin 1) : k2_pay5 (F := Ideal) mc m (ix2 r z) = max (m (ix2 r z)) (mc (ix2 r z)) := by
  pointwise [k2_pay5, k2_pay3]

theorem pay4_apply (x : FVec Ideal S128x4096 .f32) (mc m s m' : FVec Ideal S128x1 .f32) (r : Fin 128) (z : Fin 1) :
    k2_pay4 (F := Ideal) x mc m s m' (ix2 r z) = s (ix2 r z) * Ideal.exp (m' (ix2 r z) - max (m (ix2 r z)) (mc (ix2 r z)))
      + ∑ j : Fin 4096, Ideal.exp (x (ix2 r j) - max (m (ix2 r z)) (mc (ix2 r z))) := by
  obtain rfl : z = 0 := Subsingleton.elim _ _
  pointwise [k2_pay4, k2_pay3]

theorem pay6_apply (g : FVec Ideal S1x128x4096 .f32) (m s : FVec Ideal S128x1 .f32) (r : Fin 128) (j : Fin 4096) :
    k2_pay6 (F := Ideal) g m s (ix2 r j) = Ideal.exp (g (ix3 0 r j) - m (ix2 r 0)) * Ideal.div 1 (s (ix2 r 0)) := by
  pointwise [k2_pay6]

theorem pay7_apply (g : FVec Ideal S1x128x4096 .f32) (m s p : FVec Ideal S128x1 .f32) (d : FVec Ideal S128x4096 .f32) (r : Fin 128) (j : Fin 4096) :
    k2_pay7 (F := Ideal) g m s p d (ix2 r j) = Ideal.exp (g (ix3 0 r j) - m (ix2 r 0)) * Ideal.div 1 (s (ix2 r 0)) * p (ix2 r 0) + (1 - p (ix2 r 0)) * d (ix2 r j) := by
  pointwise [k2_pay7, k2_pay6]

end Cert.KernelIdeal
-- ==== Proof.VocabInv.lean ====
module

public import proofs.«01_k».proof.Proof.VocabBlk
public import proofs.«01_k».proof.Proof.VocabPay

@[expose] public section

set_option maxRecDepth 16384

noncomputable section

namespace Cert.KernelIdeal

open Idealize.ShloMosaic Idealize.ShloMosaic.TcCoe
open Cert.KernelIdeal.Gen Cert.Online

/-! What the scratch holds before each step, and what the second phase writes, over the extended reals. -/

variable {c : Dev nD} (A : (w : Fin cfg2.W) → Buf (Elt Ideal) ((cfg2.win w).arr.view.loc (c : Thread nD τ)))

/-- The five input arrays, as arrays of extended reals. -/
abbrev arr0 : S128x128.Idx → EReal := A 0
abbrev arr1 : S50000x128.Idx → EReal := A 1
abbrev arr2 : S1x50000.Idx → EReal := A 2
abbrev arr3 : S128x128.Idx → EReal := A 3
abbrev arr4 : S128x51200.Idx → EReal := A 4

/-- The logit of row `r` at column `k` of the vocabulary, `⊥` beyond it. -/
def logit (r : Fin 128) (k : ℕ) : EReal :=
  if h : k < 50000 then (∑ e : Fin 128, arr0 A (ix2 r e) * arr1 A (ix2 ⟨k, h⟩ e)) + arr2 A (ix2 0 ⟨k, h⟩) else ⊥

theorem logit_ge (r : Fin 128) (k : ℕ) (h : 50000 ≤ k) : logit A r k = ⊥ := dif_neg (by omega)

/-- The chunk of logits that a first-phase step computes. -/
theorem chunk_apply (t : Fin cfg2.N) (ht : t.val < 13) (d0 d1 d2) (r : Fin 128) (j : Fin 4096) :
    k2_pay8 (F := Ideal) (BitVec.ofNat 32 (grid2.coords t 0).val) (fl A 0 t d0) (fl A 1 t d1) (fl A 2 t d2) (ix2 r j) = logit A r (4096 * t.val + j.val) := by
  rw [coord_val t]
  refine (pay8_apply t.val ht _ _ _ r j).trans ?_
  unfold logit
  by_cases h : 4096 * t.val + j.val < 50000
  · rw [if_pos h, dif_pos h]
    refine congrArg₂ (· + ·) (Finset.sum_congr rfl fun e _ => congrArg₂ (· * ·) (fl0_apply A t d0 r e) (fl1_apply A t ht d1 j e h)) (fl2_apply A t ht d2 0 j h)
  · rw [if_neg h, dif_neg h]

/-- Before step `n > 0` (the first phase has `min n 13` chunks behind it): the running maximum, the running sum, and the logits' slots filled so far. -/
def inv (n : ℕ) (m s : S128x1.Idx → EReal) (lg : S13x128x4096.Idx → EReal) : Prop :=
  n ≠ 0 → ∀ r : Fin 128, m (ix2 r 0) = rmax (logit A r) (4096 * min n 13) ∧ s (ix2 r 0) = rsum (logit A r) (4096 * min n 13)
    ∧ ∀ (q : Fin 13) (j : Fin 4096), q.val < min n 13 → lg (ix3 q r j) = logit A r (4096 * q.val + j.val)

/-- The probability of column `k`. -/
def prob (r : Fin 128) (k : ℕ) : EReal := Ideal.exp (logit A r k - rmax (logit A r) 50000) * Ideal.div 1 (rsum (logit A r) 50000)

/-- What the second result holds at column `k`. -/
def mix (r : Fin 128) (k : ℕ) (d : EReal) : EReal :=
  prob A r k * arr3 A (ix2 r 0) + (1 - arr3 A (ix2 r 0)) * d

/-- A first-phase step on the maximum and the sum. -/
theorem step_apply (t : Fin cfg2.N) (ht : t.val < 13) (d0 d1 d2) (m s : S128x1.Idx → EReal) (lg : S13x128x4096.Idx → EReal)
    (hm : ∀ r : Fin 128, m (ix2 r 0) = rmax (logit A r) (4096 * t.val)) (hs : ∀ r : Fin 128, s (ix2 r 0) = rsum (logit A r) (4096 * t.val))
    (hl : ∀ (r : Fin 128) (q : Fin 13) (j : Fin 4096), q.val < t.val → lg (ix3 q r j) = logit A r (4096 * q.val + j.val)) :
    inv A (t.val + 1) (k2_pay5 (k2_pay13 (BitVec.ofNat 32 (grid2.coords t 0).val) (fl A 0 t d0) (fl A 1 t d1) (fl A 2 t d2)) m)
      (k2_pay4 (k2_pay8 (BitVec.ofNat 32 (grid2.coords t 0).val) (fl A 0 t d0) (fl A 1 t d1) (fl A 2 t d2))
        (k2_pay13 (BitVec.ofNat 32 (grid2.coords t 0).val) (fl A 0 t d0) (fl A 1 t d1) (fl A 2 t d2)) m s m)
      (setSlot (F := Ideal) (grid2.coords t 0).val lg (k2_pay8 (BitVec.ofNat 32 (grid2.coords t 0).val) (fl A 0 t d0) (fl A 1 t d1) (fl A 2 t d2))) := by
  intro _ r
  have hmin : min (t.val + 1) 13 = t.val + 1 := by omega
  have hmul : 4096 * (t.val + 1) = 4096 * t.val + 4096 := by omega
  rw [hmin, hmul]
  have hmax : max (m (ix2 r 0)) (k2_pay13 (F := Ideal) (BitVec.ofNat 32 (grid2.coords t 0).val) (fl A 0 t d0) (fl A 1 t d1) (fl A 2 t d2) (ix2 r 0))
      = rmax (logit A r) (4096 * t.val + 4096) := by
    rw [rmax_succ, hm r]
    refine congrArg (max _) ((pay13_apply _ _ _ _ r 0).trans ?_)
    exact congrArg _ (funext fun j => chunk_apply A t ht d0 d1 d2 r j)
  refine ⟨?_, ?_, ?_⟩
  · exact (pay5_apply _ _ r 0).trans hmax
  · refine (pay4_apply _ _ _ _ _ r 0).trans ?_
    rw [rsum_succ, ← hm r, ← hs r]
    refine congrArg₂ (· + ·) (congrArg (_ * ·) (congrArg (fun z => Ideal.exp (_ - z)) hmax)) (Finset.sum_congr rfl fun j _ => ?_)
    exact congrArg Ideal.exp (congrArg₂ (· - ·) (chunk_apply A t ht d0 d1 d2 r j) hmax)
  · intro q j hq
    unfold setSlot
    by_cases h : q.val = t.val
    · refine (if_pos (by rw [coord_val t]; exact h)).trans ?_
      refine (congrArg (k2_pay8 (F := Ideal) _ _ _ _) (ix2_eq_valueIdx r j).symm).trans ?_
      refine (chunk_apply A t ht d0 d1 d2 r j).trans ?_
      rw [h]
    · exact (if_neg (by rw [coord_val t]; exact h)).trans (hl r q j (by omega))

/-- All thirteen chunks: the maximum and the sum over the vocabulary. -/
theorem rmax_all (r : Fin 128) : rmax (logit A r) (4096 * 13) = rmax (logit A r) 50000 := rmax_ext (logit A r) 50000 3248 (logit_ge A r)
theorem rsum_all (r : Fin 128) : rsum (logit A r) (4096 * 13) = rsum (logit A r) 50000 := rsum_ext (logit A r) 50000 3248 (logit_ge A r)

/-- What is known over the extended reals. -/
def relI : Rel (F := Ideal) A where
  Inv := inv A
  R5 t X := 13 ≤ t.val → ∀ (r : Fin 128) (j : Fin 4096), X (ix2 r j) = prob A r (4096 * (t.val - 13) + j.val)
  R6 t X := 13 ≤ t.val → ∀ (r : Fin 128) (j : Fin 4096) (h : 4096 * (t.val - 13) + j.val < 51200),
    X (ix2 r j) = mix A r (4096 * (t.val - 13) + j.val) (arr4 A (ix2 r ⟨4096 * (t.val - 13) + j.val, h⟩))
  zero _ _ _ h := absurd rfl h
  idle5 t _ h h' := absurd h' (by omega)
  idle6 t _ h h' := absurd h' (by omega)
  first t d0 d1 d2 m s lg hz _ := by
    have h := step_apply A t (by omega) d0 d1 d2 (k2_pay1 (F := Ideal)) (k2_pay2 (F := Ideal)) lg
      (fun r => by rw [hz]; exact pay1_apply r 0) (fun r => by rw [hz]; exact pay2_apply r 0) (fun r q j hq => absurd hq (by omega))
    have e : t.val + 1 = 1 := by omega
    rw [e] at h; exact h
  early t d0 d1 d2 m s lg hz ht hI := by
    have hmin : min t.val 13 = t.val := by omega
    exact step_apply A t ht d0 d1 d2 m s lg (fun r => by have := (hI hz r).1; rwa [hmin] at this) (fun r => by have := (hI hz r).2.1; rwa [hmin] at this)
      (fun r q j hq => (hI hz r).2.2 q j (by omega))
  late t h3 d3 d4 m s lg ht hI := by
    have hmin : min t.val 13 = 13 := by omega
    have hN : t.val < 26 := lt_of_lt_of_eq t.isLt N_2
    have hm : ∀ r : Fin 128, m (ix2 r 0) = rmax (logit A r) 50000 := fun r => by
      have := (hI (by omega) r).1; rw [hmin] at this; exact this.trans (rmax_all A r)
    have hs : ∀ r : Fin 128, s (ix2 r 0) = rsum (logit A r) 50000 := fun r => by
      have := (hI (by omega) r).2.1; rw [hmin] at this; exact this.trans (rsum_all A r)
    have hl : ∀ (r : Fin 128) (j : Fin 4096), slotAt (F := Ideal) (grid2.coords t) h3 lg (ix3 0 r j) = logit A r (4096 * (t.val - 13) + j.val) := fun r j =>
      (slotAt_apply t ht h3 lg 0 r j (by omega)).trans ((hI (by omega) r).2.2 _ j (by rw [hmin]; show t.val - 13 < 13; omega))
    have hp : ∀ (r : Fin 128) (j : Fin 4096), Ideal.exp (slotAt (F := Ideal) (grid2.coords t) h3 lg (ix3 0 r j) - m (ix2 r 0)) * Ideal.div 1 (s (ix2 r 0))
        = prob A r (4096 * (t.val - 13) + j.val) := fun r j => by
      unfold prob; rw [← hm r, ← hs r, ← hl r j]
    refine ⟨fun hn r => ?_, fun _ r j => ?_, fun _ r j h => ?_⟩
    · have := hI (by omega) r
      rw [show min (t.val + 1) 13 = 13 from by omega]
      rw [hmin] at this; exact this
    · exact (pay6_apply _ _ _ r j).trans (hp r j)
    · refine (pay7_apply _ _ _ _ _ r j).trans ?_
      have h3' : col0 (F := Ideal) (fl A 3 t d3) (ix2 r 0) = arr3 A (ix2 r 0) := (col0_apply _ r 0).trans (fl3_apply A t d3 r 0)
      exact congrArg₂ (· + ·) (congrArg₂ (· * ·) (hp r j) h3') (congrArg₂ (· * ·) (congrArg (1 - ·) h3') (fl4_apply A t ht d4 r j h))

end Cert.KernelIdeal
-- ==== Proof.VocabOut.lean ====
module

public import proofs.«01_k».proof.Proof.VocabInv
public import Idealize.ShloMosaic.Lib.Pipeline.ValueKit

@[expose] public section

set_option maxRecDepth 16384

noncomputable section

namespace Cert.KernelIdeal

open Idealize.ShloMosaic Idealize.ShloMosaic.TcCoe
open Cert.KernelIdeal.Gen Cert.Online

/-! What the two result arrays hold in the end. -/

variable {c : Dev nD} (A : (w : Fin cfg2.W) → Buf (Elt Ideal) ((cfg2.win w).arr.view.loc (c : Thread nD τ)))

/-- The first result: the softmax of the logits. -/
def out5 : S128x50000.Idx → EReal := fun i => prob A (i 0) (i 1).val

/-- The second result: the mixture with the input-token distribution. -/
def out6 : S128x50250.Idx → EReal := fun i =>
  mix A (i 0) (i 1).val (arr4 A (ix2 (i 0) ⟨(i 1).val, lt_trans (i 1).isLt (by show 50250 < 51200; omega)⟩))

theorem flush5 : ∀ t : Fin cfg2.N, (cfg2.win 5).flush t = true → 13 ≤ t.val := (by decide +kernel : ∀ t : Fin grid2.N, win2_5.flush t = true → 13 ≤ t.val)
theorem flush6 : ∀ t : Fin cfg2.N, (cfg2.win 6).flush t = true → 13 ≤ t.val := (by decide +kernel : ∀ t : Fin grid2.N, win2_6.flush t = true → 13 ≤ t.val)
theorem index5 : ∀ t : Fin grid2.N, 13 ≤ t.val → cc2_transform_5 (grid2.coords t) 0 = 0 ∧ cc2_transform_5 (grid2.coords t) 1 = t.val - 13 := by decide +kernel
theorem index6 : ∀ t : Fin grid2.N, 13 ≤ t.val → cc2_transform_6 (grid2.coords t) 0 = 0 ∧ cc2_transform_6 (grid2.coords t) 1 = t.val - 13 := by decide +kernel
theorem xsize6 : ∀ t : Fin grid2.N, 13 ≤ t.val → win2_6.xsize (grid2.coords t) 0 = 128 ∧ win2_6.xsize (grid2.coords t) 1 = min 4096 (50250 - 4096 * (t.val - 13)) := by decide +kernel

theorem arr5_eq (G) (h : (relI A).dat.ArrAt 5 cfg2.N G) : G = out5 A := by
  obtain ⟨X, hX, hG⟩ := h.exists_exact
  rw [hG (Function.update (fun _ _ _ => Classical.arbitrary _) 5 X) fun u _ _ => by rw [Function.update_self]]
  refine Pipeline.Dat.arrAt_eq_of_covers _ 5 _ (by decide +kernel) fun t hf y => ?_
  rw [Pipeline.RDat.withAfter_after, Function.update_self]
  have ht := flush5 t hf
  obtain ⟨Y, -, hR⟩ := hX t t.isLt hf
  obtain ⟨i0, i1⟩ := index5 t ht
  have e0 : ((((cfg2.win 5).blk t).view.emb y) 0).val = (((cfg2.win 5).xinj (cfg2.grid.coords t) y) 0).val := by
    refine (ValueKit.view_emb_slice_whole_unit_val main_v23_0 _ _ _ _ _).trans ?_
    show cc2_transform_5 (grid2.coords t) 0 * 128 + (y 0).val = (y 0).val
    rw [i0]; omega
  have e1 : ((((cfg2.win 5).blk t).view.emb y) 1).val = 4096 * (t.val - 13) + (((cfg2.win 5).xinj (cfg2.grid.coords t) y) 1).val := by
    refine (ValueKit.view_emb_slice_whole_unit_val main_v23_0 _ _ _ _ _).trans ?_
    show cc2_transform_5 (grid2.coords t) 1 * 4096 + (y 1).val = 4096 * (t.val - 13) + (y 1).val
    rw [i1]; omega
  have hx : X t ((cfg2.win 5).xinj (cfg2.grid.coords t) y) = prob A (((cfg2.win 5).xinj (cfg2.grid.coords t) y) 0) (4096 * (t.val - 13) + (((cfg2.win 5).xinj (cfg2.grid.coords t) y) 1).val) := by
    refine Eq.trans (congrArg (X t) ?_) (hR ht (((cfg2.win 5).xinj (cfg2.grid.coords t) y) 0) (((cfg2.win 5).xinj (cfg2.grid.coords t) y) 1))
    funext a; match a with | ⟨0, _⟩ => rfl | ⟨1, _⟩ => rfl
  refine hx.trans ?_
  exact congrArg₂ (prob A) (Fin.ext e0.symm) e1.symm

theorem arr6_eq (G) (h : (relI A).dat.ArrAt 6 cfg2.N G) : G = out6 A := by
  obtain ⟨X, hX, hG⟩ := h.exists_exact
  rw [hG (Function.update (fun _ _ _ => Classical.arbitrary _) 6 X) fun u _ _ => by rw [Function.update_self]]
  refine Pipeline.Dat.arrAt_eq_of_covers _ 6 _ (by decide +kernel) fun t hf y => ?_
  rw [Pipeline.RDat.withAfter_after, Function.update_self]
  have ht := flush6 t hf
  obtain ⟨Y, -, hR⟩ := hX t t.isLt hf
  obtain ⟨i0, i1⟩ := index6 t ht
  obtain ⟨-, x1⟩ := xsize6 t ht
  have hy : (y 1).val < 4096 ∧ (y 1).val < 50250 - 4096 * (t.val - 13) := lt_min_iff.mp (lt_of_lt_of_eq (y 1).isLt x1)
  have e0 : ((((cfg2.win 6).blk t).view.emb y) 0).val = (((cfg2.win 6).xinj (cfg2.grid.coords t) y) 0).val := by
    refine (ValueKit.view_emb_slice_whole_unit_val main_v23_1 _ _ _ _ _).trans ?_
    show cc2_transform_6 (grid2.coords t) 0 * 128 + (y 0).val = (y 0).val
    rw [i0]; omega
  have e1 : ((((cfg2.win 6).blk t).view.emb y) 1).val = 4096 * (t.val - 13) + (((cfg2.win 6).xinj (cfg2.grid.coords t) y) 1).val := by
    refine (ValueKit.view_emb_slice_whole_unit_val main_v23_1 _ _ _ _ _).trans ?_
    show cc2_transform_6 (grid2.coords t) 1 * 4096 + (y 1).val = 4096 * (t.val - 13) + (y 1).val
    rw [i1]; omega
  have hlt : 4096 * (t.val - 13) + (((cfg2.win 6).xinj (cfg2.grid.coords t) y) 1).val < 51200 := by
    show 4096 * (t.val - 13) + (y 1).val < 51200
    omega
  have hx : X t ((cfg2.win 6).xinj (cfg2.grid.coords t) y) = mix A (((cfg2.win 6).xinj (cfg2.grid.coords t) y) 0) (4096 * (t.val - 13) + (((cfg2.win 6).xinj (cfg2.grid.coords t) y) 1).val)
      (arr4 A (ix2 (((cfg2.win 6).xinj (cfg2.grid.coords t) y) 0) ⟨4096 * (t.val - 13) + (((cfg2.win 6).xinj (cfg2.grid.coords t) y) 1).val, hlt⟩)) := by
    refine Eq.trans (congrArg (X t) ?_) (hR ht (((cfg2.win 6).xinj (cfg2.grid.coords t) y) 0) (((cfg2.win 6).xinj (cfg2.grid.coords t) y) 1) hlt)
    funext a; match a with | ⟨0, _⟩ => rfl | ⟨1, _⟩ => rfl
  refine hx.trans ?_
  have h0 : (((cfg2.win 6).xinj (cfg2.grid.coords t) y) 0) = ((((cfg2.win 6).blk t).view.emb y) 0 : Fin 128) := Fin.ext e0.symm
  show _ = mix A ((((cfg2.win 6).blk t).view.emb y) 0) ((((cfg2.win 6).blk t).view.emb y) 1).val _
  have h1 : ∀ (r r' : Fin 128) (k k' : ℕ) (hk : k < 51200) (hk' : k' < 51200), r = r' → k = k' → mix A r k (arr4 A (ix2 r ⟨k, hk⟩)) = mix A r' k' (arr4 A (ix2 r' ⟨k', hk'⟩)) := by
    rintro r _ k _ hk hk' rfl rfl; rfl
  exact h1 _ _ _ _ _ _ h0 e1.symm

end Cert.KernelIdeal
-- ==== Proof.RunVal.lean ====
module

public import proofs.«01_k».proof.Proof.RunI
public import proofs.«01_k».proof.Proof.VocabOut

@[expose] public section

set_option maxRecDepth 16384

noncomputable section

namespace Cert.KernelIdeal

open Idealize.ShloMosaic Idealize.ShloMosaic.TcCoe Idealize.SL.Sem
open Cert.KernelIdeal.Gen

/-! The idealized kernel's five results. -/

variable (m : (ℓ : Loc nD τ sig) → Buf (Elt Ideal) ℓ)
variable (htok : ∀ c k, ((inE0 (aE m c)) k).toNat < 50000)

/-- The two results of the third call. -/
def xB (c : Dev nD) : (S128x50000.Idx → EReal) × (S128x50250.Idx → EReal) := (out5 (aB m htok c), out6 (aB m htok c))

/-- The third result, cut from the second call's. -/
def resG (c : Dev nD) : S128x1.Idx → EReal := W7 m htok c (xB m htok c) (Proc.devRef .tc main_v24)

/-- What the idealized kernel ends with: its five results and its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v4_0) = outE6 (aE m c) (tabE m c) (htok c)
      ∧ r.2.mem ((c.tc : Thread nD τ).loc main_v23_1) = out6 (aB m htok c)
      ∧ r.2.mem ((c.tc : Thread nD τ).loc main_v24) = resG m htok c
      ∧ r.2.mem ((c.tc : Thread nD τ).loc main_v23_0) = out5 (aB m htok c)
      ∧ r.2.mem ((c.tc : Thread nD τ).loc main_v20_2) = outA18 (aA m htok c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine (θ_run defs _ _).mono (fun r h c => ?_) (run_all m htok (fun c => relI (aB m htok c)) ρ)
  obtain ⟨x, hk, h2⟩ := h.1 c
  have hx : x = xB m htok c := Prod.ext (arr5_eq _ _ hk.1) (arr6_eq _ _ hk.2)
  refine ⟨?_, ?_, ?_, ?_, ?_, (h2 main_arg0 rfl).trans (W7_arg m htok c x main_arg0 (by decide) (by decide) (by decide) (by decide) (by decide) (by decide) (by decide)),
      (h2 main_arg1 rfl).trans (W7_arg m htok c x main_arg1 (by decide) (by decide) (by decide) (by decide) (by decide) (by decide) (by decide)),
      (h2 main_arg2 rfl).trans (W7_arg m htok c x main_arg2 (by decide) (by decide) (by decide) (by decide) (by decide) (by decide) (by decide)),
      (h2 main_arg3 rfl).trans (W7_arg m htok c x main_arg3 (by decide) (by decide) (by decide) (by decide) (by decide) (by decide) (by decide)),
      (h2 main_arg4 rfl).trans (W7_arg m htok c x main_arg4 (by decide) (by decide) (by decide) (by decide) (by decide) (by decide) (by decide)),
      (h2 main_arg5 rfl).trans (W7_arg m htok c x main_arg5 (by decide) (by decide) (by decide) (by decide) (by decide) (by decide) (by decide)),
      (h2 main_arg6 rfl).trans (W7_arg m htok c x main_arg6 (by decide) (by decide) (by decide) (by decide) (by decide) (by decide) (by decide)),
      (h2 main_arg7 rfl).trans (W7_arg m htok c x main_arg7 (by decide) (by decide) (by decide) (by decide) (by decide) (by decide) (by decide)),
      (h2 main_arg8 rfl).trans (W7_arg m htok c x main_arg8 (by decide) (by decide) (by decide) (by decide) (by decide) (by decide) (by decide)),
      (h2 main_arg9 rfl).trans (W7_arg m htok c x main_arg9 (by decide) (by decide) (by decide) (by decide) (by decide) (by decide) (by decide)),
      (h2 main_arg10 rfl).trans (W7_arg m htok c x main_arg10 (by decide) (by decide) (by decide) (by decide) (by decide) (by decide) (by decide)),
      (h2 main_arg11 rfl).trans (W7_arg m htok c x main_arg11 (by decide) (by decide) (by decide) (by decide) (by decide) (by decide) (by decide)),
      (h2 main_arg12 rfl).trans (W7_arg m htok c x main_arg12 (by decide) (by decide) (by decide) (by decide) (by decide) (by decide) (by decide)),
      (h2 main_arg13 rfl).trans (W7_arg m htok c x main_arg13 (by decide) (by decide) (by decide) (by decide) (by decide) (by decide) (by decide)),
      (h2 main_arg14 rfl).trans (W7_arg m htok c x main_arg14 (by decide) (by decide) (by decide) (by decide) (by decide) (by decide) (by decide)),
      (h2 main_arg15 rfl).trans (W7_arg m htok c x main_arg15 (by decide) (by decide) (by decide) (by decide) (by decide) (by decide) (by decide)),
      (h2 main_arg16 rfl).trans (W7_arg m htok c x main_arg16 (by decide) (by decide) (by decide) (by decide) (by decide) (by decide) (by decide)),
      (h2 main_arg17 rfl).trans (W7_arg m htok c x main_arg17 (by decide) (by decide) (by decide) (by decide) (by decide) (by decide) (by decide)),
      (h2 main_arg18 rfl).trans (W7_arg m htok c x main_arg18 (by decide) (by decide) (by decide) (by decide) (by decide) (by decide) (by decide))⟩
  · exact (h2 main_v4_0 rfl).trans ((W7_of m htok c x main_v4_0 (by decide)).trans ((W6_of m htok c x main_v4_0 (by decide)).trans ((W5_of m htok c main_v4_0 (by decide)).trans
      ((W4_of m htok c main_v4_0 (by decide)).trans ((W3_of m htok c main_v4_0 (by decide)).trans (W2_out0 m htok c))))))
  · exact (h2 main_v23_1 rfl).trans ((W7_of m htok c x main_v23_1 (by decide)).trans ((W6_out1 m htok c x).trans (arr6_eq _ _ hk.2)))
  · exact (h2 main_v24 rfl).trans (by rw [hx]; rfl)
  · exact (h2 main_v23_0 rfl).trans ((W7_of m htok c x main_v23_0 (by decide)).trans ((W6_out0 m htok c x).trans (arr5_eq _ _ hk.1)))
  · exact (h2 main_v20_2 rfl).trans ((W7_of m htok c x main_v20_2 (by decide)).trans ((W6_of m htok c x main_v20_2 (by decide)).trans ((W5_of m htok c main_v20_2 (by decide)).trans
      (W4_out2 m htok c))))

end Cert.KernelIdeal
-- ==== Proof.RefVal.lean ====
module

public import proofs.«01_k».proof.Proof.Gen.ReferenceIdeal.Run
public import proofs.«01_k».proof.Proof.Gen.ReferenceIdeal.Read
public import proofs.«01_k».proof.Proof.Spec
public import proofs.«01_k».proof.Proof.Online
public import Idealize.ShloMosaic.Lib.Pointwise
public import Idealize.ShloMosaic.Lib.Routing.Ops
public import Idealize.ShloMosaic.Lib.Routing.OpsPair

@[expose] public section

set_option maxRecDepth 16384

noncomputable section

namespace Cert.ReferenceIdeal

open Idealize.ShloMosaic Idealize.ShloMosaic.TcCoe
open Cert.ReferenceIdeal.Gen Cert.ReferenceIdeal.Read Cert.Online Cert.Spec

/-! What the reference computes, element by element. -/

variable (A : Args)

theorem v6_apply (b : Fin 128) : (val_main_v6 (F := Ideal) A.a0) (ix2 b 0) = A.a0 (ix2 b 0) := by
  have h : (val_main_v6 (F := Ideal) A.a0) (ix2 b 0) = Scalar.select (IntOp.cmpi .slt (A.a0 (ix2 b 0)) 0#32) (IntOp.addi (A.a0 (ix2 b 0)) 50000#32) (A.a0 (ix2 b 0)) := by
    pointwise [val_main_v6, val_main_v5, val_main_v4, val_main_v3, val_main_v2, val_main_v1, val_main_v0, val_main_c, val_main_c_0]
  rw [h]
  exact Routing.wrap_of_lt _ _ (lt_trans (A.tok b) (by norm_num))

/-- The gathered rows are the tokens' rows of the table. -/
theorem v7_apply (b e : Fin 128) : (val_main_v7 (F := Ideal) A.a0 A.a4) (ix2 b e) = emb A b e := by
  unfold val_main_v7
  refine Routing.gather_row gather_S50000x128_S128x1_S128x128_1_0_n_n_0_1_1128 rfl rfl rfl rfl rfl _ _ b e ⟨(A.a0 (ix2 b 0)).toNat, A.tok b⟩ ?_ (by norm_num)
  refine (v6_apply A b).trans ?_
  simp

theorem v12_apply (b : Fin 128) (k : Fin 768) : (val_main_v12 (F := Ideal) A.a0 A.a4 A.a5 A.a7) (ix2 b k) = gi A b k := by
  unfold gi
  rw [show emb A b = fun e => (val_main_v7 (F := Ideal) A.a0 A.a4) (ix2 b e) from funext fun e => (v7_apply A b e).symm]
  unfold lin val_main_v12 val_main_v9
  generalize (val_main_v7 (F := Ideal) A.a0 A.a4) = y
  pointwise [val_main_v11, val_main_v10, val_main_v8]

theorem v17_apply (b : Fin 128) (k : Fin 768) : (val_main_v17 (F := Ideal) A.a1 A.a6 A.a8) (ix2 b k) = gh A b k := by
  unfold gh lin
  pointwise [val_main_v17, val_main_v16, val_main_v15, val_main_v14, val_main_v13]

/-- The first result, the new state. -/
theorem v45_apply (b : Fin 128) (j : Fin 256) : (val_main_v45 (F := Ideal) A.a0 A.a1 A.a4 A.a5 A.a6 A.a7 A.a8) (ix2 b j) = hnew A b j := by
  unfold hnew
  rw [← v12_apply, ← v12_apply, ← v12_apply, ← v17_apply, ← v17_apply, ← v17_apply]
  unfold val_main_v45 val_main_v44 val_main_v43 val_main_v42 val_main_v40 val_main_v39 val_main_v38 val_main_v37 val_main_v35 val_main_v33 val_main_v32 val_main_v31 val_main_v30 val_main_v28 val_main_v26 val_main_v25 val_main_v24 val_main_v23 val_main_v22 val_main_v21 val_main_v20 val_main_v19 val_main_v18
  generalize (val_main_v12 (F := Ideal) A.a0 A.a4 A.a5 A.a7) = y
  generalize (val_main_v17 (F := Ideal) A.a1 A.a6 A.a8) = z
  unfold cell sg gcol
  pointwise [val_main_v41, val_main_v36, val_main_v34, val_main_v29, val_main_v27, val_main_cst, val_main_cst_1, val_main_cst_2, val_main_cst_3, val_main_cst_4]

/-- The attention scores. -/
theorem v59_apply (b : Fin 128) (s : Fin 400) : (val_main_v59 (F := Ideal) A.a0 A.a1 A.a2 A.a4 A.a5 A.a6 A.a7 A.a8 A.a9 A.a10 A.a11 A.a12) (ix2 b s) = sc A b s := by
  unfold sc score
  simp only [← v45_apply]
  have e : ∀ k : Fin 256, A.a2 (ix3 b s k) * A.a9 (ix1 k) + (A.a10 (ix1 k) * (val_main_v45 (F := Ideal) A.a0 A.a1 A.a4 A.a5 A.a6 A.a7 A.a8) (ix2 b k) + A.a11 (ix1 0))
      = A.a9 (ix1 k) * A.a2 (ix3 b s k) + A.a10 (ix1 k) * (val_main_v45 (F := Ideal) A.a0 A.a1 A.a4 A.a5 A.a6 A.a7 A.a8) (ix2 b k) + A.a11 (ix1 0) := fun k => by
    rw [mul_comm (A.a2 (ix3 b s k)), add_assoc]
  simp only [e]
  unfold val_main_v59 val_main_v58 val_main_v57 val_main_v54 val_main_v53 val_main_v52 val_main_v49
  generalize (val_main_v45 (F := Ideal) A.a0 A.a1 A.a4 A.a5 A.a6 A.a7 A.a8) = y
  pointwise [val_main_v56, val_main_v55, val_main_v51, val_main_v50, val_main_v48, val_main_v47, val_main_v46]

theorem v60_apply (b : Fin 128) : (val_main_v60 (F := Ideal) A.a0 A.a1 A.a2 A.a4 A.a5 A.a6 A.a7 A.a8 A.a9 A.a10 A.a11 A.a12) (ix1 b) = top (sc A b) := by
  unfold top
  unfold val_main_v60
  generalize hy : (val_main_v59 (F := Ideal) A.a0 A.a1 A.a2 A.a4 A.a5 A.a6 A.a7 A.a8 A.a9 A.a10 A.a11 A.a12) = y
  pointwise [val_main_cst_5]
  subst hy
  refine congrArg₂ (Finset.univ.fold max) ?_ (funext fun k => v59_apply A b k)
  simp [Ideal.ofBits, Ideal.ieee]

theorem v64_apply (b : Fin 128) (s : Fin 400) : (val_main_v64 (F := Ideal) A.a0 A.a1 A.a2 A.a4 A.a5 A.a6 A.a7 A.a8 A.a9 A.a10 A.a11 A.a12) (ix2 b s) = Ideal.exp (sc A b s - top (sc A b)) := by
  rw [← v60_apply, ← v59_apply]
  unfold val_main_v64 val_main_v63 val_main_v62 val_main_v61
  generalize (val_main_v59 (F := Ideal) A.a0 A.a1 A.a2 A.a4 A.a5 A.a6 A.a7 A.a8 A.a9 A.a10 A.a11 A.a12) = y
  generalize (val_main_v60 (F := Ideal) A.a0 A.a1 A.a2 A.a4 A.a5 A.a6 A.a7 A.a8 A.a9 A.a10 A.a11 A.a12) = z
  pointwise []

theorem v65_apply (b : Fin 128) : (val_main_v65 (F := Ideal) A.a0 A.a1 A.a2 A.a4 A.a5 A.a6 A.a7 A.a8 A.a9 A.a10 A.a11 A.a12) (ix1 b) = ∑ s : Fin 400, Ideal.exp (sc A b s - top (sc A b)) := by
  unfold val_main_v65
  simp only [← v64_apply]
  generalize (val_main_v64 (F := Ideal) A.a0 A.a1 A.a2 A.a4 A.a5 A.a6 A.a7 A.a8 A.a9 A.a10 A.a11 A.a12) = y
  pointwise [val_main_cst_6]

/-- The attention weights. -/
theorem v70_apply (b : Fin 128) (s : Fin 400) : (val_main_v70 (F := Ideal) A.a0 A.a1 A.a2 A.a4 A.a5 A.a6 A.a7 A.a8 A.a9 A.a10 A.a11 A.a12) (ix2 b s) = att A b s := by
  unfold att soft
  rw [← v64_apply, ← v65_apply]
  unfold val_main_v70 val_main_v69 val_main_v68 val_main_v66
  generalize (val_main_v64 (F := Ideal) A.a0 A.a1 A.a2 A.a4 A.a5 A.a6 A.a7 A.a8 A.a9 A.a10 A.a11 A.a12) = y
  generalize (val_main_v65 (F := Ideal) A.a0 A.a1 A.a2 A.a4 A.a5 A.a6 A.a7 A.a8 A.a9 A.a10 A.a11 A.a12) = z
  pointwise [val_main_v67, val_main_cst_7]

/-- The context. -/
theorem v71_apply (b : Fin 128) (e : Fin 256) : (val_main_v71 (F := Ideal) A.a0 A.a1 A.a2 A.a4 A.a5 A.a6 A.a7 A.a8 A.a9 A.a10 A.a11 A.a12) (ix2 b e) = ctx A b e := by
  unfold ctx
  simp only [← v70_apply, mul_comm (A.a2 _)]
  unfold val_main_v71
  generalize (val_main_v70 (F := Ideal) A.a0 A.a1 A.a2 A.a4 A.a5 A.a6 A.a7 A.a8 A.a9 A.a10 A.a11 A.a12) = y
  pointwise []

theorem split512 (f : Fin 512 → EReal) : ∑ k, f k = (∑ e : Fin 256, f ⟨e.val, by omega⟩) + ∑ e : Fin 256, f ⟨256 + e.val, by omega⟩ :=
  Fin.sum_univ_add (a := 256) (b := 256) f

theorem split640 (f : Fin 640 → EReal) : ∑ k, f k = (∑ e : Fin 512, f ⟨e.val, by omega⟩) + ∑ e : Fin 128, f ⟨512 + e.val, by omega⟩ :=
  Fin.sum_univ_add (a := 512) (b := 128) f

theorem v72_left (b : Fin 128) (e : Fin 256) : (val_main_v72 (F := Ideal) A.a0 A.a1 A.a2 A.a4 A.a5 A.a6 A.a7 A.a8 A.a9 A.a10 A.a11 A.a12) (ix2 b ⟨e.val, by omega⟩) = hnew A b e := by
  rw [← v45_apply]
  unfold val_main_v72
  generalize (val_main_v45 (F := Ideal) A.a0 A.a1 A.a4 A.a5 A.a6 A.a7 A.a8) = y
  generalize (val_main_v71 (F := Ideal) A.a0 A.a1 A.a2 A.a4 A.a5 A.a6 A.a7 A.a8 A.a9 A.a10 A.a11 A.a12) = z
  pointwise []

theorem v72_right (b : Fin 128) (e : Fin 256) : (val_main_v72 (F := Ideal) A.a0 A.a1 A.a2 A.a4 A.a5 A.a6 A.a7 A.a8 A.a9 A.a10 A.a11 A.a12) (ix2 b ⟨256 + e.val, by omega⟩) = ctx A b e := by
  rw [← v71_apply]
  unfold val_main_v72
  generalize (val_main_v45 (F := Ideal) A.a0 A.a1 A.a4 A.a5 A.a6 A.a7 A.a8) = y
  generalize (val_main_v71 (F := Ideal) A.a0 A.a1 A.a2 A.a4 A.a5 A.a6 A.a7 A.a8 A.a9 A.a10 A.a11 A.a12) = z
  pointwise []

theorem v94_left (b : Fin 128) (e : Fin 512) : (val_main_v94 (F := Ideal) A.a0 A.a1 A.a2 A.a4 A.a5 A.a6 A.a7 A.a8 A.a9 A.a10 A.a11 A.a12) (ix2 b ⟨e.val, by omega⟩) = (val_main_v72 (F := Ideal) A.a0 A.a1 A.a2 A.a4 A.a5 A.a6 A.a7 A.a8 A.a9 A.a10 A.a11 A.a12) (ix2 b e) := by
  unfold val_main_v94
  generalize (val_main_v72 (F := Ideal) A.a0 A.a1 A.a2 A.a4 A.a5 A.a6 A.a7 A.a8 A.a9 A.a10 A.a11 A.a12) = y
  generalize (val_main_v7 (F := Ideal) A.a0 A.a4) = z
  pointwise []

theorem v94_right (b e : Fin 128) : (val_main_v94 (F := Ideal) A.a0 A.a1 A.a2 A.a4 A.a5 A.a6 A.a7 A.a8 A.a9 A.a10 A.a11 A.a12) (ix2 b ⟨512 + e.val, by omega⟩) = emb A b e := by
  rw [← v7_apply]
  unfold val_main_v94
  generalize (val_main_v72 (F := Ideal) A.a0 A.a1 A.a2 A.a4 A.a5 A.a6 A.a7 A.a8 A.a9 A.a10 A.a11 A.a12) = y
  generalize (val_main_v7 (F := Ideal) A.a0 A.a4) = z
  pointwise []

/-- The projection of state and context. -/
theorem v77_apply (b j : Fin 128) : (val_main_v77 (F := Ideal) A.a0 A.a1 A.a2 A.a4 A.a5 A.a6 A.a7 A.a8 A.a9 A.a10 A.a11 A.a12 A.a15 A.a16) (ix2 b j) = proj A b j := by
  unfold proj
  simp only [← v72_left, ← v72_right]
  unfold val_main_v77 val_main_v74
  generalize (val_main_v72 (F := Ideal) A.a0 A.a1 A.a2 A.a4 A.a5 A.a6 A.a7 A.a8 A.a9 A.a10 A.a11 A.a12) = y
  refine Eq.trans ?_ (congrArg (· + A.a16 (ix1 j)) (split512 fun k => y (ix2 b k) * A.a15 (ix2 j k)))
  pointwise [val_main_v73, val_main_v76, val_main_v75]

/-- The third result, the generation gate. -/
theorem v105_apply (b : Fin 128) : (val_main_v105 (F := Ideal) A.a0 A.a1 A.a2 A.a4 A.a5 A.a6 A.a7 A.a8 A.a9 A.a10 A.a11 A.a12 A.a13 A.a14) (ix2 b 0) = pgen A b := by
  unfold pgen
  simp only [← v72_left, ← v72_right, ← v94_right, ← v94_left]
  unfold val_main_v105 val_main_v103 val_main_v101 val_main_v100 val_main_v99 val_main_v96
  generalize (val_main_v94 (F := Ideal) A.a0 A.a1 A.a2 A.a4 A.a5 A.a6 A.a7 A.a8 A.a9 A.a10 A.a11 A.a12) = y
  have e := split640 fun k => y (ix2 b k) * A.a13 (ix2 0 k)
  rw [split512] at e
  rw [← e]
  unfold sg
  pointwise [val_main_v104, val_main_v102, val_main_v98, val_main_v97, val_main_v95, val_main_cst_11, val_main_cst_12]

/-- The first word of a pair is its row. -/
theorem v122_row (b : Fin 128) (s : Fin 400) : (val_main_v122 (F := Ideal) A.a3) (ix3 b s 0) = BitVec.ofNat 32 b.val := by
  have h : (val_main_v122 (F := Ideal) A.a3) (ix3 b s 0) = Scalar.select (IntOp.cmpi .slt (BitVec.ofNat 32 b.val) 0#32) (IntOp.addi (BitVec.ofNat 32 b.val) 128#32) (BitVec.ofNat 32 b.val) := by
    unfold val_main_v122
    generalize val_main_v121 (F := Ideal) A.a3 = z
    pointwise [val_main_v120, val_main_v119, val_main_v113, val_main_v112, val_main_v111, val_main_v110, val_main_v109, val_main_v107, val_main_v106, val_main_c_14, val_main_c_15]
  rw [h]
  have := b.isLt
  exact Routing.wrap_of_lt _ _ (by rw [BitVec.toNat_ofNat, Nat.mod_eq_of_lt (by omega)]; omega)

/-- The second word of a pair is the input id. -/
theorem v122_col (b : Fin 128) (s : Fin 400) : (val_main_v122 (F := Ideal) A.a3) (ix3 b s 1) = A.a3 (ix2 b s) := by
  have h : (val_main_v122 (F := Ideal) A.a3) (ix3 b s 1) = Scalar.select (IntOp.cmpi .slt (A.a3 (ix2 b s)) 0#32) (IntOp.addi (A.a3 (ix2 b s)) 50250#32) (A.a3 (ix2 b s)) := by
    unfold val_main_v122
    generalize val_main_v120 (F := Ideal) = z
    pointwise [val_main_v121, val_main_v118, val_main_v117, val_main_v116, val_main_v115, val_main_v114, val_main_c_16, val_main_c_17]
  rw [h]
  exact Routing.wrap_of_lt _ _ (lt_trans (A.ids b s) (by norm_num))

/-- Where an update lands. -/
theorem lands (a b : Fin 128) (s : Fin 400) (k : Fin 50250) :
    scatter_S128x50250_S128x400x2_S128x400_n_01_01_2.resultIdx? (ix2 a s) ((val_main_v122 (F := Ideal) A.a3)) = some (ix2 b k) ↔ a = b ∧ (A.a3 (ix2 a s)).toNat = k.val := by
  refine (Routing.scatter_lands2 scatter_S128x50250_S128x400x2_S128x400_n_01_01_2 rfl rfl rfl _ a s b k).trans ?_
  refine and_congr ?_ ?_
  · rw [show (val_main_v122 (F := Ideal) A.a3) (ValueIdx.ix3 a s 0) = BitVec.ofNat 32 a.val from v122_row A a s,
      WordCmp.toInt_ofNat_of_lt (lt_trans a.isLt (by norm_num)), Fin.ext_iff, Nat.cast_inj]
  · rw [show (val_main_v122 (F := Ideal) A.a3) (ValueIdx.ix3 a s 1) = A.a3 (ix2 a s) from v122_col A a s,
      WordCmp.toInt_eq_toNat_of_lt_half (lt_trans (A.ids a s) (by norm_num)), Nat.cast_inj]

/-- The input-token distribution: a column's weight is the sum of its positions' weights. -/
theorem v123_apply (b : Fin 128) (k : Fin 50250) : (val_main_v123 (F := Ideal) A.a0 A.a1 A.a2 A.a3 A.a4 A.a5 A.a6 A.a7 A.a8 A.a9 A.a10 A.a11 A.a12) (ix2 b k) = tid A b k.val := by
  unfold tid
  unfold val_main_v123 Host.scatterAdd
  rw [Ideal.hostScatterAdd_def]
  unfold Ideal.hostScatterAdd
  rw [show val_main_v108 (F := Ideal) (ix2 b k) = 0 by pointwise [val_main_v108, val_main_cst_13], zero_add, Finset.sum_filter]
  refine (ValueIdx.sum_idx2 (n0 := 128) (n1 := 400) _).trans ?_
  refine (Finset.sum_eq_single b (fun a _ hab => ?_) (fun h => absurd (Finset.mem_univ _) h)).trans ?_
  · refine Finset.sum_eq_zero fun s _ => if_neg fun h => hab ((lands A a b s k).1 h).1
  · refine Finset.sum_congr rfl fun s _ => ?_
    rw [← v70_apply]
    by_cases h : (A.a3 (ix2 b s)).toNat = k.val
    · rw [if_pos h]; exact if_pos ((lands A b b s k).2 ⟨rfl, h⟩)
    · rw [if_neg h]; exact if_neg fun g => h ((lands A b b s k).1 g).2

/-- The logit of row `r` at the word `k`, `⊥` past the vocabulary. -/
def rlogit (r : Fin 128) (k : ℕ) : EReal :=
  if h : k < 50000 then (∑ e : Fin 128, proj A r e * A.a17 (ix2 ⟨k, h⟩ e)) + A.a18 (ix1 ⟨k, h⟩) else ⊥

theorem v82_apply (r : Fin 128) (k : Fin 50000) : (val_main_v82 (F := Ideal) A.a0 A.a1 A.a2 A.a4 A.a5 A.a6 A.a7 A.a8 A.a9 A.a10 A.a11 A.a12 A.a15 A.a16 A.a17 A.a18) (ix2 r k) = rlogit A r k.val := by
  unfold rlogit
  rw [dif_pos k.isLt]
  simp only [← v77_apply]
  unfold val_main_v82 val_main_v79
  generalize (val_main_v77 (F := Ideal) A.a0 A.a1 A.a2 A.a4 A.a5 A.a6 A.a7 A.a8 A.a9 A.a10 A.a11 A.a12 A.a15 A.a16) = y
  pointwise [val_main_v81, val_main_v80, val_main_v78]

theorem v83_apply (r : Fin 128) : (val_main_v83 (F := Ideal) A.a0 A.a1 A.a2 A.a4 A.a5 A.a6 A.a7 A.a8 A.a9 A.a10 A.a11 A.a12 A.a15 A.a16 A.a17 A.a18) (ix1 r) = rmax (rlogit A r) 50000 := by
  rw [rmax_fin]
  unfold val_main_v83
  generalize hy : (val_main_v82 (F := Ideal) A.a0 A.a1 A.a2 A.a4 A.a5 A.a6 A.a7 A.a8 A.a9 A.a10 A.a11 A.a12 A.a15 A.a16 A.a17 A.a18) = y
  pointwise [val_main_cst_8]
  subst hy
  refine congrArg₂ (Finset.univ.fold max) ?_ (funext fun k => v82_apply A r k)
  simp [Ideal.ofBits, Ideal.ieee]

/-- The exponential of a shifted logit. -/
theorem v87_apply (r : Fin 128) (k : Fin 50000) : (val_main_v87 (F := Ideal) A.a0 A.a1 A.a2 A.a4 A.a5 A.a6 A.a7 A.a8 A.a9 A.a10 A.a11 A.a12 A.a15 A.a16 A.a17 A.a18) (ix2 r k) = Ideal.exp (rlogit A r k.val - rmax (rlogit A r) 50000) := by
  rw [← v83_apply, ← v82_apply]
  unfold val_main_v87 val_main_v86 val_main_v85 val_main_v84
  generalize (val_main_v82 (F := Ideal) A.a0 A.a1 A.a2 A.a4 A.a5 A.a6 A.a7 A.a8 A.a9 A.a10 A.a11 A.a12 A.a15 A.a16 A.a17 A.a18) = y
  generalize (val_main_v83 (F := Ideal) A.a0 A.a1 A.a2 A.a4 A.a5 A.a6 A.a7 A.a8 A.a9 A.a10 A.a11 A.a12 A.a15 A.a16 A.a17 A.a18) = z
  pointwise []

/-- The sum of a row's exponentials. -/
theorem v88_apply (r : Fin 128) : (val_main_v88 (F := Ideal) A.a0 A.a1 A.a2 A.a4 A.a5 A.a6 A.a7 A.a8 A.a9 A.a10 A.a11 A.a12 A.a15 A.a16 A.a17 A.a18) (ix1 r) = rsum (rlogit A r) 50000 := by
  rw [rsum_fin]
  unfold val_main_v88
  simp only [← v87_apply]
  generalize (val_main_v87 (F := Ideal) A.a0 A.a1 A.a2 A.a4 A.a5 A.a6 A.a7 A.a8 A.a9 A.a10 A.a11 A.a12 A.a15 A.a16 A.a17 A.a18) = y
  pointwise [val_main_cst_9]

/-- The probability of the word `k`, `0` past the vocabulary. -/
def rprob (r : Fin 128) (k : ℕ) : EReal :=
  Ideal.exp (rlogit A r k - rmax (rlogit A r) 50000) * Ideal.div 1 (rsum (rlogit A r) 50000)

theorem rprob_ge (r : Fin 128) (k : ℕ) (h : 50000 ≤ k) : rprob A r k = 0 := by
  unfold rprob
  rw [show rlogit A r k = ⊥ from dif_neg (by omega), EReal.bot_sub]
  show (0 : EReal) * _ = 0
  exact zero_mul _

/-- The fourth result: the softmax of the logits. -/
theorem v93_apply (r : Fin 128) (k : Fin 50000) : (val_main_v93 (F := Ideal) A.a0 A.a1 A.a2 A.a4 A.a5 A.a6 A.a7 A.a8 A.a9 A.a10 A.a11 A.a12 A.a15 A.a16 A.a17 A.a18) (ix2 r k) = rprob A r k.val := by
  unfold rprob
  rw [← v87_apply, ← v88_apply]
  unfold val_main_v93 val_main_v92 val_main_v91 val_main_v89
  generalize (val_main_v87 (F := Ideal) A.a0 A.a1 A.a2 A.a4 A.a5 A.a6 A.a7 A.a8 A.a9 A.a10 A.a11 A.a12 A.a15 A.a16 A.a17 A.a18) = y
  generalize (val_main_v88 (F := Ideal) A.a0 A.a1 A.a2 A.a4 A.a5 A.a6 A.a7 A.a8 A.a9 A.a10 A.a11 A.a12 A.a15 A.a16 A.a17 A.a18) = z
  pointwise [val_main_v90, val_main_cst_10]

/-- The second result: the mixture of the softmax with the input-token distribution. -/
theorem v132_apply (r : Fin 128) (k : Fin 50250) : (val_main_v132 (F := Ideal) A.a0 A.a1 A.a2 A.a3 A.a4 A.a5 A.a6 A.a7 A.a8 A.a9 A.a10 A.a11 A.a12 A.a13 A.a14 A.a15 A.a16 A.a17 A.a18) (ix2 r k) = rprob A r k.val * pgen A r + (1 - pgen A r) * tid A r k.val := by
  rw [← v105_apply, ← v123_apply]
  have e : rprob A r k.val * (val_main_v105 (F := Ideal) A.a0 A.a1 A.a2 A.a4 A.a5 A.a6 A.a7 A.a8 A.a9 A.a10 A.a11 A.a12 A.a13 A.a14) (ix2 r 0) = if h : k.val < 50000 then (val_main_v93 (F := Ideal) A.a0 A.a1 A.a2 A.a4 A.a5 A.a6 A.a7 A.a8 A.a9 A.a10 A.a11 A.a12 A.a15 A.a16 A.a17 A.a18) (ix2 r ⟨k.val, h⟩) * (val_main_v105 (F := Ideal) A.a0 A.a1 A.a2 A.a4 A.a5 A.a6 A.a7 A.a8 A.a9 A.a10 A.a11 A.a12 A.a13 A.a14) (ix2 r 0) else 0 := by
    split
    · rw [v93_apply]
    · rw [rprob_ge _ _ _ (by omega), zero_mul]
  rw [e]
  unfold val_main_v132 val_main_v131 val_main_v130 val_main_v129 val_main_v127 val_main_v125 val_main_v124
  generalize (val_main_v93 (F := Ideal) A.a0 A.a1 A.a2 A.a4 A.a5 A.a6 A.a7 A.a8 A.a9 A.a10 A.a11 A.a12 A.a15 A.a16 A.a17 A.a18) = y
  generalize (val_main_v105 (F := Ideal) A.a0 A.a1 A.a2 A.a4 A.a5 A.a6 A.a7 A.a8 A.a9 A.a10 A.a11 A.a12 A.a13 A.a14) = p
  generalize (val_main_v123 (F := Ideal) A.a0 A.a1 A.a2 A.a3 A.a4 A.a5 A.a6 A.a7 A.a8 A.a9 A.a10 A.a11 A.a12) = t
  pointwise [val_main_v128, val_main_v126, val_main_cst_18, val_main_cst_19]

end Cert.ReferenceIdeal
-- ==== Proof.EqVocab.lean ====
module

public import proofs.«01_k».proof.Proof.EqAttn
public import proofs.«01_k».proof.Proof.RunVal
public import proofs.«01_k».proof.Proof.RefVal

@[expose] public section

set_option maxRecDepth 16384

noncomputable section

namespace Cert.KernelIdeal

open Idealize.ShloMosaic Idealize.ShloMosaic.TcCoe Idealize.SL.Sem
open Cert.KernelIdeal.Gen Cert.Spec Cert.Online

/-! The kernel's five results are the reference's. -/

variable (m : (ℓ : Loc nD τ sig) → Buf (Elt Ideal) ℓ) (c : Dev nD)
variable (h0 : ∀ b : Fin 128, (g0 m c (ix2 b 0)).toNat < 50000) (h3 : ∀ (b : Fin 128) (s : Fin 400), (g3 m c (ix2 b s)).toNat < 50250)
variable (htok : ∀ c k, ((inE0 (aE m c)) k).toNat < 50000)

theorem arr0_at (b j : Fin 128) : arr0 (aB m htok c) (ix2 b j) = proj (gA m c h0 h3) b j := by
  rw [← outA16_eq m c h0 h3 htok]
  exact congrFun ((W5_of m htok c main_v20_0 (by decide)).trans (W4_out0 m htok c)) (ix2 b j)
theorem arr1_eq : arr1 (aB m htok c) = g17 m c := W5_arg m htok c main_arg17 (by decide) (by decide) (by decide) (by decide) (by decide)
theorem arr2_at (k : Fin 50000) : arr2 (aB m htok c) (ix2 0 k) = g18 m c (ix1 k) := outvb_read m c htok k
theorem arr3_at (b : Fin 128) : arr3 (aB m htok c) (ix2 b 0) = pgen (gA m c h0 h3) b := by
  rw [← outA17_eq m c h0 h3 htok b 0]
  exact congrFun ((W5_of m htok c main_v20_1 (by decide)).trans (W4_out1 m htok c)) (ix2 b 0)
theorem arr4_at (b : Fin 128) (k : Fin 51200) : arr4 (aB m htok c) (ix2 b k) = tid (gA m c h0 h3) b k.val :=
  (tid_read m c htok b k).trans (outA19_eq m c h0 h3 htok b k.val k.isLt _ rfl rfl)

/-- The kernel's logits are the reference's. -/
theorem logit_eq (r : Fin 128) : logit (aB m htok c) r = ReferenceIdeal.rlogit (gA m c h0 h3) r := by
  funext k
  unfold logit ReferenceIdeal.rlogit
  split
  · rw [arr1_eq, arr2_at]
    exact congrArg (· + g18 m c _) (Finset.sum_congr rfl fun e _ => congrArg (· * g17 m c _) (arr0_at m c h0 h3 htok r e))
  · rfl

theorem prob_eq (r : Fin 128) (k : ℕ) : prob (aB m htok c) r k = ReferenceIdeal.rprob (gA m c h0 h3) r k := by
  unfold prob ReferenceIdeal.rprob
  rw [logit_eq m c h0 h3 htok]

include h0 h3

/-- The first result. -/
theorem res0_eq : outE6 (aE m c) (tabE m c) (htok c) = ReferenceIdeal.Read.val_main_v45 (F := Ideal) (g0 m c) (g1 m c) (g4 m c) (g5 m c) (g6 m c) (g7 m c) (g8 m c) := by
  funext i
  obtain ⟨r, k, rfl⟩ : ∃ (r : Fin 128) (k : Fin 256), i = ix2 r k := ⟨i 0, i 1, (ix2_eta i).symm⟩
  exact (outE6_eq m c h0 h3 htok r k).trans (ReferenceIdeal.v45_apply (gA m c h0 h3) r k).symm

/-- The second result. -/
theorem res1_eq : out6 (aB m htok c) = ReferenceIdeal.Read.val_main_v132 (F := Ideal) (g0 m c) (g1 m c) (g2 m c) (g3 m c) (g4 m c) (g5 m c) (g6 m c) (g7 m c) (g8 m c) (g9 m c) (g10 m c) (g11 m c) (g12 m c) (g13 m c) (g14 m c) (g15 m c) (g16 m c) (g17 m c) (g18 m c) := by
  funext i
  obtain ⟨r, k, rfl⟩ : ∃ (r : Fin 128) (k : Fin 50250), i = ix2 r k := ⟨i 0, i 1, (ix2_eta i).symm⟩
  refine Eq.trans ?_ (ReferenceIdeal.v132_apply (gA m c h0 h3) r k).symm
  show mix (aB m htok c) r k.val (arr4 (aB m htok c) (ix2 r ⟨k.val, _⟩)) = _
  unfold mix
  rw [prob_eq m c h0 h3 htok, arr3_at m c h0 h3 htok, arr4_at m c h0 h3 htok]

/-- The third result. -/
theorem res2_eq : resG m htok c = ReferenceIdeal.Read.val_main_v105 (F := Ideal) (g0 m c) (g1 m c) (g2 m c) (g4 m c) (g5 m c) (g6 m c) (g7 m c) (g8 m c) (g9 m c) (g10 m c) (g11 m c) (g12 m c) (g13 m c) (g14 m c) := by
  funext i
  obtain ⟨r, k, rfl⟩ : ∃ (r : Fin 128) (k : Fin 1), i = ix2 r k := ⟨i 0, i 1, (ix2_eta i).symm⟩
  obtain rfl : k = 0 := Subsingleton.elim _ _
  refine Eq.trans ?_ (ReferenceIdeal.v105_apply (gA m c h0 h3) r).symm
  exact (pgen_read m c htok _ r).trans (outA17_eq m c h0 h3 htok r 0)

/-- The fourth result. -/
theorem res3_eq : out5 (aB m htok c) = ReferenceIdeal.Read.val_main_v93 (F := Ideal) (g0 m c) (g1 m c) (g2 m c) (g4 m c) (g5 m c) (g6 m c) (g7 m c) (g8 m c) (g9 m c) (g10 m c) (g11 m c) (g12 m c) (g15 m c) (g16 m c) (g17 m c) (g18 m c) := by
  funext i
  obtain ⟨r, k, rfl⟩ : ∃ (r : Fin 128) (k : Fin 50000), i = ix2 r k := ⟨i 0, i 1, (ix2_eta i).symm⟩
  refine Eq.trans ?_ (ReferenceIdeal.v93_apply (gA m c h0 h3) r k).symm
  exact prob_eq m c h0 h3 htok r k.val

/-- The fifth result. -/
theorem res4_eq : outA18 (aA m htok c) = ReferenceIdeal.Read.val_main_v70 (F := Ideal) (g0 m c) (g1 m c) (g2 m c) (g4 m c) (g5 m c) (g6 m c) (g7 m c) (g8 m c) (g9 m c) (g10 m c) (g11 m c) (g12 m c) := by
  funext i
  obtain ⟨r, k, rfl⟩ : ∃ (r : Fin 128) (k : Fin 400), i = ix2 r k := ⟨i 0, i 1, (ix2_eta i).symm⟩
  exact (outA18_eq m c h0 h3 htok r k).trans (ReferenceIdeal.v70_apply (gA m c h0 h3) r k).symm

end Cert.KernelIdeal
-- ==== Proof.lean ====
/- The kernel's frame, the idealized kernel's frame and value, the reference's frame, and their equality. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_in_range
public import proofs.«01_k».proof.Proof.Frames
public import proofs.«01_k».proof.Proof.EqVocab
public import Idealize.ShloMosaic.Adequacy
public import Idealize.ShloMosaic.Init

@[expose] public section

noncomputable section

namespace Cert.Proof

open Idealize.ShloMosaic Idealize.SL.Sem

/-- The kernel over the floats ends, with its arguments unchanged and every counter at zero. -/
theorem frame_kernel : quiescent_Kernel (hKernel := Cert.Kernel.Gen.facts) (hPre_ids_in_range := Cert.Pre_ids_in_range.Gen.facts) :=
  Cert.Kernel.frame (hKernel := Cert.Kernel.Gen.facts) (hPre_ids_in_range := Cert.Pre_ids_in_range.Gen.facts)

/-- So does the kernel over the extended reals. -/
theorem frame_ideal : quiescent_KernelIdeal (hKernelIdeal := Cert.KernelIdeal.Gen.facts) (hPre_ids_in_range := Cert.Pre_ids_in_range.Gen.facts) :=
  Cert.KernelIdeal.frame (hKernelIdeal := Cert.KernelIdeal.Gen.facts) (hPre_ids_in_range := Cert.Pre_ids_in_range.Gen.facts)

/-- So does the reference. -/
theorem frame_reference : quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- So also from inputs in range. -/
theorem frame_reference_pre : quiescent_ReferenceIdeal_pre_ids_in_range (hReferenceIdeal := Cert.ReferenceIdeal.Gen.facts) (hPre_ids_in_range := Cert.Pre_ids_in_range.Gen.facts) :=
  fun m ρ _ => frame_reference m ρ trivial

/-- The two named constants stand for minus infinity. -/
theorem preserves_constants : preserves_Kernel_KernelIdeal :=
  ⟨IdealRules.named_const.statement Cert.KernelIdeal.κ "init" .f32 0xFF61B1E6#32 ⊥ rfl,
    IdealRules.named_const.statement Cert.KernelIdeal.κ "mask" .f32 0xF149F2CA#32 ⊥ rfl⟩

/-- Kernel and reference compute the same five arrays. -/
theorem same_results : algebraic_KernelIdeal_ReferenceIdeal (hKernelIdeal := Cert.KernelIdeal.Gen.facts) (hReferenceIdeal := Cert.ReferenceIdeal.Gen.facts)
    (hPre_ids_in_range := Cert.Pre_ids_in_range.Gen.facts) := by
  intro m ρ m' ρ' hpre hagree
  have htok := Cert.KernelIdeal.htok_of_pre (hPre_ids_in_range := Cert.Pre_ids_in_range.Gen.facts) m hpre
  have hids := Cert.KernelIdeal.idx_of_pre (hPre_ids_in_range := Cert.Pre_ids_in_range.Gen.facts) m hpre
  have htk : ∀ (c : Dev Cert.KernelIdeal.nD) (b : Fin 128), (Cert.KernelIdeal.g0 m c (ix2 b 0)).toNat < 50000 := fun c b => by
    rw [← Cert.KernelIdeal.inE0_at]
    exact htok c _
  refine ⟨_, _, _, _, _, Cert.KernelIdeal.run_value m htok ρ, ?_⟩
  refine (θ_run Cert.ReferenceIdeal.defs _ _).mono (fun r h c => ?_) (Cert.ReferenceIdeal.Value.run (F := Ideal) m' ρ')
  obtain ⟨h0, h1, h2, h3, h4, hargs⟩ := h c
  obtain ⟨a0, a1, a2, a3, a4, a5, a6, a7, a8, a9, a10, a11, a12, a13, a14, a15, a16, a17, a18⟩ := hagree c
  refine ⟨?_, ?_, ?_, ?_, ?_, hargs⟩
  · refine (h0.trans (Cert.ReferenceIdeal.Read.val_main_v45_eq _)).trans ?_
    refine Eq.trans ?_ (Cert.KernelIdeal.res0_eq m c (htk c) (hids c) htok).symm
    show Cert.ReferenceIdeal.Read.val_main_v45 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    rw [a0, a1, a4, a5, a6, a7, a8]
  · refine (h1.trans (Cert.ReferenceIdeal.Read.val_main_v132_eq _)).trans ?_
    refine Eq.trans ?_ (Cert.KernelIdeal.res1_eq m c (htk c) (hids c) htok).symm
    show Cert.ReferenceIdeal.Read.val_main_v132 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [a0, a1, a2, a3, a4, a5, a6, a7, a8, a9, a10, a11, a12, a13, a14, a15, a16, a17, a18]
  · refine (h2.trans (Cert.ReferenceIdeal.Read.val_main_v105_eq _)).trans ?_
    refine Eq.trans ?_ (Cert.KernelIdeal.res2_eq m c (htk c) (hids c) htok).symm
    show Cert.ReferenceIdeal.Read.val_main_v105 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
    rw [a0, a1, a2, a4, a5, a6, a7, a8, a9, a10, a11, a12, a13, a14]
  · refine (h3.trans (Cert.ReferenceIdeal.Read.val_main_v93_eq _)).trans ?_
    refine Eq.trans ?_ (Cert.KernelIdeal.res3_eq m c (htk c) (hids c) htok).symm
    show Cert.ReferenceIdeal.Read.val_main_v93 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [a0, a1, a2, a4, a5, a6, a7, a8, a9, a10, a11, a12, a15, a16, a17, a18]
  · refine (h4.trans (Cert.ReferenceIdeal.Read.val_main_v70_eq _)).trans ?_
    refine Eq.trans ?_ (Cert.KernelIdeal.res4_eq m c (htk c) (hids c) htok).symm
    show Cert.ReferenceIdeal.Read.val_main_v70 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
    rw [a0, a1, a2, a4, a5, a6, a7, a8, a9, a10, a11, a12]

theorem claim : Cert.Claim := ⟨Cert.Kernel.Gen.facts, Cert.KernelIdeal.Gen.facts, Cert.ReferenceIdeal.Gen.facts, Cert.Pre_ids_in_range.Gen.facts,
  frame_kernel, frame_ideal, frame_reference, frame_reference_pre, preserves_constants, same_results⟩

end Cert.Proof

end
